-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables4 : Cert.Pre_tables4.Facts] (m : (ℓ : Loc Cert.Kernel4.nD Cert.Kernel4.τ Cert.Kernel4.sig) → Buf (Elt Bits) ℓ) : Prop :=
  ∀ c : Dev Cert.Kernel4.nD,
    (Cert.Pre_tables4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_tables4 : Cert.Pre_tables4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables4 [hPre_tables4 : Cert.Pre_tables4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_tables5 : Cert.Pre_tables5.Facts] (m : (ℓ : Loc Cert.Kernel5.nD Cert.Kernel5.τ Cert.Kernel5.sig) → Buf (Elt Bits) ℓ) : Prop :=
  ∀ c : Dev Cert.Kernel5.nD,
    (Cert.Pre_tables5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5))) = (fun _ => 1#1)

def Pre_Kernel5Ideal [hPre_tables5 : Cert.Pre_tables5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_tables5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_tables5 [hPre_tables5 : Cert.Pre_tables5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_tables5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_tables4 : Cert.Pre_tables4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_tables4 : Cert.Pre_tables4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_tables4 [hReference4Ideal : Cert.Reference4Ideal.Facts] [hPre_tables4 : Cert.Pre_tables4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_tables5 : Cert.Pre_tables5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] [hPre_tables5 : Cert.Pre_tables5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_tables5 [hReference5Ideal : Cert.Reference5Ideal.Facts] [hPre_tables5 : Cert.Pre_tables5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_tables5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_on_rows_used4 [hKernel4Ideal : Cert.Kernel4Ideal.Facts] [hReference4Ideal : Cert.Reference4Ideal.Facts] [hPre_tables4 : Cert.Pre_tables4.Facts] [hOn_rows_used4 : Cert.On_rows_used4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![41216, 2048]⟩ : Shape).Idx, (Cert.On_rows_used4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Kernel4Ideal.nD Cert.Kernel4Ideal.τ).loc Cert.Kernel4Ideal.main_v1) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![41216, 2048]⟩ : Shape).Idx, (Cert.On_rows_used4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Reference4Ideal.nD Cert.Reference4Ideal.τ).loc Cert.Reference4Ideal.main_v30) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_on_rows_used5 [hKernel5Ideal : Cert.Kernel5Ideal.Facts] [hReference5Ideal : Cert.Reference5Ideal.Facts] [hPre_tables5 : Cert.Pre_tables5.Facts] [hOn_rows_used5 : Cert.On_rows_used5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![41216, 4096]⟩ : Shape).Idx, (Cert.On_rows_used5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Kernel5Ideal.nD Cert.Kernel5Ideal.τ).loc Cert.Kernel5Ideal.main_v1) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![41216, 4096]⟩ : Shape).Idx, (Cert.On_rows_used5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) i = 1#1 → r.2.mem ((c.tc : Thread Cert.Reference5Ideal.nD Cert.Reference5Ideal.τ).loc Cert.Reference5Ideal.main_v14) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_tables4 : Cert.Pre_tables4.Facts) (hPre_tables5 : Cert.Pre_tables5.Facts) (hOn_rows_used4 : Cert.On_rows_used4.Facts) (hOn_rows_used5 : Cert.On_rows_used5.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables4 := hPre_tables4)
    ∧ quiescent_Kernel4Ideal (hKernel4Ideal := hKernel4Ideal) (hPre_tables4 := hPre_tables4)
    ∧ quiescent_Reference4Ideal (hReference4Ideal := hReference4Ideal)
    ∧ quiescent_Reference4Ideal_pre_tables4 (hReference4Ideal := hReference4Ideal) (hPre_tables4 := hPre_tables4)
    ∧ quiescent_Kernel5 (hKernel5 := hKernel5) (hPre_tables5 := hPre_tables5)
    ∧ quiescent_Kernel5Ideal (hKernel5Ideal := hKernel5Ideal) (hPre_tables5 := hPre_tables5)
    ∧ quiescent_Reference5Ideal (hReference5Ideal := hReference5Ideal)
    ∧ quiescent_Reference5Ideal_pre_tables5 (hReference5Ideal := hReference5Ideal) (hPre_tables5 := hPre_tables5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_rows_used4 (hKernel4Ideal := hKernel4Ideal) (hReference4Ideal := hReference4Ideal) (hPre_tables4 := hPre_tables4) (hOn_rows_used4 := hOn_rows_used4)
    ∧ preserves_Kernel5_Kernel5Ideal
    ∧ algebraic_Kernel5Ideal_Reference5Ideal_on_rows_used5 (hKernel5Ideal := hKernel5Ideal) (hReference5Ideal := hReference5Ideal) (hPre_tables5 := hPre_tables5) (hOn_rows_used5 := hOn_rows_used5)
    ∧ preserves_Kernel6_Kernel6Ideal
    ∧ algebraic_Kernel6Ideal_Reference6Ideal (hKernel6Ideal := hKernel6Ideal) (hReference6Ideal := hReference6Ideal)
-- ==== On_rows_used4.lean ====
abbrev S41216x4096 : Shape := ⟨2, ![41216, 4096]⟩
abbrev S161 : Shape := ⟨1, ![161]⟩
abbrev S1 : Shape := ⟨1, ![1]⟩
abbrev S2x32x4096x4096 : Shape := ⟨4, ![2, 32, 4096, 4096]⟩
abbrev S2x32x4096 : Shape := ⟨3, ![2, 32, 4096]⟩
abbrev S41216x2048 : Shape := ⟨2, ![41216, 2048]⟩
abbrev S_ : Shape := ⟨0, ![]⟩

class Facts : Prop where
  bcast_S_S41216x2048 : S_.BroadcastsInDim S41216x2048 (![] : Fin 0 → Fin S41216x2048.rank)
  shapeCasts_S1_S_ : S1.ShapeCasts S_

variable [Facts]

def fn_where {F : FTy → Type} [FloatOps F] (arg0 : IVec S41216x2048 1) (arg1 : IVec S41216x2048 32) (arg2 : IVec S41216x2048 32) : IVec S41216x2048 32 :=
  let v0 : IVec S41216x2048 32 := select arg0 arg1 arg2
  v0

def fn_floor_divide {F : FTy → Type} [FloatOps F] (arg0 : IVec S41216x2048 32) (arg1 : IVec S_ 32) : IVec S41216x2048 32 :=
  let v0 : IVec S_ 32 := id arg1
  let v1 : IVec S41216x2048 32 := broadcastInDim S41216x2048 ![] bcast_S_S41216x2048 v0
  let v2 : IVec S41216x2048 32 := Host.divsi arg0 v1
  let v3 : IVec S41216x2048 32 := signi arg0
  let v4 : IVec S_ 32 := signi v0
  let v5 : IVec S41216x2048 32 := broadcastInDim S41216x2048 ![] bcast_S_S41216x2048 v4
  let v6 : IVec S41216x2048 1 := cmpi .ne v3 v5
  let v7 : IVec S41216x2048 32 := broadcastInDim S41216x2048 ![] bcast_S_S41216x2048 v0
  let v8 : IVec S41216x2048 32 := Host.remsi arg0 v7
  let c : IVec S_ 32 := constantI S_ 32 0#32
  let v9 : IVec S41216x2048 32 := broadcastInDim S41216x2048 ![] bcast_S_S41216x2048 c
  let v10 : IVec S41216x2048 1 := cmpi .ne v8 v9
  let v11 : IVec S41216x2048 1 := andi v6 v10
  let c_0 : IVec S_ 32 := constantI S_ 32 1#32
  let v12 : IVec S41216x2048 32 := broadcastInDim S41216x2048 ![] bcast_S_S41216x2048 c_0
  let v13 : IVec S41216x2048 32 := subi v2 v12
  let v14 : IVec S41216x2048 32 := fn_where (F := F) v11 v13 v2
  v14

def fn {F : FTy → Type} [FloatOps F] (main_arg0 : FVec F S41216x4096 .bf16) (main_arg1 : IVec S161 32) (main_arg2 : IVec S1 32) (main_arg3 : FVec F S2x32x4096x4096 .f32) (main_arg4 : FVec F S2x32x4096 .f32) : IVec S41216x2048 1 :=
  let main_v0 : IVec S41216x2048 32 := iotaInDim S41216x2048 32 0
  let main_c : IVec S_ 32 := constantI S_ 32 256#32
  let main_v1 : IVec S41216x2048 32 := fn_floor_divide (F := F) main_v0 main_c
  let main_v2 : IVec S_ 32 := shapeCast S_ main_arg2 shapeCasts_S1_S_
  let main_v3 : IVec S41216x2048 32 := broadcastInDim S41216x2048 ![] bcast_S_S41216x2048 main_v2
  let main_v4 : IVec S41216x2048 1 := cmpi .slt main_v1 main_v3
  main_v4
-- ==== On_rows_used5.lean ====
abbrev S41216x2048 : Shape := ⟨2, ![41216, 2048]⟩
abbrev S41216x1 : Shape := ⟨2, ![41216, 1]⟩
abbrev S161 : Shape := ⟨1, ![161]⟩
abbrev S1 : Shape := ⟨1, ![1]⟩
abbrev S2x32x2048x4096 : Shape := ⟨4, ![2, 32, 2048, 4096]⟩
abbrev S2x32x4096 : Shape := ⟨3, ![2, 32, 4096]⟩
abbrev S41216x4096 : Shape := ⟨2, ![41216, 4096]⟩
abbrev S_ : Shape := ⟨0, ![]⟩

class Facts : Prop where
  bcast_S_S41216x4096 : S_.BroadcastsInDim S41216x4096 (![] : Fin 0 → Fin S41216x4096.rank)
  shapeCasts_S1_S_ : S1.ShapeCasts S_

variable [Facts]

def fn_where {F : FTy → Type} [FloatOps F] (arg0 : IVec S41216x4096 1) (arg1 : IVec S41216x4096 32) (arg2 : IVec S41216x4096 32) : IVec S41216x4096 32 :=
  let v0 : IVec S41216x4096 32 := select arg0 arg1 arg2
  v0

def fn_floor_divide {F : FTy → Type} [FloatOps F] (arg0 : IVec S41216x4096 32) (arg1 : IVec S_ 32) : IVec S41216x4096 32 :=
  let v0 : IVec S_ 32 := id arg1
  let v1 : IVec S41216x4096 32 := broadcastInDim S41216x4096 ![] bcast_S_S41216x4096 v0
  let v2 : IVec S41216x4096 32 := Host.divsi arg0 v1
  let v3 : IVec S41216x4096 32 := signi arg0
  let v4 : IVec S_ 32 := signi v0
  let v5 : IVec S41216x4096 32 := broadcastInDim S41216x4096 ![] bcast_S_S41216x4096 v4
  let v6 : IVec S41216x4096 1 := cmpi .ne v3 v5
  let v7 : IVec S41216x4096 32 := broadcastInDim S41216x4096 ![] bcast_S_S41216x4096 v0
  let v8 : IVec S41216x4096 32 := Host.remsi arg0 v7
  let c : IVec S_ 32 := constantI S_ 32 0#32
  let v9 : IVec S41216x4096 32 := broadcastInDim S41216x4096 ![] bcast_S_S41216x4096 c
  let v10 : IVec S41216x4096 1 := cmpi .ne v8 v9
  let v11 : IVec S41216x4096 1 := andi v6 v10
  let c_0 : IVec S_ 32 := constantI S_ 32 1#32
  let v12 : IVec S41216x4096 32 := broadcastInDim S41216x4096 ![] bcast_S_S41216x4096 c_0
  let v13 : IVec S41216x4096 32 := subi v2 v12
  let v14 : IVec S41216x4096 32 := fn_where (F := F) v11 v13 v2
  v14

def fn {F : FTy → Type} [FloatOps F] (main_arg0 : FVec F S41216x2048 .bf16) (main_arg1 : FVec F S41216x1 .f32) (main_arg2 : IVec S161 32) (main_arg3 : IVec S1 32) (main_arg4 : FVec F S2x32x2048x4096 .f32) (main_arg5 : FVec F S2x32x4096 .f32) : IVec S41216x4096 1 :=
  let main_v0 : IVec S41216x4096 32 := iotaInDim S41216x4096 32 0
  let main_c : IVec S_ 32 := constantI S_ 32 256#32
  let main_v1 : IVec S41216x4096 32 := fn_floor_divide (F := F) main_v0 main_c
  let main_v2 : IVec S_ 32 := shapeCast S_ main_arg3 shapeCasts_S1_S_
  let main_v3 : IVec S41216x4096 32 := broadcastInDim S41216x4096 ![] bcast_S_S41216x4096 main_v2
  let main_v4 : IVec S41216x4096 1 := cmpi .slt main_v1 main_v3
  main_v4
-- ==== Pre_tables4.lean ====
abbrev S41216x4096 : Shape := ⟨2, ![41216, 4096]⟩
abbrev S161 : Shape := ⟨1, ![161]⟩
abbrev S1 : Shape := ⟨1, ![1]⟩
abbrev S2x32x4096x4096 : Shape := ⟨4, ![2, 32, 4096, 4096]⟩
abbrev S2x32x4096 : Shape := ⟨3, ![2, 32, 4096]⟩
abbrev S_ : Shape := ⟨0, ![]⟩

class Facts : Prop where
  bcast_S_S161 : S_.BroadcastsInDim S161 (![] : Fin 0 → Fin S161.rank)
  bcast_S_S1 : S_.BroadcastsInDim S1 (![] : Fin 0 → Fin S1.rank)
  bcast_S1_S161_0 : S1.BroadcastsInDim S161 (![0] : Fin 1 → Fin S161.rank)

variable [Facts]

def fn {F : FTy → Type} [FloatOps F] (main_arg0 : FVec F S41216x4096 .bf16) (main_arg1 : IVec S161 32) (main_arg2 : IVec S1 32) (main_arg3 : FVec F S2x32x4096x4096 .f32) (main_arg4 : FVec F S2x32x4096 .f32) : IVec S161 1 :=
  let main_c : IVec S_ 32 := constantI S_ 32 0#32
  let main_v0 : IVec S161 32 := broadcastInDim S161 ![] bcast_S_S161 main_c
  let main_v1 : IVec S161 1 := cmpi .sge main_arg1 main_v0
  let main_c_0 : IVec S_ 32 := constantI S_ 32 32#32
  let main_v2 : IVec S161 32 := broadcastInDim S161 ![] bcast_S_S161 main_c_0
  let main_v3 : IVec S161 1 := cmpi .slt main_arg1 main_v2
  let main_v4 : IVec S161 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  let main_v7 : IVec S161 1 := broadcastInDim S161 ![0] bcast_S1_S161_0 main_v6
  let main_v8 : IVec S161 1 := andi main_v4 main_v7
  main_v8
-- ==== Pre_tables5.lean ====
abbrev S41216x2048 : Shape := ⟨2, ![41216, 2048]⟩
abbrev S41216x1 : Shape := ⟨2, ![41216, 1]⟩
abbrev S161 : Shape := ⟨1, ![161]⟩
abbrev S1 : Shape := ⟨1, ![1]⟩
abbrev S2x32x2048x4096 : Shape := ⟨4, ![2, 32, 2048, 4096]⟩
abbrev S2x32x4096 : Shape := ⟨3, ![2, 32, 4096]⟩
abbrev S_ : Shape := ⟨0, ![]⟩

class Facts : Prop where
  bcast_S_S161 : S_.BroadcastsInDim S161 (![] : Fin 0 → Fin S161.rank)
  bcast_S_S1 : S_.BroadcastsInDim S1 (![] : Fin 0 → Fin S1.rank)
  bcast_S1_S161_0 : S1.BroadcastsInDim S161 (![0] : Fin 1 → Fin S161.rank)

variable [Facts]

def fn {F : FTy → Type} [FloatOps F] (main_arg0 : FVec F S41216x2048 .bf16) (main_arg1 : FVec F S41216x1 .f32) (main_arg2 : IVec S161 32) (main_arg3 : IVec S1 32) (main_arg4 : FVec F S2x32x2048x4096 .f32) (main_arg5 : FVec F S2x32x4096 .f32) : IVec S161 1 :=
  let main_c : IVec S_ 32 := constantI S_ 32 0#32
  let main_v0 : IVec S161 32 := broadcastInDim S161 ![] bcast_S_S161 main_c
  let main_v1 : IVec S161 1 := cmpi .sge main_arg2 main_v0
  let main_c_0 : IVec S_ 32 := constantI S_ 32 32#32
  let main_v2 : IVec S161 32 := broadcastInDim S161 ![] bcast_S_S161 main_c_0
  let main_v3 : IVec S161 1 := cmpi .slt main_arg2 main_v2
  let main_v4 : IVec S161 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_v7 : IVec S161 1 := broadcastInDim S161 ![0] bcast_S1_S161_0 main_v6
  let main_v8 : IVec S161 1 := andi main_v4 main_v7
  main_v8
-- ==== Kernel.lean ====
abbrev S8192x8192 : Shape := ⟨2, ![8192, 8192]⟩
abbrev S4x4x128x128 : Shape := ⟨4, ![4, 4, 128, 128]⟩
abbrev S8192x2048 : Shape := ⟨2, ![8192, 2048]⟩
abbrev S128x2048 : Shape := ⟨2, ![128, 2048]⟩
abbrev S128x128 : Shape := ⟨2, ![128, 128]⟩
abbrev S1x4x128x128 : Shape := ⟨4, ![1, 4, 128, 128]⟩
abbrev S2048x512 : Shape := ⟨2, ![2048, 512]⟩
abbrev S1024x1 : Shape := ⟨2, ![1024, 1]⟩
abbrev S1024x128 : Shape := ⟨2, ![1024, 128]⟩
abbrev S128x1 : Shape := ⟨2, ![128, 1]⟩
abbrev S1x1x128x128 : Shape := ⟨4, ![1, 1, 128, 128]⟩
abbrev S1x128 : Shape := ⟨2, ![1, 128]⟩
abbrev S8x128x128 : Shape := ⟨3, ![8, 128, 128]⟩
abbrev S1x128x128 : Shape := ⟨3, ![1, 128, 128]⟩
abbrev S8x128 : Shape := ⟨2, ![8, 128]⟩
abbrev S8x128x1 : Shape := ⟨3, ![8, 128, 1]⟩
abbrev S256x128 : Shape := ⟨2, ![256, 128]⟩
abbrev S1x256 : Shape := ⟨2, ![1, 256]⟩
abbrev S128x256 : Shape := ⟨2, ![128, 256]⟩
abbrev S1x128x256 : Shape := ⟨3, ![1, 128, 256]⟩
abbrev S1024x256 : Shape := ⟨2, ![1024, 256]⟩
abbrev S8x128x256 : Shape := ⟨3, ![8, 128, 256]⟩
abbrev S640x128 : Shape := ⟨2, ![640, 128]⟩
abbrev S1x640 : Shape := ⟨2, ![1, 640]⟩
abbrev S128x640 : Shape := ⟨2, ![128, 640]⟩
abbrev S1024x640 : Shape := ⟨2, ![1024, 640]⟩
abbrev S8x128x640 : Shape := ⟨3, ![8, 128, 640]⟩
abbrev S1x128x640 : Shape := ⟨3, ![1, 128, 640]⟩

abbrev nBuf : Space → Nat
  | .hbm => 3
  | .vmem => 17
  | .smem => 0
  | _ => 0

abbrev bufTy : (tb : Table) → Fin (tcTables nBuf tb) → BufTy
  | .hbm, ⟨0, _⟩ => ⟨S8192x8192, .f32⟩
  | .hbm, ⟨1, _⟩ => ⟨S4x4x128x128, .f32⟩
  | .hbm, ⟨2, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S1x4x128x128, .f32⟩
  | .local _ .vmem, ⟨5, _⟩ => ⟨S1x4x128x128, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S128x2048, .bf16⟩
  | .local _ .vmem, ⟨11, _⟩ => ⟨S128x2048, .bf16⟩
  | .local _ .vmem, ⟨12, _⟩ => ⟨S2048x512, .bf16⟩
  | .local _ .vmem, ⟨13, _⟩ => ⟨S2048x512, .bf16⟩
  | .local _ .vmem, ⟨14, _⟩ => ⟨S1024x1, .f32⟩
  | .local _ .vmem, ⟨15, _⟩ => ⟨S1024x1, .f32⟩
  | .local _ .vmem, ⟨16, _⟩ => ⟨S1024x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_138 : BitVec 32 := 0#32
  let arg1 : BitVec 32 := BitVec.ofNat 32 (i 1).val
  let c1_i32_127 : BitVec 32 := 1#32
  let v584 : BitVec 32 := Scalar.addi arg1 c1_i32_127
  let c128_i32_128 : BitVec 32 := 128#32
  let v585 : BitVec 32 := Scalar.muli v584 c128_i32_128
  let c256_i32 : BitVec 32 := 256#32
  let v586 : BitVec 32 := Scalar.addi v585 c256_i32
  let c1_i32_129 : BitVec 32 := 1#32
  let v587 : BitVec 32 := Scalar.subi v586 c1_i32_129
  let c0_i32_131 : BitVec 32 := 0#32
  let v589 : BitVec 1 := Scalar.cmpi .sgt v587 c0_i32_131
  let v590 : BitVec 32 := Scalar.extui v589
  let c0_i32_132 : BitVec 32 := 0#32
  let v591 : BitVec 1 := Scalar.cmpi .slt v587 c0_i32_132
  let v592 : BitVec 32 := Scalar.extui v591
  let v593 : BitVec 32 := Scalar.subi v590 v592
  let c256_i32_130 : BitVec 32 := 256#32
  let c0_i32_133 : BitVec 32 := 0#32
  let v594 : BitVec 1 := Scalar.cmpi .sgt c256_i32_130 c0_i32_133
  let v595 : BitVec 32 := Scalar.extui v594
  let c0_i32_134 : BitVec 32 := 0#32
  let v596 : BitVec 1 := Scalar.cmpi .slt c256_i32_130 c0_i32_134
  let v597 : BitVec 32 := Scalar.extui v596
  let v598 : BitVec 32 := Scalar.subi v595 v597
  let v599 : BitVec 1 := Scalar.cmpi .ne v593 v598
  let v600 : BitVec 32 := Scalar.remsi v587 c256_i32_130
  let c0_i32_135 : BitVec 32 := 0#32
  let v601 : BitVec 1 := Scalar.cmpi .ne v600 c0_i32_135
  let v602 : BitVec 1 := Scalar.andi v599 v601
  let v588 : BitVec 32 := Scalar.divsi v587 c256_i32_130
  let c1_i32_136 : BitVec 32 := 1#32
  let v603 : BitVec 32 := Scalar.subi v588 c1_i32_136
  let v604 : BitVec 32 := Scalar.select v602 v603 v588
  let v605 : BitVec 32 := Scalar.subi v604 c0_i32_138
  let c1_i32_139 : BitVec 32 := 1#32
  let v607 : BitVec 32 := Scalar.divsi v605 c1_i32_139
  let v608 : BitVec 32 := Scalar.muli v607 c1_i32_139
  let v609 : BitVec 32 := Scalar.addi c0_i32_138 v608
  let c1_i32_140 : BitVec 32 := 1#32
  ⟨c0_i32_138, v609, c1_i32_140⟩
def k0_mult1 (i : grid0.Coords) (k0_t1 : Fin (k0_t1_loop i).trips) : BitVec 32 :=
  let c0_i32_138 : BitVec 32 := 0#32
  let c1_i32_140 : BitVec 32 := 1#32
  let arg13 : BitVec 32 := Scf.iv c0_i32_138 c1_i32_140 k0_t1
  let c256_i32_382 : BitVec 32 := 256#32
  let v1575 : BitVec 32 := Scalar.muli arg13 c256_i32_382
  v1575
def k0_off1 (i : grid0.Coords) (k0_t1 : Fin (k0_t1_loop i).trips) : Fin 2 → Nat :=
  let c0_i32_138 : BitVec 32 := 0#32
  let c1_i32_140 : BitVec 32 := 1#32
  let arg13 : BitVec 32 := Scf.iv c0_i32_138 c1_i32_140 k0_t1
  let c256_i32_382 : BitVec 32 := 256#32
  let v1575 : BitVec 32 := Scalar.muli arg13 c256_i32_382
  let v1576 : BitVec 32 := v1575
  let v1577 : Index := Scalar.indexCast v1576
  let c0_383 : Index := 0#32
  ![v1577.toNat, 0]
def k0_off2 (i : grid0.Coords) (k0_t1 : Fin (k0_t1_loop i).trips) : Fin 2 → Nat :=
  let c0_i32_138 : BitVec 32 := 0#32
  let c1_i32_140 : BitVec 32 := 1#32
  let arg13 : BitVec 32 := Scf.iv c0_i32_138 c1_i32_140 k0_t1
  let c256_i32_382 : BitVec 32 := 256#32
  let v1575 : BitVec 32 := Scalar.muli arg13 c256_i32_382
  let v1576 : BitVec 32 := v1575
  let v1579 : Index := Scalar.indexCast v1576
  let c256_384 : Index := 256#32
  ![v1579.toNat, 256]
@[reducible] def k0_t2_loop (i : grid0.Coords) : Scf.Loop 32 :=
  let c0_i32_138 : BitVec 32 := 0#32
  let arg1 : BitVec 32 := BitVec.ofNat 32 (i 1).val
  let c1_i32_127 : BitVec 32 := 1#32
  let v584 : BitVec 32 := Scalar.addi arg1 c1_i32_127
  let c128_i32_128 : BitVec 32 := 128#32
  let v585 : BitVec 32 := Scalar.muli v584 c128_i32_128
  let c256_i32 : BitVec 32 := 256#32
  let v586 : BitVec 32 := Scalar.addi v585 c256_i32
  let c1_i32_129 : BitVec 32 := 1#32
  let v587 : BitVec 32 := Scalar.subi v586 c1_i32_129
  let c0_i32_131 : BitVec 32 := 0#32
  let v589 : BitVec 1 := Scalar.cmpi .sgt v587 c0_i32_131
  let v590 : BitVec 32 := Scalar.extui v589
  let c0_i32_132 : BitVec 32 := 0#32
  let v591 : BitVec 1 := Scalar.cmpi .slt v587 c0_i32_132
  let v592 : BitVec 32 := Scalar.extui v591
  let v593 : BitVec 32 := Scalar.subi v590 v592
  let c256_i32_130 : BitVec 32 := 256#32
  let c0_i32_133 : BitVec 32 := 0#32
  let v594 : BitVec 1 := Scalar.cmpi .sgt c256_i32_130 c0_i32_133
  let v595 : BitVec 32 := Scalar.extui v594
  let c0_i32_134 : BitVec 32 := 0#32
  let v596 : BitVec 1 := Scalar.cmpi .slt c256_i32_130 c0_i32_134
  let v597 : BitVec 32 := Scalar.extui v596
  let v598 : BitVec 32 := Scalar.subi v595 v597
  let v599 : BitVec 1 := Scalar.cmpi .ne v593 v598
  let v600 : BitVec 32 := Scalar.remsi v587 c256_i32_130
  let c0_i32_135 : BitVec 32 := 0#32
  let v601 : BitVec 1 := Scalar.cmpi .ne v600 c0_i32_135
  let v602 : BitVec 1 := Scalar.andi v599 v601
  let v588 : BitVec 32 := Scalar.divsi v587 c256_i32_130
  let c1_i32_136 : BitVec 32 := 1#32
  let v603 : BitVec 32 := Scalar.subi v588 c1_i32_136
  let v604 : BitVec 32 := Scalar.select v602 v603 v588
  let v605 : BitVec 32 := Scalar.subi v604 c0_i32_138
  let c1_i32_139 : BitVec 32 := 1#32
  let v607 : BitVec 32 := Scalar.divsi v605 c1_i32_139
  let v608 : BitVec 32 := Scalar.muli v607 c1_i32_139
  let v609 : BitVec 32 := Scalar.addi c0_i32_138 v608
  let v606 : BitVec 32 := Scalar.addi c0_i32_138 v605
  let c1_i32_141 : BitVec 32 := 1#32
  ⟨v609, v606, c1_i32_141⟩
def k0_mult2 (i : grid0.Coords) (k0_t2 : Fin (k0_t2_loop i).trips) : BitVec 32 :=
  let c0_i32_138 : BitVec 32 := 0#32
  let arg1 : BitVec 32 := BitVec.ofNat 32 (i 1).val
  let c1_i32_127 : BitVec 32 := 1#32
  let v584 : BitVec 32 := Scalar.addi arg1 c1_i32_127
  let c128_i32_128 : BitVec 32 := 128#32
  let v585 : BitVec 32 := Scalar.muli v584 c128_i32_128
  let c256_i32 : BitVec 32 := 256#32
  let v586 : BitVec 32 := Scalar.addi v585 c256_i32
  let c1_i32_129 : BitVec 32 := 1#32
  let v587 : BitVec 32 := Scalar.subi v586 c1_i32_129
  let c0_i32_131 : BitVec 32 := 0#32
  let v589 : BitVec 1 := Scalar.cmpi .sgt v587 c0_i32_131
  let v590 : BitVec 32 := Scalar.extui v589
  let c0_i32_132 : BitVec 32 := 0#32
  let v591 : BitVec 1 := Scalar.cmpi .slt v587 c0_i32_132
  let v592 : BitVec 32 := Scalar.extui v591
  let v593 : BitVec 32 := Scalar.subi v590 v592
  let c256_i32_130 : BitVec 32 := 256#32
  let c0_i32_133 : BitVec 32 := 0#32
  let v594 : BitVec 1 := Scalar.cmpi .sgt c256_i32_130 c0_i32_133
  let v595 : BitVec 32 := Scalar.extui v594
  let c0_i32_134 : BitVec 32 := 0#32
  let v596 : BitVec 1 := Scalar.cmpi .slt c256_i32_130 c0_i32_134
  let v597 : BitVec 32 := Scalar.extui v596
  let v598 : BitVec 32 := Scalar.subi v595 v597
  let v599 : BitVec 1 := Scalar.cmpi .ne v593 v598
  let v600 : BitVec 32 := Scalar.remsi v587 c256_i32_130
  let c0_i32_135 : BitVec 32 := 0#32
  let v601 : BitVec 1 := Scalar.cmpi .ne v600 c0_i32_135
  let v602 : BitVec 1 := Scalar.andi v599 v601
  let v588 : BitVec 32 := Scalar.divsi v587 c256_i32_130
  let c1_i32_136 : BitVec 32 := 1#32
  let v603 : BitVec 32 := Scalar.subi v588 c1_i32_136
  let v604 : BitVec 32 := Scalar.select v602 v603 v588
  let v605 : BitVec 32 := Scalar.subi v604 c0_i32_138
  let c1_i32_139 : BitVec 32 := 1#32
  let v607 : BitVec 32 := Scalar.divsi v605 c1_i32_139
  let v608 : BitVec 32 := Scalar.muli v607 c1_i32_139
  let v609 : BitVec 32 := Scalar.addi c0_i32_138 v608
  let c1_i32_141 : BitVec 32 := 1#32
  let arg13 : BitVec 32 := Scf.iv v609 c1_i32_141 k0_t2
  let c256_i32_382 : BitVec 32 := 256#32
  let v1575 : BitVec 32 := Scalar.muli arg13 c256_i32_382
  v1575
def k0_off3 (i : grid0.Coords) (k0_t2 : Fin (k0_t2_loop i).trips) : Fin 2 → Nat :=
  let c0_i32_138 : BitVec 32 := 0#32
  let arg1 : BitVec 32 := BitVec.ofNat 32 (i 1).val
  let c1_i32_127 : BitVec 32 := 1#32
  let v584 : BitVec 32 := Scalar.addi arg1 c1_i32_127
  let c128_i32_128 : BitVec 32 := 128#32
  let v585 : BitVec 32 := Scalar.muli v584 c128_i32_128
  let c256_i32 : BitVec 32 := 256#32
  let v586 : BitVec 32 := Scalar.addi v585 c256_i32
  let c1_i32_129 : BitVec 32 := 1#32
  let v587 : BitVec 32 := Scalar.subi v586 c1_i32_129
  let c0_i32_131 : BitVec 32 := 0#32
  let v589 : BitVec 1 := Scalar.cmpi .sgt v587 c0_i32_131
  let v590 : BitVec 32 := Scalar.extui v589
  let c0_i32_132 : BitVec 32 := 0#32
  let v591 : BitVec 1 := Scalar.cmpi .slt v587 c0_i32_132
  let v592 : BitVec 32 := Scalar.extui v591
  let v593 : BitVec 32 := Scalar.subi v590 v592
  let c256_i32_130 : BitVec 32 := 256#32
  let c0_i32_133 : BitVec 32 := 0#32
  let v594 : BitVec 1 := Scalar.cmpi .sgt c256_i32_130 c0_i32_133
  let v595 : BitVec 32 := Scalar.extui v594
  let c0_i32_134 : BitVec 32 := 0#32
  let v596 : BitVec 1 := Scalar.cmpi .slt c256_i32_130 c0_i32_134
  let v597 : BitVec 32 := Scalar.extui v596
  let v598 : BitVec 32 := Scalar.subi v595 v597
  let v599 : BitVec 1 := Scalar.cmpi .ne v593 v598
  let v600 : BitVec 32 := Scalar.remsi v587 c256_i32_130
  let c0_i32_135 : BitVec 32 := 0#32
  let v601 : BitVec 1 := Scalar.cmpi .ne v600 c0_i32_135
  let v602 : BitVec 1 := Scalar.andi v599 v601
  let v588 : BitVec 32 := Scalar.divsi v587 c256_i32_130
  let c1_i32_136 : BitVec 32 := 1#32
  let v603 : BitVec 32 := Scalar.subi v588 c1_i32_136
  let v604 : BitVec 32 := Scalar.select v602 v603 v588
  let v605 : BitVec 32 := Scalar.subi v604 c0_i32_138
  let c1_i32_139 : BitVec 32 := 1#32
  let v607 : BitVec 32 := Scalar.divsi v605 c1_i32_139
  let v608 : BitVec 32 := Scalar.muli v607 c1_i32_139
  let v609 : BitVec 32 := Scalar.addi c0_i32_138 v608
  let c1_i32_141 : BitVec 32 := 1#32
  let arg13 : BitVec 32 := Scf.iv v609 c1_i32_141 k0_t2
  let c256_i32_382 : BitVec 32 := 256#32
  let v1575 : BitVec 32 := Scalar.muli arg13 c256_i32_382
  let v1576 : BitVec 32 := v1575
  let v1577 : Index := Scalar.indexCast v1576
  let c0_383 : Index := 0#32
  ![v1577.toNat, 0]
def k0_off4 (i : grid0.Coords) (k0_t2 : Fin (k0_t2_loop i).trips) : Fin 2 → Nat :=
  let c0_i32_138 : BitVec 32 := 0#32
  let arg1 : BitVec 32 := BitVec.ofNat 32 (i 1).val
  let c1_i32_127 : BitVec 32 := 1#32
  let v584 : BitVec 32 := Scalar.addi arg1 c1_i32_127
  let c128_i32_128 : BitVec 32 := 128#32
  let v585 : BitVec 32 := Scalar.muli v584 c128_i32_128
  let c256_i32 : BitVec 32 := 256#32
  let v586 : BitVec 32 := Scalar.addi v585 c256_i32
  let c1_i32_129 : BitVec 32 := 1#32
  let v587 : BitVec 32 := Scalar.subi v586 c1_i32_129
  let c0_i32_131 : BitVec 32 := 0#32
  let v589 : BitVec 1 := Scalar.cmpi .sgt v587 c0_i32_131
  let v590 : BitVec 32 := Scalar.extui v589
  let c0_i32_132 : BitVec 32 := 0#32
  let v591 : BitVec 1 := Scalar.cmpi .slt v587 c0_i32_132
  let v592 : BitVec 32 := Scalar.extui v591
  let v593 : BitVec 32 := Scalar.subi v590 v592
  let c256_i32_130 : BitVec 32 := 256#32
  let c0_i32_133 : BitVec 32 := 0#32
  let v594 : BitVec 1 := Scalar.cmpi .sgt c256_i32_130 c0_i32_133
  let v595 : BitVec 32 := Scalar.extui v594
  let c0_i32_134 : BitVec 32 := 0#32
  let v596 : BitVec 1 := Scalar.cmpi .slt c256_i32_130 c0_i32_134
  let v597 : BitVec 32 := Scalar.extui v596
  let v598 : BitVec 32 := Scalar.subi v595 v597
  let v599 : BitVec 1 := Scalar.cmpi .ne v593 v598
  let v600 : BitVec 32 := Scalar.remsi v587 c256_i32_130
  let c0_i32_135 : BitVec 32 := 0#32
  let v601 : BitVec 1 := Scalar.cmpi .ne v600 c0_i32_135
  let v602 : BitVec 1 := Scalar.andi v599 v601
  let v588 : BitVec 32 := Scalar.divsi v587 c256_i32_130
  let c1_i32_136 : BitVec 32 := 1#32
  let v603 : BitVec 32 := Scalar.subi v588 c1_i32_136
  let v604 : BitVec 32 := Scalar.select v602 v603 v588
  let v605 : BitVec 32 := Scalar.subi v604 c0_i32_138
  let c1_i32_139 : BitVec 32 := 1#32
  let v607 : BitVec 32 := Scalar.divsi v605 c1_i32_139
  let v608 : BitVec 32 := Scalar.muli v607 c1_i32_139
  let v609 : BitVec 32 := Scalar.addi c0_i32_138 v608
  let c1_i32_141 : BitVec 32 := 1#32
  let arg13 : BitVec 32 := Scf.iv v609 c1_i32_141 k0_t2
  let c256_i32_382 : BitVec 32 := 256#32
  let v1575 : BitVec 32 := Scalar.muli arg13 c256_i32_382
  let v1576 : BitVec 32 := v1575
  let v1579 : Index := Scalar.indexCast v1576
  let c256_384 : Index := 256#32
  ![v1579.toNat, 256]
def k0_mult3 (i : grid0.Coords) : BitVec 32 :=
  let c1408_i32 : BitVec 32 := 1408#32
  let c0_i32_147 : BitVec 32 := 0#32
  let arg1 : BitVec 32 := BitVec.ofNat 32 (i 1).val
  let c128_i32 : BitVec 32 := 128#32
  let v3 : BitVec 32 := Scalar.muli arg1 c128_i32
  let c512_i32 : BitVec 32 := 512#32
  let v616 : BitVec 32 := Scalar.subi v3 c512_i32
  let v617 : BitVec 32 := Scalar.maxsi c0_i32_147 v616
  let v618 : BitVec 32 := Scalar.minsi c1408_i32 v617
  v618
def k0_off5 (i : grid0.Coords) : Fin 2 → Nat :=
  let c1408_i32 : BitVec 32 := 1408#32
  let c0_i32_147 : BitVec 32 := 0#32
  let arg1 : BitVec 32 := BitVec.ofNat 32 (i 1).val
  let c128_i32 : BitVec 32 := 128#32
  let v3 : BitVec 32 := Scalar.muli arg1 c128_i32
  let c512_i32 : BitVec 32 := 512#32
  let v616 : BitVec 32 := Scalar.subi v3 c512_i32
  let v617 : BitVec 32 := Scalar.maxsi c0_i32_147 v616
  let v618 : BitVec 32 := Scalar.minsi c1408_i32 v617
  let v619 : BitVec 32 := v618
  let v620 : Index := Scalar.indexCast v619
  let c0_148 : Index := 0#32
  ![v620.toNat, 0]
def k0_off6 (i : grid0.Coords) : Fin 2 → Nat :=
  let c1408_i32 : BitVec 32 := 1408#32
  let c0_i32_147 : BitVec 32 := 0#32
  let arg1 : BitVec 32 := BitVec.ofNat 32 (i 1).val
  let c128_i32 : BitVec 32 := 128#32
  let v3 : BitVec 32 := Scalar.muli arg1 c128_i32
  let c512_i32 : BitVec 32 := 512#32
  let v616 : BitVec 32 := Scalar.subi v3 c512_i32
  let v617 : BitVec 32 := Scalar.maxsi c0_i32_147 v616
  let v618 : BitVec 32 := Scalar.minsi c1408_i32 v617
  let v619 : BitVec 32 := v618
  let v622 : Index := Scalar.indexCast v619
  let c256_149 : Index := 256#32
  ![v622.toNat, 256]
@[reducible] def k0_t3_loop (i : grid0.Coords) : Scf.Loop 32 :=
  let c0_i32_344 : BitVec 32 := 0#32
  let arg1 : BitVec 32 := BitVec.ofNat 32 (i 1).val
  let c1_i32_332 : BitVec 32 := 1#32
  let v1367 : BitVec 32 := Scalar.addi arg1 c1_i32_332
  let c128_i32_333 : BitVec 32 := 128#32
  let v1368 : BitVec 32 := Scalar.muli v1367 c128_i32_333
  let c256_i32_334 : BitVec 32 := 256#32
  let v1369 : BitVec 32 := Scalar.addi v1368 c256_i32_334
  let c1_i32_335 : BitVec 32 := 1#32
  let v1370 : BitVec 32 := Scalar.subi v1369 c1_i32_335
  let c0_i32_337 : BitVec 32 := 0#32
  let v1372 : BitVec 1 := Scalar.cmpi .sgt v1370 c0_i32_337
  let v1373 : BitVec 32 := Scalar.extui v1372
  let c0_i32_338 : BitVec 32 := 0#32
  let v1374 : BitVec 1 := Scalar.cmpi .slt v1370 c0_i32_338
  let v1375 : BitVec 32 := Scalar.extui v1374
  let v1376 : BitVec 32 := Scalar.subi v1373 v1375
  let c256_i32_336 : BitVec 32 := 256#32
  let c0_i32_339 : BitVec 32 := 0#32
  let v1377 : BitVec 1 := Scalar.cmpi .sgt c256_i32_336 c0_i32_339
  let v1378 : BitVec 32 := Scalar.extui v1377
  let c0_i32_340 : BitVec 32 := 0#32
  let v1379 : BitVec 1 := Scalar.cmpi .slt c256_i32_336 c0_i32_340
  let v1380 : BitVec 32 := Scalar.extui v1379
  let v1381 : BitVec 32 := Scalar.subi v1378 v1380
  let v1382 : BitVec 1 := Scalar.cmpi .ne v1376 v1381
  let v1383 : BitVec 32 := Scalar.remsi v1370 c256_i32_336
  let c0_i32_341 : BitVec 32 := 0#32
  let v1384 : BitVec 1 := Scalar.cmpi .ne v1383 c0_i32_341
  let v1385 : BitVec 1 := Scalar.andi v1382 v1384
  let v1371 : BitVec 32 := Scalar.divsi v1370 c256_i32_336
  let c1_i32_342 : BitVec 32 := 1#32
  let v1386 : BitVec 32 := Scalar.subi v1371 c1_i32_342
  let v1387 : BitVec 32 := Scalar.select v1385 v1386 v1371
  let v1388 : BitVec 32 := Scalar.subi v1387 c0_i32_344
  let c1_i32_345 : BitVec 32 := 1#32
  let v1390 : BitVec 32 := Scalar.divsi v1388 c1_i32_345
  let v1391 : BitVec 32 := Scalar.muli v1390 c1_i32_345
  let v1392 : BitVec 32 := Scalar.addi c0_i32_344 v1391
  let c1_i32_346 : BitVec 32 := 1#32
  ⟨c0_i32_344, v1392, c1_i32_346⟩
def k0_mult4 (i : grid0.Coords) (k0_t3 : Fin (k0_t3_loop i).trips) : BitVec 32 :=
  let c0_i32_344 : BitVec 32 := 0#32
  let c1_i32_346 : BitVec 32 := 1#32
  let arg13 : BitVec 32 := Scf.iv c0_i32_344 c1_i32_346 k0_t3
  let c256_i32_382 : BitVec 32 := 256#32
  let v1575 : BitVec 32 := Scalar.muli arg13 c256_i32_382
  v1575
def k0_off7 (i : grid0.Coords) (k0_t3 : Fin (k0_t3_loop i).trips) : Fin 2 → Nat :=
  let c0_i32_344 : BitVec 32 := 0#32
  let c1_i32_346 : BitVec 32 := 1#32
  let arg13 : BitVec 32 := Scf.iv c0_i32_344 c1_i32_346 k0_t3
  let c256_i32_382 : BitVec 32 := 256#32
  let v1575 : BitVec 32 := Scalar.muli arg13 c256_i32_382
  let v1576 : BitVec 32 := v1575
  let v1577 : Index := Scalar.indexCast v1576
  let c128_383 : Index := 128#32
  ![v1577.toNat, 128]
def k0_off8 (i : grid0.Coords) (k0_t3 : Fin (k0_t3_loop i).trips) : Fin 2 → Nat :=
  let c0_i32_344 : BitVec 32 := 0#32
  let c1_i32_346 : BitVec 32 := 1#32
  let arg13 : BitVec 32 := Scf.iv c0_i32_344 c1_i32_346 k0_t3
  let c256_i32_382 : BitVec 32 := 256#32
  let v1575 : BitVec 32 := Scalar.muli arg13 c256_i32_382
  let v1576 : BitVec 32 := v1575
  let v1579 : Index := Scalar.indexCast v1576
  let c384_384 : Index := 384#32
  ![v1579.toNat, 384]
@[reducible] def k0_t4_loop (i : grid0.Coords) : Scf.Loop 32 :=
  let c0_i32_344 : BitVec 32 := 0#32
  let arg1 : BitVec 32 := BitVec.ofNat 32 (i 1).val
  let c1_i32_332 : BitVec 32 := 1#32
  let v1367 : BitVec 32 := Scalar.addi arg1 c1_i32_332
  let c128_i32_333 : BitVec 32 := 128#32
  let v1368 : BitVec 32 := Scalar.muli v1367 c128_i32_333
  let c256_i32_334 : BitVec 32 := 256#32
  let v1369 : BitVec 32 := Scalar.addi v1368 c256_i32_334
  let c1_i32_335 : BitVec 32 := 1#32
  let v1370 : BitVec 32 := Scalar.subi v1369 c1_i32_335
  let c0_i32_337 : BitVec 32 := 0#32
  let v1372 : BitVec 1 := Scalar.cmpi .sgt v1370 c0_i32_337
  let v1373 : BitVec 32 := Scalar.extui v1372
  let c0_i32_338 : BitVec 32 := 0#32
  let v1374 : BitVec 1 := Scalar.cmpi .slt v1370 c0_i32_338
  let v1375 : BitVec 32 := Scalar.extui v1374
  let v1376 : BitVec 32 := Scalar.subi v1373 v1375
  let c256_i32_336 : BitVec 32 := 256#32
  let c0_i32_339 : BitVec 32 := 0#32
  let v1377 : BitVec 1 := Scalar.cmpi .sgt c256_i32_336 c0_i32_339
  let v1378 : BitVec 32 := Scalar.extui v1377
  let c0_i32_340 : BitVec 32 := 0#32
  let v1379 : BitVec 1 := Scalar.cmpi .slt c256_i32_336 c0_i32_340
  let v1380 : BitVec 32 := Scalar.extui v1379
  let v1381 : BitVec 32 := Scalar.subi v1378 v1380
  let v1382 : BitVec 1 := Scalar.cmpi .ne v1376 v1381
  let v1383 : BitVec 32 := Scalar.remsi v1370 c256_i32_336
  let c0_i32_341 : BitVec 32 := 0#32
  let v1384 : BitVec 1 := Scalar.cmpi .ne v1383 c0_i32_341
  let v1385 : BitVec 1 := Scalar.andi v1382 v1384
  let v1371 : BitVec 32 := Scalar.divsi v1370 c256_i32_336
  let c1_i32_342 : BitVec 32 := 1#32
  let v1386 : BitVec 32 := Scalar.subi v1371 c1_i32_342
  let v1387 : BitVec 32 := Scalar.select v1385 v1386 v1371
  let v1388 : BitVec 32 := Scalar.subi v1387 c0_i32_344
  let c1_i32_345 : BitVec 32 := 1#32
  let v1390 : BitVec 32 := Scalar.divsi v1388 c1_i32_345
  let v1391 : BitVec 32 := Scalar.muli v1390 c1_i32_345
  let v1392 : BitVec 32 := Scalar.addi c0_i32_344 v1391
  let v1389 : BitVec 32 := Scalar.addi c0_i32_344 v1388
  let c1_i32_347 : BitVec 32 := 1#32
  ⟨v1392, v1389, c1_i32_347⟩
def k0_mult5 (i : grid0.Coords) (k0_t4 : Fin (k0_t4_loop i).trips) : BitVec 32 :=
  let c0_i32_344 : BitVec 32 := 0#32
  let arg1 : BitVec 32 := BitVec.ofNat 32 (i 1).val
  let c1_i32_332 : BitVec 32 := 1#32
  let v1367 : BitVec 32 := Scalar.addi arg1 c1_i32_332
  let c128_i32_333 : BitVec 32 := 128#32
  let v1368 : BitVec 32 := Scalar.muli v1367 c128_i32_333
  let c256_i32_334 : BitVec 32 := 256#32
  let v1369 : BitVec 32 := Scalar.addi v1368 c256_i32_334
  let c1_i32_335 : BitVec 32 := 1#32
  let v1370 : BitVec 32 := Scalar.subi v1369 c1_i32_335
  let c0_i32_337 : BitVec 32 := 0#32
  let v1372 : BitVec 1 := Scalar.cmpi .sgt v1370 c0_i32_337
  let v1373 : BitVec 32 := Scalar.extui v1372
  let c0_i32_338 : BitVec 32 := 0#32
  let v1374 : BitVec 1 := Scalar.cmpi .slt v1370 c0_i32_338
  let v1375 : BitVec 32 := Scalar.extui v1374
  let v1376 : BitVec 32 := Scalar.subi v1373 v1375
  let c256_i32_336 : BitVec 32 := 256#32
  let c0_i32_339 : BitVec 32 := 0#32
  let v1377 : BitVec 1 := Scalar.cmpi .sgt c256_i32_336 c0_i32_339
  let v1378 : BitVec 32 := Scalar.extui v1377
  let c0_i32_340 : BitVec 32 := 0#32
  let v1379 : BitVec 1 := Scalar.cmpi .slt c256_i32_336 c0_i32_340
  let v1380 : BitVec 32 := Scalar.extui v1379
  let v1381 : BitVec 32 := Scalar.subi v1378 v1380
  let v1382 : BitVec 1 := Scalar.cmpi .ne v1376 v1381
  let v1383 : BitVec 32 := Scalar.remsi v1370 c256_i32_336
  let c0_i32_341 : BitVec 32 := 0#32
  let v1384 : BitVec 1 := Scalar.cmpi .ne v1383 c0_i32_341
  let v1385 : BitVec 1 := Scalar.andi v1382 v1384
  let v1371 : BitVec 32 := Scalar.divsi v1370 c256_i32_336
  let c1_i32_342 : BitVec 32 := 1#32
  let v1386 : BitVec 32 := Scalar.subi v1371 c1_i32_342
  let v1387 : BitVec 32 := Scalar.select v1385 v1386 v1371
  let v1388 : BitVec 32 := Scalar.subi v1387 c0_i32_344
  let c1_i32_345 : BitVec 32 := 1#32
  let v1390 : BitVec 32 := Scalar.divsi v1388 c1_i32_345
  let v1391 : BitVec 32 := Scalar.muli v1390 c1_i32_345
  let v1392 : BitVec 32 := Scalar.addi c0_i32_344 v1391
  let c1_i32_347 : BitVec 32 := 1#32
  let arg13 : BitVec 32 := Scf.iv v1392 c1_i32_347 k0_t4
  let c256_i32_382 : BitVec 32 := 256#32
  let v1575 : BitVec 32 := Scalar.muli arg13 c256_i32_382
  v1575
def k0_off9 (i : grid0.Coords) (k0_t4 : Fin (k0_t4_loop i).trips) : Fin 2 → Nat :=
  let c0_i32_344 : BitVec 32 := 0#32
  let arg1 : BitVec 32 := BitVec.ofNat 32 (i 1).val
  let c1_i32_332 : BitVec 32 := 1#32
  let v1367 : BitVec 32 := Scalar.addi arg1 c1_i32_332
  let c128_i32_333 : BitVec 32 := 128#32
  let v1368 : BitVec 32 := Scalar.muli v1367 c128_i32_333
  let c256_i32_334 : BitVec 32 := 256#32
  let v1369 : BitVec 32 := Scalar.addi v1368 c256_i32_334
  let c1_i32_335 : BitVec 32 := 1#32
  let v1370 : BitVec 32 := Scalar.subi v1369 c1_i32_335
  let c0_i32_337 : BitVec 32 := 0#32
  let v1372 : BitVec 1 := Scalar.cmpi .sgt v1370 c0_i32_337
  let v1373 : BitVec 32 := Scalar.extui v1372
  let c0_i32_338 : BitVec 32 := 0#32
  let v1374 : BitVec 1 := Scalar.cmpi .slt v1370 c0_i32_338
  let v1375 : BitVec 32 := Scalar.extui v1374
  let v1376 : BitVec 32 := Scalar.subi v1373 v1375
  let c256_i32_336 : BitVec 32 := 256#32
  let c0_i32_339 : BitVec 32 := 0#32
  let v1377 : BitVec 1 := Scalar.cmpi .sgt c256_i32_336 c0_i32_339
  let v1378 : BitVec 32 := Scalar.extui v1377
  let c0_i32_340 : BitVec 32 := 0#32
  let v1379 : BitVec 1 := Scalar.cmpi .slt c256_i32_336 c0_i32_340
  let v1380 : BitVec 32 := Scalar.extui v1379
  let v1381 : BitVec 32 := Scalar.subi v1378 v1380
  let v1382 : BitVec 1 := Scalar.cmpi .ne v1376 v1381
  let v1383 : BitVec 32 := Scalar.remsi v1370 c256_i32_336
  let c0_i32_341 : BitVec 32 := 0#32
  let v1384 : BitVec 1 := Scalar.cmpi .ne v1383 c0_i32_341
  let v1385 : BitVec 1 := Scalar.andi v1382 v1384
  let v1371 : BitVec 32 := Scalar.divsi v1370 c256_i32_336
  let c1_i32_342 : BitVec 32 := 1#32
  let v1386 : BitVec 32 := Scalar.subi v1371 c1_i32_342
  let v1387 : BitVec 32 := Scalar.select v1385 v1386 v1371
  let v1388 : BitVec 32 := Scalar.subi v1387 c0_i32_344
  let c1_i32_345 : BitVec 32 := 1#32
  let v1390 : BitVec 32 := Scalar.divsi v1388 c1_i32_345
  let v1391 : BitVec 32 := Scalar.muli v1390 c1_i32_345
  let v1392 : BitVec 32 := Scalar.addi c0_i32_344 v1391
  let c1_i32_347 : BitVec 32 := 1#32
  let arg13 : BitVec 32 := Scf.iv v1392 c1_i32_347 k0_t4
  let c256_i32_382 : BitVec 32 := 256#32
  let v1575 : BitVec 32 := Scalar.muli arg13 c256_i32_382
  let v1576 : BitVec 32 := v1575
  let v1577 : Index := Scalar.indexCast v1576
  let c128_383 : Index := 128#32
  ![v1577.toNat, 128]
def k0_off10 (i : grid0.Coords) (k0_t4 : Fin (k0_t4_loop i).trips) : Fin 2 → Nat :=
  let c0_i32_344 : BitVec 32 := 0#32
  let arg1 : BitVec 32 := BitVec.ofNat 32 (i 1).val
  let c1_i32_332 : BitVec 32 := 1#32
  let v1367 : BitVec 32 := Scalar.addi arg1 c1_i32_332
  let c128_i32_333 : BitVec 32 := 128#32
  let v1368 : BitVec 32 := Scalar.muli v1367 c128_i32_333
  let c256_i32_334 : BitVec 32 := 256#32
  let v1369 : BitVec 32 := Scalar.addi v1368 c256_i32_334
  let c1_i32_335 : BitVec 32 := 1#32
  let v1370 : BitVec 32 := Scalar.subi v1369 c1_i32_335
  let c0_i32_337 : BitVec 32 := 0#32
  let v1372 : BitVec 1 := Scalar.cmpi .sgt v1370 c0_i32_337
  let v1373 : BitVec 32 := Scalar.extui v1372
  let c0_i32_338 : BitVec 32 := 0#32
  let v1374 : BitVec 1 := Scalar.cmpi .slt v1370 c0_i32_338
  let v1375 : BitVec 32 := Scalar.extui v1374
  let v1376 : BitVec 32 := Scalar.subi v1373 v1375
  let c256_i32_336 : BitVec 32 := 256#32
  let c0_i32_339 : BitVec 32 := 0#32
  let v1377 : BitVec 1 := Scalar.cmpi .sgt c256_i32_336 c0_i32_339
  let v1378 : BitVec 32 := Scalar.extui v1377
  let c0_i32_340 : BitVec 32 := 0#32
  let v1379 : BitVec 1 := Scalar.cmpi .slt c256_i32_336 c0_i32_340
  let v1380 : BitVec 32 := Scalar.extui v1379
  let v1381 : BitVec 32 := Scalar.subi v1378 v1380
  let v1382 : BitVec 1 := Scalar.cmpi .ne v1376 v1381
  let v1383 : BitVec 32 := Scalar.remsi v1370 c256_i32_336
  let c0_i32_341 : BitVec 32 := 0#32
  let v1384 : BitVec 1 := Scalar.cmpi .ne v1383 c0_i32_341
  let v1385 : BitVec 1 := Scalar.andi v1382 v1384
  let v1371 : BitVec 32 := Scalar.divsi v1370 c256_i32_336
  let c1_i32_342 : BitVec 32 := 1#32
  let v1386 : BitVec 32 := Scalar.subi v1371 c1_i32_342
  let v1387 : BitVec 32 := Scalar.select v1385 v1386 v1371
  let v1388 : BitVec 32 := Scalar.subi v1387 c0_i32_344
  let c1_i32_345 : BitVec 32 := 1#32
  let v1390 : BitVec 32 := Scalar.divsi v1388 c1_i32_345
  let v1391 : BitVec 32 := Scalar.muli v1390 c1_i32_345
  let v1392 : BitVec 32 := Scalar.addi c0_i32_344 v1391
  let c1_i32_347 : BitVec 32 := 1#32
  let arg13 : BitVec 32 := Scf.iv v1392 c1_i32_347 k0_t4
  let c256_i32_382 : BitVec 32 := 256#32
  let v1575 : BitVec 32 := Scalar.muli arg13 c256_i32_382
  let v1576 : BitVec 32 := v1575
  let v1579 : Index := Scalar.indexCast v1576
  let c384_384 : Index := 384#32
  ![v1579.toNat, 384]
def k0_mult6 (i : grid0.Coords) : BitVec 32 :=
  let c1408_i32_355 : BitVec 32 := 1408#32
  let c0_i32_354 : BitVec 32 := 0#32
  let arg1 : BitVec 32 := BitVec.ofNat 32 (i 1).val
  let c128_i32 : BitVec 32 := 128#32
  let v3 : BitVec 32 := Scalar.muli arg1 c128_i32
  let c512_i32_353 : BitVec 32 := 512#32
  let v1399 : BitVec 32 := Scalar.subi v3 c512_i32_353
  let v1400 : BitVec 32 := Scalar.maxsi c0_i32_354 v1399
  let v1401 : BitVec 32 := Scalar.minsi c1408_i32_355 v1400
  v1401
def k0_off11 (i : grid0.Coords) : Fin 2 → Nat :=
  let c1408_i32_355 : BitVec 32 := 1408#32
  let c0_i32_354 : BitVec 32 := 0#32
  let arg1 : BitVec 32 := BitVec.ofNat 32 (i 1).val
  let c128_i32 : BitVec 32 := 128#32
  let v3 : BitVec 32 := Scalar.muli arg1 c128_i32
  let c512_i32_353 : BitVec 32 := 512#32
  let v1399 : BitVec 32 := Scalar.subi v3 c512_i32_353
  let v1400 : BitVec 32 := Scalar.maxsi c0_i32_354 v1399
  let v1401 : BitVec 32 := Scalar.minsi c1408_i32_355 v1400
  let v1402 : BitVec 32 := v1401
  let v1403 : Index := Scalar.indexCast v1402
  let c128_356 : Index := 128#32
  ![v1403.toNat, 128]
def k0_off12 (i : grid0.Coords) : Fin 2 → Nat :=
  let c1408_i32_355 : BitVec 32 := 1408#32
  let c0_i32_354 : BitVec 32 := 0#32
  let arg1 : BitVec 32 := BitVec.ofNat 32 (i 1).val
  let c128_i32 : BitVec 32 := 128#32
  let v3 : BitVec 32 := Scalar.muli arg1 c128_i32
  let c512_i32_353 : BitVec 32 := 512#32
  let v1399 : BitVec 32 := Scalar.subi v3 c512_i32_353
  let v1400 : BitVec 32 := Scalar.maxsi c0_i32_354 v1399
  let v1401 : BitVec 32 := Scalar.minsi c1408_i32_355 v1400
  let v1402 : BitVec 32 := v1401
  let v1405 : Index := Scalar.indexCast v1402
  let c384_357 : Index := 384#32
  ![v1405.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c28_i32 : BitVec 32 := 28#32
  let c0_i32 : BitVec 32 := 0#32
  ![v1.toNat, c28_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8192 : Shape := ⟨2, ![8192, 8192]⟩
abbrev S4x4x128x128 : Shape := ⟨4, ![4, 4, 128, 128]⟩
abbrev S8192x2048 : Shape := ⟨2, ![8192, 2048]⟩
abbrev S4x2048x2x8x128 : Shape := ⟨5, ![4, 2048, 2, 8, 128]⟩
abbrev S8192x1536 : Shape := ⟨2, ![8192, 1536]⟩
abbrev S4x2048x6x2x128 : Shape := ⟨5, ![4, 2048, 6, 2, 128]⟩
abbrev S8192x48 : Shape := ⟨2, ![8192, 48]⟩
abbrev S_ : Shape := ⟨0, ![]⟩
abbrev S4x2048x3x2x8 : Shape := ⟨5, ![4, 2048, 3, 2, 8]⟩
abbrev S4x2x127x128 : Shape := ⟨4, ![4, 2, 127, 128]⟩
abbrev S2048 : Shape := ⟨1, ![2048]⟩
abbrev S127 : Shape := ⟨1, ![127]⟩
abbrev S4x2x127x2048x8 : Shape := ⟨5, ![4, 2, 127, 2048, 8]⟩
abbrev S4x2x8x2048x127 : Shape := ⟨5, ![4, 2, 8, 2048, 127]⟩
abbrev S1x127 : Shape := ⟨2, ![1, 127]⟩
abbrev S2048x1 : Shape := ⟨2, ![2048, 1]⟩
abbrev S2048x127 : Shape := ⟨2, ![2048, 127]⟩
abbrev S4x2x8x2048 : Shape := ⟨4, ![4, 2, 8, 2048]⟩
abbrev S4x2x8x2048x1 : Shape := ⟨5, ![4, 2, 8, 2048, 1]⟩
abbrev S4x2x8x2048x128 : Shape := ⟨5, ![4, 2, 8, 2048, 128]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S4x2x2048x127 : Shape := ⟨4, ![4, 2, 2048, 127]⟩
abbrev S4x2x2048x32 : Shape := ⟨4, ![4, 2, 2048, 32]⟩
abbrev S2048x32 : Shape := ⟨2, ![2048, 32]⟩
abbrev S1x1x2048x32 : Shape := ⟨4, ![1, 1, 2048, 32]⟩
abbrev S4x2x2048x16 : Shape := ⟨4, ![4, 2, 2048, 16]⟩
abbrev S4x2x2048x16x1 : Shape := ⟨5, ![4, 2, 2048, 16, 1]⟩
abbrev S1x1x1x1x32 : Shape := ⟨5, ![1, 1, 1, 1, 32]⟩
abbrev S4x2x2048x16x32 : Shape := ⟨5, ![4, 2, 2048, 16, 32]⟩
abbrev S4x2x2048x32x1 : Shape := ⟨5, ![4, 2, 2048, 32, 1]⟩
abbrev S4x2x2048x32x64 : Shape := ⟨5, ![4, 2, 2048, 32, 64]⟩
abbrev S4x2x1x2048x2048 : Shape := ⟨5, ![4, 2, 1, 2048, 2048]⟩
abbrev S4x2048x1x2x128 : Shape := ⟨5, ![4, 2048, 1, 2, 128]⟩
abbrev S4x2048x2x128 : Shape := ⟨4, ![4, 2048, 2, 128]⟩
abbrev S4x2x2048x2048x8 : Shape := ⟨5, ![4, 2, 2048, 2048, 8]⟩
abbrev S4x2x8x2048x2048 : Shape := ⟨5, ![4, 2, 8, 2048, 2048]⟩
abbrev S1x2048 : Shape := ⟨2, ![1, 2048]⟩
abbrev S2048x2048 : Shape := ⟨2, ![2048, 2048]⟩
abbrev S1x1x1x2048x2048 : Shape := ⟨5, ![1, 1, 1, 2048, 2048]⟩
abbrev S3x4x2x8x2048 : Shape := ⟨5, ![3, 4, 2, 8, 2048]⟩
abbrev S3x4x2x8x2048x1 : Shape := ⟨6, ![3, 4, 2, 8, 2048, 1]⟩
abbrev S1x4x2x8x2048x1 : Shape := ⟨6, ![1, 4, 2, 8, 2048, 1]⟩

abbrev nBuf : Space → Nat
  | .hbm => 268
  | .vmem => 0
  | .smem => 0
  | _ => 0

abbrev hbmTy0_0 (i : Nat) : BufTy := match i % 128 with
  | 0 => ⟨S8192x8192, .f32⟩
  | 1 => ⟨S4x4x128x128, .f32⟩
  | 2 => ⟨S8192x2048, .f32⟩
  | 3 => ⟨S4x2048x2x8x128, .f32⟩
  | 4 => ⟨S8192x1536, .f32⟩
  | 5 => ⟨S4x2048x6x2x128, .f32⟩
  | 6 => ⟨S8192x48, .f32⟩
  | 7 => ⟨S8192x48, .f32⟩
  | 8 => ⟨S8192x48, .f32⟩
  | 9 => ⟨S_, .f32⟩
  | 10 => ⟨S8192x48, .f32⟩
  | 11 => ⟨S8192x48, .f32⟩
  | 12 => ⟨S_, .f32⟩
  | 13 => ⟨S8192x48, .f32⟩
  | 14 => ⟨S8192x48, .f32⟩
  | 15 => ⟨S4x2048x3x2x8, .f32⟩
  | 16 => ⟨S4x2x127x128, .f32⟩
  | 17 => ⟨S4x2x127x128, .f32⟩
  | 18 => ⟨S2048, .i32⟩
  | 19 => ⟨S127, .i32⟩
  | 20 => ⟨S_, .i32⟩
  | 21 => ⟨S127, .i32⟩
  | 22 => ⟨S127, .i32⟩
  | 23 => ⟨S4x2x127x2048x8, .f32⟩
  | 24 => ⟨S4x2x8x2048x127, .f32⟩
  | 25 => ⟨S_, .f32⟩
  | 26 => ⟨S4x2x8x2048x127, .f32⟩
  | 27 => ⟨S4x2x8x2048x127, .f32⟩
  | 28 => ⟨S_, .i32⟩
  | 29 => ⟨S127, .i32⟩
  | 30 => ⟨S127, .i32⟩
  | 31 => ⟨S_, .i32⟩
  | 32 => ⟨S127, .i32⟩
  | 33 => ⟨S127, .i32⟩
  | 34 => ⟨S1x127, .i32⟩
  | 35 => ⟨S2048x1, .i32⟩
  | 36 => ⟨S2048x127, .i32⟩
  | 37 => ⟨S2048x127, .i32⟩
  | 38 => ⟨S2048x127, .i1⟩
  | 39 => ⟨S_, .f32⟩
  | 40 => ⟨S_, .f32⟩
  | 41 => ⟨S4x2x8x2048x127, .i1⟩
  | 42 => ⟨S4x2x8x2048x127, .f32⟩
  | 43 => ⟨S4x2x8x2048x127, .f32⟩
  | 44 => ⟨S_, .f32⟩
  | 45 => ⟨S4x2x8x2048, .f32⟩
  | 46 => ⟨S4x2x8x2048x1, .f32⟩
  | 47 => ⟨S4x2x8x2048x127, .f32⟩
  | 48 => ⟨S4x2x8x2048x127, .f32⟩
  | 49 => ⟨S4x2x8x2048x127, .f32⟩
  | 50 => ⟨S_, .f32⟩
  | 51 => ⟨S_, .f32⟩
  | 52 => ⟨S4x2x8x2048x127, .i1⟩
  | 53 => ⟨S4x2x8x2048x127, .f32⟩
  | 54 => ⟨S4x2x8x2048x127, .f32⟩
  | 55 => ⟨S_, .f32⟩
  | 56 => ⟨S4x2x8x2048, .f32⟩
  | 57 => ⟨S4x2x8x2048x1, .f32⟩
  | 58 => ⟨S_, .f32⟩
  | 59 => ⟨S4x2x8x2048x1, .f32⟩
  | 60 => ⟨S4x2x8x2048x1, .f32⟩
  | 61 => ⟨S4x2x8x2048x127, .f32⟩
  | 62 => ⟨S4x2x8x2048x127, .f32⟩
  | 63 => ⟨S4x2x8x2048x128, .f32⟩
  | 64 => ⟨S32, .i32⟩
  | 65 => ⟨S_, .i32⟩
  | 66 => ⟨S32, .i32⟩
  | 67 => ⟨S32, .i32⟩
  | 68 => ⟨S127x1, .i32⟩
  | 69 => ⟨S1x32, .i32⟩
  | 70 => ⟨S_, .i32⟩
  | 71 => ⟨S1x32, .i32⟩
  | 72 => ⟨S1x32, .i32⟩
  | 73 => ⟨S127x32, .i32⟩
  | 74 => ⟨S127x32, .i32⟩
  | 75 => ⟨S127x32, .i1⟩
  | 76 => ⟨S127x1, .i32⟩
  | 77 => ⟨S_, .i32⟩
  | 78 => ⟨S127x1, .i32⟩
  | 79 => ⟨S127x1, .i32⟩
  | 80 => ⟨S1x32, .i32⟩
  | 81 => ⟨S127x32, .i32⟩
  | 82 => ⟨S127x32, .i32⟩
  | 83 => ⟨S127x32, .i1⟩
  | 84 => ⟨S127x32, .i1⟩
  | 85 => ⟨S127x32, .f32⟩
  | 86 => ⟨S_, .f32⟩
  | 87 => ⟨S4x2x2048x127, .f32⟩
  | 88 => ⟨S4x2x2048x32, .f32⟩
  | 89 => ⟨S32, .i32⟩
  | 90 => ⟨S_, .i32⟩
  | 91 => ⟨S_, .i32⟩
  | 92 => ⟨S2048, .i32⟩
  | 93 => ⟨S2048, .i32⟩
  | 94 => ⟨S2048, .i32⟩
  | 95 => ⟨S_, .i32⟩
  | 96 => ⟨S2048, .i32⟩
  | 97 => ⟨S2048, .i1⟩
  | 98 => ⟨S2048, .i32⟩
  | 99 => ⟨S2048, .i32⟩
  | 100 => ⟨S_, .i32⟩
  | 101 => ⟨S2048, .i32⟩
  | 102 => ⟨S2048, .i1⟩
  | 103 => ⟨S2048, .i1⟩
  | 104 => ⟨S_, .i32⟩
  | 105 => ⟨S2048, .i32⟩
  | 106 => ⟨S2048, .i32⟩
  | 107 => ⟨S2048, .i32⟩
  | 108 => ⟨S1x32, .i32⟩
  | 109 => ⟨S2048x1, .i32⟩
  | 110 => ⟨S2048x32, .i32⟩
  | 111 => ⟨S2048x32, .i32⟩
  | 112 => ⟨S2048x32, .i1⟩
  | 113 => ⟨S1x32, .i32⟩
  | 114 => ⟨S_, .i32⟩
  | 115 => ⟨S1x32, .i32⟩
  | 116 => ⟨S1x32, .i1⟩
  | 117 => ⟨S1x32, .i32⟩
  | 118 => ⟨S2048x1, .i32⟩
  | 119 => ⟨S2048x32, .i32⟩
  | 120 => ⟨S2048x32, .i32⟩
  | 121 => ⟨S2048x32, .i1⟩
  | 122 => ⟨S2048x32, .i1⟩
  | 123 => ⟨S2048x32, .i1⟩
  | 124 => ⟨S1x32, .i32⟩
  | 125 => ⟨S2048x1, .i32⟩
  | 126 => ⟨S_, .i32⟩
  | 127 => ⟨S2048x1, .i32⟩
  | _ => ⟨S8192x8192, .f32⟩

abbrev hbmTy0_1 (i : Nat) : BufTy := match i % 128 with
  | 0 => ⟨S2048x1, .i32⟩
  | 1 => ⟨S2048x32, .i32⟩
  | 2 => ⟨S2048x32, .i32⟩
  | 3 => ⟨S2048x32, .i1⟩
  | 4 => ⟨S2048x32, .i1⟩
  | 5 => ⟨S_, .f32⟩
  | 6 => ⟨S_, .f32⟩
  | 7 => ⟨S2048x32, .f32⟩
  | 8 => ⟨S2048x32, .f32⟩
  | 9 => ⟨S2048x32, .f32⟩
  | 10 => ⟨S2048x32, .f32⟩
  | 11 => ⟨S1x1x2048x32, .f32⟩
  | 12 => ⟨S4x2x2048x32, .f32⟩
  | 13 => ⟨S4x2x2048x32, .f32⟩
  | 14 => ⟨S_, .f32⟩
  | 15 => ⟨S_, .f32⟩
  | 16 => ⟨S4x2x2048x32, .i1⟩
  | 17 => ⟨S4x2x2048x32, .f32⟩
  | 18 => ⟨S4x2x2048x32, .f32⟩
  | 19 => ⟨S4x2x2048x16, .f32⟩
  | 20 => ⟨S4x2x2048x16, .i32⟩
  | 21 => ⟨S4x2x2048x16x1, .i32⟩
  | 22 => ⟨S1x1x1x1x32, .i32⟩
  | 23 => ⟨S4x2x2048x16x32, .i32⟩
  | 24 => ⟨S4x2x2048x16x32, .i32⟩
  | 25 => ⟨S4x2x2048x16x32, .i1⟩
  | 26 => ⟨S_, .i1⟩
  | 27 => ⟨S4x2x2048x32, .i1⟩
  | 28 => ⟨S4x2x2048x32x1, .i1⟩
  | 29 => ⟨S4x2x2048x32x64, .i1⟩
  | 30 => ⟨S4x2x1x2048x2048, .i1⟩
  | 31 => ⟨S4x2048x1x2x128, .f32⟩
  | 32 => ⟨S4x2048x2x128, .f32⟩
  | 33 => ⟨S4x2x2048x2048x8, .f32⟩
  | 34 => ⟨S4x2x8x2048x2048, .f32⟩
  | 35 => ⟨S_, .f32⟩
  | 36 => ⟨S4x2x8x2048x2048, .f32⟩
  | 37 => ⟨S4x2x8x2048x2048, .f32⟩
  | 38 => ⟨S1x2048, .i32⟩
  | 39 => ⟨S2048x1, .i32⟩
  | 40 => ⟨S2048x2048, .i32⟩
  | 41 => ⟨S2048x2048, .i32⟩
  | 42 => ⟨S2048x2048, .i1⟩
  | 43 => ⟨S1x1x1x2048x2048, .i1⟩
  | 44 => ⟨S4x2x1x2048x2048, .i1⟩
  | 45 => ⟨S4x2x1x2048x2048, .i1⟩
  | 46 => ⟨S_, .f32⟩
  | 47 => ⟨S_, .f32⟩
  | 48 => ⟨S4x2x8x2048x2048, .i1⟩
  | 49 => ⟨S4x2x8x2048x2048, .f32⟩
  | 50 => ⟨S4x2x8x2048x2048, .f32⟩
  | 51 => ⟨S_, .f32⟩
  | 52 => ⟨S4x2x8x2048, .f32⟩
  | 53 => ⟨S4x2x8x2048x1, .f32⟩
  | 54 => ⟨S4x2x8x2048x2048, .f32⟩
  | 55 => ⟨S4x2x8x2048x2048, .f32⟩
  | 56 => ⟨S4x2x8x2048x2048, .f32⟩
  | 57 => ⟨S_, .f32⟩
  | 58 => ⟨S_, .f32⟩
  | 59 => ⟨S4x2x8x2048x2048, .i1⟩
  | 60 => ⟨S4x2x8x2048x2048, .f32⟩
  | 61 => ⟨S4x2x8x2048x2048, .f32⟩
  | 62 => ⟨S_, .f32⟩
  | 63 => ⟨S4x2x8x2048, .f32⟩
  | 64 => ⟨S4x2x8x2048x1, .f32⟩
  | 65 => ⟨S_, .f32⟩
  | 66 => ⟨S4x2x8x2048x1, .f32⟩
  | 67 => ⟨S4x2x8x2048x1, .f32⟩
  | 68 => ⟨S4x2x8x2048x2048, .f32⟩
  | 69 => ⟨S4x2x8x2048x2048, .f32⟩
  | 70 => ⟨S4x2048x1x2x128, .f32⟩
  | 71 => ⟨S4x2048x2x128, .f32⟩
  | 72 => ⟨S4x2x8x2048x128, .f32⟩
  | 73 => ⟨S4x2048x1x2x128, .f32⟩
  | 74 => ⟨S4x2048x2x128, .f32⟩
  | 75 => ⟨S4x2x2048x2048x8, .f32⟩
  | 76 => ⟨S4x2x8x2048x2048, .f32⟩
  | 77 => ⟨S_, .f32⟩
  | 78 => ⟨S4x2x8x2048x2048, .f32⟩
  | 79 => ⟨S4x2x8x2048x2048, .f32⟩
  | 80 => ⟨S1x2048, .i32⟩
  | 81 => ⟨S2048x1, .i32⟩
  | 82 => ⟨S2048x2048, .i32⟩
  | 83 => ⟨S2048x2048, .i32⟩
  | 84 => ⟨S2048x2048, .i1⟩
  | 85 => ⟨S1x2048, .i32⟩
  | 86 => ⟨S2048x1, .i32⟩
  | 87 => ⟨S_, .i32⟩
  | 88 => ⟨S2048x1, .i32⟩
  | 89 => ⟨S2048x1, .i32⟩
  | 90 => ⟨S2048x2048, .i32⟩
  | 91 => ⟨S2048x2048, .i32⟩
  | 92 => ⟨S2048x2048, .i1⟩
  | 93 => ⟨S2048x2048, .i1⟩
  | 94 => ⟨S_, .f32⟩
  | 95 => ⟨S_, .f32⟩
  | 96 => ⟨S4x2x8x2048x2048, .i1⟩
  | 97 => ⟨S4x2x8x2048x2048, .f32⟩
  | 98 => ⟨S4x2x8x2048x2048, .f32⟩
  | 99 => ⟨S_, .f32⟩
  | 100 => ⟨S4x2x8x2048, .f32⟩
  | 101 => ⟨S4x2x8x2048x1, .f32⟩
  | 102 => ⟨S4x2x8x2048x2048, .f32⟩
  | 103 => ⟨S4x2x8x2048x2048, .f32⟩
  | 104 => ⟨S4x2x8x2048x2048, .f32⟩
  | 105 => ⟨S_, .f32⟩
  | 106 => ⟨S_, .f32⟩
  | 107 => ⟨S4x2x8x2048x2048, .i1⟩
  | 108 => ⟨S4x2x8x2048x2048, .f32⟩
  | 109 => ⟨S4x2x8x2048x2048, .f32⟩
  | 110 => ⟨S_, .f32⟩
  | 111 => ⟨S4x2x8x2048, .f32⟩
  | 112 => ⟨S4x2x8x2048x1, .f32⟩
  | 113 => ⟨S_, .f32⟩
  | 114 => ⟨S4x2x8x2048x1, .f32⟩
  | 115 => ⟨S4x2x8x2048x1, .f32⟩
  | 116 => ⟨S4x2x8x2048x2048, .f32⟩
  | 117 => ⟨S4x2x8x2048x2048, .f32⟩
  | 118 => ⟨S4x2048x1x2x128, .f32⟩
  | 119 => ⟨S4x2048x2x128, .f32⟩
  | 120 => ⟨S4x2x8x2048x128, .f32⟩
  | 121 => ⟨S3x4x2x8x2048, .f32⟩
  | 122 => ⟨S3x4x2x8x2048x1, .f32⟩
  | 123 => ⟨S1x4x2x8x2048x1, .f32⟩
  | 124 => ⟨S4x2x8x2048x1, .f32⟩
  | 125 => ⟨S4x2x8x2048x128, .f32⟩
  | 126 => ⟨S4x2x8x2048x128, .f32⟩
  | 127 => ⟨S1x4x2x8x2048x1, .f32⟩
  | _ => ⟨S8192x8192, .f32⟩

abbrev hbmTy0_2 (i : Nat) : BufTy := match i % 128 with
  | 0 => ⟨S4x2x8x2048x1, .f32⟩
  | 1 => ⟨S4x2x8x2048x128, .f32⟩
  | 2 => ⟨S4x2x8x2048x128, .f32⟩
  | 3 => ⟨S4x2x8x2048x128, .f32⟩
  | 4 => ⟨S1x4x2x8x2048x1, .f32⟩
  | 5 => ⟨S4x2x8x2048x1, .f32⟩
  | 6 => ⟨S4x2x8x2048x128, .f32⟩
  | 7 => ⟨S4x2x8x2048x128, .f32⟩
  | 8 => ⟨S4x2x8x2048x128, .f32⟩
  | 9 => ⟨S4x2048x2x8x128, .f32⟩
  | 10 => ⟨S8192x2048, .f32⟩
  | 11 => ⟨S8192x2048, .bf16⟩
  | _ => ⟨S8192x8192, .f32⟩

abbrev hbmTy (i : Nat) : BufTy := match i / 128 with
  | 0 => hbmTy0_0 i
  | 1 => hbmTy0_1 i
  | 2 => hbmTy0_2 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_c : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_0 : Ref sig .tc := ⟨.hbm, 104, rfl⟩
abbrev main_call2_v12 : Ref sig .tc := ⟨.hbm, 105, rfl⟩
abbrev main_call2_v13 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_15 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_16 : Ref sig .tc := ⟨.hbm, 133, rfl⟩
abbrev main_cst_17 : Ref sig .tc := ⟨.hbm, 134, rfl⟩
abbrev main_call3_v0 : Ref sig .tc := ⟨.hbm, 135, rfl⟩
abbrev main_call3_v1 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_18 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v96 : Ref sig .tc := ⟨.hbm, 146, rfl⟩
abbrev main_values : Ref sig .tc := ⟨.hbm, 147, rfl⟩
abbrev main_indices : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_c_19 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_20 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_21 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v120 : Ref sig .tc := ⟨.hbm, 178, rfl⟩
abbrev main_cst_22 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_23 : Ref sig .tc := ⟨.hbm, 185, rfl⟩
abbrev main_call6_v0 : Ref sig .tc := ⟨.hbm, 186, rfl⟩
abbrev main_call6_v1 : Ref sig .tc := ⟨.hbm, 187, rfl⟩
abbrev main_call6_v2 : Ref sig .tc := ⟨.hbm, 188, rfl⟩
abbrev main_v126 : Ref sig .tc := ⟨.hbm, 189, rfl⟩
abbrev main_cst_24 : Ref sig .tc := ⟨.hbm, 190, rfl⟩
abbrev main_v127 : Ref sig .tc := ⟨.hbm, 191, rfl⟩
abbrev main_v128 : Ref sig .tc := ⟨.hbm, 192, rfl⟩
abbrev main_cst_25 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_26 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_27 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_cst_28 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_v155 : Ref sig .tc := ⟨.hbm, 226, rfl⟩
abbrev main_cst_29 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_cst_30 : Ref sig .tc := ⟨.hbm, 233, rfl⟩
abbrev main_call8_v0 : Ref sig .tc := ⟨.hbm, 234, rfl⟩
abbrev main_call8_v1 : Ref sig .tc := ⟨.hbm, 235, rfl⟩
abbrev main_call8_v2 : Ref sig .tc := ⟨.hbm, 236, rfl⟩
abbrev main_v161 : Ref sig .tc := ⟨.hbm, 237, rfl⟩
abbrev main_cst_31 : Ref sig .tc := ⟨.hbm, 238, rfl⟩
abbrev main_v162 : Ref sig .tc := ⟨.hbm, 239, rfl⟩
abbrev main_v163 : Ref sig .tc := ⟨.hbm, 240, rfl⟩
abbrev main_cst_32 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩

abbrev nD : Nat := 1
abbrev τ : Topo := Topo.v7x

variable {F : FTy → Type} [FloatOps F]
-- ==== Kernel2.lean ====
abbrev S8192x4096 : Shape := ⟨2, ![8192, 4096]⟩
abbrev S4x1x4096 : Shape := ⟨3, ![4, 1, 4096]⟩
abbrev S4096x7728 : Shape := ⟨2, ![4096, 7728]⟩
abbrev S4096x3632 : Shape := ⟨2, ![4096, 3632]⟩
abbrev S_ : Shape := ⟨0, ![]⟩
abbrev S4096x464 : Shape := ⟨2, ![4096, 464]⟩
abbrev S4096x4096 : Shape := ⟨2, ![4096, 4096]⟩
abbrev S4096x8192 : Shape := ⟨2, ![4096, 8192]⟩
abbrev S8192x8192 : Shape := ⟨2, ![8192, 8192]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1x2048 : Shape := ⟨2, ![1, 2048]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S4x1x4096, .f32⟩
  | .hbm, ⟨3, _⟩ => ⟨S4096x7728, .f32⟩
  | .hbm, ⟨4, _⟩ => ⟨S4096x3632, .f32⟩
  | .hbm, ⟨5, _⟩ => ⟨S_, .f32⟩
  | .hbm, ⟨6, _⟩ => ⟨S4096x464, .f32⟩
  | .hbm, ⟨7, _⟩ => ⟨S4096x4096, .f32⟩
  | .hbm, ⟨8, _⟩ => ⟨S4096x8192, .f32⟩
  | .hbm, ⟨9, _⟩ => ⟨S4096x8192, .bf16⟩
  | .hbm, ⟨10, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x4096 : Shape := ⟨2, ![8192, 4096]⟩
abbrev S4x1x4096 : Shape := ⟨3, ![4, 1, 4096]⟩
abbrev S4096x7728 : Shape := ⟨2, ![4096, 7728]⟩
abbrev S4x2048x4096 : Shape := ⟨3, ![4, 2048, 4096]⟩
abbrev S_ : Shape := ⟨0, ![]⟩
abbrev S4x2048x7728 : Shape := ⟨3, ![4, 2048, 7728]⟩
abbrev S8192x7728 : Shape := ⟨2, ![8192, 7728]⟩
abbrev S8192x3632 : Shape := ⟨2, ![8192, 3632]⟩
abbrev S8192x464 : Shape := ⟨2, ![8192, 464]⟩
abbrev S8192x8192 : Shape := ⟨2, ![8192, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S4x1x4096, .f32⟩
  | .hbm, ⟨3, _⟩ => ⟨S4096x7728, .f32⟩
  | .hbm, ⟨4, _⟩ => ⟨S4x2048x4096, .f32⟩
  | .hbm, ⟨5, _⟩ => ⟨S_, .f32⟩
  | .hbm, ⟨6, _⟩ => ⟨S4x1x4096, .f32⟩
  | .hbm, ⟨7, _⟩ => ⟨S4x1x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x7728, .f32⟩
  | .hbm, ⟨13, _⟩ => ⟨S8192x7728, .f32⟩
  | .hbm, ⟨14, _⟩ => ⟨S8192x3632, .f32⟩
  | .hbm, ⟨15, _⟩ => ⟨S_, .f32⟩
  | .hbm, ⟨16, _⟩ => ⟨S8192x464, .f32⟩
  | .hbm, ⟨17, _⟩ => ⟨S8192x4096, .f32⟩
  | .hbm, ⟨18, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S41216x4096 : Shape := ⟨2, ![41216, 4096]⟩
abbrev S161 : Shape := ⟨1, ![161]⟩
abbrev S1 : Shape := ⟨1, ![1]⟩
abbrev S2x32x4096x4096 : Shape := ⟨4, ![2, 32, 4096, 4096]⟩
abbrev S2x32x4096 : Shape := ⟨3, ![2, 32, 4096]⟩
abbrev S2x32x1x4096 : Shape := ⟨4, ![2, 32, 1, 4096]⟩
abbrev S41216x2048 : Shape := ⟨2, ![41216, 2048]⟩
abbrev S256x4096 : Shape := ⟨2, ![256, 4096]⟩
abbrev S1x1x4096x512 : Shape := ⟨4, ![1, 1, 4096, 512]⟩
abbrev S1x1x1x512 : Shape := ⟨4, ![1, 1, 1, 512]⟩
abbrev S256x512 : Shape := ⟨2, ![256, 512]⟩
abbrev S4096x512 : Shape := ⟨2, ![4096, 512]⟩
abbrev S1x512 : Shape := ⟨2, ![1, 512]⟩

abbrev nBuf : Space → Nat
  | .hbm => 5
  | .vmem => 14
  | .smem => 2
  | _ => 0

abbrev bufTy : (tb : Table) → Fin (tcTables nBuf tb) → BufTy
  | .hbm, ⟨0, _⟩ => ⟨S41216x4096, .bf16⟩
  | .hbm, ⟨1, _⟩ => ⟨S2x32x4096x4096, .f32⟩
  | .hbm, ⟨2, _⟩ => ⟨S2x32x4096, .f32⟩
  | .hbm, ⟨3, _⟩ => ⟨S2x32x1x4096, .f32⟩
  | .hbm, ⟨4, _⟩ => ⟨S41216x2048, .bf16⟩
  | .local _ .vmem, ⟨0, _⟩ => ⟨S256x4096, .bf16⟩
  | .local _ .vmem, ⟨1, _⟩ => ⟨S256x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S256x512, .bf16⟩
  | .local _ .vmem, ⟨11, _⟩ => ⟨S256x512, .bf16⟩
  | .local _ .vmem, ⟨12, _⟩ => ⟨S4096x512, .bf16⟩
  | .local _ .vmem, ⟨13, _⟩ => ⟨S4096x512, .bf16⟩
  | .local _ .smem, ⟨0, _⟩ => ⟨S161, .i32⟩
  | .local _ .smem, ⟨1, _⟩ => ⟨S1, .i32⟩
  | _, _ => ⟨S41216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 161], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S41216x4096 : Shape := ⟨2, ![41216, 4096]⟩
abbrev S161 : Shape := ⟨1, ![161]⟩
abbrev S1 : Shape := ⟨1, ![1]⟩
abbrev S2x32x4096x4096 : Shape := ⟨4, ![2, 32, 4096, 4096]⟩
abbrev S2x32x4096 : Shape := ⟨3, ![2, 32, 4096]⟩
abbrev S161x256x4096 : Shape := ⟨3, ![161, 256, 4096]⟩
abbrev S1x32x4096x4096 : Shape := ⟨4, ![1, 32, 4096, 4096]⟩
abbrev S32x4096x4096 : Shape := ⟨3, ![32, 4096, 4096]⟩
abbrev S161x1 : Shape := ⟨2, ![161, 1]⟩
abbrev S161x4096x4096 : Shape := ⟨3, ![161, 4096, 4096]⟩
abbrev S1x32x4096 : Shape := ⟨3, ![1, 32, 4096]⟩
abbrev S32x4096 : Shape := ⟨2, ![32, 4096]⟩
abbrev S161x4096 : Shape := ⟨2, ![161, 4096]⟩
abbrev S161x1x4096 : Shape := ⟨3, ![161, 1, 4096]⟩
abbrev S161x256x2048 : Shape := ⟨3, ![161, 256, 2048]⟩
abbrev S_ : Shape := ⟨0, ![]⟩
abbrev S41216x2048 : Shape := ⟨2, ![41216, 2048]⟩

abbrev nBuf : Space → Nat
  | .hbm => 50
  | .vmem => 0
  | .smem => 0
  | _ => 0

abbrev bufTy : (tb : Table) → Fin (tcTables nBuf tb) → BufTy
  | .hbm, ⟨0, _⟩ => ⟨S41216x4096, .bf16⟩
  | .hbm, ⟨1, _⟩ => ⟨S161, .i32⟩
  | .hbm, ⟨2, _⟩ => ⟨S1, .i32⟩
  | .hbm, ⟨3, _⟩ => ⟨S2x32x4096x4096, .f32⟩
  | .hbm, ⟨4, _⟩ => ⟨S2x32x4096, .f32⟩
  | .hbm, ⟨5, _⟩ => ⟨S41216x4096, .f32⟩
  | .hbm, ⟨6, _⟩ => ⟨S161x256x4096, .f32⟩
  | .hbm, ⟨7, _⟩ => ⟨S1x32x4096x4096, .f32⟩
  | .hbm, ⟨8, _⟩ => ⟨S32x4096x4096, .f32⟩
  | .hbm, ⟨9, _⟩ => ⟨S161x1, .i32⟩
  | .hbm, ⟨10, _⟩ => ⟨S161x4096x4096, .f32⟩
  | .hbm, ⟨11, _⟩ => ⟨S1x32x4096, .f32⟩
  | .hbm, ⟨12, _⟩ => ⟨S32x4096, .f32⟩
  | .hbm, ⟨13, _⟩ => ⟨S161x1, .i32⟩
  | .hbm, ⟨14, _⟩ => ⟨S161x4096, .f32⟩
  | .hbm, ⟨15, _⟩ => ⟨S161x256x4096, .f32⟩
  | .hbm, ⟨16, _⟩ => ⟨S161x1x4096, .f32⟩
  | .hbm, ⟨17, _⟩ => ⟨S161x256x4096, .f32⟩
  | .hbm, ⟨18, _⟩ => ⟨S161x256x4096, .f32⟩
  | .hbm, ⟨19, _⟩ => ⟨S161x256x2048, .f32⟩
  | .hbm, ⟨20, _⟩ => ⟨S161x256x2048, .f32⟩
  | .hbm, ⟨21, _⟩ => ⟨S_, .f32⟩
  | .hbm, ⟨22, _⟩ => ⟨S161x256x2048, .f32⟩
  | .hbm, ⟨23, _⟩ => ⟨S161x256x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S161x256x2048, .f32⟩
  | .hbm, ⟨28, _⟩ => ⟨S161x256x2048, .f32⟩
  | .hbm, ⟨29, _⟩ => ⟨S_, .f32⟩
  | .hbm, ⟨30, _⟩ => ⟨S161x256x2048, .f32⟩
  | .hbm, ⟨31, _⟩ => ⟨S161x256x2048, .f32⟩
  | .hbm, ⟨32, _⟩ => ⟨S_, .f32⟩
  | .hbm, ⟨33, _⟩ => ⟨S161x256x2048, .f32⟩
  | .hbm, ⟨34, _⟩ => ⟨S161x256x2048, .f32⟩
  | .hbm, ⟨35, _⟩ => ⟨S161x256x2048, .f32⟩
  | .hbm, ⟨36, _⟩ => ⟨S161x256x2048, .f32⟩
  | .hbm, ⟨37, _⟩ => ⟨S_, .f32⟩
  | .hbm, ⟨38, _⟩ => ⟨S161x256x2048, .f32⟩
  | .hbm, ⟨39, _⟩ => ⟨S161x256x2048, .f32⟩
  | .hbm, ⟨40, _⟩ => ⟨S_, .f32⟩
  | .hbm, ⟨41, _⟩ => ⟨S161x256x2048, .f32⟩
  | .hbm, ⟨42, _⟩ => ⟨S161x256x2048, .f32⟩
  | .hbm, ⟨43, _⟩ => ⟨S161x256x2048, .f32⟩
  | .hbm, ⟨44, _⟩ => ⟨S_, .f32⟩
  | .hbm, ⟨45, _⟩ => ⟨S161x256x2048, .f32⟩
  | .hbm, ⟨46, _⟩ => ⟨S161x256x2048, .f32⟩
  | .hbm, ⟨47, _⟩ => ⟨S161x256x2048, .f32⟩
  | .hbm, ⟨48, _⟩ => ⟨S41216x2048, .f32⟩
  | .hbm, ⟨49, _⟩ => ⟨S41216x2048, .bf16⟩
  | _, _ => ⟨S41216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_cst_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kernel5.lean ====
abbrev S41216x2048 : Shape := ⟨2, ![41216, 2048]⟩
abbrev S41216x1 : Shape := ⟨2, ![41216, 1]⟩
abbrev S161 : Shape := ⟨1, ![161]⟩
abbrev S1 : Shape := ⟨1, ![1]⟩
abbrev S2x32x2048x4096 : Shape := ⟨4, ![2, 32, 2048, 4096]⟩
abbrev S2x32x4096 : Shape := ⟨3, ![2, 32, 4096]⟩
abbrev S2x32x1x4096 : Shape := ⟨4, ![2, 32, 1, 4096]⟩
abbrev S41216x4096 : Shape := ⟨2, ![41216, 4096]⟩
abbrev S256x2048 : Shape := ⟨2, ![256, 2048]⟩
abbrev S1x1x2048x2048 : Shape := ⟨4, ![1, 1, 2048, 2048]⟩
abbrev S1x1x1x2048 : Shape := ⟨4, ![1, 1, 1, 2048]⟩
abbrev S256x1 : Shape := ⟨2, ![256, 1]⟩
abbrev S2048x2048 : Shape := ⟨2, ![2048, 2048]⟩
abbrev S1x2048 : Shape := ⟨2, ![1, 2048]⟩

abbrev nBuf : Space → Nat
  | .hbm => 6
  | .vmem => 11
  | .smem => 2
  | _ => 0

abbrev bufTy : (tb : Table) → Fin (tcTables nBuf tb) → BufTy
  | .hbm, ⟨0, _⟩ => ⟨S41216x2048, .bf16⟩
  | .hbm, ⟨1, _⟩ => ⟨S41216x1, .f32⟩
  | .hbm, ⟨2, _⟩ => ⟨S2x32x2048x4096, .f32⟩
  | .hbm, ⟨3, _⟩ => ⟨S2x32x4096, .f32⟩
  | .hbm, ⟨4, _⟩ => ⟨S2x32x1x4096, .f32⟩
  | .hbm, ⟨5, _⟩ => ⟨S41216x4096, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x2048, .f32⟩
  | .local _ .vmem, ⟨3, _⟩ => ⟨S1x1x2048x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | .local _ .vmem, ⟨10, _⟩ => ⟨S2048x2048, .bf16⟩
  | .local _ .smem, ⟨0, _⟩ => ⟨S161, .i32⟩
  | .local _ .smem, ⟨1, _⟩ => ⟨S1, .i32⟩
  | _, _ => ⟨S41216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S41216x2048 : Shape := ⟨2, ![41216, 2048]⟩
abbrev S41216x1 : Shape := ⟨2, ![41216, 1]⟩
abbrev S161 : Shape := ⟨1, ![161]⟩
abbrev S1 : Shape := ⟨1, ![1]⟩
abbrev S2x32x2048x4096 : Shape := ⟨4, ![2, 32, 2048, 4096]⟩
abbrev S2x32x4096 : Shape := ⟨3, ![2, 32, 4096]⟩
abbrev S1x32x2048x4096 : Shape := ⟨4, ![1, 32, 2048, 4096]⟩
abbrev S32x2048x4096 : Shape := ⟨3, ![32, 2048, 4096]⟩
abbrev S161x1 : Shape := ⟨2, ![161, 1]⟩
abbrev S161x2048x4096 : Shape := ⟨3, ![161, 2048, 4096]⟩
abbrev S1x32x4096 : Shape := ⟨3, ![1, 32, 4096]⟩
abbrev S32x4096 : Shape := ⟨2, ![32, 4096]⟩
abbrev S161x4096 : Shape := ⟨2, ![161, 4096]⟩
abbrev S161x256x2048 : Shape := ⟨3, ![161, 256, 2048]⟩
abbrev S161x256x4096 : Shape := ⟨3, ![161, 256, 4096]⟩
abbrev S161x1x4096 : Shape := ⟨3, ![161, 1, 4096]⟩
abbrev S41216x4096 : Shape := ⟨2, ![41216, 4096]⟩

abbrev nBuf : Space → Nat
  | .hbm => 23
  | .vmem => 0
  | .smem => 0
  | _ => 0

abbrev bufTy : (tb : Table) → Fin (tcTables nBuf tb) → BufTy
  | .hbm, ⟨0, _⟩ => ⟨S41216x2048, .bf16⟩
  | .hbm, ⟨1, _⟩ => ⟨S41216x1, .f32⟩
  | .hbm, ⟨2, _⟩ => ⟨S161, .i32⟩
  | .hbm, ⟨3, _⟩ => ⟨S1, .i32⟩
  | .hbm, ⟨4, _⟩ => ⟨S2x32x2048x4096, .f32⟩
  | .hbm, ⟨5, _⟩ => ⟨S2x32x4096, .f32⟩
  | .hbm, ⟨6, _⟩ => ⟨S1x32x2048x4096, .f32⟩
  | .hbm, ⟨7, _⟩ => ⟨S32x2048x4096, .f32⟩
  | .hbm, ⟨8, _⟩ => ⟨S161x1, .i32⟩
  | .hbm, ⟨9, _⟩ => ⟨S161x2048x4096, .f32⟩
  | .hbm, ⟨10, _⟩ => ⟨S1x32x4096, .f32⟩
  | .hbm, ⟨11, _⟩ => ⟨S32x4096, .f32⟩
  | .hbm, ⟨12, _⟩ => ⟨S161x1, .i32⟩
  | .hbm, ⟨13, _⟩ => ⟨S161x4096, .f32⟩
  | .hbm, ⟨14, _⟩ => ⟨S41216x2048, .f32⟩
  | .hbm, ⟨15, _⟩ => ⟨S161x256x2048, .f32⟩
  | .hbm, ⟨16, _⟩ => ⟨S161x256x4096, .f32⟩
  | .hbm, ⟨17, _⟩ => ⟨S161x1x4096, .f32⟩
  | .hbm, ⟨18, _⟩ => ⟨S161x256x4096, .f32⟩
  | .hbm, ⟨19, _⟩ => ⟨S161x256x4096, .f32⟩
  | .hbm, ⟨20, _⟩ => ⟨S41216x4096, .f32⟩
  | .hbm, ⟨21, _⟩ => ⟨S41216x4096, .f32⟩
  | .hbm, ⟨22, _⟩ => ⟨S41216x4096, .f32⟩
  | _, _ => ⟨S41216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel6.lean ====
abbrev S64x4096 : Shape := ⟨2, ![64, 4096]⟩
abbrev S8x4096 : Shape := ⟨2, ![8, 4096]⟩
abbrev S4096x7728 : Shape := ⟨2, ![4096, 7728]⟩
abbrev S8x8x4096 : Shape := ⟨3, ![8, 8, 4096]⟩
abbrev S1x64x4096 : Shape := ⟨3, ![1, 64, 4096]⟩
abbrev S4096x3632 : Shape := ⟨2, ![4096, 3632]⟩
abbrev S_ : Shape := ⟨0, ![]⟩
abbrev S4096x464 : Shape := ⟨2, ![4096, 464]⟩
abbrev S4096x4096 : Shape := ⟨2, ![4096, 4096]⟩
abbrev S4096x8192 : Shape := ⟨2, ![4096, 8192]⟩
abbrev S64x8192 : Shape := ⟨2, ![64, 8192]⟩
abbrev S64x512 : Shape := ⟨2, ![64, 512]⟩
abbrev S1x64x512 : Shape := ⟨3, ![1, 64, 512]⟩
abbrev S512x1024 : Shape := ⟨2, ![512, 1024]⟩
abbrev S64x1024 : Shape := ⟨2, ![64, 1024]⟩

abbrev nBuf : Space → Nat
  | .hbm => 17
  | .vmem => 11
  | .smem => 0
  | _ => 0

abbrev bufTy : (tb : Table) → Fin (tcTables nBuf tb) → BufTy
  | .hbm, ⟨0, _⟩ => ⟨S64x4096, .f32⟩
  | .hbm, ⟨1, _⟩ => ⟨S8x4096, .f32⟩
  | .hbm, ⟨2, _⟩ => ⟨S8x4096, .f32⟩
  | .hbm, ⟨3, _⟩ => ⟨S4096x7728, .f32⟩
  | .hbm, ⟨4, _⟩ => ⟨S8x8x4096, .f32⟩
  | .hbm, ⟨5, _⟩ => ⟨S64x4096, .f32⟩
  | .hbm, ⟨6, _⟩ => ⟨S1x64x4096, .f32⟩
  | .hbm, ⟨7, _⟩ => ⟨S8x8x4096, .f32⟩
  | .hbm, ⟨8, _⟩ => ⟨S64x4096, .f32⟩
  | .hbm, ⟨9, _⟩ => ⟨S1x64x4096, .f32⟩
  | .hbm, ⟨10, _⟩ => ⟨S4096x3632, .f32⟩
  | .hbm, ⟨11, _⟩ => ⟨S_, .f32⟩
  | .hbm, ⟨12, _⟩ => ⟨S4096x464, .f32⟩
  | .hbm, ⟨13, _⟩ => ⟨S4096x4096, .f32⟩
  | .hbm, ⟨14, _⟩ => ⟨S4096x8192, .f32⟩
  | .hbm, ⟨15, _⟩ => ⟨S4096x8192, .bf16⟩
  | .hbm, ⟨16, _⟩ => ⟨S64x8192, .f32⟩
  | .local _ .vmem, ⟨0, _⟩ => ⟨S64x512, .f32⟩
  | .local _ .vmem, ⟨1, _⟩ => ⟨S64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S512x1024, .bf16⟩
  | .local _ .vmem, ⟨7, _⟩ => ⟨S512x1024, .bf16⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference6Ideal.lean ====
abbrev S64x4096 : Shape := ⟨2, ![64, 4096]⟩
abbrev S8x4096 : Shape := ⟨2, ![8, 4096]⟩
abbrev S4096x7728 : Shape := ⟨2, ![4096, 7728]⟩
abbrev S8x8x4096 : Shape := ⟨3, ![8, 8, 4096]⟩
abbrev S8x1x4096 : Shape := ⟨3, ![8, 1, 4096]⟩
abbrev S_ : Shape := ⟨0, ![]⟩
abbrev S8x8x7728 : Shape := ⟨3, ![8, 8, 7728]⟩
abbrev S64x7728 : Shape := ⟨2, ![64, 7728]⟩
abbrev S64x3632 : Shape := ⟨2, ![64, 3632]⟩
abbrev S64x464 : Shape := ⟨2, ![64, 464]⟩
abbrev S64x8192 : Shape := ⟨2, ![64, 8192]⟩

abbrev nBuf : Space → Nat
  | .hbm => 21
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S8x4096, .f32⟩
  | .hbm, ⟨2, _⟩ => ⟨S8x4096, .f32⟩
  | .hbm, ⟨3, _⟩ => ⟨S4096x7728, .f32⟩
  | .hbm, ⟨4, _⟩ => ⟨S8x8x4096, .f32⟩
  | .hbm, ⟨5, _⟩ => ⟨S8x1x4096, .f32⟩
  | .hbm, ⟨6, _⟩ => ⟨S_, .f32⟩
  | .hbm, ⟨7, _⟩ => ⟨S8x1x4096, .f32⟩
  | .hbm, ⟨8, _⟩ => ⟨S8x1x4096, .f32⟩
  | .hbm, ⟨9, _⟩ => ⟨S8x8x4096, .f32⟩
  | .hbm, ⟨10, _⟩ => ⟨S8x8x4096, .f32⟩
  | .hbm, ⟨11, _⟩ => ⟨S8x1x4096, .f32⟩
  | .hbm, ⟨12, _⟩ => ⟨S8x8x4096, .f32⟩
  | .hbm, ⟨13, _⟩ => ⟨S8x8x4096, .f32⟩
  | .hbm, ⟨14, _⟩ => ⟨S8x8x7728, .f32⟩
  | .hbm, ⟨15, _⟩ => ⟨S64x7728, .f32⟩
  | .hbm, ⟨16, _⟩ => ⟨S64x3632, .f32⟩
  | .hbm, ⟨17, _⟩ => ⟨S_, .f32⟩
  | .hbm, ⟨18, _⟩ => ⟨S64x464, .f32⟩
  | .hbm, ⟨19, _⟩ => ⟨S64x4096, .f32⟩
  | .hbm, ⟨20, _⟩ => ⟨S64x8192, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Setup.lean ====
/- What the two runs of the body share: the branch condition in closed form, the staging and scratch memrefs, the
    invariant at the first point. -/
module

public import proofs.«01_k».proof.Proof.Gen.KernelIdeal.Frame
public import proofs.«01_k».proof.Proof.Gen.KernelIdeal.Loops

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body is at the first tile of a batch. -/
abbrev cond0_0 (i : grid0.Coords) : Prop := (Scalar.cmpi .ne (Scalar.extui (Scalar.cmpi .eq (BitVec.ofNat 32 (i 1).val) 0#32)) 0#32) = 1#1
/-- The first tiles are the points divisible by 16. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The staging memref of each window at a point, and that it is whole. -/
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
/-- The scratch memrefs. -/
abbrev scM0_0 : Memref sig .tc .vmem S2048x512 .bf16 := Memref.whole cc0_scratch0
abbrev scM0_1 : Memref sig .tc .vmem S2048x512 .bf16 := Memref.whole cc0_scratch1
abbrev scM0_2 : Memref sig .tc .vmem S1024x1 .f32 := Memref.whole cc0_scratch2
abbrev scM0_3 : Memref sig .tc .vmem S1024x1 .f32 := Memref.whole cc0_scratch3
abbrev scM0_4 : Memref sig .tc .vmem S1024x128 .f32 := Memref.whole cc0_scratch4

/-- What the region starts from, the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.Part9.lean ====
/- The run of the body at the first tiles of a batch. -/
module

public import proofs.«01_k».proof.Proof.Setup
public import Idealize.ShloMosaic.Lib.WholeRead
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The columns of one head of a tile of queries. -/
def cols (o : Fin 2 → Nat) (h : ∀ a, o a + S128x128.size a ≤ S128x2048.size a) (x : Vec F S128x2048 .f32) : Vec F S128x128 .f32 :=
  fun y => x ((Rect.unit (s := S128x2048) o S128x128.size h).emb y)

/-- One slot of the compressed block. -/
def slot (o : Fin 4 → Nat) (h : ∀ a, o a + S1x1x128x128.size a ≤ S1x4x128x128.size a) (x : Vec F S1x4x128x128 .f32) : Vec F S1x1x128x128 .f32 :=
  fun y => x ((Rect.unit (s := S1x4x128x128) o S1x1x128x128.size h).emb y)

/-- A load of a whole block is the block. -/
theorem readAt_whole {s : Shape} {e : EltTy} {M : Memref sig .tc .vmem s e} (h : M.IsWhole) (X : Vec F s e) {o : Fin s.rank → Nat} (hb) :
    View.readAt (Elt F) M.view (Rect.unit (s := s) o s.size hb).toLoadRect (h.unread X) = X := by
  funext y
  refine (h.readAt_unread X _ y).trans (congrArg X (funext fun a => Fin.ext ?_))
  show o a + 1 * (y a).val = (y a).val
  have := hb a; omega

/-- A load of some columns of a tile of queries. -/
theorem readAt_cols {M : Memref sig .tc .vmem S128x2048 .f32} (h : M.IsWhole) (X : Vec F S128x2048 .f32) (o : Fin 2 → Nat) (hb) :
    View.readAt (Elt F) M.view (Rect.unit (s := S128x2048) o S128x128.size hb).toLoadRect (h.unread X) = cols o hb X := by
  funext y
  exact (h.readAt_unread X _ y).trans rfl

/-- A load of one slot of the compressed block. -/
theorem readAt_slot {M : Memref sig .tc .vmem S1x4x128x128 .f32} (h : M.IsWhole) (X : Vec F S1x4x128x128 .f32) (o : Fin 4 → Nat) (hb) :
    View.readAt (Elt F) M.view (Rect.unit (s := S1x4x128x128) o S1x1x128x128.size hb).toLoadRect (h.unread X) = slot o hb X := by
  funext y
  exact (h.readAt_unread X _ y).trans rfl

/-- What the first part of the body hands to the rest. -/
def part9Val (i : grid0.Coords) (x0 : Vec F S128x2048 .f32) (x1 : Vec F S128x128 .f32) (x2 : Vec F S1x4x128x128 .f32) :
    (Σ' (arg1 : BitVec 32) (v3 : BitVec 32) (v6 : IVec S128x1 32) (v8 : FVec F S128x128 .f32) (v18 : FVec F S1024x128 .bf16) (v21 : FVec F S128x128 .bf16) (v24 : FVec F S128x128 .bf16) (v25 : IVec S1x128 32), IVec S1x128 32) :=
  ⟨BitVec.ofNat 32 (i 1).val, Scalar.muli (BitVec.ofNat 32 (i 1).val) 128#32, k0_pay52 i, k0_pay53 x1,
    k0_pay54 (cols _ inb_S128x2048_S128x128_0_0 x0) (cols _ inb_S128x2048_S128x128_0_128 x0) (cols _ inb_S128x2048_S128x128_0_256 x0) (cols _ inb_S128x2048_S128x128_0_384 x0) (cols _ inb_S128x2048_S128x128_0_512 x0) (cols _ inb_S128x2048_S128x128_0_640 x0) (cols _ inb_S128x2048_S128x128_0_768 x0) (cols _ inb_S128x2048_S128x128_0_896 x0),
    k0_pay55 (slot _ inb_S1x4x128x128_S1x1x128x128_0_0_0_0 x2), k0_pay56 (slot _ inb_S1x4x128x128_S1x1x128x128_0_2_0_0 x2), iota .tc S1x128 32 [1] iota_S1x128_d1_w32, k0_pay57⟩

set_option maxHeartbeats 2400000 in
/-- The first part of the body at the first tile of a batch: both scratch copies are filled from their blocks. -/
theorem part9A (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i)
    (x0 : Vec F S128x2048 .f32) (x1 : Vec F S128x128 .f32) (x2 : Vec F S1x4x128x128 .f32) (x3 : Vec F S2048x512 .f32) (x4 : Vec F S2048x512 .f32) (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (k0_pay50 x3) ∗ owns (c : Thread nD τ) arg9 fullShare (k0_pay51 x4)) -∗ K (part9Val i x0 x1 x2)))
          ⊢ wp frame (wpE (defs₀ (F := F)) Variants.none c none) E (k0_part9 i arg2 harg2 arg3 harg3 arg4 harg4 arg5 harg5 arg6 harg6 arg7 harg7 arg8 harg8 arg9 harg9 arg10 harg10 arg11 harg11 arg12 harg12) K := by
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  rw [readAt_whole harg3 x1, readAt_cols harg2 x0, readAt_cols harg2 x0, readAt_cols harg2 x0, readAt_cols harg2 x0, readAt_cols harg2 x0, readAt_cols harg2 x0, readAt_cols harg2 x0, readAt_cols harg2 x0, readAt_slot harg4 x2, readAt_slot harg4 x2]
  unfold part9Val part9A.sl.v3 part9A.sl.v25
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr; swap; · iexact HS0
    ipureintro; rw [View.read_writes_full, readAt_whole harg5 x3]
  iexists _; isplitr; swap; · iexact HS1
  ipureintro; rw [View.read_writes_full, readAt_whole harg6 x4]

set_option maxHeartbeats 2400000 in
/-- The first part of the body at the later tiles of a batch: both scratch copies are kept. -/
theorem part9B (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i)
    (x0 : Vec F S128x2048 .f32) (x1 : Vec F S128x128 .f32) (x2 : Vec F S1x4x128x128 .f32) (x3 : Vec F S2048x512 .f32) (x4 : Vec F S2048x512 .f32) (xs0 : Vec F S2048x512 .bf16) (xs1 : Vec F S2048x512 .bf16) (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xs0 ∗ owns (c : Thread nD τ) arg9 fullShare xs1) -∗ K (part9Val i x0 x1 x2)))
          ⊢ wp frame (wpE (defs₀ (F := F)) Variants.none c none) E (k0_part9 i arg2 harg2 arg3 harg3 arg4 harg4 arg5 harg5 arg6 harg6 arg7 harg7 arg8 harg8 arg9 harg9 arg10 harg10 arg11 harg11 arg12 harg12) K := by
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  rw [readAt_whole harg3 x1, readAt_cols harg2 x0, readAt_cols harg2 x0, readAt_cols harg2 x0, readAt_cols harg2 x0, readAt_cols harg2 x0, readAt_cols harg2 x0, readAt_cols harg2 x0, readAt_cols harg2 x0, readAt_slot harg4 x2, readAt_slot harg4 x2]
  unfold part9Val part9B.sl.v3 part9B.sl.v25
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HS0]
  · iexists _; isplitr; swap; · iexact HS0
    ipureintro; exact hs0
  iexists _; isplitr; swap; · iexact HS1
  ipureintro; exact hs1

end Cert.KernelIdeal.Run

end
-- ==== Proof.Run.lean ====
/- The run of the body at a tile. -/
module

public import proofs.«01_k».proof.Proof.Part9

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2400000 in
/-- What the body leaves in the output tile, as pieces, with its triple: the first part is taken as a step that leaves both scratch copies holding `xs0` and `xs1`. -/
noncomputable def run (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
    (x0 : Vec F S128x2048 .f32) (x1 : Vec F S128x128 .f32) (x2 : Vec F S1x4x128x128 .f32) (x3 : Vec F S2048x512 .f32) (x4 : Vec F S2048x512 .f32) (xs0 : Vec F S2048x512 .bf16) (xs1 : Vec F S2048x512 .bf16) :
    { L : List (View.Piece (Elt F) S128x2048 .bf16) //
      ∀ (P0 P1 : sProp 𝕄)
        (_ : ∀ (E : Set ℕ) (K : _ → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ P0 ∗ P1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare xs0 ∗ owns (c : Thread nD τ) arg9 fullShare xs1) -∗ K (part9Val i x0 x1 x2)))
          ⊢ wp frame (wpE (defs₀ (F := F)) Variants.none c none) E (k0_part9 i arg2 harg2 arg3 harg3 arg4 harg4 arg5 harg5 arg6 harg6 arg7 harg7 arg8 harg8 arg9 harg9 arg10 harg10 arg11 harg11 arg12 harg12) K)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ P0 ∗ P1 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ owns (c : Thread nD τ) arg8 fullShare xs0 ∗ owns (c : Thread nD τ) arg9 fullShare xs1 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_nsa_prompt i arg2 harg2 arg3 harg3 arg4 harg4 arg5 harg5 arg6 harg6 arg7 harg7 arg8 harg8 arg9 harg9 arg10 harg10 arg11 harg11 arg12 harg12) K } := by
  refine ⟨?_, fun P0 P1 h9 E K => ?run⟩
  case run =>
    simp only [cc0_nsa_prompt_eq_skeleton]; unfold cc0_nsa_prompt_skel
    rw [wp_bind]
    iintro ⟨I0, I1, I2, I3, I4, ⟨%d5, O5⟩, Q0, Q1, ⟨%ds2, S2⟩, ⟨%ds3, S3⟩, ⟨%ds4, S4⟩, Hk⟩
    iapply h9
    isplitl [I0]; · iexact I0
    isplitl [I1]; · iexact I1
    isplitl [I2]; · iexact I2
    isplitl [I3]; · iexact I3
    isplitl [I4]; · iexact I4
    isplitl [Q0]; · iexact Q0
    isplitl [Q1]; · iexact Q1
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩⟩
    icases O5 with ⟨%f5, -, H5⟩
    icases S2 with ⟨%fs2, -, HS2⟩
    icases S3 with ⟨%fs3, -, HS3⟩
    icases S4 with ⟨%fs4, -, HS4⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    unfold part9Val
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.Frame.lean ====
/- The launch of the attention: what the scratch copies and the output hold after each tile, the body obligation, the run, the frame. -/
module

public import proofs.«01_k».proof.Proof.Run
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first tile of the batch a tile is in. -/
def base (t : Fin cfg0.N) : Fin cfg0.N := ⟨t.val - t.val % 16, Nat.lt_of_le_of_lt (Nat.sub_le _ _) t.isLt⟩

/-- The batch's selected keys and values, as the scratch copy holds them. -/
def copy0 (c : Dev nD) (t : Fin cfg0.N) : Vec F S2048x512 .bf16 := k0_pay50 (iblk m c 3 (base t))
/-- The batch's window keys and values, as the scratch copy holds them. -/
def copy1 (c : Dev nD) (t : Fin cfg0.N) : Vec F S2048x512 .bf16 := k0_pay51 (iblk m c 4 (base t))

theorem base_first (t : Fin cfg0.N) (h : t.val % 16 = 0) : base t = t := Fin.ext (by show t.val - t.val % 16 = t.val; omega)

theorem base_later (n : ℕ) (hn : n < cfg0.N) (hp : n - 1 < cfg0.N) (h : ¬n % 16 = 0) : base ⟨n - 1, hp⟩ = base ⟨n, hn⟩ :=
  Fin.ext (by show (n - 1) - (n - 1) % 16 = n - n % 16; omega)

/-- The pieces the body leaves in the output tile. -/
abbrev pieces (c : Dev nD) (t : Fin cfg0.N) : List (View.Piece (Elt F) S128x2048 .bf16) :=
  (run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (copy0 m c t) (copy1 m c t)).1

/-- What the output tile holds after the body. -/
def outTile (c : Dev nD) (t : Fin cfg0.N) : Vec F S128x2048 .bf16 := View.canon (pieces m c t)

/-- The pieces cover the tile: sixteen of one head's columns each. -/
theorem pieces_cover (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
    (x0 : Vec F S128x2048 .f32) (x1 : Vec F S128x128 .f32) (x2 : Vec F S1x4x128x128 .f32) (x3 : Vec F S2048x512 .f32) (x4 : Vec F S2048x512 .f32) (xs0 : Vec F S2048x512 .bf16) (xs1 : Vec F S2048x512 .bf16) (y : S128x2048.Idx) :
    ∃ pc ∈ (run c i arg2 harg2 arg3 harg3 arg4 harg4 arg5 harg5 arg6 harg6 arg7 harg7 arg8 harg8 arg9 harg9 arg10 harg10 arg11 harg11 arg12 harg12 x0 x1 x2 x3 x4 xs0 xs1).1, y ∈ pc.1.set :=
  View.cover_of_tiledL (run c i arg2 harg2 arg3 harg3 arg4 harg4 arg5 harg5 arg6 harg6 arg7 harg7 arg8 harg8 arg9 harg9 arg10 harg10 arg11 harg11 arg12 harg12 x0 x1 x2 x3 x4 xs0 xs1).1 S128x128.size (by sl_kernel_rfl) y

/-- The region's invariant: before the first tile as launched, afterwards both copies at their batch's contents. -/
def Inv (c : Dev nD) : (n : ℕ) → n ≤ cfg0.N → sProp 𝕄
  | 0, _ => Pipeline.ΦA spec0 c
  | n + 1, hn => iprop(iprop(owns (c : Thread nD τ) scM0_0 fullShare (copy0 m c ⟨n, hn⟩) ∗ owns (c : Thread nD τ) scM0_1 fullShare (copy1 m c ⟨n, hn⟩) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scM0_0 fullShare (copy0 m c ⟨n, hn⟩) ∗ owns (c : Thread nD τ) scM0_1 fullShare (copy1 m c ⟨n, hn⟩) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem Inv_pos (c : Dev nD) (n : ℕ) (h : n ≤ cfg0.N) (hz : n ≠ 0) :
    Inv m c n h = iprop(iprop(owns (c : Thread nD τ) scM0_0 fullShare (copy0 m c ⟨n - 1, by omega⟩) ∗ owns (c : Thread nD τ) scM0_1 fullShare (copy1 m c ⟨n - 1, by omega⟩) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-- What the launch holds of each window. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile m c t
  Φ t := Inv m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem data_Inv (c : Dev nD) (t : Fin cfg0.N) :
    (data m 0 c).Φ t.castSucc = Inv m c t.val (Nat.le_of_lt t.isLt) := by
  dsimp only [data]; exact Pipeline.Dat.Φ_castSucc (Inv m c) t

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = outTile m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d

/-- What the body is called with at a tile, -/
def pre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d)))

/-- and what it returns. -/
def post (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t))

set_option maxHeartbeats 6400000 in
/-- The body at any tile: the first of its batch fills both copies, a later one finds them. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (data m 0 c).owesAt () t.succ = (data m 0 c).owesAt () t.castSucc from rfl,
    after_0, after_1, after_2, after_3, after_4, after_5]
  rw [show (data m 0 c).Φ t.succ = Inv m c (t.val + 1) t.isLt from rfl, Inv_succ]
  have hN : t.val < 64 := lt_of_lt_of_eq t.isLt (show cfg0.N = 64 from N_0)
  by_cases h0 : t.val % 16 = 0
  · by_cases hz : t.val = 0
    · rw [data_Inv m c t, Inv_zero m c _ _ hz, PhiA0_eq]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (copy0 m c t) (copy1 m c t)).2 _ _ (fun E K => (by unfold copy0 copy1; rw [base_first t h0]; exact part9A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) E K)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, ⟨%e5, H5⟩, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_eq_canon _ _ _ (pieces_cover c _ _ _ _ _ _ _ _ _ _ _ _ _ _ _ _ _ _ _ _ _ _ _ _ _ _ _ _ _ _)
    · rw [data_Inv m c t, Inv_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (copy0 m c t) (copy1 m c t)).2 _ _ (fun E K => (by unfold copy0 copy1; rw [base_first t h0]; exact part9A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) E K)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexact HS2
      isplitl [HS3]; · iexact HS3
      isplitl [HS4]; · iexact HS4
      iintro ⟨H0, H1, H2, H3, H4, ⟨%e5, H5⟩, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_eq_canon _ _ _ (pieces_cover c _ _ _ _ _ _ _ _ _ _ _ _ _ _ _ _ _ _ _ _ _ _ _ _ _ _ _ _ _ _)
  · rw [data_Inv m c t, Inv_pos m c _ _ (fun hz => h0 (by rw [hz]))]
    rw [show copy0 m c ⟨t.val - 1, by omega⟩ = copy0 m c t from by unfold copy0; rw [base_later t.val t.isLt _ h0]]
    rw [show copy1 m c ⟨t.val - 1, by omega⟩ = copy1 m c t from by unfold copy1; rw [base_later t.val t.isLt _ h0]]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
    iapply ((run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (copy0 m c t) (copy1 m c t)).2 _ _ (fun E K => part9B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (copy0 m c t) (copy1 m c t) E K) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_eq_canon _ _ _ (pieces_cover c _ _ _ _ _ _ _ _ _ _ _ _ _ _ _ _ _ _ _ _ _ _ _ _ _ _ _ _ _ _)

/-- The body table's row is the body. -/
theorem row (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_sound m c t) rfl .rfl fun _ => .rfl

theorem enter (c : Dev nD) : Pipeline.ΦA spec0 c ⊢ (data m 0 c).Φ 0 := by
  rw [show (data m 0 c).Φ 0 = Inv m c 0 (Nat.zero_le _) from rfl, Inv_zero m c 0 _ rfl]
  try exact Idealize.SL.BI.Entails.refl _

theorem leave (c : Dev nD) : (data m 0 c).Φ (Fin.last cfg0.N) ⊢ Pipeline.ΦA spec0 c := by
  have hN : cfg0.N = 64 := N_0
  rw [show (data m 0 c).Φ (Fin.last cfg0.N) = Inv m c (Fin.last cfg0.N).val (Nat.le_of_lt_succ (Fin.last cfg0.N).isLt) from rfl,
    Inv_pos m c _ _ (by rw [Fin.val_last]; omega), PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexact HS2
    isplitl [HS3]; · iexact HS3
    iexact HS4
  iexact Hg

set_option backward.isDefEq.respectTransparency.types false in
/-- The launch: every array a window stages ends at what the windows leave, and every semaphore counter at zero. -/
theorem launch : θ_run defs (onTc (τ := τ) (main (F := F))) (s₀ m ρ) (fun r => Pipeline.FramePost cfgs (data m) 0 (V m) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enter m) (hout := leave m)

/-- The frame: the argument arrays end unchanged and every semaphore counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 4).trans (((data m 0 c).arrAt_in 4 rfl _).trans ((data_A m c 4).trans (V_main_arg0 m c))),
      ((h.1 c).1 2).trans (((data m 0 c).arrAt_in 2 rfl _).trans ((data_A m c 2).trans (V_main_arg1 m c)))⟩, h.2⟩) (launch m ρ)

end Cert.KernelIdeal.Run

end
-- ==== Proof.RFrame.lean ====
/- The reference runs, leaves its arguments unchanged, and declares no semaphore at all, so every counter is at zero. -/
module

public import proofs.«01_k».proof.Proof.Gen.ReferenceIdeal.Run

@[expose] public section

noncomputable section

namespace Cert.ReferenceIdeal.Run

open Cert.ReferenceIdeal Cert.ReferenceIdeal.Gen Idealize.ShloMosaic Idealize.ShloMosaic.TcCoe Idealize.SL.Sem

variable {F : FTy → Type} [FloatOps F]

theorem framed (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    rcases s with ⟨_, s⟩
    rcases s with s | s <;> exact s.elim0⟩) (Value.run m ρ)

end Cert.ReferenceIdeal.Run

end
-- ==== Proof.Spec.lean ====
/- Native sparse attention of one query over the extended reals: the masked softmax of a set of positions, the scores of
   the blocks, the blocks that are selected, and the laws by which a softmax is gathered chunk by chunk. -/
module

public import Idealize.ShloMosaic.PureOps.Ideal.Laws
public import Idealize.ShloMosaic.Lib.WordCmp

@[expose] public section

noncomputable section

namespace Cert.Nsa

open Idealize.ShloMosaic
open scoped BigOperators

/-- The least denominator. -/
abbrev eps : EReal := Ideal.ofBits .f32 0x0DA24260#32
/-- The scale of the scores. -/
abbrev scl : EReal := Ideal.ofBits .f32 0x3DB504F3#32
/-- What a forced block's score gains. -/
abbrev bonus : EReal := Ideal.ofBits .f32 0x461C4000#32

/-- The exponential of a score below the greatest of `S`. -/
def ex (S : Finset ℕ) (s : ℕ → EReal) (n : ℕ) : EReal := Ideal.exp (s n - S.sup s)
/-- The denominator of the softmax over `S`. -/
def den (S : Finset ℕ) (s : ℕ → EReal) : EReal := max (∑ n ∈ S, ex S s n) eps
/-- The softmax over `S`, zero elsewhere. -/
def prob (S : Finset ℕ) (s : ℕ → EReal) (n : ℕ) : EReal := if n ∈ S then Ideal.div (ex S s n) (den S s) else 0
/-- The softmax over `S` applied to values. -/
def att (S : Finset ℕ) (s v : ℕ → EReal) : EReal := ∑ n ∈ S, prob S s n * v n

/-- A scaled score. -/
def scr (q : Fin 128 → EReal) (K : ℕ → Fin 128 → EReal) (n : ℕ) : EReal := (∑ d, q d * K n d) * scl

/-- The compressed blocks that have wholly passed at position `t`. -/
def SC (t : ℕ) : Finset ℕ := (Finset.range 127).filter fun n => 16 * n + 31 ≤ t
/-- The window at position `t`. -/
def SW (t : ℕ) : Finset ℕ := (Finset.range 2048).filter fun n => n ≤ t ∧ t < n + 512

/-- The probability of a compressed block summed over the heads of the group. -/
def psum (t : ℕ) (q : Fin 8 → Fin 128 → EReal) (Kc : ℕ → Fin 128 → EReal) (n : ℕ) : EReal := ∑ g, prob (SC t) (scr (q g) Kc) n
/-- The importance of a selection block: the compressed blocks that overlap it. -/
def imp (t : ℕ) (q : Fin 8 → Fin 128 → EReal) (Kc : ℕ → Fin 128 → EReal) (j : ℕ) : EReal :=
  ∑ n ∈ Finset.range 127, if 16 * n < 64 * j + 64 ∧ 64 * j < 16 * n + 32 then psum t q Kc n else 0
/-- The score of a selection block: none if it lies after the query, a bonus for the first and the last two. -/
def score (t : ℕ) (q : Fin 8 → Fin 128 → EReal) (Kc : ℕ → Fin 128 → EReal) (j : ℕ) : EReal :=
  if j ≤ t / 64 then imp t q Kc j + (if j = 0 ∨ j = t / 64 ∨ j + 1 = t / 64 then bonus else 0) else ⊥
/-- The sixteen greatest of thirty-two scores, the earlier of two equal ones first. -/
def Sel (c : ℕ → EReal) : Finset ℕ :=
  (Finset.range 32).filter fun j => ((Finset.range 32).filter fun i => c j < c i ∨ (c i = c j ∧ i < j)).card < 16
/-- The keys of the selected blocks up to position `t`. -/
def SS (t : ℕ) (q : Fin 8 → Fin 128 → EReal) (Kc : ℕ → Fin 128 → EReal) : Finset ℕ :=
  (Finset.range 2048).filter fun n => n / 64 ∈ Sel (score t q Kc) ∧ n ≤ t

/-- One element of the layer's attention: the three branches under their gates. -/
def out (t : ℕ) (q : Fin 8 → Fin 128 → EReal) (Kc Vc Ks Vs Kw Vw : ℕ → Fin 128 → EReal) (g0 g1 g2 : EReal) (g : Fin 8) (d : Fin 128) : EReal :=
  g0 * att (SC t) (scr (q g) Kc) (Vc · d) + g1 * att (SS t q Kc) (scr (q g) Ks) (Vs · d) + g2 * att (SW t) (scr (q g) Kw) (Vw · d)

/-! ### Facts on extended reals -/

theorem eps_pos : 0 < eps := by
  simp [Ideal.ofBits, Ideal.ieee]
  rw [← EReal.coe_mul]
  exact EReal.coe_pos.2 (by norm_num)

theorem div_eq {x y : EReal} (h : y ≠ 0) : Ideal.div x y = x * y⁻¹ := by
  unfold Ideal.div; rw [if_neg h]

theorem exp_bot : Ideal.exp ⊥ = 0 := rfl
theorem exp_nonneg (x : EReal) : 0 ≤ Ideal.exp x := by
  induction x with
  | bot => exact le_rfl
  | top => exact le_top
  | coe r => exact EReal.coe_nonneg.2 (Real.exp_pos r).le

theorem exp_real_of_ne_top {x : EReal} (h : x ≠ ⊤) : ∃ r : ℝ, 0 ≤ r ∧ Ideal.exp x = r := by
  induction x with
  | bot => exact ⟨0, le_rfl, rfl⟩
  | top => exact absurd rfl h
  | coe r => exact ⟨Real.exp r, (Real.exp_pos r).le, rfl⟩

theorem sub_ne_top {x y : EReal} (h : x ≤ y) : x - y ≠ ⊤ := by
  induction y with
  | bot => simp [le_bot_iff.1 h]
  | top => simp
  | coe r =>
    induction x with
    | bot => simp
    | top => exact absurd h (by simp)
    | coe s => rw [← EReal.coe_sub]; exact EReal.coe_ne_top _

theorem exp_mul {s a b : EReal} (h₁ : s ≤ a) (h₂ : a ≤ b) : Ideal.exp (a - b) * Ideal.exp (s - a) = Ideal.exp (s - b) := by
  induction a with
  | bot =>
    rw [le_bot_iff.1 h₁]; simp
  | top =>
    rw [top_le_iff.1 h₂]; simp
  | coe a =>
    induction b with
    | bot => exact absurd h₂ (by simp)
    | top => simp
    | coe b =>
      induction s with
      | bot => simp
      | top => exact absurd h₁ (by simp)
      | coe s =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

theorem mul_sum_of_nonneg {c : EReal} (h₀ : 0 ≤ c) (h : c ≠ ⊤) (S : Finset ℕ) (f : ℕ → EReal) :
    c * ∑ n ∈ S, f n = ∑ n ∈ S, c * f n := by
  induction S using Finset.induction_on with
  | empty => simp
  | insert a S ha ih =>
    rw [Finset.sum_insert ha, Finset.sum_insert ha, EReal.left_distrib_of_nonneg_of_ne_top h₀ h, ih]

theorem den_pos (S : Finset ℕ) (s : ℕ → EReal) : 0 < den S s := lt_of_lt_of_le eps_pos (le_max_right _ _)

theorem ex_real {S : Finset ℕ} {s : ℕ → EReal} {n : ℕ} (h : n ∈ S) : ∃ r : ℝ, 0 ≤ r ∧ ex S s n = r :=
  exp_real_of_ne_top (sub_ne_top (Finset.le_sup (f := s) h))

theorem inv_nonneg' {y : EReal} (h : 0 ≤ y) : 0 ≤ y⁻¹ := EReal.inv_nonneg_of_nonneg h
theorem inv_ne_top {y : EReal} : y⁻¹ ≠ ⊤ := by
  induction y with
  | bot => simp
  | top => simp
  | coe r => rw [← EReal.coe_inv]; exact EReal.coe_ne_top _

theorem prob_real (S : Finset ℕ) (s : ℕ → EReal) (n : ℕ) : ∃ r : ℝ, prob S s n = r := by
  unfold prob
  split
  · rename_i h
    obtain ⟨r, -, hr⟩ := ex_real (s := s) h
    rw [div_eq (den_pos S s).ne', hr]
    have h0 := inv_nonneg' (den_pos S s).le
    have h1 := inv_ne_top (y := den S s)
    generalize (den S s)⁻¹ = y at *
    induction y with
    | bot => exact absurd h0 (by simp)
    | top => exact absurd rfl h1
    | coe y => exact ⟨r * y, by rw [EReal.coe_mul]⟩
  · exact ⟨0, rfl⟩

theorem psum_sub (t : ℕ) (q : Fin 8 → Fin 128 → EReal) (Kc : ℕ → Fin 128 → EReal) (n : ℕ) : psum t q Kc n - psum t q Kc n = 0 := by
  have h : ∃ r : ℝ, psum t q Kc n = r := by
    choose f hf using fun g => prob_real (SC t) (scr (q g) Kc) n
    refine ⟨∑ g, f g, ?_⟩
    unfold psum
    rw [Finset.sum_congr rfl fun g _ => hf g]
    simp [Fin.sum_univ_succ]
  obtain ⟨r, hr⟩ := h
  rw [hr, ← EReal.coe_sub, sub_self]; rfl

/-! ### A softmax gathered chunk by chunk -/

/-- The sum of the exponentials over `S`, and with values. -/
def lsum (S : Finset ℕ) (s : ℕ → EReal) : EReal := ∑ n ∈ S, ex S s n
def asum (S : Finset ℕ) (s v : ℕ → EReal) : EReal := ∑ n ∈ S, ex S s n * v n

theorem sup_union (S C : Finset ℕ) (s : ℕ → EReal) : max (S.sup s) (C.sup s) = (S ∪ C).sup s := Finset.sup_union.symm

theorem rescale {S : Finset ℕ} {s : ℕ → EReal} {m : EReal} (hm : S.sup s ≤ m) (v : ℕ → EReal) :
    Ideal.exp (S.sup s - m) * asum S s v = ∑ n ∈ S, Ideal.exp (s n - m) * v n := by
  obtain ⟨r, hr, e⟩ := exp_real_of_ne_top (sub_ne_top hm)
  unfold asum
  rw [mul_sum_of_nonneg (exp_nonneg _) (by rw [e]; exact EReal.coe_ne_top _)]
  refine Finset.sum_congr rfl fun n hn => ?_
  rw [← mul_assoc, ex, exp_mul (Finset.le_sup (f := s) hn) hm]

theorem lsum_eq (S : Finset ℕ) (s : ℕ → EReal) : lsum S s = asum S s fun _ => 1 := by simp [lsum, asum]

theorem asum_union {S C : Finset ℕ} (hd : Disjoint S C) (s v : ℕ → EReal) :
    Ideal.exp (S.sup s - (S ∪ C).sup s) * asum S s v + ∑ n ∈ C, ex (S ∪ C) s n * v n = asum (S ∪ C) s v := by
  rw [rescale (Finset.sup_mono Finset.subset_union_left)]
  unfold asum
  rw [Finset.sum_union hd]; rfl

theorem lsum_union {S C : Finset ℕ} (hd : Disjoint S C) (s : ℕ → EReal) :
    Ideal.exp (S.sup s - (S ∪ C).sup s) * lsum S s + ∑ n ∈ C, ex (S ∪ C) s n = lsum (S ∪ C) s := by
  rw [lsum_eq, lsum_eq, ← asum_union hd]; simp

theorem att_eq_div (S : Finset ℕ) (s v : ℕ → EReal) : Ideal.div (asum S s v) (max (lsum S s) eps) = att S s v := by
  show Ideal.div (asum S s v) (den S s) = _
  rw [div_eq (den_pos S s).ne', mul_comm, asum, mul_sum_of_nonneg (inv_nonneg' (den_pos S s).le) inv_ne_top]
  refine Finset.sum_congr rfl fun n hn => ?_
  rw [prob, if_pos hn, div_eq (den_pos S s).ne', mul_assoc, mul_left_comm]

/-! ### Masked rows -/

section Row
variable {N : ℕ} (f : Fin N → ℕ) (hf : Function.Injective f) (S : Finset ℕ)
include hf

theorem sum_row (hcov : ∀ n ∈ S, ∃ c, f c = n) (g : ℕ → EReal) : (∑ c, if f c ∈ S then g (f c) else 0) = ∑ n ∈ S, g n := by
  rw [← Finset.sum_filter]
  refine Finset.sum_bij (fun c _ => f c) (fun c hc => (Finset.mem_filter.1 hc).2) (fun a _ b _ h => hf h) ?_ fun c _ => rfl
  intro n hn
  obtain ⟨c, rfl⟩ := hcov n hn
  exact ⟨c, Finset.mem_filter.2 ⟨Finset.mem_univ _, hn⟩, rfl⟩

omit hf in
theorem fold_max (x : Fin N → EReal) : Finset.univ.fold max (⊥ : EReal) x = Finset.univ.sup x := by
  rw [Finset.sup_def, Finset.fold]; rfl

omit hf in
theorem sup_row (hcov : ∀ n ∈ S, ∃ c, f c = n) (s : ℕ → EReal) (x : Fin N → EReal)
    (hx : ∀ c, x c = if f c ∈ S then s (f c) else ⊥) : Finset.univ.fold max (⊥ : EReal) x = S.sup s := by
  rw [fold_max]
  apply le_antisymm
  · refine Finset.sup_le fun c _ => ?_
    rw [hx]; split
    · rename_i h; exact Finset.le_sup (f := s) h
    · exact bot_le
  · refine Finset.sup_le fun n hn => ?_
    obtain ⟨c, rfl⟩ := hcov n hn
    have := Finset.le_sup (f := x) (Finset.mem_univ c)
    rwa [hx, if_pos hn] at this

omit hf in
theorem mem_sup_row (m : Fin N → BitVec 1) (s : ℕ → EReal) (x : Fin N → EReal) (hcov : ∀ n ∈ S, ∃ c, f c = n)
    (hm : ∀ c, m c = if f c ∈ S then 1#1 else 0#1) (hx : ∀ c, f c ∈ S → x c = s (f c)) :
    Finset.univ.fold max (⊥ : EReal) (fun c => Scalar.select (m c) (x c) ⊥) = S.sup s := by
  refine sup_row f S hcov s _ fun c => ?_
  rw [hm]
  by_cases h : f c ∈ S
  · rw [if_pos h, if_pos h, hx c h]; rfl
  · rw [if_neg h, if_neg h]; rfl

end Row

/-! ### Words -/

theorem sle_nat {a b : ℕ} (ha : a < 2 ^ 31) (hb : b < 2 ^ 31) :
    IntOp.cmpi .sle (BitVec.ofNat 32 a) (BitVec.ofNat 32 b) = if a ≤ b then 1#1 else 0#1 := by
  split
  · exact (WordCmp.cmpi_sle_ofNat_eq_one_iff ha hb).2 ‹_›
  · exact (WordCmp.cmpi_sle_ofNat_eq_zero_iff ha hb).2 (by omega)
theorem slt_nat {a b : ℕ} (ha : a < 2 ^ 31) (hb : b < 2 ^ 31) :
    IntOp.cmpi .slt (BitVec.ofNat 32 a) (BitVec.ofNat 32 b) = if a < b then 1#1 else 0#1 := by
  split
  · exact (WordCmp.cmpi_slt_ofNat_eq_one_iff ha hb).2 ‹_›
  · exact (WordCmp.cmpi_slt_ofNat_eq_zero_iff ha hb).2 (by omega)
theorem sgt_nat {a b : ℕ} (ha : a < 2 ^ 31) (hb : b < 2 ^ 31) :
    IntOp.cmpi .sgt (BitVec.ofNat 32 a) (BitVec.ofNat 32 b) = if b < a then 1#1 else 0#1 := by
  split
  · exact (WordCmp.cmpi_sgt_ofNat_eq_one_iff ha hb).2 ‹_›
  · exact (WordCmp.cmpi_sgt_ofNat_eq_zero_iff ha hb).2 (by omega)
theorem eq_nat {a b : ℕ} (ha : a < 2 ^ 32) (hb : b < 2 ^ 32) :
    IntOp.cmpi .eq (BitVec.ofNat 32 a) (BitVec.ofNat 32 b) = if a = b then 1#1 else 0#1 := by
  split
  · exact (WordCmp.cmpi_eq_ofNat_eq_one_iff ha hb).2 ‹_›
  · exact (WordCmp.cmpi_eq_ofNat_eq_zero_iff ha hb).2 ‹_›
theorem sub_nat {a b : ℕ} (h : b ≤ a) : IntOp.subi (BitVec.ofNat 32 a) (BitVec.ofNat 32 b) = BitVec.ofNat 32 (a - b) := by
  have e : BitVec.ofNat 32 a = BitVec.ofNat 32 (a - b) + BitVec.ofNat 32 b := by
    rw [← BitVec.ofNat_add]; congr 1; omega
  show BitVec.ofNat 32 a - BitVec.ofNat 32 b = _
  rw [e, BitVec.add_sub_cancel]
theorem eq_pred {a b : ℕ} (ha : a < 2 ^ 31) (hb : b < 2 ^ 31) :
    IntOp.cmpi .eq (BitVec.ofNat 32 a) (IntOp.subi (BitVec.ofNat 32 b) 1#32) = if a + 1 = b then 1#1 else 0#1 := by
  by_cases h : b = 0
  · subst h
    rw [if_neg (by omega)]
    have : IntOp.subi (BitVec.ofNat 32 0) 1#32 = BitVec.ofNat 32 (2 ^ 32 - 1) := rfl
    rw [this, eq_nat (by omega) (by omega), if_neg (by omega)]
  · rw [sub_nat (a := b) (b := 1) (by omega), eq_nat (by omega) (by omega)]
    split <;> split <;> first | rfl | omega

theorem and_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]
theorem or_ite (P Q : Prop) [Decidable P] [Decidable Q] :
    IntOp.ori (if P then 1#1 else 0#1) (if Q then 1#1 else 0#1) = if P ∨ Q then 1#1 else 0#1 := by
  by_cases hP : P <;> by_cases hQ : Q <;> simp [hP, hQ, IntOp.ori]
theorem bool_ite (P : Prop) [Decidable P] : BitVec.ofBool (decide P) = if P then 1#1 else 0#1 := by
  by_cases hP : P <;> simp [hP]
theorem sel_ite {α : Type} (P : Prop) [Decidable P] (a b : α) : Scalar.select (if P then 1#1 else 0#1) a b = if P then a else b := by
  by_cases hP : P <;> simp [hP, Scalar.select]
theorem num_ite (P : Prop) [Decidable P] :
    (FloatOps.sitofp .f32 (BitVec.setWidth 32 (if P then 1#1 else 0#1)) : Ideal .f32) = if P then (1 : EReal) else 0 := by
  by_cases hP : P <;> simp [hP, FloatOps.sitofp]

/-- The quotient by 64, rounded down, as the words compute it. -/
theorem div64 : ∀ n : Fin 2048,
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by decide +kernel

/-! ### A masked softmax as it is computed -/

section Soft
variable {N : ℕ} (f : Fin N → ℕ) (hf : Function.Injective f) (S : Finset ℕ) (hcov : ∀ n ∈ S, ∃ c, f c = n)
  (s : ℕ → EReal) (m : Fin N → BitVec 1) (x : Fin N → EReal)
  (hm : ∀ c, m c = if f c ∈ S then 1#1 else 0#1) (hx : ∀ c, f c ∈ S → x c = s (f c))
include hm hx

theorem ex_row (c : Fin N) : Ideal.exp (Scalar.select (m c) (x c) ⊥ - S.sup s) * (FloatOps.sitofp .f32 (BitVec.setWidth 32 (m c)) : Ideal .f32)
    = if f c ∈ S then ex S s (f c) else 0 := by
  rw [hm c, num_ite, sel_ite]
  by_cases h : f c ∈ S
  · simp only [if_pos h]; rw [hx c h]; exact mul_one _
  · simp only [if_neg h]; exact mul_zero _

include hf hcov
theorem ex_sum_row : (∑ c, Ideal.exp (Scalar.select (m c) (x c) ⊥ - S.sup s) * (FloatOps.sitofp .f32 (BitVec.setWidth 32 (m c)) : Ideal .f32))
    = lsum S s := by
  rw [Finset.sum_congr rfl fun c _ => ex_row f S s m x hm hx c]
  exact sum_row f hf S hcov (ex S s)

theorem prob_row (c : Fin N) :
    Ideal.div (Ideal.exp (Scalar.select (m c) (x c) ⊥ - Finset.univ.fold max (⊥ : EReal) (fun c => Scalar.select (m c) (x c) ⊥))
        * (FloatOps.sitofp .f32 (BitVec.setWidth 32 (m c)) : Ideal .f32))
      (max (∑ c, Ideal.exp (Scalar.select (m c) (x c) ⊥ - Finset.univ.fold max (⊥ : EReal) (fun c => Scalar.select (m c) (x c) ⊥))
        * (FloatOps.sitofp .f32 (BitVec.setWidth 32 (m c)) : Ideal .f32)) eps) = prob S s (f c) := by
  rw [mem_sup_row f S m s x hcov hm hx, ex_sum_row f hf S hcov s m x hm hx, ex_row f S s m x hm hx]
  unfold prob
  split
  · rfl
  · show Ideal.div 0 (den S s) = 0
    rw [div_eq (den_pos S s).ne', zero_mul]

theorem att_row (V : ℕ → EReal) (v : Fin N → EReal) (hv : ∀ c, f c ∈ S → v c = V (f c)) :
    (∑ c, Ideal.div (Ideal.exp (Scalar.select (m c) (x c) ⊥ - Finset.univ.fold max (⊥ : EReal) (fun c => Scalar.select (m c) (x c) ⊥))
        * (FloatOps.sitofp .f32 (BitVec.setWidth 32 (m c)) : Ideal .f32))
      (max (∑ c, Ideal.exp (Scalar.select (m c) (x c) ⊥ - Finset.univ.fold max (⊥ : EReal) (fun c => Scalar.select (m c) (x c) ⊥))
        * (FloatOps.sitofp .f32 (BitVec.setWidth 32 (m c)) : Ideal .f32)) eps) * v c) = att S s V := by
  rw [Finset.sum_congr rfl fun c _ => by rw [prob_row f hf S hcov s m x hm hx c]]
  rw [att, ← sum_row f hf S hcov]
  refine Finset.sum_congr rfl fun c _ => ?_
  split
  · rw [hv c ‹_›]
  · rw [prob, if_neg ‹_›, zero_mul]

end Soft

end Cert.Nsa

end
-- ==== Proof.Sum.lean ====
/- Sums over the extended reals, cut into two halves; the entries of a matrix and the product of two matrices. -/
module

public import proofs.«01_k».proof.Proof.Spec
public import Idealize.ShloMosaic.Lib.Pointwise

@[expose] public section

noncomputable section

namespace Cert.Halves

open Idealize.ShloMosaic
open scoped BigOperators

/-- A sum over 4096 places is the sum over the first 2048 and that over the last 2048. -/
theorem sum_halves (f : ℕ → EReal) : (∑ k : Fin 2048, f k) + ∑ k : Fin 2048, f (2048 + k) = ∑ k : Fin 4096, f k :=
  (Fin.sum_univ_add (a := 2048) (b := 2048) fun k : Fin 4096 => f k).symm

/-- An entry of a matrix at any two numbers, zero outside. -/
def entry {r s : ℕ} (A : (⟨2, ![r, s]⟩ : Shape).Idx → EReal) (p q : ℕ) : EReal :=
  if h : p < r ∧ q < s then A (ix2 ⟨p, h.1⟩ ⟨q, h.2⟩) else 0

/-- The product of two matrices. -/
def product {r s t : ℕ} (A : (⟨2, ![r, s]⟩ : Shape).Idx → EReal) (B : (⟨2, ![s, t]⟩ : Shape).Idx → EReal) (p q : ℕ) : EReal :=
  ∑ k : Fin s, entry A p k * entry B k q

/-- A matrix of 7728 columns with 464 columns of zeros put in before its last 4096. -/
def wide {r : ℕ} (B : (⟨2, ![r, 7728]⟩ : Shape).Idx → EReal) (k q : ℕ) : EReal :=
  if q < 3632 then entry B k q else if q < 4096 then 0 else entry B k (q - 464)

/-- The rows of a batch of four, each row of 2048 scaled by one more than the batch's scale and shifted. -/
def modulated (A : (⟨2, ![8192, 4096]⟩ : Shape).Idx → EReal) (S H : (⟨3, ![4, 1, 4096]⟩ : Shape).Idx → EReal) (p k : ℕ) : EReal :=
  if h : p < 8192 ∧ k < 4096 then A (ix2 ⟨p, h.1⟩ ⟨k, h.2⟩) * (1 + S (ix3 ⟨p / 2048, by omega⟩ 0 ⟨k, h.2⟩)) + H (ix3 ⟨p / 2048, by omega⟩ 0 ⟨k, h.2⟩) else 0

/-- The modulated rows times the widened weights. -/
def projected (A : (⟨2, ![8192, 4096]⟩ : Shape).Idx → EReal) (S H : (⟨3, ![4, 1, 4096]⟩ : Shape).Idx → EReal) (B : (⟨2, ![4096, 7728]⟩ : Shape).Idx → EReal) (p q : ℕ) : EReal :=
  ∑ k : Fin 4096, modulated A S H p k * wide B k q

/-- The projection as an array, and the product of two matrices as one. -/
def projection (A : (⟨2, ![8192, 4096]⟩ : Shape).Idx → EReal) (S H : (⟨3, ![4, 1, 4096]⟩ : Shape).Idx → EReal) (B : (⟨2, ![4096, 7728]⟩ : Shape).Idx → EReal) :
    (⟨2, ![8192, 8192]⟩ : Shape).Idx → EReal := fun j => projected A S H B (j 0) (j 1)
def producted (A : (⟨2, ![8192, 4096]⟩ : Shape).Idx → EReal) (B : (⟨2, ![4096, 4096]⟩ : Shape).Idx → EReal) :
    (⟨2, ![8192, 4096]⟩ : Shape).Idx → EReal := fun j => product A B (j 0) (j 1)

end Cert.Halves

end
-- ==== Proof.W2.lean ====
/- The input projection: the rows are scaled and shifted, and each block of the result is the sum of the products of two
   halves of its rows and of the weights' columns. -/
module

public import proofs.«01_k».proof.Proof.Gen.Kernel2Ideal.Value
public import proofs.«01_k».proof.Proof.Sum
public import Idealize.ShloMosaic.Lib.Pipeline.ValueKit

@[expose] public section

set_option maxRecDepth 16384

noncomputable section

namespace Cert.Kernel2Ideal.Val

open Cert.Kernel2Ideal Cert.Kernel2Ideal.Gen Cert.Kernel2Ideal.Value Cert.Halves
open Idealize.ShloMosaic Idealize.ShloMosaic.TcCoe
open Idealize.SL Idealize.SL.Sem
open scoped BigOperators

theorem origin : (![0, 0] : Fin 2 → Nat) = fun _ => 0 := funext fun a => by fin_cases a <;> rfl
theorem origin3 : (![0, 0, 0] : Fin 3 → Nat) = fun _ => 0 := funext fun a => by fin_cases a <;> rfl

section

variable (c : Dev nD) (i : grid0.Coords) (b3 : Memref sig .tc .vmem S1024x2048 .f32) (w3 : b3.IsWhole) (b4 : Memref sig .tc .vmem S1x1x2048 .f32) (w4 : b4.IsWhole)
  (b5 : Memref sig .tc .vmem S1x1x2048 .f32) (w5 : b5.IsWhole) (b6 : Memref sig .tc .vmem S2048x1024 .bf16) (w6 : b6.IsWhole) (b7 : Memref sig .tc .vmem S1024x1024 .f32) (w7 : b7.IsWhole)
  (b8 : Memref sig .tc .vmem S1024x1024 .f32) (w8 : b8.IsWhole)
  (x : Vec Ideal S1024x2048 .f32) (s h : Vec Ideal S1x1x2048 .f32) (w : Vec Ideal S2048x1024 .bf16)

/-- The first half leaves its product, over zero. -/
theorem first (h0 : cond0_0 i) (h1 : ¬cond0_1 i) : sout0_A_0 c i b3 w3 b4 w4 b5 w5 b6 w6 b7 w7 b8 w8 h0 h1 x s h w = k0_pay2 x s h (k0_pay1 (F := Ideal)) w := by
  unfold sout0_A_0
  rw [View.read_writes_eq_canon _ _ _ (scover0_A_0 c i b3 w3 b4 w4 b5 w5 b6 w6 b7 w7 b8 w8 h0 h1 x s h w)]
  unfold kernelRun0_A
  dsimp only
  sl_unfold_words
  rw [View.canon_cons_unit_zero (S := S1024x1024) origin, View.readCov_unit_zero (S := S1024x1024) _ origin]
  simp only [View.readAt_eq_ld, w3.read_unread, w4.read_unread, w5.read_unread, w6.read_unread, View.ld_unit_zero (S := S1024x2048) origin, View.ld_unit_zero (S := S2048x1024) origin, View.ld_unit_zero (S := S1x1x2048) origin3]

/-- The second half adds its product to what the first has left, and that is written out. -/
theorem second (h0 : ¬cond0_0 i) (h1 : cond0_1 i) (acc : Vec Ideal S1024x1024 .f32) : out0_B_4 c i b3 w3 b4 w4 b5 w5 b6 w6 b7 w7 b8 w8 h0 h1 x s h w acc = k0_pay2 x s h acc w := by
  unfold out0_B_4
  rw [View.read_writes_eq_canon _ _ _ (cover0_B_4 c i b3 w3 b4 w4 b5 w5 b6 w6 b7 w7 b8 w8 h0 h1 x s h w acc)]
  unfold kernelRun0_B
  dsimp only
  sl_unfold_words
  rw [View.canon_cons_unit_zero (S := S1024x1024) origin, View.readCov_unit_zero (S := S1024x1024) _ origin]
  simp only [View.readAt_eq_ld, w3.read_unread, w4.read_unread, w5.read_unread, w6.read_unread, w8.read_unread, View.ld_unit_zero (S := S1024x2048) origin, View.ld_unit_zero (S := S2048x1024) origin, View.ld_unit_zero (S := S1024x1024) origin, View.ld_unit_zero (S := S1x1x2048) origin3]

end

theorem pay_at (x : Vec Ideal S1024x2048 .f32) (s h : Vec Ideal S1x1x2048 .f32) (acc : Vec Ideal S1024x1024 .f32) (w : Vec Ideal S2048x1024 .bf16) (p q : Fin 1024) :
    k0_pay2 x s h acc w (ix2 p q) = acc (ix2 p q) + ∑ k : Fin 2048, ((x (ix2 p k) : EReal) * (1 + s (ix3 0 0 k)) + h (ix3 0 0 k)) * w (ix2 k q) := by
  pointwise [k0_pay2]

theorem zero_at (p q : Fin 1024) : (k0_pay1 (F := Ideal)) (ix2 p q) = 0 := by
  pointwise [k0_pay1]

variable (m : (ℓ : Loc nD τ sig) → Buf (Elt Ideal) ℓ) (c : Dev nD)

abbrev argA : (⟨2, ![8192, 4096]⟩ : Shape).Idx → EReal := m ((c : Thread nD τ).loc main_arg0)
abbrev argS : (⟨3, ![4, 1, 4096]⟩ : Shape).Idx → EReal := m ((c : Thread nD τ).loc main_arg1)
abbrev argH : (⟨3, ![4, 1, 4096]⟩ : Shape).Idx → EReal := m ((c : Thread nD τ).loc main_arg2)
abbrev argW : (⟨2, ![4096, 7728]⟩ : Shape).Idx → EReal := m ((c : Thread nD τ).loc main_arg3)

/-- The weights as the kernel takes them, with the columns of zeros that the layout puts in. -/
theorem weights : V m c main_v4 = truncf .bf16 (concatenate S4096x8192 1 [⟨S4096x3632, extractStridedSlice S4096x3632 ![0, 0] (argW m c) slices_S4096x7728_S4096x3632_0_0⟩, ⟨S4096x464, broadcastInDim S4096x464 ![] bcast_S_S4096x464 (constant (F := Ideal) S_ .f32 0x00000000#32)⟩,
    ⟨S4096x4096, extractStridedSlice S4096x4096 ![0, 3632] (argW m c) slices_S4096x7728_S4096x4096_0_3632⟩] concatenates_S4096x3632_S4096x464_S4096x4096_S4096x8192_d1) bitsLt_bf16_f32 := by
  unfold V
  after_results
  rfl
theorem wide_at (k : Fin 4096) (q : Fin 8192) : (V m c main_v4 : Vec Ideal S4096x8192 .bf16) (ix2 k q) = wide (argW m c) k q := by
  rw [weights]
  generalize argW m c = B
  pointwise []
  unfold wide entry
  have hk := k.isLt
  have hq := q.isLt
  by_cases h1 : q.val < 3632
  · rw [dif_pos h1, if_pos h1, dif_pos ⟨hk, by omega⟩]
  · rw [dif_neg h1, if_neg h1]
    by_cases h2 : q.val < 4096
    · rw [dif_pos (by omega), if_pos h2]
    · rw [dif_neg (by omega), if_neg h2, dif_pos ⟨hk, by omega⟩]
      exact congrArg (fun z => B (ix2 k z)) (Fin.ext (by dsimp only; omega))

theorem idx : ∀ t : Fin cfg0.N, win0_0.index t = ![t.val / 16, t.val % 2] ∧ win0_1.index t = ![t.val / 16 / 2, 0, t.val % 2] ∧ win0_2.index t = ![t.val / 16 / 2, 0, t.val % 2]
    ∧ win0_3.index t = ![t.val % 2, t.val / 2 % 8] :=
  (by decide +kernel : ∀ t : Fin grid0.N, _)

abbrev stepA (t : Fin cfg0.N) : (⟨2, ![1024, 2048]⟩ : Shape).Idx → EReal := (iblk m c 0 t : Vec Ideal S1024x2048 .f32)
abbrev stepS (t : Fin cfg0.N) : (⟨3, ![1, 1, 2048]⟩ : Shape).Idx → EReal := (iblk m c 1 t : Vec Ideal S1x1x2048 .f32)
abbrev stepH (t : Fin cfg0.N) : (⟨3, ![1, 1, 2048]⟩ : Shape).Idx → EReal := (iblk m c 2 t : Vec Ideal S1x1x2048 .f32)

/-- A step's rows, scaled and shifted as the step does, are the modulated rows of the whole array. -/
theorem rows_at (t : Fin cfg0.N) (p : Fin 1024) (k : Fin 2048) :
    stepA m c t (ix2 p k) * (1 + stepS m c t (ix3 0 0 k)) + stepH m c t (ix3 0 0 k)
      = modulated (argA m c) (argS m c) (argH m c) (1024 * (t.val / 16) + p) (2048 * (t.val % 2) + k) := by
  have hi := idx t
  have ht : t.val < 128 := Nat.lt_of_lt_of_eq t.isLt N_0
  have e0 : stepA m c t (ix2 p k) = argA m c (ix2 ⟨1024 * (t.val / 16) + p, by omega⟩ ⟨2048 * (t.val % 2) + k, by omega⟩) := by
    blk_ext [iblk, V, hi.1]
  have e1 : stepS m c t (ix3 0 0 k) = argS m c (ix3 ⟨(1024 * (t.val / 16) + p) / 2048, by omega⟩ 0 ⟨2048 * (t.val % 2) + k, by omega⟩) := by
    blk_ext [iblk, V, hi.2.1]
  have e2 : stepH m c t (ix3 0 0 k) = argH m c (ix3 ⟨(1024 * (t.val / 16) + p) / 2048, by omega⟩ 0 ⟨2048 * (t.val % 2) + k, by omega⟩) := by
    blk_ext [iblk, V, hi.2.2.1]
  rw [e0, e1, e2, modulated, dif_pos ⟨by omega, by omega⟩]

theorem blk3 (t : Fin cfg0.N) (k : Fin 2048) (q : Fin 1024) : (iblk m c 3 t : Vec Ideal S2048x1024 .bf16) (ix2 k q) = wide (argW m c) (2048 * (t.val % 2) + k) (1024 * (t.val / 2 % 8) + q) := by
  have hi := idx t
  have ht : t.val < 128 := Nat.lt_of_lt_of_eq t.isLt N_0
  rw [← wide_at m c ⟨2048 * (t.val % 2) + k, by omega⟩ ⟨1024 * (t.val / 2 % 8) + q, by omega⟩]
  blk_ext [iblk, hi.2.2.2]

/-- What a block's last step has computed, entry by entry. -/
theorem last (t : Fin cfg0.N) (h : t.val % 2 = 1) (p q : Fin 1024) :
    (outsAt0 m c t.val t.isLt).1 (ix2 p q) = projected (argA m c) (argS m c) (argH m c) (argW m c) (1024 * (t.val / 16) + p) (1024 * (t.val / 2 % 8) + q) := by
  have ht : t.val < 128 := Nat.lt_of_lt_of_eq t.isLt N_0
  have hs : t.val - 1 < cfg0.N := Nat.lt_of_le_of_lt (Nat.sub_le _ _) t.isLt
  have e := outsAt0_A m c ⟨t.val - 1, hs⟩ (by show (t.val - 1) % 2 = 0; omega) (by show ¬(t.val - 1) % 2 = 1; omega)
  rw [outsAt0_B m c t (by omega) h]
  dsimp only at e ⊢
  rw [e, second]
  dsimp only
  rw [first, pay_at, pay_at, zero_at, zero_add]
  simp only [rows_at, blk3]
  rw [show (t.val - 1) / 16 = t.val / 16 by omega, show (t.val - 1) % 2 = 0 by omega, show (t.val - 1) / 2 = t.val / 2 by omega, h]
  simp only [Nat.mul_zero, Nat.zero_add, Nat.mul_one]
  exact sum_halves fun k => modulated (argA m c) (argS m c) (argH m c) (1024 * (t.val / 16) + p) k * wide (argW m c) k (1024 * (t.val / 2 % 8) + q)

/-- The kernel's result is the projection. -/
theorem result (j : (⟨2, ![8192, 8192]⟩ : Shape).Idx) : G4 m c j = projected (argA m c) (argS m c) (argH m c) (argW m c) (j 0) (j 1) := by
  have h0 : (j 0).val < 8192 := (j 0).isLt
  have h1 : (j 1).val < 8192 := (j 1).isLt
  have hp : pt4Of j < cfg0.N := by rw [show cfg0.N = 128 from N_0]; dsimp only [pt4Of, run4Of]; omega
  unfold G4
  rw [dif_pos hp, ← outsAt0_sweep m c (pt4Of j) hp]
  have e : loc4Of j = ix2 ⟨(j 0).val % 1024, Nat.mod_lt _ (by decide)⟩ ⟨(j 1).val % 1024, Nat.mod_lt _ (by decide)⟩ := by
    funext a; fin_cases a <;> rfl
  rw [e, last m c ⟨pt4Of j, hp⟩ (by dsimp only [pt4Of]; omega)]
  dsimp only [pt4Of, run4Of]
  congr 1 <;> omega

/-- The run: the result array holds it, and the arguments end unchanged. -/
theorem value (ρ : Dev nD → PrngReg) : θ_run defs (onTc (τ := τ) (main (F := Ideal))) ⟨m, fun _ => 0, ρ⟩ (fun r => ∀ c : Dev nD,
      r.2.mem ((c : Thread nD τ).loc main_v5) = projection (argA m c) (argS m c) (argH m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (funext fun j => result m c j), (h c).2⟩) (run m ρ)

end Cert.Kernel2Ideal.Val

end
-- ==== Proof.W3.lean ====
/- The output projection: each block of the kernel's result is the sum of the products of two halves of its rows and
   columns, hence the whole result is the product of the two matrices. -/
module

public import proofs.«01_k».proof.Proof.Gen.Kernel3Ideal.Value
public import proofs.«01_k».proof.Proof.Sum
public import Idealize.ShloMosaic.Lib.Pipeline.ValueKit

@[expose] public section

set_option maxRecDepth 16384

noncomputable section

namespace Cert.Kernel3Ideal.Val

open Cert.Kernel3Ideal Cert.Kernel3Ideal.Gen Cert.Kernel3Ideal.Value Cert.Halves
open Idealize.ShloMosaic Idealize.ShloMosaic.TcCoe
open Idealize.SL Idealize.SL.Sem
open scoped BigOperators

theorem origin : (![0, 0] : Fin 2 → Nat) = fun _ => 0 := funext fun a => by fin_cases a <;> rfl

section

variable (c : Dev nD) (i : grid0.Coords) (b3 : Memref sig .tc .vmem S1024x2048 .bf16) (w3 : b3.IsWhole) (b4 : Memref sig .tc .vmem S2048x1024 .bf16) (w4 : b4.IsWhole)
  (b5 : Memref sig .tc .vmem S1024x1024 .f32) (w5 : b5.IsWhole) (b6 : Memref sig .tc .vmem S1024x1024 .f32) (w6 : b6.IsWhole)
  (x : Vec Ideal S1024x2048 .bf16) (w : Vec Ideal S2048x1024 .bf16)

/-- The first half leaves its product, over zero. -/
theorem first (h0 : cond0_0 i) (h1 : ¬cond0_1 i) : sout0_A_0 c i b3 w3 b4 w4 b5 w5 b6 w6 h0 h1 x w = k0_pay2 x (k0_pay1 (F := Ideal)) w := by
  unfold sout0_A_0
  rw [View.read_writes_eq_canon _ _ _ (scover0_A_0 c i b3 w3 b4 w4 b5 w5 b6 w6 h0 h1 x w)]
  unfold kernelRun0_A
  dsimp only
  sl_unfold_words
  rw [View.canon_cons_unit_zero (S := S1024x1024) origin, View.readCov_unit_zero (S := S1024x1024) _ origin]
  simp only [View.readAt_eq_ld, w3.read_unread, w4.read_unread, View.ld_unit_zero (S := S1024x2048) origin, View.ld_unit_zero (S := S2048x1024) origin]

/-- The second half adds its product to what the first has left, and that is written out. -/
theorem second (h0 : ¬cond0_0 i) (h1 : cond0_1 i) (acc : Vec Ideal S1024x1024 .f32) : out0_B_2 c i b3 w3 b4 w4 b5 w5 b6 w6 h0 h1 x w acc = k0_pay2 x acc w := by
  unfold out0_B_2
  rw [View.read_writes_eq_canon _ _ _ (cover0_B_2 c i b3 w3 b4 w4 b5 w5 b6 w6 h0 h1 x w acc)]
  unfold kernelRun0_B
  dsimp only
  sl_unfold_words
  rw [View.canon_cons_unit_zero (S := S1024x1024) origin, View.readCov_unit_zero (S := S1024x1024) _ origin]
  simp only [View.readAt_eq_ld, w3.read_unread, w4.read_unread, w6.read_unread, View.ld_unit_zero (S := S1024x2048) origin, View.ld_unit_zero (S := S2048x1024) origin, View.ld_unit_zero (S := S1024x1024) origin]

end

theorem pay_at (x : Vec Ideal S1024x2048 .bf16) (acc : Vec Ideal S1024x1024 .f32) (w : Vec Ideal S2048x1024 .bf16) (p q : Fin 1024) :
    k0_pay2 x acc w (ix2 p q) = acc (ix2 p q) + ∑ k : Fin 2048, (x (ix2 p k) : EReal) * w (ix2 k q) := by
  pointwise [k0_pay2]

theorem zero_at (p q : Fin 1024) : (k0_pay1 (F := Ideal)) (ix2 p q) = 0 := by
  pointwise [k0_pay1]

variable (m : (ℓ : Loc nD τ sig) → Buf (Elt Ideal) ℓ) (c : Dev nD)

abbrev argA : (⟨2, ![8192, 4096]⟩ : Shape).Idx → EReal := m ((c : Thread nD τ).loc main_arg0)
abbrev argB : (⟨2, ![4096, 4096]⟩ : Shape).Idx → EReal := m ((c : Thread nD τ).loc main_arg1)

theorem idx : ∀ t : Fin cfg0.N, win0_0.index t = ![t.val / 8, t.val % 2] ∧ win0_1.index t = ![t.val % 2, t.val / 2 % 4] :=
  (by decide +kernel : ∀ t : Fin grid0.N, _)

theorem blk0 (t : Fin cfg0.N) (p : Fin 1024) (k : Fin 2048) : (iblk m c 0 t : Vec Ideal S1024x2048 .bf16) (ix2 p k) = entry (argA m c) (1024 * (t.val / 8) + p) (2048 * (t.val % 2) + k) := by
  have hi := idx t
  have ht : t.val < 64 := Nat.lt_of_lt_of_eq t.isLt N_0
  rw [entry, dif_pos ⟨by omega, by omega⟩]
  blk_ext [iblk, V, hi.1]

theorem blk1 (t : Fin cfg0.N) (k : Fin 2048) (q : Fin 1024) : (iblk m c 1 t : Vec Ideal S2048x1024 .bf16) (ix2 k q) = entry (argB m c) (2048 * (t.val % 2) + k) (1024 * (t.val / 2 % 4) + q) := by
  have hi := idx t
  have ht : t.val < 64 := Nat.lt_of_lt_of_eq t.isLt N_0
  rw [entry, dif_pos ⟨by omega, by omega⟩]
  blk_ext [iblk, V, hi.2]

/-- What a block's last step has computed, entry by entry. -/
theorem last (t : Fin cfg0.N) (h : t.val % 2 = 1) (p q : Fin 1024) :
    (outsAt0 m c t.val t.isLt).1 (ix2 p q) = product (argA m c) (argB m c) (1024 * (t.val / 8) + p) (1024 * (t.val / 2 % 4) + q) := by
  have ht : t.val < 64 := Nat.lt_of_lt_of_eq t.isLt N_0
  have hs : t.val - 1 < cfg0.N := Nat.lt_of_le_of_lt (Nat.sub_le _ _) t.isLt
  have e := outsAt0_A m c ⟨t.val - 1, hs⟩ (by show (t.val - 1) % 2 = 0; omega) (by show ¬(t.val - 1) % 2 = 1; omega)
  rw [outsAt0_B m c t (by omega) h]
  dsimp only at e ⊢
  rw [e, second]
  dsimp only
  rw [first, pay_at, pay_at, zero_at, zero_add]
  simp only [blk0, blk1]
  rw [show (t.val - 1) / 8 = t.val / 8 by omega, show (t.val - 1) % 2 = 0 by omega, show (t.val - 1) / 2 = t.val / 2 by omega, h]
  simp only [Nat.mul_zero, Nat.zero_add, Nat.mul_one]
  exact sum_halves fun k => entry (argA m c) (1024 * (t.val / 8) + p) k * entry (argB m c) k (1024 * (t.val / 2 % 4) + q)

/-- The kernel's result is the product. -/
theorem result (j : (⟨2, ![8192, 4096]⟩ : Shape).Idx) : G2 m c j = product (argA m c) (argB m c) (j 0) (j 1) := by
  have h0 : (j 0).val < 8192 := (j 0).isLt
  have h1 : (j 1).val < 4096 := (j 1).isLt
  have hp : pt2Of j < cfg0.N := by rw [show cfg0.N = 64 from N_0]; dsimp only [pt2Of, run2Of]; omega
  unfold G2
  rw [dif_pos hp, ← outsAt0_sweep m c (pt2Of j) hp]
  have e : loc2Of j = ix2 ⟨(j 0).val % 1024, Nat.mod_lt _ (by decide)⟩ ⟨(j 1).val % 1024, Nat.mod_lt _ (by decide)⟩ := by
    funext a; fin_cases a <;> rfl
  rw [e, last m c ⟨pt2Of j, hp⟩ (by dsimp only [pt2Of]; omega)]
  dsimp only [pt2Of, run2Of]
  congr 1 <;> omega

/-- The run: the result array holds it, and the arguments end unchanged. -/
theorem value (ρ : Dev nD → PrngReg) : θ_run defs (onTc (τ := τ) (main (F := Ideal))) ⟨m, fun _ => 0, ρ⟩ (fun r => ∀ c : Dev nD,
      r.2.mem ((c : Thread nD τ).loc main_v1) = producted (argA m c) (argB m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (funext fun j => result m c j), (h c).2⟩) (run m ρ)

end Cert.Kernel3Ideal.Val

end
-- ==== Proof.Q2.lean ====
/- The input projection's reference: the modulated rows times the weights, with columns of zeros put in. Those are what the
   product with zero columns of weights gives. -/
module

public import proofs.«01_k».proof.Proof.Gen.Reference2Ideal.Run
public import proofs.«01_k».proof.Proof.Sum

@[expose] public section

set_option maxRecDepth 16384

noncomputable section

namespace Cert.Reference2Ideal.At

open Cert.Reference2Ideal Cert.Reference2Ideal.Gen Cert.Halves Idealize.ShloMosaic Idealize.ShloMosaic.TcCoe Idealize.SL.Sem
open scoped BigOperators

variable (A : FVec Ideal S8192x4096 .f32) (S H : FVec Ideal S4x1x4096 .f32) (B : FVec Ideal S4096x7728 .f32)

/-- The modulated rows. -/
def scaled : FVec Ideal S4x2048x4096 .f32 :=
  addf (mulf (shapeCast _ A shapeCasts_S8192x4096_S4x2048x4096) (broadcastInDim S4x2048x4096 ![0, 1, 2] bcast_S4x1x4096_S4x2048x4096_0_1_2
    (addf (broadcastInDim S4x1x4096 ![] bcast_S_S4x1x4096 (constant S_ .f32 0x3F800000#32)) S))) (broadcastInDim S4x2048x4096 ![0, 1, 2] bcast_S4x1x4096_S4x2048x4096_0_1_2 H)

/-- Their product with the weights. -/
def times (h : FVec Ideal S4x2048x4096 .f32) : FVec Ideal S8192x7728 .f32 :=
  shapeCast _ (Host.dotGeneral dot_S4x2048x4096_S4096x7728_S4x2048x7728_2_0_01_1_n_n none h B : FVec Ideal S4x2048x7728 .f32) shapeCasts_S4x2048x7728_S8192x7728

/-- The same with the columns of zeros. -/
def spread (p : FVec Ideal S8192x7728 .f32) : FVec Ideal S8192x8192 .f32 :=
  concatenate S8192x8192 1 [⟨S8192x3632, (extractStridedSlice S8192x3632 ![0, 0] p slices_S8192x7728_S8192x3632_0_0 : FVec Ideal S8192x3632 .f32)⟩,
    ⟨S8192x464, (broadcastInDim S8192x464 ![] bcast_S_S8192x464 (constant S_ .f32 0x00000000#32) : FVec Ideal S8192x464 .f32)⟩,
    ⟨S8192x4096, (extractStridedSlice S8192x4096 ![0, 3632] p slices_S8192x7728_S8192x4096_0_3632 : FVec Ideal S8192x4096 .f32)⟩] concatenates_S8192x3632_S8192x464_S8192x4096_S8192x8192_d1

theorem spread_at (p : FVec Ideal S8192x7728 .f32) (i j : Fin 8192) : spread p (ix2 i j) = wide p i j := by
  unfold spread
  pointwise []
  unfold wide entry
  have hi := i.isLt
  have hj := j.isLt
  by_cases h1 : j.val < 3632
  · rw [dif_pos h1, if_pos h1, dif_pos ⟨hi, by omega⟩]
  · rw [dif_neg h1, if_neg h1]
    by_cases h2 : j.val < 4096
    · rw [dif_pos (by omega), if_pos h2]
    · rw [dif_neg (by omega), if_neg h2, dif_pos ⟨hi, by omega⟩]
      exact congrArg (fun z => p (ix2 i z)) (Fin.ext (by dsimp only; omega))

theorem times_at (h : FVec Ideal S4x2048x4096 .f32) (i : Fin 8192) (j : Fin 7728) :
    times B h (ix2 i j) = ∑ k : Fin 4096, (h (ix3 ⟨i / 2048, by omega⟩ ⟨i % 2048, by omega⟩ k) : EReal) * B (ix2 k j) := by
  unfold times
  pointwise []

theorem scaled_at (i : Fin 8192) (k : Fin 4096) : scaled A S H (ix3 ⟨i / 2048, by omega⟩ ⟨i % 2048, by omega⟩ k) = modulated A S H i k := by
  rw [modulated, dif_pos ⟨i.isLt, k.isLt⟩]
  unfold scaled
  pointwise []

/-- The widened product is the product with the widened weights. -/
theorem value_eq (j : S8192x8192.Idx) : spread (times B (scaled A S H)) j = projected A S H B (j 0) (j 1) := by
  obtain ⟨p, q, rfl⟩ : ∃ p q, j = ix2 p q := ⟨j 0, j 1, by funext a; fin_cases a <;> rfl⟩
  show _ = projected A S H B p q
  rw [spread_at]
  have inner : ∀ r : ℕ, r < 7728 → entry (times B (scaled A S H)) p r = ∑ k : Fin 4096, modulated A S H p k * entry B k r := fun r hr => by
    rw [entry, dif_pos ⟨p.isLt, hr⟩]
    refine (times_at B (scaled A S H) p ⟨r, hr⟩).trans (Finset.sum_congr rfl fun k _ => ?_)
    rw [scaled_at, entry, dif_pos ⟨k.isLt, hr⟩]
  have hq := q.isLt
  unfold projected wide
  by_cases h1 : q.val < 3632
  · simp only [if_pos h1]
    exact inner _ (by omega)
  · simp only [if_neg h1]
    by_cases h2 : q.val < 4096
    · simp only [if_pos h2, mul_zero, Finset.sum_const_zero]
    · simp only [if_neg h2]
      exact inner _ (by omega)

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12) = projection (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (funext fun j => value_eq _ _ _ _ j), (h c).2⟩) (Value.run m ρ)

theorem framed {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, funext fun s => by
    rcases s with ⟨_, s⟩
    rcases s with s | s <;> exact s.elim0⟩) (Value.run m ρ)

end Cert.Reference2Ideal.At

end
-- ==== Proof.Q3.lean ====
/- The output projection's reference: what it leaves is the product of the two matrices. -/
module

public import proofs.«01_k».proof.Proof.Gen.Reference3Ideal.Run
public import proofs.«01_k».proof.Proof.Sum

@[expose] public section

set_option maxRecDepth 16384

noncomputable section

namespace Cert.Reference3Ideal.At

open Cert.Reference3Ideal Cert.Reference3Ideal.Gen Cert.Halves Idealize.ShloMosaic Idealize.ShloMosaic.TcCoe Idealize.SL.Sem
open scoped BigOperators

theorem entry_ix2 {r s : ℕ} (A : (⟨2, ![r, s]⟩ : Shape).Idx → EReal) (p : Fin r) (q : Fin s) : entry A p q = A (ix2 p q) := by
  rw [entry, dif_pos ⟨p.isLt, q.isLt⟩]

theorem value_eq (A : FVec Ideal S8192x4096 .bf16) (B : FVec Ideal S4096x4096 .f32) (j : S8192x4096.Idx) :
    (Host.dotGeneral dot_S8192x4096_S4096x4096_S8192x4096_1_0_0_1_n_n none (extf .f32 A bitsLt_bf16_f32) B : FVec Ideal S8192x4096 .f32) j = product A B (j 0) (j 1) := by
  obtain ⟨p, q, rfl⟩ : ∃ p q, j = ix2 p q := ⟨j 0, j 1, by funext a; fin_cases a <;> rfl⟩
  show _ = product A B p q
  unfold product
  simp only [entry_ix2]
  pointwise []

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = producted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (funext fun j => value_eq _ _ j), (h c).2⟩) (Value.run m ρ)

theorem framed {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    rcases s with ⟨_, s⟩
    rcases s with s | s <;> exact s.elim0⟩) (Value.run m ρ)

end Cert.Reference3Ideal.At

end
-- ==== Proof.KPay.lean ====
/- What the kernel's vector values are at an index: the compressed branch, the blocks' scores, the selection, the window
   branch, and one step of the loop over the selected keys. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Val

open Idealize.ShloMosaic Cert.KernelIdeal Cert.KernelIdeal.Gen Cert.Nsa
open scoped BigOperators

theorem named_bot : (Named.named κ "mask" 0xF149F2CA#32 : Ideal .f32) = (⊥ : EReal) := rfl
theorem ninf : Ideal.ofBits .f32 0xFF800000#32 = (⊥ : EReal) := by simp [Ideal.ofBits, Ideal.ieee]
theorem sixteen : Ideal.ofBits .f32 0x41800000#32 = (16 : EReal) := by
  simp [Ideal.ofBits, Ideal.ieee]
  rw [← EReal.coe_mul]
  norm_num
  rfl
theorem half : Ideal.ofBits .f32 0x3F000000#32 = ((1 / 2 : ℝ) : EReal) := by
  simp [Ideal.ofBits, Ideal.ieee]
  rw [← EReal.coe_mul]
  norm_num

/-- The lanes' numbers. -/
abbrev l1 : IVec S1x128 32 := iota .tc S1x128 32 [1] iota_S1x128_d1_w32
abbrev lane : IVec S128x128 32 := iota .tc S128x128 32 [1] iota_S128x128_d1_w32

/-- The row of the scores' matrix of head `g` and query `p`. -/
abbrev row (g : Fin 8) (p : Fin 128) : Fin 1024 := ⟨g * 128 + p, by omega⟩

section Cmp
variable (v6 : IVec S128x1 32) (T : Fin 128 → ℕ) (hT : ∀ p, T p < 2048) (h6 : ∀ p, v6 (ix2 p 0) = BitVec.ofNat 32 (T p))
  (qs : FVec Ideal S1024x128 .bf16) (kc vc : FVec Ideal S128x128 .bf16)
  (K V : ℕ → Fin 128 → EReal) (hK : ∀ (n : Fin 128) d, kc (ix2 n d) = K n d) (hV : ∀ (n : Fin 128) d, vc (ix2 n d) = V n d)
include hT h6

theorem cmp_mask (p c : Fin 128) :
    IntOp.andi (IntOp.cmpi .sle (IntOp.subi (IntOp.addi (IntOp.muli (l1 (ix2 0 c)) (k0_pay57 (ix2 0 c))) 32#32) 1#32) (v6 (ix2 p 0)))
      (IntOp.cmpi .slt (l1 (ix2 0 c)) 127#32) = if (c : ℕ) ∈ SC (T p) then 1#1 else 0#1 := by
  have e : l1 (ix2 0 c) = BitVec.ofNat 32 c := by pointwise []
  have e' : k0_pay57 (ix2 0 c) = 16#32 := rfl
  have hp := hT p
  rw [e, e', h6, WordCmp.muli_ofNat, WordCmp.addi_ofNat, sub_nat (by omega), sle_nat (by omega) (by omega), slt_nat (by omega) (by omega), and_ite]
  congr 1
  simp only [SC, Finset.mem_filter, Finset.mem_range, eq_iff_iff]
  omega

omit h6 hT in
theorem cmp_cov (t : ℕ) (n : ℕ) (h : n ∈ SC t) : ∃ c : Fin 128, (c : ℕ) = n := by
  simp only [SC, Finset.mem_filter, Finset.mem_range] at h
  exact ⟨⟨n, by omega⟩, rfl⟩

include hK in
theorem pay58_at (g : Fin 8) (p c : Fin 128) :
    k0_pay58 v6 qs kc l1 k0_pay57 (ix3 g p c) = prob (SC (T p)) (scr (fun d => qs (ix2 (row g p) d)) K) c := by
  have hm := cmp_mask v6 T hT h6 p
  generalize l1 = v25 at *
  generalize k0_pay57 = v26 at *
  pointwise [k0_pay58]
  simp only [hm, named_bot, ninf]
  exact prob_row (fun c : Fin 128 => (c : ℕ)) Fin.val_injective (SC (T p)) (cmp_cov _) _ _ _ (fun _ => rfl)
    (fun c _ => by simp only [hK]; rfl) c

include hK hV in
theorem pay59_at (r : Fin 1024) (d : Fin 128) :
    k0_pay59 v6 qs kc vc l1 k0_pay57 (ix2 r d)
      = att (SC (T ⟨r % 128, by omega⟩)) (scr (fun d => qs (ix2 r d)) K) (V · d) := by
  have hr : row ⟨r / 128, by omega⟩ ⟨r % 128, by omega⟩ = r := Fin.ext (by simp; omega)
  rw [show k0_pay59 v6 qs kc vc l1 k0_pay57 (ix2 r d) = ∑ x, k0_pay58 v6 qs kc l1 k0_pay57 (ix3 ⟨r / 128, by omega⟩ ⟨r % 128, by omega⟩ x) * vc (ix2 x d)
    from by pointwise [k0_pay59]]
  simp only [pay58_at v6 T hT h6 qs kc K hK, hr, hV]
  rw [att, ← sum_row (fun c : Fin 128 => (c : ℕ)) Fin.val_injective _ (cmp_cov _)]
  refine Finset.sum_congr rfl fun c _ => ?_
  split
  · rfl
  · rw [prob, if_neg ‹_›, zero_mul]

include hK in
theorem pay60_at (p c : Fin 128) :
    k0_pay60 v6 qs kc l1 k0_pay57 (ix2 p c) = psum (T p) (fun g d => qs (ix2 (row g p) d)) K c := by
  rw [show k0_pay60 v6 qs kc l1 k0_pay57 (ix2 p c) = ∑ x, k0_pay58 v6 qs kc l1 k0_pay57 (ix3 x p c) from by pointwise [k0_pay60]]
  simp only [pay58_at v6 T hT h6 qs kc K hK]
  rfl

include hK in
theorem pay63_at (p j : Fin 128) :
    k0_pay63 (k0_pay60 v6 qs kc l1 k0_pay57) k0_pay61 k0_pay62 (ix2 p j) = imp (T p) (fun g d => qs (ix2 (row g p) d)) K j := by
  generalize hw : k0_pay60 v6 qs kc l1 k0_pay57 = w
  have hw' : ∀ c, w (ix2 p c) = psum (T p) (fun g d => qs (ix2 (row g p) d)) K c := fun c => by
    rw [← hw]; exact pay60_at v6 T hT h6 qs kc K hK p c
  pointwise [k0_pay63, k0_pay61, k0_pay62]
  simp only [hw', psum_sub]
  simp only [WordCmp.muli_ofNat, WordCmp.addi_ofNat]
  have hm : ∀ x : Fin 128, IntOp.andi (IntOp.cmpi .slt (BitVec.ofNat 32 (x * 16)) (BitVec.ofNat 32 (j * 64 + 64)))
      (IntOp.cmpi .sgt (BitVec.ofNat 32 (x * 16 + 32)) (BitVec.ofNat 32 (j * 64)))
      = if 16 * (x : ℕ) < 64 * j + 64 ∧ 64 * (j : ℕ) < 16 * x + 32 then 1#1 else 0#1 := fun x => by
    rw [slt_nat (by omega) (by omega), sgt_nat (by omega) (by omega), and_ite]
    congr 1
    simp only [eq_iff_iff]
    omega
  simp only [hm, sel_ite, ite_self, Finset.sum_const_zero, add_zero]
  rw [imp, Finset.sum_fin_eq_sum_range, Finset.sum_range_succ]
  have h127 : psum (T p) (fun g d => qs (ix2 (row g p) d)) K 127 = 0 :=
    Finset.sum_eq_zero fun g _ => by rw [prob, if_neg (by simp [SC])]
  simp only [h127, ite_self, dite_eq_ite, add_zero]
  refine Finset.sum_congr rfl fun n hn => ?_
  rw [if_pos (by have := Finset.mem_range.1 hn; omega)]

/-- The scores of the blocks. -/
theorem pay67_at (a : FVec Ideal S128x128 .f32) (p j : Fin 128) (hj : (j : ℕ) < 32) (I : ℕ → EReal) (ha : ∀ j : Fin 128, a (ix2 p j) = I j) :
    k0_pay67 a l1 (k0_pay64 v6) k0_pay65 k0_pay66 (ix2 p j)
      = if (j : ℕ) ≤ T p / 64 then I j + (if (j : ℕ) = 0 ∨ (j : ℕ) = T p / 64 ∨ j + 1 = T p / 64 then bonus else 0) else ⊥ := by
  have hb : k0_pay64 v6 (ix2 p 0) = BitVec.ofNat 32 (T p / 64) := by
    pointwise [k0_pay64]
    rw [h6]
    exact div64 ⟨T p, hT p⟩
  have hp := hT p
  generalize k0_pay64 v6 = b at *
  pointwise [k0_pay67, k0_pay65, k0_pay66]
  simp only [hb, ha, named_bot]
  rw [eq_pred (by omega) (by omega), eq_nat (b := 0) (by omega) (by omega), eq_nat (by omega) (by omega), or_ite, or_ite, sle_nat (by omega) (by omega),
    slt_nat (b := 32) (by omega) (by omega)]
  rw [if_pos hj, WordCmp.select_of_eq_one rfl]
  simp only [sel_ite, or_assoc]

end Cmp

/-- The selection of the blocks from their scores. -/
def selOf (a : FVec Ideal S128x128 .f32) (b : IVec S128x1 32) : FVec Ideal S128x128 .bf16 :=
  k0_pay96 lane (k0_pay94 (k0_pay67 a l1 b k0_pay65 k0_pay66) lane (k0_pay90 (k0_pay67 a l1 b k0_pay65 k0_pay66) lane (k0_pay87 (k0_pay67 a l1 b k0_pay65 k0_pay66) lane (k0_pay83 (k0_pay67 a l1 b k0_pay65 k0_pay66) lane (k0_pay81 (k0_pay67 a l1 b k0_pay65 k0_pay66) lane (k0_pay77 (k0_pay67 a l1 b k0_pay65 k0_pay66) lane (k0_pay74 (k0_pay67 a l1 b k0_pay65 k0_pay66) lane (k0_pay70 (k0_pay67 a l1 b k0_pay65 k0_pay66) lane (k0_pay68 a l1 b k0_pay65 k0_pay66) (k0_pay69 a l1 b k0_pay65 k0_pay66)) (k0_pay72 (k0_pay67 a l1 b k0_pay65 k0_pay66)) (k0_pay73 (k0_pay67 a l1 b k0_pay65 k0_pay66)) 5#32) (k0_pay75 (k0_pay67 a l1 b k0_pay65 k0_pay66)) (k0_pay76 (k0_pay67 a l1 b k0_pay65 k0_pay66))) (k0_pay78 (k0_pay67 a l1 b k0_pay65 k0_pay66) lane) k0_pay79 k0_pay80) (k0_pay82 (k0_pay67 a l1 b k0_pay65 k0_pay66) lane)) (k0_pay85 (k0_pay67 a l1 b k0_pay65 k0_pay66)) (k0_pay86 (k0_pay67 a l1 b k0_pay65 k0_pay66)) 20#32) (k0_pay88 (k0_pay67 a l1 b k0_pay65 k0_pay66)) (k0_pay89 (k0_pay67 a l1 b k0_pay65 k0_pay66))) (k0_pay91 (k0_pay67 a l1 b k0_pay65 k0_pay66) lane) k0_pay92 k0_pay93) (k0_pay95 (k0_pay67 a l1 b k0_pay65 k0_pay66) lane)

theorem beats_at (w : Fin 128 → EReal) (j i : Fin 128) :
    (Scalar.select (IntOp.ori (BitVec.ofBool (decide (w j < w i))) (IntOp.andi (BitVec.ofBool (decide (w i = w j)))
      (IntOp.cmpi .sgt (BitVec.ofNat 32 j) (BitVec.ofNat 32 i)))) 1 0 : EReal)
      = if w j < w i ∨ (w i = w j ∧ (i : ℕ) < j) then 1 else 0 := by
  rw [bool_ite, bool_ite, sgt_nat (by omega) (by omega), and_ite, or_ite, sel_ite]

theorem selOf_at (a : FVec Ideal S128x128 .f32) (b : IVec S128x1 32) (p j : Fin 128) (c : ℕ → EReal)
    (hc : ∀ i : Fin 128, (i : ℕ) < 32 → k0_pay67 a l1 b k0_pay65 k0_pay66 (ix2 p i) = c i) :
    selOf a b (ix2 p j) = if (j : ℕ) ∈ Sel c then (1 : EReal) else 0 := by
  rw [selOf]
  pointwise [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96]
  generalize k0_pay67 a l1 b k0_pay65 k0_pay66 = w at *
  let bt : ℕ → EReal := fun i => Scalar.select (IntOp.ori (BitVec.ofBool (decide (w (ix2 p j) < w (ix2 p ⟨i % 128, Nat.mod_lt _ (by norm_num)⟩))))
    (IntOp.andi (BitVec.ofBool (decide (w (ix2 p ⟨i % 128, Nat.mod_lt _ (by norm_num)⟩) = w (ix2 p j))))
      (IntOp.cmpi .sgt (BitVec.ofNat 32 j) (BitVec.ofNat 32 i)))) 1 0
  refine Eq.trans (b := Scalar.select (IntOp.andi (BitVec.ofBool (decide (∑ i ∈ Finset.range 32, bt i < Ideal.ofBits .f32 0x41800000#32)))
    (IntOp.cmpi .slt (BitVec.ofNat 32 j) 32#32)) (1 : EReal) 0) ?_ ?_
  · simp only [Finset.sum_range_succ, Finset.sum_range_zero, zero_add]
    rfl
  · rw [sixteen, slt_nat (b := 32) (by omega) (by omega), bool_ite, and_ite, sel_ite]
    by_cases hj : (j : ℕ) < 32
    · have hbt : ∀ i ∈ Finset.range 32, bt i = if c j < c i ∨ (c i = c j ∧ i < j) then 1 else 0 := fun i hi => by
        have hi' := Finset.mem_range.1 hi
        have e' : i % 128 = i := Nat.mod_eq_of_lt (by omega)
        have e := beats_at (fun k => w (ix2 p k)) j ⟨i, by omega⟩
        have hci : w (ix2 p ⟨i, by omega⟩) = c i := hc ⟨i, by omega⟩ hi'
        simp only [hc j hj, hci] at e
        simp only [bt, hc j hj, e', hci]
        exact e
      rw [Finset.sum_congr rfl hbt, Finset.sum_boole]
      congr 1
      simp only [Sel, Finset.mem_filter, Finset.mem_range, hj, true_and, and_true, eq_iff_iff]
      rw [show (16 : EReal) = ((16 : ℕ) : EReal) from rfl, Nat.cast_lt]
    · rw [if_neg (fun h => hj h.2), if_neg (fun h : (j : ℕ) ∈ Sel c => hj (Finset.mem_range.1 (Finset.mem_filter.1 h).1))]

end Cert.KernelIdeal.Val

end
-- ==== Proof.KStep.lean ====
/- One step of the loop over the selected keys, at an index: it takes the softmax of the keys below `256 k` to that of the
   keys below `256 (k + 1)`; what the loop's end divides; the window branch. -/
module

public import proofs.«01_k».proof.Proof.KPay

@[expose] public section

set_option maxRecDepth 16384

noncomputable section

namespace Cert.Nsa

open Idealize.ShloMosaic
open scoped BigOperators

/-- The positions of `S` below `256 k`. -/
def upto (S : Finset ℕ) (k : ℕ) : Finset ℕ := S.filter (· < 256 * k)
/-- The positions of `S` in the chunk `k`. -/
def chunk (S : Finset ℕ) (k : ℕ) : Finset ℕ := S.filter fun n => 256 * k ≤ n ∧ n < 256 * (k + 1)

theorem upto_zero (S : Finset ℕ) : upto S 0 = ∅ := by
  ext n; simp [upto]
theorem upto_succ (S : Finset ℕ) (k : ℕ) : upto S (k + 1) = upto S k ∪ chunk S k := by
  ext n
  simp only [upto, chunk, Finset.mem_union, Finset.mem_filter]
  constructor
  · rintro ⟨h, h'⟩
    by_cases hk : n < 256 * k
    · exact .inl ⟨h, hk⟩
    · exact .inr ⟨h, by omega, h'⟩
  · rintro (⟨h, h'⟩ | ⟨h, h', h''⟩)
    · exact ⟨h, by omega⟩
    · exact ⟨h, h''⟩
theorem upto_disj (S : Finset ℕ) (k : ℕ) : Disjoint (upto S k) (chunk S k) := by
  rw [Finset.disjoint_left]
  intro n h h'
  have := (Finset.mem_filter.1 h).2
  have := (Finset.mem_filter.1 h').2.1
  omega
theorem upto_all {S : Finset ℕ} {k : ℕ} (h : ∀ n ∈ S, n < 256 * k) : upto S k = S := Finset.filter_true_of_mem h

section Step
variable (S : Finset ℕ) (k : ℕ) (s : ℕ → EReal) (m : Fin 256 → BitVec 1) (x : Fin 256 → EReal)
  (hm : ∀ c, m c = if 256 * k + c ∈ S then 1#1 else 0#1) (hx : ∀ c, x c = s (256 * k + c))

theorem chunk_inj : Function.Injective fun c : Fin 256 => 256 * k + (c : ℕ) := fun a b h => Fin.ext (by simp only at h; omega)
theorem chunk_cov (n : ℕ) (h : n ∈ chunk S k) : ∃ c : Fin 256, 256 * k + (c : ℕ) = n := by
  have := (Finset.mem_filter.1 h).2
  exact ⟨⟨n - 256 * k, by omega⟩, by simp only; omega⟩
theorem chunk_mem (c : Fin 256) : 256 * k + (c : ℕ) ∈ chunk S k ↔ 256 * k + (c : ℕ) ∈ S := by
  simp only [chunk, Finset.mem_filter]
  constructor
  · exact fun h => h.1
  · exact fun h => ⟨h, by omega, by omega⟩
include hm hx

theorem step_max : max ((upto S k).sup s) (Finset.univ.fold max (⊥ : EReal) fun c => Scalar.select (m c) (x c) ⊥) = (upto S (k + 1)).sup s := by
  rw [mem_sup_row (fun c : Fin 256 => 256 * k + (c : ℕ)) (chunk S k) m s x (chunk_cov S k) (fun c => by rw [hm, if_congr (chunk_mem S k c) rfl rfl])
    (fun c _ => hx c), upto_succ, sup_union]

theorem step_ex (c : Fin 256) : Ideal.exp (Scalar.select (m c) (x c) ⊥ - (upto S (k + 1)).sup s) * (FloatOps.sitofp .f32 (BitVec.setWidth 32 (m c)) : Ideal .f32)
    = if 256 * k + (c : ℕ) ∈ chunk S k then ex (upto S (k + 1)) s (256 * k + c) else 0 := by
  rw [hm c, num_ite, sel_ite, if_congr (chunk_mem S k c) rfl rfl]
  by_cases h : 256 * k + (c : ℕ) ∈ S
  · simp only [if_pos h]; rw [hx c]; exact mul_one _
  · simp only [if_neg h]; exact mul_zero _

theorem step_acc (V : ℕ → EReal) (v : Fin 256 → EReal) (hv : ∀ c, v c = V (256 * k + c)) :
    Ideal.exp ((upto S k).sup s - (upto S (k + 1)).sup s) * asum (upto S k) s V
      + ∑ c, Ideal.exp (Scalar.select (m c) (x c) ⊥ - (upto S (k + 1)).sup s) * (FloatOps.sitofp .f32 (BitVec.setWidth 32 (m c)) : Ideal .f32) * v c
    = asum (upto S (k + 1)) s V := by
  rw [Finset.sum_congr rfl fun c _ => by rw [step_ex S k s m x hm hx c, hv, ite_mul, zero_mul],
    sum_row _ (chunk_inj k) _ (chunk_cov S k) (fun n => ex (upto S (k + 1)) s n * V n), upto_succ, asum_union (upto_disj S k)]

theorem step_sum :
    Ideal.exp ((upto S k).sup s - (upto S (k + 1)).sup s) * lsum (upto S k) s
      + ∑ c, Ideal.exp (Scalar.select (m c) (x c) ⊥ - (upto S (k + 1)).sup s) * (FloatOps.sitofp .f32 (BitVec.setWidth 32 (m c)) : Ideal .f32)
    = lsum (upto S (k + 1)) s := by
  have := step_acc S k s m x hm hx (fun _ => 1) (fun _ => 1) fun _ => rfl
  simpa only [mul_one, ← lsum_eq] using this

end Step

end Cert.Nsa

namespace Cert.KernelIdeal.Val

open Idealize.ShloMosaic Cert.KernelIdeal Cert.KernelIdeal.Gen Cert.Nsa
open scoped BigOperators

/-- The keys up to `t` of the blocks in `A`. -/
def keysOf (A : Finset ℕ) (t : ℕ) : Finset ℕ := (Finset.range 2048).filter fun n => n / 64 ∈ A ∧ n ≤ t

/-- The rows of the state after the keys below `256 k`. -/
structure StateAt (qs : FVec Ideal S1024x128 .bf16) (K V : ℕ → Fin 128 → EReal) (S : Fin 128 → Finset ℕ) (k : ℕ)
    (M L : FVec Ideal S1024x1 .f32) (acc : FVec Ideal S1024x128 .f32) : Prop where
  max : ∀ r : Fin 1024, M (ix2 r 0) = (upto (S ⟨r % 128, by omega⟩) k).sup (scr (fun d => qs (ix2 r d)) K)
  sum : ∀ r : Fin 1024, L (ix2 r 0) = lsum (upto (S ⟨r % 128, by omega⟩) k) (scr (fun d => qs (ix2 r d)) K)
  acc : ∀ (r : Fin 1024) d, acc (ix2 r d) = asum (upto (S ⟨r % 128, by omega⟩) k) (scr (fun d => qs (ix2 r d)) K) (V · d)

section Trip
variable (v6 : IVec S128x1 32) (T : Fin 128 → ℕ) (hT : ∀ p, T p < 2048) (h6 : ∀ p, v6 (ix2 p 0) = BitVec.ofNat 32 (T p))
  (qs : FVec Ideal S1024x128 .bf16) (sel : FVec Ideal S128x128 .bf16) (A : Fin 128 → Finset ℕ)
  (hsel : ∀ p j : Fin 128, sel (ix2 p j) = if (j : ℕ) ∈ A p then (1 : EReal) else 0)
  (i : grid0.Coords) (k : Fin (k0_t1_loop i).trips) (hk : (k : ℕ) < 8)
  (keys vals : FVec Ideal S256x128 .bf16) (K V : ℕ → Fin 128 → EReal)
  (hK : ∀ (c : Fin 256) d, keys (ix2 c d) = K (256 * k + c) d) (hV : ∀ (c : Fin 256) d, vals (ix2 c d) = V (256 * k + c) d)

omit hk in
theorem kpos_at (c : Fin 256) : k0_pay2 i 0#32 1#32 k (ix2 0 c) = BitVec.ofNat 32 (256 * k + c) := by
  have e : Scf.iv 0#32 1#32 (k : ℕ) = BitVec.ofNat 32 k := by
    simp [Scf.iv]
  pointwise [k0_pay2]
  rw [e]
  show IntOp.addi (IntOp.muli (BitVec.ofNat 32 k) (BitVec.ofNat 32 256)) _ = _
  rw [WordCmp.muli_ofNat, WordCmp.addi_ofNat, mul_comm]

include hT h6 hsel hk in
theorem mask_at (p : Fin 128) (c : Fin 256) :
    IntOp.andi (k0_pay3 i sel 0#32 1#32 k (ix2 p c)) (IntOp.cmpi .sle (k0_pay4 i 0#32 1#32 k (ix2 p c)) (k0_pay5 v6 (ix2 p c)))
      = if 256 * k + (c : ℕ) ∈ keysOf (A p) (T p) then 1#1 else 0#1 := by
  have hp := hT p
  have e4 : k0_pay4 i 0#32 1#32 k (ix2 p c) = BitVec.ofNat 32 (256 * k + c) := by
    rw [show k0_pay4 i 0#32 1#32 k (ix2 p c) = k0_pay2 i 0#32 1#32 k (ix2 0 c) from by pointwise [k0_pay4], kpos_at i k]
  have e5 : k0_pay5 v6 (ix2 p c) = BitVec.ofNat 32 (T p) := by
    rw [show k0_pay5 v6 (ix2 p c) = v6 (ix2 p 0) from by pointwise [k0_pay5], h6]
  have e3 : k0_pay3 i sel 0#32 1#32 k (ix2 p c) = if (256 * k + (c : ℕ)) / 64 ∈ A p then 1#1 else 0#1 := by
    have hd := div64 ⟨256 * k + c, by omega⟩
    simp only at hd
    pointwise [k0_pay3]
    simp only [kpos_at i k, hd, hsel]
    have hx : ∀ x : Fin 128, IntOp.cmpi .eq (BitVec.ofNat 32 x) (BitVec.ofNat 32 ((256 * k + c) / 64)) = if (x : ℕ) = (256 * k + c) / 64 then 1#1 else 0#1 :=
      fun x => eq_nat (by omega) (by omega)
    simp only [hx, sel_ite]
    rw [Finset.sum_eq_single (⟨(256 * k + c) / 64, by omega⟩ : Fin 128) (fun b _ hb => if_neg fun h => hb (Fin.ext h)) (fun h => absurd (Finset.mem_univ _) h)]
    rw [if_pos rfl, bool_ite, half]
    simp only
    by_cases h : (256 * k + (c : ℕ)) / 64 ∈ A p
    · rw [if_pos h, if_pos h, if_pos]
      rw [← EReal.coe_one, EReal.coe_lt_coe_iff]; norm_num
    · rw [if_neg h, if_neg h, if_neg]
      rw [← EReal.coe_zero, EReal.coe_lt_coe_iff]; norm_num
  rw [e3, e4, e5, sle_nat (by omega) (by omega), and_ite]
  congr 1
  simp only [keysOf, Finset.mem_filter, Finset.mem_range, eq_iff_iff]
  constructor
  · rintro ⟨h, h'⟩; exact ⟨by omega, h, h'⟩
  · rintro ⟨-, h, h'⟩; exact ⟨h, h'⟩

variable (m1 : IVec S128x256 1) (m2 m3 : IVec S128x256 32) (S : Fin 128 → Finset ℕ)
  (hm : ∀ p c, IntOp.andi (m1 (ix2 p c)) (IntOp.cmpi .sle (m2 (ix2 p c)) (m3 (ix2 p c))) = if 256 * k + (c : ℕ) ∈ S p then 1#1 else 0#1)
  (M L : FVec Ideal S1024x1 .f32) (acc : FVec Ideal S1024x128 .f32)

theorem state_zero : StateAt qs K V S 0 k0_pay97 k0_pay98 k0_pay99 where
  max r := by
    rw [upto_zero]
    pointwise [k0_pay97]
    rfl
  sum r := by
    rw [upto_zero]
    pointwise [k0_pay98]
    rfl
  acc r d := by
    rw [upto_zero]
    pointwise [k0_pay99]
    rfl

include hK hV hm in
theorem state_succ (h : StateAt qs K V S k M L acc) :
    StateAt qs K V S (k + 1) (k0_pay101 (k0_pay9 qs keys m1 m2 m3 M)) (k0_pay12 qs keys m1 m2 m3 M L) (k0_pay100 (k0_pay13 qs keys vals m1 m2 m3 M acc)) := by
  have h9 : ∀ r : Fin 1024, k0_pay9 qs keys m1 m2 m3 M (ix3 ⟨r / 128, by omega⟩ ⟨r % 128, by omega⟩ 0)
      = (upto (S ⟨r % 128, by omega⟩) (k + 1)).sup (scr (fun d => qs (ix2 r d)) K) := fun r => by
    have hr : (r : ℕ) / 128 * 128 + r % 128 = r := by omega
    pointwise [k0_pay9, k0_pay8, k0_pay7, k0_pay6]
    simp only [hm, hK, named_bot, ninf, hr, Fin.eta, h.max]
    exact step_max (S ⟨r % 128, by omega⟩) k (scr (fun d => qs (ix2 r d)) K) _ _ (fun c => rfl) (fun c => rfl)
  have h10 : ∀ r : Fin 1024, k0_pay10 qs keys m1 m2 m3 M (ix3 ⟨r / 128, by omega⟩ ⟨r % 128, by omega⟩ 0)
      = Ideal.exp ((upto (S ⟨r % 128, by omega⟩) k).sup (scr (fun d => qs (ix2 r d)) K) - (upto (S ⟨r % 128, by omega⟩) (k + 1)).sup (scr (fun d => qs (ix2 r d)) K)) := fun r => by
    have hr : (r : ℕ) / 128 * 128 + r % 128 = r := by omega
    pointwise [k0_pay10, k0_pay8]
    simp only [h9, h.max]
  have h11 : ∀ (r : Fin 1024) (c : Fin 256), k0_pay11 qs keys m1 m2 m3 M (ix3 ⟨r / 128, by omega⟩ ⟨r % 128, by omega⟩ c)
      = Ideal.exp (Scalar.select (if 256 * k + (c : ℕ) ∈ S ⟨r % 128, by omega⟩ then 1#1 else 0#1) (scr (fun d => qs (ix2 r d)) K (256 * k + c)) ⊥
          - (upto (S ⟨r % 128, by omega⟩) (k + 1)).sup (scr (fun d => qs (ix2 r d)) K))
        * (FloatOps.sitofp .f32 (BitVec.setWidth 32 (if 256 * k + (c : ℕ) ∈ S ⟨r % 128, by omega⟩ then 1#1 else 0#1)) : Ideal .f32) := fun r c => by
    have hr : (r : ℕ) / 128 * 128 + r % 128 = r := by omega
    pointwise [k0_pay11, k0_pay7, k0_pay6]
    simp only [h9, hm, hK, named_bot]
    rfl
  refine ⟨fun r => ?_, fun r => ?_, fun r d => ?_⟩
  · rw [show k0_pay101 (k0_pay9 qs keys m1 m2 m3 M) (ix2 r 0) = k0_pay9 qs keys m1 m2 m3 M (ix3 ⟨r / 128, by omega⟩ ⟨r % 128, by omega⟩ 0) from by
      pointwise [k0_pay101]]
    exact h9 r
  · pointwise [k0_pay12]
    simp only [h10, h11, h.sum]
    exact step_sum (S ⟨r % 128, by omega⟩) k (scr (fun d => qs (ix2 r d)) K) _ _ (fun c => rfl) (fun c => rfl)
  · pointwise [k0_pay100, k0_pay13]
    simp only [h10, h11, h.acc]
    exact step_acc (S ⟨r % 128, by omega⟩) k (scr (fun d => qs (ix2 r d)) K) _ _ (fun c => rfl) (fun c => rfl) (V · d) _ (fun c => hV c d)

end Trip

theorem state_end (qs : FVec Ideal S1024x128 .bf16) (K V : ℕ → Fin 128 → EReal) (S : Fin 128 → Finset ℕ)
    (M L : FVec Ideal S1024x1 .f32) (acc : FVec Ideal S1024x128 .f32) (k : ℕ) (h : StateAt qs K V S k M L acc) (hall : ∀ p, ∀ n ∈ S p, n < 256 * k) (r : Fin 1024) (d : Fin 128) :
    k0_pay104 (F := Ideal) acc L (ix2 r d) = att (S ⟨r % 128, by omega⟩) (scr (fun d => qs (ix2 r d)) K) (V · d) := by
  pointwise [k0_pay104]
  rw [h.acc, h.sum, upto_all (hall _)]
  exact att_eq_div _ _ _

/-! ### The window -/

theorem sgt_sub {a b : ℕ} (ha : a < 2 ^ 30) (hb : b < 2 ^ 30) :
    IntOp.cmpi .sgt (BitVec.ofNat 32 a) (IntOp.subi (BitVec.ofNat 32 b) 512#32) = if b < a + 512 then 1#1 else 0#1 := by
  rw [WordCmp.cmpi_sgt_eq, bool_ite]
  have h1 : (BitVec.ofNat 32 a).toInt = a := WordCmp.toInt_ofNat_of_lt (by omega)
  have h2 : (IntOp.subi (BitVec.ofNat 32 b) 512#32).toInt = (b : ℤ) - 512 := by
    show (BitVec.ofNat 32 b - 512#32).toInt = _
    rw [BitVec.toInt_sub, WordCmp.toInt_ofNat_of_lt (w := 32) (a := b) (by omega), show (512#32).toInt = 512 from rfl, Int.bmod_eq_of_le] <;> omega
  rw [h1, h2]
  congr 1
  simp only [eq_iff_iff]
  omega

section Win
variable (I : Fin 16) (v6 : IVec S128x1 32) (h6 : ∀ p : Fin 128, v6 (ix2 p 0) = BitVec.ofNat 32 (128 * I + p))
  (qs : FVec Ideal S1024x128 .bf16) (keys vals : FVec Ideal S640x128 .bf16) (K V : ℕ → Fin 128 → EReal)
  (hK : ∀ (c : Fin 640) d, keys (ix2 c d) = K (128 * I - 512 + c) d) (hV : ∀ (c : Fin 640) d, vals (ix2 c d) = V (128 * I - 512 + c) d)

theorem wbase : ∀ I : Fin 16, Scalar.minsi 1408#32 (Scalar.maxsi 0#32 (Scalar.subi (BitVec.ofNat 32 (128 * I)) 512#32)) = BitVec.ofNat 32 (128 * I - 512) := by
  decide

theorem wpos_at (c : Fin 640) : k0_pay105 (BitVec.ofNat 32 (128 * I)) (ix2 0 c) = BitVec.ofNat 32 (128 * I - 512 + c) := by
  pointwise [k0_pay105]
  rw [wbase, WordCmp.addi_ofNat]

include h6 in
theorem wmask_at (p : Fin 128) (c : Fin 640) :
    IntOp.andi (k0_pay106 (BitVec.ofNat 32 (128 * I)) v6 (ix2 p c))
      (IntOp.cmpi .sgt (k0_pay105 (BitVec.ofNat 32 (128 * I)) (ix2 0 c)) (k0_pay107 v6 (ix2 p 0)))
      = if 128 * (I : ℕ) - 512 + c ∈ SW (128 * I + p) then 1#1 else 0#1 := by
  rw [show k0_pay106 (BitVec.ofNat 32 (128 * I)) v6 (ix2 p c) = IntOp.cmpi .sle (k0_pay105 (BitVec.ofNat 32 (128 * I)) (ix2 0 c)) (v6 (ix2 p 0)) from by
    pointwise [k0_pay106], show k0_pay107 v6 (ix2 p 0) = IntOp.subi (v6 (ix2 p 0)) 512#32 from by pointwise [k0_pay107],
    wpos_at, h6, sle_nat (by omega) (by omega), sgt_sub (by omega) (by omega), and_ite]
  congr 1
  simp only [SW, Finset.mem_filter, Finset.mem_range, eq_iff_iff]
  omega

include h6 hK hV in
theorem pay108_at (r : Fin 1024) (d : Fin 128) :
    k0_pay108 qs keys vals (k0_pay105 (BitVec.ofNat 32 (128 * I))) (k0_pay106 (BitVec.ofNat 32 (128 * I)) v6) (k0_pay107 v6) (ix2 r d)
      = att (SW (128 * I + r % 128)) (scr (fun d => qs (ix2 r d)) K) (V · d) := by
  have hm := wmask_at I v6 h6
  generalize k0_pay105 (BitVec.ofNat 32 (128 * I)) = a at *
  generalize k0_pay106 (BitVec.ofNat 32 (128 * I)) v6 = b at *
  generalize k0_pay107 v6 = e at *
  have hr : (r : ℕ) / 128 * 128 + r % 128 = r := by omega
  pointwise [k0_pay108]
  simp only [hm, named_bot, ninf, hr, Fin.eta]
  exact att_row (fun c : Fin 640 => 128 * (I : ℕ) - 512 + c) (fun a b h => Fin.ext (by simp only at h; omega)) (SW (128 * I + r % 128))
    (fun n hn => by
      simp only [SW, Finset.mem_filter, Finset.mem_range] at hn
      exact ⟨⟨n - (128 * I - 512), by omega⟩, by simp only; omega⟩)
    (scr (fun d => qs (ix2 r d)) K) _ _ (fun c => rfl) (fun c _ => by simp only [hK]; rfl) (V · d) _ (fun c _ => hV c d)

end Win

end Cert.KernelIdeal.Val

end
-- ==== Proof.KLoop.lean ====
/- The loops over the selected keys: the state they leave. -/
module

public import proofs.«01_k».proof.Proof.Run
public import proofs.«01_k».proof.Proof.KStep
public import Idealize.ShloMosaic.Lib.VecWindow

@[expose] public section

set_option maxRecDepth 16384

noncomputable section

namespace Cert.KernelIdeal.Val

open Cert.KernelIdeal Cert.KernelIdeal.Gen Cert.Nsa
open Idealize.ShloMosaic Idealize.ShloMosaic.TcCoe Idealize.ShloMosaic.View
open scoped BigOperators

/-- A point at the tile `a`. -/
def pt (a : Fin 16) : grid0.Coords := grid0.coords ⟨a, by rw [N_0]; omega⟩
theorem pt_val (a : Fin 16) : (pt a 1).val = a := by
  have : ∀ a : Fin 16, (pt a 1).val = a := by decide +kernel
  exact this a
/-- At most eight trips. -/
theorem trips_t1 (i : grid0.Coords) : Scf.trips (k0_t1_loop i).lb (k0_t1_loop i).ub (k0_t1_loop i).st ≤ 8 := by
  have h : ∀ a : Fin 16, Scf.trips (k0_t1_loop (pt a)).lb (k0_t1_loop (pt a)).ub (k0_t1_loop (pt a)).st ≤ 8 := by decide +kernel
  have e : k0_t1_loop i = k0_t1_loop (pt ⟨(i 1).val, (i 1).isLt⟩) := by
    unfold k0_t1_loop
    rw [pt_val]
  rw [e]
  exact h _
/-- The trips reach every position of the tile. -/
theorem reach_t1 (i : grid0.Coords) : 128 * (i 1).val + 128 ≤ 256 * Scf.trips (k0_t1_loop i).lb (k0_t1_loop i).ub (k0_t1_loop i).st := by
  have h : ∀ a : Fin 16, 128 * (a : ℕ) + 128 ≤ 256 * Scf.trips (k0_t1_loop (pt a)).lb (k0_t1_loop (pt a)).ub (k0_t1_loop (pt a)).st := by decide +kernel
  have e : k0_t1_loop i = k0_t1_loop (pt ⟨(i 1).val, (i 1).isLt⟩) := by
    unfold k0_t1_loop
    rw [pt_val]
  rw [e]
  exact h _
/-- The chunk is a whole number of positions: no trip is left over. -/
theorem trips_t2 (i : grid0.Coords) : Scf.trips (k0_t2_loop i).lb (k0_t2_loop i).ub (k0_t2_loop i).st = 0 := by
  have h : ∀ a : Fin 16, Scf.trips (k0_t2_loop (pt a)).lb (k0_t2_loop (pt a)).ub (k0_t2_loop (pt a)).st = 0 := by decide +kernel
  have e : k0_t2_loop i = k0_t2_loop (pt ⟨(i 1).val, (i 1).isLt⟩) := by
    unfold k0_t2_loop
    rw [pt_val]
  rw [e]
  exact h _
/-- At most eight trips. -/
theorem trips_t3 (i : grid0.Coords) : Scf.trips (k0_t3_loop i).lb (k0_t3_loop i).ub (k0_t3_loop i).st ≤ 8 := by
  have h : ∀ a : Fin 16, Scf.trips (k0_t3_loop (pt a)).lb (k0_t3_loop (pt a)).ub (k0_t3_loop (pt a)).st ≤ 8 := by decide +kernel
  have e : k0_t3_loop i = k0_t3_loop (pt ⟨(i 1).val, (i 1).isLt⟩) := by
    unfold k0_t3_loop
    rw [pt_val]
  rw [e]
  exact h _
/-- The trips reach every position of the tile. -/
theorem reach_t3 (i : grid0.Coords) : 128 * (i 1).val + 128 ≤ 256 * Scf.trips (k0_t3_loop i).lb (k0_t3_loop i).ub (k0_t3_loop i).st := by
  have h : ∀ a : Fin 16, 128 * (a : ℕ) + 128 ≤ 256 * Scf.trips (k0_t3_loop (pt a)).lb (k0_t3_loop (pt a)).ub (k0_t3_loop (pt a)).st := by decide +kernel
  have e : k0_t3_loop i = k0_t3_loop (pt ⟨(i 1).val, (i 1).isLt⟩) := by
    unfold k0_t3_loop
    rw [pt_val]
  rw [e]
  exact h _
/-- The chunk is a whole number of positions: no trip is left over. -/
theorem trips_t4 (i : grid0.Coords) : Scf.trips (k0_t4_loop i).lb (k0_t4_loop i).ub (k0_t4_loop i).st = 0 := by
  have h : ∀ a : Fin 16, Scf.trips (k0_t4_loop (pt a)).lb (k0_t4_loop (pt a)).ub (k0_t4_loop (pt a)).st = 0 := by decide +kernel
  have e : k0_t4_loop i = k0_t4_loop (pt ⟨(i 1).val, (i 1).isLt⟩) := by
    unfold k0_t4_loop
    rw [pt_val]
  rw [e]
  exact h _

section Loop1
variable (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
  (v3 : BitVec 32) (v6 : IVec S128x1 32) (v18 : FVec Ideal S1024x128 .bf16) (v571 : FVec Ideal S128x128 .bf16) (v587 c256_i32_130 v588 v593 : BitVec 32)
  (X : BufTy.Contents (Elt Ideal) arg8.view.ty) (G10 : BufTy.Contents (Elt Ideal) arg10.view.ty) (G11 : BufTy.Contents (Elt Ideal) arg11.view.ty) (G12 : BufTy.Contents (Elt Ideal) arg12.view.ty)
  (T : Fin 128 → ℕ) (hT : ∀ p, T p < 2048) (h6 : ∀ p, v6 (ix2 p 0) = BitVec.ofNat 32 (T p))
  (A : Fin 128 → Finset ℕ) (hsel : ∀ p j, v571 (ix2 p j) = if (j : ℕ) ∈ A p then 1 else 0) (K V : ℕ → Fin 128 → EReal)
  (hK : ∀ (k : Fin (k0_t1_loop i).trips) c d, arg8.view.readAt (Elt Ideal) (Rect.unit (s := S2048x512) (k0_off1 i k) S256x128.size (k0_off1_inb i k)).toLoadRect X (ix2 c d) = K (256 * k + c) d)
  (hV : ∀ (k : Fin (k0_t1_loop i).trips) c d, arg8.view.readAt (Elt Ideal) (Rect.unit (s := S2048x512) (k0_off2 i k) S256x128.size (k0_off2_inb i k)).toLoadRect X (ix2 c d) = V (256 * k + c) d)
  (h0 : StateAt v18 K V (fun p => keysOf (A p) (T p)) 0 (arg10.view.readAt (Elt Ideal) (Rect.unit (s := S1024x1) ![0, 0] S1024x1.size inb_S1024x1_S1024x1_0_0).toLoadRect G10) (arg11.view.readAt (Elt Ideal) (Rect.unit (s := S1024x1) ![0, 0] S1024x1.size inb_S1024x1_S1024x1_0_0).toLoadRect G11) (arg12.view.readAt (Elt Ideal) (Rect.unit (s := S1024x128) ![0, 0] S1024x128.size inb_S1024x128_S1024x128_0_0).toLoadRect G12))
include hT h6 hsel hK hV h0

/-- The state after `n` trips of loop 1. -/
theorem state_t1 (n : ℕ) (hn : n ≤ (k0_t1_loop i).trips) :
    StateAt v18 K V (fun p => keysOf (A p) (T p)) n
      (arg10.view.readAt (Elt Ideal) (Rect.unit (s := S1024x1) ![0, 0] S1024x1.size inb_S1024x1_S1024x1_0_0).toLoadRect (arg10.view.writes (Elt Ideal) G10 (pb_k0_t1 Variants.none c none i arg2 harg2 arg3 harg3 arg4 harg4 arg5 harg5 arg6 harg6 arg7 harg7 arg8 harg8 arg9 harg9 arg10 harg10 arg11 harg11 arg12 harg12 v3 v6 v18 v571 v587 c256_i32_130 v588 v593 X G10 G11 G12 n).1))
      (arg11.view.readAt (Elt Ideal) (Rect.unit (s := S1024x1) ![0, 0] S1024x1.size inb_S1024x1_S1024x1_0_0).toLoadRect (arg11.view.writes (Elt Ideal) G11 (pb_k0_t1 Variants.none c none i arg2 harg2 arg3 harg3 arg4 harg4 arg5 harg5 arg6 harg6 arg7 harg7 arg8 harg8 arg9 harg9 arg10 harg10 arg11 harg11 arg12 harg12 v3 v6 v18 v571 v587 c256_i32_130 v588 v593 X G10 G11 G12 n).2.1))
      (arg12.view.readAt (Elt Ideal) (Rect.unit (s := S1024x128) ![0, 0] S1024x128.size inb_S1024x128_S1024x128_0_0).toLoadRect (arg12.view.writes (Elt Ideal) G12 (pb_k0_t1 Variants.none c none i arg2 harg2 arg3 harg3 arg4 harg4 arg5 harg5 arg6 harg6 arg7 harg7 arg8 harg8 arg9 harg9 arg10 harg10 arg11 harg11 arg12 harg12 v3 v6 v18 v571 v587 c256_i32_130 v588 v593 X G10 G11 G12 n).2.2)) := by
  induction n with
  | zero => exact h0
  | succ n ih =>
    have h := ih (Nat.le_of_succ_le hn)
    have hk : n < 8 := Nat.lt_of_lt_of_le (Nat.lt_of_succ_le hn) (trips_t1 i)
    have e := pb_k0_t1_succ Variants.none c none i arg2 harg2 arg3 harg3 arg4 harg4 arg5 harg5 arg6 harg6 arg7 harg7 arg8 harg8 arg9 harg9 arg10 harg10 arg11 harg11 arg12 harg12 v3 v6 v18 v571 v587 c256_i32_130 v588 v593 X G10 G11 G12 ⟨n, hn⟩
    dsimp only at e
    rw [e]
    dsimp only
    rw [writes_append, writes_append, writes_append]
    unfold trip_k0_t1
    have h' := state_succ v18 i ⟨n, hn⟩ _ _ K V (hK ⟨n, hn⟩) (hV ⟨n, hn⟩) _ _ _ (fun p => keysOf (A p) (T p)) (fun p c => mask_at v6 T hT h6 v571 A hsel i ⟨n, hn⟩ hk p c) _ _ _ h
    convert h' using 1
    · exact readAt_writes_full _ _ inb_S1024x1_S1024x1_0_0 inb_S1024x1_S1024x1_0_0 _ _
    · exact readAt_writes_full _ _ inb_S1024x1_S1024x1_0_0 inb_S1024x1_S1024x1_0_0 _ _
    · exact readAt_writes_full _ _ inb_S1024x128_S1024x128_0_0 inb_S1024x128_S1024x128_0_0 _ _
end Loop1

section Loop3
variable (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
  (v3 : BitVec 32) (v6 : IVec S128x1 32) (v801 : FVec Ideal S1024x128 .bf16) (v1354 : FVec Ideal S128x128 .bf16) (v1370 c256_i32_336 v1371 v1376 v1378 v1380 : BitVec 32)
  (X : BufTy.Contents (Elt Ideal) arg8.view.ty) (G10 : BufTy.Contents (Elt Ideal) arg10.view.ty) (G11 : BufTy.Contents (Elt Ideal) arg11.view.ty) (G12 : BufTy.Contents (Elt Ideal) arg12.view.ty)
  (T : Fin 128 → ℕ) (hT : ∀ p, T p < 2048) (h6 : ∀ p, v6 (ix2 p 0) = BitVec.ofNat 32 (T p))
  (A : Fin 128 → Finset ℕ) (hsel : ∀ p j, v1354 (ix2 p j) = if (j : ℕ) ∈ A p then 1 else 0) (K V : ℕ → Fin 128 → EReal)
  (hK : ∀ (k : Fin (k0_t3_loop i).trips) c d, arg8.view.readAt (Elt Ideal) (Rect.unit (s := S2048x512) (k0_off7 i k) S256x128.size (k0_off7_inb i k)).toLoadRect X (ix2 c d) = K (256 * k + c) d)
  (hV : ∀ (k : Fin (k0_t3_loop i).trips) c d, arg8.view.readAt (Elt Ideal) (Rect.unit (s := S2048x512) (k0_off8 i k) S256x128.size (k0_off8_inb i k)).toLoadRect X (ix2 c d) = V (256 * k + c) d)
  (h0 : StateAt v801 K V (fun p => keysOf (A p) (T p)) 0 (arg10.view.readAt (Elt Ideal) (Rect.unit (s := S1024x1) ![0, 0] S1024x1.size inb_S1024x1_S1024x1_0_0).toLoadRect G10) (arg11.view.readAt (Elt Ideal) (Rect.unit (s := S1024x1) ![0, 0] S1024x1.size inb_S1024x1_S1024x1_0_0).toLoadRect G11) (arg12.view.readAt (Elt Ideal) (Rect.unit (s := S1024x128) ![0, 0] S1024x128.size inb_S1024x128_S1024x128_0_0).toLoadRect G12))
include hT h6 hsel hK hV h0

/-- The state after `n` trips of loop 3. -/
theorem state_t3 (n : ℕ) (hn : n ≤ (k0_t3_loop i).trips) :
    StateAt v801 K V (fun p => keysOf (A p) (T p)) n
      (arg10.view.readAt (Elt Ideal) (Rect.unit (s := S1024x1) ![0, 0] S1024x1.size inb_S1024x1_S1024x1_0_0).toLoadRect (arg10.view.writes (Elt Ideal) G10 (pb_k0_t3 Variants.none c none i arg2 harg2 arg3 harg3 arg4 harg4 arg5 harg5 arg6 harg6 arg7 harg7 arg8 harg8 arg9 harg9 arg10 harg10 arg11 harg11 arg12 harg12 v3 v6 v801 v1354 v1370 c256_i32_336 v1371 v1376 v1378 v1380 X G10 G11 G12 n).1))
      (arg11.view.readAt (Elt Ideal) (Rect.unit (s := S1024x1) ![0, 0] S1024x1.size inb_S1024x1_S1024x1_0_0).toLoadRect (arg11.view.writes (Elt Ideal) G11 (pb_k0_t3 Variants.none c none i arg2 harg2 arg3 harg3 arg4 harg4 arg5 harg5 arg6 harg6 arg7 harg7 arg8 harg8 arg9 harg9 arg10 harg10 arg11 harg11 arg12 harg12 v3 v6 v801 v1354 v1370 c256_i32_336 v1371 v1376 v1378 v1380 X G10 G11 G12 n).2.1))
      (arg12.view.readAt (Elt Ideal) (Rect.unit (s := S1024x128) ![0, 0] S1024x128.size inb_S1024x128_S1024x128_0_0).toLoadRect (arg12.view.writes (Elt Ideal) G12 (pb_k0_t3 Variants.none c none i arg2 harg2 arg3 harg3 arg4 harg4 arg5 harg5 arg6 harg6 arg7 harg7 arg8 harg8 arg9 harg9 arg10 harg10 arg11 harg11 arg12 harg12 v3 v6 v801 v1354 v1370 c256_i32_336 v1371 v1376 v1378 v1380 X G10 G11 G12 n).2.2)) := by
  induction n with
  | zero => exact h0
  | succ n ih =>
    have h := ih (Nat.le_of_succ_le hn)
    have hk : n < 8 := Nat.lt_of_lt_of_le (Nat.lt_of_succ_le hn) (trips_t3 i)
    have e := pb_k0_t3_succ Variants.none c none i arg2 harg2 arg3 harg3 arg4 harg4 arg5 harg5 arg6 harg6 arg7 harg7 arg8 harg8 arg9 harg9 arg10 harg10 arg11 harg11 arg12 harg12 v3 v6 v801 v1354 v1370 c256_i32_336 v1371 v1376 v1378 v1380 X G10 G11 G12 ⟨n, hn⟩
    dsimp only at e
    rw [e]
    dsimp only
    rw [writes_append, writes_append, writes_append]
    unfold trip_k0_t3
    have h' := state_succ v801 i ⟨n, hn⟩ _ _ K V (hK ⟨n, hn⟩) (hV ⟨n, hn⟩) _ _ _ (fun p => keysOf (A p) (T p)) (fun p c => mask_at v6 T hT h6 v1354 A hsel i ⟨n, hn⟩ hk p c) _ _ _ h
    convert h' using 1
    · exact readAt_writes_full _ _ inb_S1024x1_S1024x1_0_0 inb_S1024x1_S1024x1_0_0 _ _
    · exact readAt_writes_full _ _ inb_S1024x1_S1024x1_0_0 inb_S1024x1_S1024x1_0_0 _ _
    · exact readAt_writes_full _ _ inb_S1024x128_S1024x128_0_0 inb_S1024x128_S1024x128_0_0 _ _
end Loop3

end Cert.KernelIdeal.Val

end
-- ==== Proof.Whole.lean ====
/- The result array of the attention over the extended reals, from the array of the projections and the array of the
   compressed keys and values. -/
module

public import proofs.«01_k».proof.Proof.Spec
public import Idealize.ShloMosaic.Lib.Pointwise

@[expose] public section

noncomputable section

namespace Cert.Nsa

open Idealize.ShloMosaic
open scoped BigOperators

/-- The queries of the heads of a group at a row of the projections. -/
def qOf (X : ℕ → ℕ → EReal) (kv t : ℕ) (g : Fin 8) (d : Fin 128) : EReal := X t (1024 * kv + 128 * g + d)
/-- The keys or values of a group: the columns from `o`. -/
def kvOf (X : ℕ → ℕ → EReal) (o kv n : ℕ) (d : Fin 128) : EReal := X n (o + 128 * kv + d)
/-- The compressed keys or values in a slot. -/
def cOf (C : ℕ → ℕ → ℕ → EReal) (s n : ℕ) (d : Fin 128) : EReal := C s n d
/-- A gate: the branch's column of a head. -/
def gateOf (X : ℕ → ℕ → EReal) (br h t : ℕ) : EReal := Ideal.logistic (X t (3584 + 16 * br + h))
/-- The output of one head at a row, from the rows of its batch. -/
def rowOut (X : ℕ → ℕ → EReal) (C : ℕ → ℕ → ℕ → EReal) (t kv : ℕ) (g : Fin 8) (d : Fin 128) : EReal :=
  out t (qOf X kv t) (cOf C kv) (cOf C (2 + kv)) (kvOf X 2560 kv) (kvOf X 2816 kv) (kvOf X 3072 kv) (kvOf X 3328 kv)
    (gateOf X 0 (8 * kv + g) t) (gateOf X 1 (8 * kv + g) t) (gateOf X 2 (8 * kv + g) t) g d

/-- The rows of a batch of the projections. -/
def rows (A : (⟨2, ![8192, 8192]⟩ : Shape).Idx → EReal) (b n c : ℕ) : EReal :=
  if h : 2048 * b + n < 8192 ∧ c < 8192 then A (ix2 ⟨2048 * b + n, h.1⟩ ⟨c, h.2⟩) else 0
/-- The compressed keys and values of a batch. -/
def slots (B : (⟨4, ![4, 4, 128, 128]⟩ : Shape).Idx → EReal) (b s n d : ℕ) : EReal :=
  if h : b < 4 ∧ s < 4 ∧ n < 128 ∧ d < 128 then B (ix4 ⟨b, h.1⟩ ⟨s, h.2.1⟩ ⟨n, h.2.2.1⟩ ⟨d, h.2.2.2⟩) else 0
theorem rows_at (A : (⟨2, ![8192, 8192]⟩ : Shape).Idx → EReal) (b n c : ℕ) (r k : Fin 8192) (hr : (r : ℕ) = 2048 * b + n) (hk : (k : ℕ) = c) : A (ix2 r k) = rows A b n c := by
  unfold rows
  rw [dif_pos ⟨hr ▸ r.2, hk ▸ k.2⟩]
  congr 2
  · exact Fin.ext hr
  · exact Fin.ext hk
theorem slots_at (B : (⟨4, ![4, 4, 128, 128]⟩ : Shape).Idx → EReal) (b s n d : ℕ) (b' s' : Fin 4) (n' d' : Fin 128) (h0 : (b' : ℕ) = b) (h1 : (s' : ℕ) = s) (h2 : (n' : ℕ) = n) (h3 : (d' : ℕ) = d) :
    B (ix4 b' s' n' d') = slots B b s n d := by
  subst h0 h1 h2 h3
  unfold slots
  rw [dif_pos ⟨b'.2, s'.2, n'.2, d'.2⟩]

/-- The result array: row `2048 b + t`, column `1024 kv + 128 g + d`. -/
def attn (A : (⟨2, ![8192, 8192]⟩ : Shape).Idx → EReal) (B : (⟨4, ![4, 4, 128, 128]⟩ : Shape).Idx → EReal) (y : (⟨2, ![8192, 2048]⟩ : Shape).Idx) : EReal :=
  rowOut (rows A ((y 0).val / 2048)) (slots B ((y 0).val / 2048)) ((y 0).val % 2048) ((y 1).val / 1024) ⟨(y 1).val % 1024 / 128, by omega⟩ ⟨(y 1).val % 128, by omega⟩

end Cert.Nsa

end
-- ==== Proof.KHead.lean ====
/- The three branches of one group of heads at a tile, from the tile's position and the rows that its blocks hold. -/
module

public import proofs.«01_k».proof.Proof.KLoop
public import proofs.«01_k».proof.Proof.Whole

@[expose] public section

set_option maxRecDepth 16384

noncomputable section

namespace Cert.KernelIdeal.Val

open Cert.KernelIdeal Cert.KernelIdeal.Gen Cert.Nsa
open Idealize.ShloMosaic Idealize.ShloMosaic.TcCoe Idealize.ShloMosaic.View
open scoped BigOperators

/-- Eight blocks of rows under each other. -/
theorem qs_at (a0 a1 a2 a3 a4 a5 a6 a7 : Vec Ideal S128x128 .f32) (W : ℕ → ℕ → ℕ → EReal)
    (h0 : ∀ p d : Fin 128, a0 (ix2 p d) = W 0 p d) (h1 : ∀ p d : Fin 128, a1 (ix2 p d) = W 1 p d) (h2 : ∀ p d : Fin 128, a2 (ix2 p d) = W 2 p d)
    (h3 : ∀ p d : Fin 128, a3 (ix2 p d) = W 3 p d) (h4 : ∀ p d : Fin 128, a4 (ix2 p d) = W 4 p d) (h5 : ∀ p d : Fin 128, a5 (ix2 p d) = W 5 p d)
    (h6 : ∀ p d : Fin 128, a6 (ix2 p d) = W 6 p d) (h7 : ∀ p d : Fin 128, a7 (ix2 p d) = W 7 p d) (r : Fin 1024) (d : Fin 128) :
    k0_pay54 a0 a1 a2 a3 a4 a5 a6 a7 (ix2 r d) = W (r / 128) (r % 128) d := by
  pointwise [k0_pay54]
  simp only [h0, h1, h2, h3, h4, h5, h6, h7]
  have key : ∀ g p : ℕ, (r : ℕ) = 128 * g + p → p < 128 → W g p d = W (r / 128) (r % 128) d := fun g p h h' => by
    rw [show (r : ℕ) / 128 = g by omega, show (r : ℕ) % 128 = p by omega]
  split_ifs
  all_goals exact key _ _ (by omega) (by omega)

/-- The head of a stacked row. -/
def grp (r : Fin 1024) : Fin 8 := ⟨(r : ℕ) / 128, by omega⟩

section Head
variable (I : Fin 16) (v6 : IVec S128x1 32) (h6 : ∀ p, v6 (ix2 p 0) = BitVec.ofNat 32 (128 * I + p))
  (X : ℕ → ℕ → EReal) (C : ℕ → ℕ → ℕ → EReal) (kv : ℕ)
  (qs : FVec Ideal S1024x128 .bf16) (kc vc : FVec Ideal S128x128 .bf16)
  (hq : ∀ (r : Fin 1024) d, qs (ix2 r d) = qOf X kv (128 * I + r % 128) (grp r) d)
  (hkc : ∀ (c d : Fin 128), kc (ix2 c d) = cOf C kv c d) (hvc : ∀ (c d : Fin 128), vc (ix2 c d) = cOf C (2 + kv) c d)

theorem tile_lt (p : Fin 128) : 128 * (I : ℕ) + p < 2048 := by omega

include hq in
theorem q_row (r : Fin 1024) : (fun d => qs (ix2 r d)) = qOf X kv (128 * I + r % 128) (grp r) := funext fun d => hq r d
include hq in
theorem q_head (p : Fin 128) : (fun (g : Fin 8) (d : Fin 128) => qs (ix2 (row g p) d)) = qOf X kv (128 * I + p) := by
  funext g d
  rw [hq]
  have h1 : ((row g p : Fin 1024) : ℕ) % 128 = p := by unfold row; simp only; omega
  have h2 : (grp (row g p) : Fin 8) = g := Fin.ext (by unfold grp row; simp only; omega)
  rw [h1, h2]

include h6 hq hkc hvc in
/-- The compressed branch. -/
theorem oc_at (r : Fin 1024) (d : Fin 128) :
    k0_pay59 v6 qs kc vc l1 k0_pay57 (ix2 r d)
      = att (SC (128 * I + r % 128)) (scr (qOf X kv (128 * I + r % 128) (grp r)) (cOf C kv)) (cOf C (2 + kv) · d) := by
  rw [pay59_at v6 (fun p => 128 * I + p) (tile_lt I) h6 qs kc vc (cOf C kv) (cOf C (2 + kv)) hkc hvc, q_row I X kv qs hq]

include h6 hq hkc in
/-- The selected blocks. -/
theorem sel_at (p j : Fin 128) :
    selOf (k0_pay63 (k0_pay60 v6 qs kc l1 k0_pay57) k0_pay61 k0_pay62) (k0_pay64 v6) (ix2 p j)
      = if (j : ℕ) ∈ Sel (score (128 * I + p) (qOf X kv (128 * I + p)) (cOf C kv)) then (1 : EReal) else 0 := by
  refine selOf_at _ _ p j _ fun i hi => ?_
  rw [pay67_at v6 (fun p => 128 * I + p) (tile_lt I) h6 _ p i hi (imp (128 * I + p) (qOf X kv (128 * I + p)) (cOf C kv)) fun j => ?_]
  · rfl
  · rw [pay63_at v6 (fun p => 128 * I + p) (tile_lt I) h6 qs kc (cOf C kv) hkc, q_head I X kv qs hq]

include h6 hq in
/-- The window branch. -/
theorem ow_at (keys vals : FVec Ideal S640x128 .bf16) (hk : ∀ (c : Fin 640) d, keys (ix2 c d) = kvOf X 3072 kv (128 * I - 512 + c) d)
    (hv : ∀ (c : Fin 640) d, vals (ix2 c d) = kvOf X 3328 kv (128 * I - 512 + c) d) (r : Fin 1024) (d : Fin 128) :
    k0_pay108 qs keys vals (k0_pay105 (BitVec.ofNat 32 (128 * I))) (k0_pay106 (BitVec.ofNat 32 (128 * I)) v6) (k0_pay107 v6) (ix2 r d)
      = att (SW (128 * I + r % 128)) (scr (qOf X kv (128 * I + r % 128) (grp r)) (kvOf X 3072 kv)) (kvOf X 3328 kv · d) := by
  rw [pay108_at I v6 h6 qs keys vals (kvOf X 3072 kv) (kvOf X 3328 kv) hk hv, q_row I X kv qs hq]

include hq in
/-- The selected branch, from the state at the loop's end. -/
theorem os_at (M L : FVec Ideal S1024x1 .f32) (acc : FVec Ideal S1024x128 .f32) (n : ℕ) (hn : 128 * (I : ℕ) + 128 ≤ 256 * n)
    (h : StateAt qs (kvOf X 2560 kv) (kvOf X 2816 kv) (fun p => keysOf (Sel (score (128 * I + p) (qOf X kv (128 * I + p)) (cOf C kv))) (128 * I + p)) n M L acc)
    (r : Fin 1024) (d : Fin 128) :
    k0_pay104 (F := Ideal) acc L (ix2 r d)
      = att (SS (128 * I + r % 128) (qOf X kv (128 * I + r % 128)) (cOf C kv))
          (scr (qOf X kv (128 * I + r % 128) (grp r)) (kvOf X 2560 kv)) (kvOf X 2816 kv · d) := by
  rw [state_end qs _ _ _ M L acc n h (fun p m hm => by
    have := (Finset.mem_filter.1 hm).2.2
    omega), q_row I X kv qs hq]
  rfl
end Head

/-! ### The blocks' loads -/

/-- A load of a rectangle of a block held whole. -/
theorem load_at {e : EltTy} {m n a b : ℕ} {M : Memref sig .tc .vmem (⟨2, ![m, n]⟩ : Shape) e} (h : M.IsWhole) (x : Vec Ideal (⟨2, ![m, n]⟩ : Shape) e)
    (Y : ℕ → ℕ → Elt Ideal e) (hY : ∀ (r : Fin m) (c : Fin n), x (ix2 r c) = Y r c) (o : Fin 2 → ℕ) (hb) (o0 o1 : ℕ) (h0 : o 0 = o0) (h1 : o 1 = o1) (r : Fin a) (c : Fin b) :
    M.view.readAt (Elt Ideal) (Rect.unit (s := (⟨2, ![m, n]⟩ : Shape)) o ![a, b] hb).toLoadRect (h.unread x) (ix2 r c) = Y (o0 + r) (o1 + c) := by
  rw [h.readAt_unread]
  subst h0 h1
  have e0 := hb 0
  have e1 := hb 1
  have e : (Rect.unit (s := (⟨2, ![m, n]⟩ : Shape)) o ![a, b] hb).emb (ix2 r c) = ix2 ⟨o 0 + r, Nat.lt_of_lt_of_le (Nat.add_lt_add_left r.2 _) e0⟩ ⟨o 1 + c, Nat.lt_of_lt_of_le (Nat.add_lt_add_left c.2 _) e1⟩ := by
    funext k
    refine Fin.ext ?_
    fin_cases k
    · show o 0 + 1 * (r : ℕ) = o 0 + r
      omega
    · show o 1 + 1 * (c : ℕ) = o 1 + c
      omega
  exact (congrArg x e).trans (hY _ _)

theorem iv_val (k : ℕ) (hk : k < 8) : (Scalar.indexCast (Scalar.muli (Scf.iv 0#32 1#32 k) 256#32) : Index).toNat = 256 * k := by
  have : ∀ k : Fin 8, (Scalar.indexCast (Scalar.muli (Scf.iv 0#32 1#32 (k : ℕ)) 256#32) : Index).toNat = 256 * k := by decide +kernel
  exact this ⟨k, hk⟩
theorem wb_val (i : Fin 16) : (Scalar.indexCast (Scalar.minsi 1408#32 (Scalar.maxsi 0#32 (Scalar.subi (Scalar.muli (BitVec.ofNat 32 i) 128#32) 512#32))) : Index).toNat = 128 * i - 512 := by
  have : ∀ i : Fin 16, (Scalar.indexCast (Scalar.minsi 1408#32 (Scalar.maxsi 0#32 (Scalar.subi (Scalar.muli (BitVec.ofNat 32 i) 128#32) 512#32))) : Index).toNat = 128 * i - 512 := by decide +kernel
  exact this i

theorem off1 (i : grid0.Coords) (k : Fin (k0_t1_loop i).trips) : k0_off1 i k 0 = 256 * k ∧ k0_off1 i k 1 = 0 :=
  ⟨iv_val k (Nat.lt_of_lt_of_le k.2 (trips_t1 i)), rfl⟩
theorem off2 (i : grid0.Coords) (k : Fin (k0_t1_loop i).trips) : k0_off2 i k 0 = 256 * k ∧ k0_off2 i k 1 = 256 :=
  ⟨iv_val k (Nat.lt_of_lt_of_le k.2 (trips_t1 i)), rfl⟩
theorem off7 (i : grid0.Coords) (k : Fin (k0_t3_loop i).trips) : k0_off7 i k 0 = 256 * k ∧ k0_off7 i k 1 = 128 :=
  ⟨iv_val k (Nat.lt_of_lt_of_le k.2 (trips_t3 i)), rfl⟩
theorem off8 (i : grid0.Coords) (k : Fin (k0_t3_loop i).trips) : k0_off8 i k 0 = 256 * k ∧ k0_off8 i k 1 = 384 :=
  ⟨iv_val k (Nat.lt_of_lt_of_le k.2 (trips_t3 i)), rfl⟩
theorem off5 (i : grid0.Coords) : k0_off5 i 0 = 128 * (i 1).val - 512 ∧ k0_off5 i 1 = 0 := ⟨wb_val (i 1), rfl⟩
theorem off6 (i : grid0.Coords) : k0_off6 i 0 = 128 * (i 1).val - 512 ∧ k0_off6 i 1 = 256 := ⟨wb_val (i 1), rfl⟩
theorem off11 (i : grid0.Coords) : k0_off11 i 0 = 128 * (i 1).val - 512 ∧ k0_off11 i 1 = 128 := ⟨wb_val (i 1), rfl⟩
theorem off12 (i : grid0.Coords) : k0_off12 i 0 = 128 * (i 1).val - 512 ∧ k0_off12 i 1 = 384 := ⟨wb_val (i 1), rfl⟩

/-- The rows of the tile. -/
theorem pay52_at (i : grid0.Coords) (p : Fin 128) : k0_pay52 i (ix2 p 0) = BitVec.ofNat 32 (128 * (i 1).val + p) := by
  pointwise [k0_pay52]
  rw [mul_comm 128]
  exact (congrArg (IntOp.addi · _) (WordCmp.muli_ofNat _ _)).trans (WordCmp.addi_ofNat _ _)
theorem v3_val (i : grid0.Coords) : Scalar.muli (BitVec.ofNat 32 (i 1).val) 128#32 = BitVec.ofNat 32 (128 * (i 1).val) := by
  rw [mul_comm 128]
  exact WordCmp.muli_ofNat _ _

end Cert.KernelIdeal.Val

end
-- ==== Proof.KMix.lean ====
/- The heads' columns of the output tile: each is the gated sum of its three branches. -/
module

public import proofs.«01_k».proof.Proof.KHead

@[expose] public section

set_option maxRecDepth 16384

noncomputable section

namespace Cert.KernelIdeal.Val

open Cert.KernelIdeal Cert.KernelIdeal.Gen Cert.Nsa
open Idealize.ShloMosaic Idealize.ShloMosaic.TcCoe Idealize.ShloMosaic.View

/-- The gated sum of the three branches of a head, at a row of the tile; `h` is the head's gate column and `g` its place in its group. -/
def mix (G : FVec Ideal S128x128 .f32) (oc os ow : FVec Ideal S1024x128 .f32) (h : ℕ) (hh : h < 16) (g : Fin 8) (p d : Fin 128) : EReal :=
  G (ix2 p ⟨h, by omega⟩) * oc (ix2 (row g p) d) + G (ix2 p ⟨16 + h, by omega⟩) * os (ix2 (row g p) d) + G (ix2 p ⟨32 + h, by omega⟩) * ow (ix2 (row g p) d)

variable {G : FVec Ideal S128x128 .f32} {oc os ow : FVec Ideal S1024x128 .f32} {p d : Fin 128}

theorem gates_at (x1 : Vec Ideal S128x128 .f32) (p k : Fin 128) : k0_pay53 x1 (ix2 p k) = Ideal.logistic (x1 (ix2 p k)) := by
  pointwise [k0_pay53]
theorem mix0_at {qs : FVec Ideal S1024x128 .bf16} {k v : Vec Ideal S640x128 .bf16} {a b w} : k0_pay109 G qs oc os k v a b w (ix2 p d) = mix G oc os (k0_pay108 qs k v a b w) 0 (by decide) 0 p d := by
  pointwise [k0_pay109]
  have e : row 0 p = ⟨p, by omega⟩ := Fin.ext (by simp)
  unfold mix
  rw [e]
  rfl
theorem mix1_at  : k0_pay112 G os ow (k0_pay110 G) (k0_pay111 oc) (ix2 p d) = mix G oc os ow 1 (by decide) 1 p d := by
  pointwise [k0_pay112, k0_pay110, k0_pay111]
  rfl
theorem mix2_at  : k0_pay113 G oc os ow (ix2 p d) = mix G oc os ow 2 (by decide) 2 p d := by
  pointwise [k0_pay113]
  rfl
theorem mix3_at  : k0_pay114 G oc os ow (ix2 p d) = mix G oc os ow 3 (by decide) 3 p d := by
  pointwise [k0_pay114]
  rfl
theorem mix4_at  : k0_pay117 G os ow (k0_pay115 G oc) (k0_pay116 G) (ix2 p d) = mix G oc os ow 4 (by decide) 4 p d := by
  pointwise [k0_pay117, k0_pay115, k0_pay116]
  rfl
theorem mix5_at  : k0_pay118 G oc os ow (ix2 p d) = mix G oc os ow 5 (by decide) 5 p d := by
  pointwise [k0_pay118]
  rfl
theorem mix6_at  : k0_pay119 G oc os ow (ix2 p d) = mix G oc os ow 6 (by decide) 6 p d := by
  pointwise [k0_pay119]
  rfl
theorem mix7_at  : k0_pay122 G ow (k0_pay120 G oc) (k0_pay121 G os) (ix2 p d) = mix G oc os ow 7 (by decide) 7 p d := by
  pointwise [k0_pay122, k0_pay120, k0_pay121]
  rfl
theorem mix8_at {k : Vec Ideal S640x128 .bf16} {a : IVec S128x640 1} {b : FVec Ideal S1024x640 .f32} : k0_pay177 G oc os k a b (ix2 p d) = mix G oc os (k0_pay176 k a b) 8 (by decide) 0 p d := by
  pointwise [k0_pay177]
  have e : row 0 p = ⟨p, by omega⟩ := Fin.ext (by simp)
  unfold mix
  rw [e]
  rfl
theorem mix9_at  : k0_pay180 G ow (k0_pay178 G oc) (k0_pay179 G os) (ix2 p d) = mix G oc os ow 9 (by decide) 1 p d := by
  pointwise [k0_pay180, k0_pay178, k0_pay179]
  rfl
theorem mix10_at  : k0_pay181 G oc os ow (ix2 p d) = mix G oc os ow 10 (by decide) 2 p d := by
  pointwise [k0_pay181]
  rfl
theorem mix11_at  : k0_pay182 G oc os ow (ix2 p d) = mix G oc os ow 11 (by decide) 3 p d := by
  pointwise [k0_pay182]
  rfl
theorem mix12_at  : k0_pay186 (k0_pay183 G oc os) (k0_pay184 G) (k0_pay185 ow) (ix2 p d) = mix G oc os ow 12 (by decide) 4 p d := by
  pointwise [k0_pay186, k0_pay183, k0_pay184, k0_pay185]
  rfl
theorem mix13_at  : k0_pay187 G oc os ow (ix2 p d) = mix G oc os ow 13 (by decide) 5 p d := by
  pointwise [k0_pay187]
  rfl
theorem mix14_at  : k0_pay188 G oc os ow (ix2 p d) = mix G oc os ow 14 (by decide) 6 p d := by
  pointwise [k0_pay188]
  rfl
theorem mix15_at  : k0_pay1 (k0_pay189 G oc os ow) (ix2 p d) = mix G oc os ow 15 (by decide) 7 p d := by
  pointwise [k0_pay1, k0_pay189]
  rfl

end Cert.KernelIdeal.Val

end
-- ==== Proof.KVal.lean ====
/- The values that the run of the body finds: the three branches of both groups of heads at a tile. -/
module

public import proofs.«01_k».proof.Proof.KMix
public import proofs.«01_k».proof.Proof.Frame
public import Idealize.ShloMosaic.Lib.Pipeline.ReadBack

@[expose] public section

set_option maxRecDepth 16384

noncomputable section

namespace Cert.KernelIdeal.Val

open Cert.KernelIdeal Cert.KernelIdeal.Gen Cert.Nsa Cert.KernelIdeal.Run
open Idealize.ShloMosaic Idealize.ShloMosaic.TcCoe Idealize.ShloMosaic.View
open scoped BigOperators

/-- What a run that wrote `H`, then `T1`, then nothing more leaves. -/
theorem readCov_two {s : Shape} {e : EltTy} (v : View sig .tc .vmem s e) (T2 T1 H : List (View.Piece (Elt Ideal) s e)) (B : LoadRect s) (h : T2 = []) :
    v.readCov (T2 ++ (T1 ++ H)) B = v.readAt (Elt Ideal) B (v.writes (Elt Ideal) (v.writes (Elt Ideal) v.junk H) T1) := by
  subst h
  exact congrArg (v.readAt (Elt Ideal) B) (writes_append (Val := Elt Ideal) v v.junk T1 H)

section
variable (c : Dev nD) (i : grid0.Coords) (arg2 : Memref sig .tc .vmem S128x2048 .f32) (harg2 : arg2.IsWhole) (arg3 : Memref sig .tc .vmem S128x128 .f32) (harg3 : arg3.IsWhole) (arg4 : Memref sig .tc .vmem S1x4x128x128 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S128x2048 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole)
  (x0 : Vec Ideal S128x2048 .f32) (x1 : Vec Ideal S128x128 .f32) (x2 : Vec Ideal S1x4x128x128 .f32) (xs0 xs1 : Vec Ideal S2048x512 .bf16)
  (X : ℕ → ℕ → EReal) (C : ℕ → ℕ → ℕ → EReal)
  (h0 : ∀ (p : Fin 128) (k : Fin 2048), x0 (ix2 p k) = X (128 * (i 1).val + p) k)
  (h1 : ∀ p k : Fin 128, x1 (ix2 p k) = X (128 * (i 1).val + p) (3584 + k))
  (h2 : ∀ (s : Fin 4) (n d : Fin 128), x2 (ix4 0 s n d) = C s n d)
  (hs0 : ∀ (n : Fin 2048) (k : Fin 512), xs0 (ix2 n k) = X n (2560 + k))
  (hs1 : ∀ (n : Fin 2048) (k : Fin 512), xs1 (ix2 n k) = X n (3072 + k))

/-- The tile. -/
abbrev tl : Fin 16 := ⟨(i 1).val, (i 1).isLt⟩

include h0 in
theorem cols_at (o : ℕ) (h) (g kv : ℕ) (ho : o = 1024 * kv + 128 * g) (p d : Fin 128) : cols ![0, o] h x0 (ix2 p d) = X (128 * (i 1).val + p) (1024 * kv + 128 * g + d) := by
  subst ho
  have hb := h 1
  have e : (Rect.unit (s := S128x2048) ![0, 1024 * kv + 128 * g] S128x128.size h).emb (ix2 p d) = ix2 p ⟨1024 * kv + 128 * g + d, Nat.lt_of_lt_of_le (Nat.add_lt_add_left d.2 _) hb⟩ := by
    funext k
    refine Fin.ext ?_
    fin_cases k
    · show 0 + 1 * (p : ℕ) = p
      omega
    · show 1024 * kv + 128 * g + 1 * (d : ℕ) = 1024 * kv + 128 * g + d
      omega
  exact (congrArg x0 e).trans (h0 _ _)

include h2 in
theorem slot_at (o : ℕ) (h) (n d : Fin 128) : slot ![0, o, 0, 0] h x2 (ix4 0 0 n d) = C o n d := by
  have hb := h 1
  have e : (Rect.unit (s := S1x4x128x128) ![0, o, 0, 0] S1x1x128x128.size h).emb (ix4 0 0 n d) = ix4 0 ⟨o, hb⟩ n d := by
    funext k
    refine Fin.ext ?_
    fin_cases k
    · rfl
    · show o + 1 * 0 = o
      omega
    · show 0 + 1 * (n : ℕ) = n
      omega
    · show 0 + 1 * (d : ℕ) = d
      omega
  exact (congrArg x2 e).trans (h2 _ _ _)

include h0 in
theorem qs0_at (r : Fin 1024) (d : Fin 128) : (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (ix2 r d) = qOf X 0 (128 * (i 1).val + r % 128) (grp r) d :=
  qs_at _ _ _ _ _ _ _ _ (fun g p d => X (128 * (i 1).val + p) (1024 * 0 + 128 * g + d)) (cols_at i x0 X h0 0 _ 0 0 rfl) (cols_at i x0 X h0 _ _ 1 0 rfl) (cols_at i x0 X h0 _ _ 2 0 rfl)
    (cols_at i x0 X h0 _ _ 3 0 rfl) (cols_at i x0 X h0 _ _ 4 0 rfl) (cols_at i x0 X h0 _ _ 5 0 rfl) (cols_at i x0 X h0 _ _ 6 0 rfl) (cols_at i x0 X h0 _ _ 7 0 rfl) r d
include h0 in
theorem qs1_at (r : Fin 1024) (d : Fin 128) : run.sl.r_41 c arg2 harg2 x0 (ix2 r d) = qOf X 1 (128 * (i 1).val + r % 128) (grp r) d := by
  unfold run.sl.r_41
  rw [readAt_cols harg2 x0, readAt_cols harg2 x0, readAt_cols harg2 x0, readAt_cols harg2 x0, readAt_cols harg2 x0, readAt_cols harg2 x0, readAt_cols harg2 x0, readAt_cols harg2 x0]
  exact qs_at _ _ _ _ _ _ _ _ (fun g p d => X (128 * (i 1).val + p) (1024 * 1 + 128 * g + d)) (cols_at i x0 X h0 _ _ 0 1 rfl) (cols_at i x0 X h0 _ _ 1 1 rfl) (cols_at i x0 X h0 _ _ 2 1 rfl)
    (cols_at i x0 X h0 _ _ 3 1 rfl) (cols_at i x0 X h0 _ _ 4 1 rfl) (cols_at i x0 X h0 _ _ 5 1 rfl) (cols_at i x0 X h0 _ _ 6 1 rfl) (cols_at i x0 X h0 _ _ 7 1 rfl) r d

include h2 in
theorem kc0_at (n d : Fin 128) : k0_pay55 (slot ![0, 0, 0, 0] inb_S1x4x128x128_S1x1x128x128_0_0_0_0 x2) (ix2 n d) = cOf C 0 n d := by
  rw [← show slot ![0, 0, 0, 0] inb_S1x4x128x128_S1x1x128x128_0_0_0_0 x2 (ix4 0 0 n d) = cOf C 0 n d from slot_at x2 C h2 0 _ n d]
  generalize slot ![0, 0, 0, 0] inb_S1x4x128x128_S1x1x128x128_0_0_0_0 x2 = w
  pointwise [k0_pay55]
include h2 in
theorem vc0_at (n d : Fin 128) : k0_pay56 (slot ![0, 2, 0, 0] inb_S1x4x128x128_S1x1x128x128_0_2_0_0 x2) (ix2 n d) = cOf C (2 + 0) n d := by
  rw [← show slot ![0, 2, 0, 0] inb_S1x4x128x128_S1x1x128x128_0_2_0_0 x2 (ix4 0 0 n d) = cOf C (2 + 0) n d from slot_at x2 C h2 2 _ n d]
  generalize slot ![0, 2, 0, 0] inb_S1x4x128x128_S1x1x128x128_0_2_0_0 x2 = w
  pointwise [k0_pay56]
include h2 in
theorem kc1_at (n d : Fin 128) : run.sl.r_42 c arg4 harg4 x2 (ix2 n d) = cOf C 1 n d := by
  unfold run.sl.r_42
  rw [readAt_slot harg4 x2, ← show slot ![0, 1, 0, 0] inb_S1x4x128x128_S1x1x128x128_0_1_0_0 x2 (ix4 0 0 n d) = cOf C 1 n d from slot_at x2 C h2 1 _ n d]
  generalize slot ![0, 1, 0, 0] inb_S1x4x128x128_S1x1x128x128_0_1_0_0 x2 = w
  pointwise [k0_pay124]
include h2 in
theorem vc1_at (n d : Fin 128) : run.sl.r_43 c arg4 harg4 x2 (ix2 n d) = cOf C (2 + 1) n d := by
  unfold run.sl.r_43
  rw [readAt_slot harg4 x2, ← show slot ![0, 3, 0, 0] inb_S1x4x128x128_S1x1x128x128_0_3_0_0 x2 (ix4 0 0 n d) = cOf C (2 + 1) n d from slot_at x2 C h2 3 _ n d]
  generalize slot ![0, 3, 0, 0] inb_S1x4x128x128_S1x1x128x128_0_3_0_0 x2 = w
  pointwise [k0_pay125]

/-! ### The first group of heads -/

include h0 h2 in
theorem r_at (r : Fin 1024) (d : Fin 128) : run.sl.r i x0 x1 x2 (ix2 r d)
    = att (SC (128 * (i 1).val + r % 128)) (scr (qOf X 0 (128 * (i 1).val + r % 128) (grp r)) (cOf C 0)) (cOf C (2 + 0) · d) :=
  oc_at (tl i) (k0_pay52 i) (pay52_at i) X C 0 _ _ _ (qs0_at i x0 X h0) (kc0_at x2 C h2) (vc0_at x2 C h2) r d

include h0 h2 in
theorem r27_at (p j : Fin 128) : run.sl.r_27 i x0 x1 x2 (ix2 p j)
    = if (j : ℕ) ∈ Sel (score (128 * (i 1).val + p) (qOf X 0 (128 * (i 1).val + p)) (cOf C 0)) then (1 : EReal) else 0 :=
  sel_at (tl i) (k0_pay52 i) (pay52_at i) X C 0 _ _ (qs0_at i x0 X h0) (kc0_at x2 C h2) p j

include h0 hs1 in
theorem r34_at (r : Fin 1024) (d : Fin 128) : run.sl.r_34 c i arg9 harg9 x0 xs1 (ix2 r d)
    = att (SW (128 * (i 1).val + r % 128)) (scr (qOf X 0 (128 * (i 1).val + r % 128) (grp r)) (kvOf X 3072 0)) (kvOf X 3328 0 · d) := by
  unfold run.sl.r_34 run.sl.r_31 run.sl.r_32 run.sl.r_33
  rw [v3_val]
  refine ow_at (tl i) (k0_pay52 i) (pay52_at i) X 0 _ (qs0_at i x0 X h0) _ _ (fun n d => ?_) (fun n d => ?_) r d
  · exact (load_at harg9 xs1 (fun n k => X n (3072 + k)) hs1 _ _ _ _ (off5 i).1 (off5 i).2 n d).trans (congrArg (X _) (by omega))
  · exact (load_at harg9 xs1 (fun n k => X n (3072 + k)) hs1 _ _ _ _ (off6 i).1 (off6 i).2 n d).trans (congrArg (X _) (by omega))

include h0 h2 hs0 in
theorem r28_state : StateAt (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (kvOf X 2560 0) (kvOf X 2816 0) (fun p => keysOf (Sel (score (128 * (i 1).val + p) (qOf X 0 (128 * (i 1).val + p)) (cOf C 0))) (128 * (i 1).val + p)) (Scf.trips (k0_t1_loop i).lb (k0_t1_loop i).ub (k0_t1_loop i).st)
    (arg10.view.readAt (Elt Ideal) (Rect.unit (s := S1024x1) ![0, 0] S1024x1.size inb_S1024x1_S1024x1_0_0).toLoadRect (arg10.view.writes (Elt Ideal) (arg10.view.writes (Elt Ideal) arg10.view.junk run.sl.HS2_1) (pb_k0_t1 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (run.sl.r_27 i x0 x1 x2) (run.sl.v587 i) 256#32 (run.sl.v588 i) (run.sl.v593 i) (harg8.unread xs0) (arg10.view.writes (Elt Ideal) arg10.view.junk run.sl.HS2_1) (arg11.view.writes (Elt Ideal) arg11.view.junk run.sl.HS3_1) (arg12.view.writes (Elt Ideal) arg12.view.junk run.sl.HS4_1) (Scf.trips (k0_t1_loop i).lb (k0_t1_loop i).ub (k0_t1_loop i).st)).1))
    (arg11.view.readAt (Elt Ideal) (Rect.unit (s := S1024x1) ![0, 0] S1024x1.size inb_S1024x1_S1024x1_0_0).toLoadRect (arg11.view.writes (Elt Ideal) (arg11.view.writes (Elt Ideal) arg11.view.junk run.sl.HS3_1) (pb_k0_t1 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (run.sl.r_27 i x0 x1 x2) (run.sl.v587 i) 256#32 (run.sl.v588 i) (run.sl.v593 i) (harg8.unread xs0) (arg10.view.writes (Elt Ideal) arg10.view.junk run.sl.HS2_1) (arg11.view.writes (Elt Ideal) arg11.view.junk run.sl.HS3_1) (arg12.view.writes (Elt Ideal) arg12.view.junk run.sl.HS4_1) (Scf.trips (k0_t1_loop i).lb (k0_t1_loop i).ub (k0_t1_loop i).st)).2.1))
    (arg12.view.readAt (Elt Ideal) (Rect.unit (s := S1024x128) ![0, 0] S1024x128.size inb_S1024x128_S1024x128_0_0).toLoadRect (arg12.view.writes (Elt Ideal) (arg12.view.writes (Elt Ideal) arg12.view.junk run.sl.HS4_1) (pb_k0_t1 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (run.sl.r_27 i x0 x1 x2) (run.sl.v587 i) 256#32 (run.sl.v588 i) (run.sl.v593 i) (harg8.unread xs0) (arg10.view.writes (Elt Ideal) arg10.view.junk run.sl.HS2_1) (arg11.view.writes (Elt Ideal) arg11.view.junk run.sl.HS3_1) (arg12.view.writes (Elt Ideal) arg12.view.junk run.sl.HS4_1) (Scf.trips (k0_t1_loop i).lb (k0_t1_loop i).ub (k0_t1_loop i).st)).2.2)) := by
  refine state_t1 c i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (run.sl.r_27 i x0 x1 x2) (run.sl.v587 i) 256#32 (run.sl.v588 i) (run.sl.v593 i) (harg8.unread xs0) _ _ _ (fun p => 128 * (i 1).val + p) (tile_lt (tl i)) (pay52_at i) (fun p => Sel (score (128 * (i 1).val + p) (qOf X 0 (128 * (i 1).val + p)) (cOf C 0))) (r27_at i x0 x1 x2 X C h0 h2) (kvOf X 2560 0) (kvOf X 2816 0)
    (fun k n d => ?_) (fun k n d => ?_) ?_ (Scf.trips (k0_t1_loop i).lb (k0_t1_loop i).ub (k0_t1_loop i).st) le_rfl
  · exact (load_at harg8 xs0 (fun n k => X n (2560 + k)) hs0 _ _ _ _ (off1 i k).1 (off1 i k).2 n d).trans (congrArg (X _) (by omega))
  · exact (load_at harg8 xs0 (fun n k => X n (2560 + k)) hs0 _ _ _ _ (off2 i k).1 (off2 i k).2 n d).trans (congrArg (X _) (by omega))
  · convert state_zero (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (kvOf X 2560 0) (kvOf X 2816 0) _ using 1
    · exact readAt_writes_full _ _ inb_S1024x1_S1024x1_0_0 inb_S1024x1_S1024x1_0_0 _ _
    · exact readAt_writes_full _ _ inb_S1024x1_S1024x1_0_0 inb_S1024x1_S1024x1_0_0 _ _
    · exact readAt_writes_full _ _ inb_S1024x128_S1024x128_0_0 inb_S1024x128_S1024x128_0_0 _ _

include h0 h2 hs0 in
theorem r28_at (r : Fin 1024) (d : Fin 128) : run.sl.r_28 c i arg2 harg2 arg3 harg3 arg4 harg4 arg5 harg5 arg6 harg6 arg7 harg7 arg8 harg8 arg9 harg9 arg10 harg10 arg11 harg11 arg12 harg12 x0 x1 x2 xs0 (ix2 r d)
    = att (SS (128 * (i 1).val + r % 128) (qOf X 0 (128 * (i 1).val + r % 128)) (cOf C 0))
        (scr (qOf X 0 (128 * (i 1).val + r % 128) (grp r)) (kvOf X 2560 0)) (kvOf X 2816 0 · d) := by
  refine Eq.trans ?_ (os_at (tl i) X C 0 (k0_pay54 (cols ![0, 0] inb_S128x2048_S128x128_0_0 x0) (cols ![0, 128] inb_S128x2048_S128x128_0_128 x0) (cols ![0, 256] inb_S128x2048_S128x128_0_256 x0) (cols ![0, 384] inb_S128x2048_S128x128_0_384 x0) (cols ![0, 512] inb_S128x2048_S128x128_0_512 x0) (cols ![0, 640] inb_S128x2048_S128x128_0_640 x0) (cols ![0, 768] inb_S128x2048_S128x128_0_768 x0) (cols ![0, 896] inb_S128x2048_S128x128_0_896 x0)) (qs0_at i x0 X h0) _ _ _ _ (reach_t1 i) (r28_state c i arg2 harg2 arg3 harg3 arg4 harg4 arg5 harg5 arg6 harg6 arg7 harg7 arg8 harg8 arg9 harg9 arg10 harg10 arg11 harg11 arg12 harg12 x0 x1 x2 xs0 X C h0 h2 hs0) r d)
  unfold run.sl.r_28 run.sl.v610 run.sl.v611
  exact congrArg₂ (fun a b => k0_pay104 (F := Ideal) a b (ix2 r d)) (readCov_two _ _ _ _ _ (by rw [trips_t2]; rfl)) (readCov_two _ _ _ _ _ (by rw [trips_t2]; rfl))

/-! ### The second group of heads -/

include h0 h2 in
theorem r44_at (r : Fin 1024) (d : Fin 128) : run.sl.r_44 c i arg2 harg2 arg4 harg4 x0 x2 (ix2 r d)
    = att (SC (128 * (i 1).val + r % 128)) (scr (qOf X 1 (128 * (i 1).val + r % 128) (grp r)) (cOf C 1)) (cOf C (2 + 1) · d) :=
  oc_at (tl i) (k0_pay52 i) (pay52_at i) X C 1 _ _ _ (qs1_at c i arg2 harg2 x0 X h0) (kc1_at c arg4 harg4 x2 C h2) (vc1_at c arg4 harg4 x2 C h2) r d

include h0 h2 in
theorem r69_at (p j : Fin 128) : run.sl.r_69 c i arg2 harg2 arg4 harg4 x0 x2 (ix2 p j)
    = if (j : ℕ) ∈ Sel (score (128 * (i 1).val + p) (qOf X 1 (128 * (i 1).val + p)) (cOf C 1)) then (1 : EReal) else 0 :=
  sel_at (tl i) (k0_pay52 i) (pay52_at i) X C 1 _ _ (qs1_at c i arg2 harg2 x0 X h0) (kc1_at c arg4 harg4 x2 C h2) p j

include h0 hs1 in
theorem r74_at (r : Fin 1024) (d : Fin 128) : run.sl.r_74 c i arg2 harg2 arg9 harg9 x0 xs1 (ix2 r d)
    = att (SW (128 * (i 1).val + r % 128)) (scr (qOf X 1 (128 * (i 1).val + r % 128) (grp r)) (kvOf X 3072 1)) (kvOf X 3328 1 · d) := by
  unfold run.sl.r_74 run.sl.r_71 run.sl.r_72 run.sl.r_73
  rw [v3_val]
  refine ow_at (tl i) (k0_pay52 i) (pay52_at i) X 1 _ (qs1_at c i arg2 harg2 x0 X h0) (arg9.view.readAt (Elt Ideal) (Rect.unit (s := S2048x512) (k0_off11 i) S640x128.size (k0_off11_inb i)).toLoadRect (harg9.unread xs1))
    (arg9.view.readAt (Elt Ideal) (Rect.unit (s := S2048x512) (k0_off12 i) S640x128.size (k0_off12_inb i)).toLoadRect (harg9.unread xs1)) (fun n d => ?_) (fun n d => ?_) r d
  · exact (load_at harg9 xs1 (fun n k => X n (3072 + k)) hs1 _ _ _ _ (off11 i).1 (off11 i).2 n d).trans (congrArg (X _) (by omega))
  · exact (load_at harg9 xs1 (fun n k => X n (3072 + k)) hs1 _ _ _ _ (off12 i).1 (off12 i).2 n d).trans (congrArg (X _) (by omega))

include h0 h2 hs0 in
theorem r70_state (H10 H11 : List (View.Piece (Elt Ideal) S1024x1 .f32)) (H12 : List (View.Piece (Elt Ideal) S1024x128 .f32)) : StateAt (run.sl.r_41 c arg2 harg2 x0) (kvOf X 2560 1) (kvOf X 2816 1) (fun p => keysOf (Sel (score (128 * (i 1).val + p) (qOf X 1 (128 * (i 1).val + p)) (cOf C 1))) (128 * (i 1).val + p)) (Scf.trips (k0_t3_loop i).lb (k0_t3_loop i).ub (k0_t3_loop i).st)
    (arg10.view.readAt (Elt Ideal) (Rect.unit (s := S1024x1) ![0, 0] S1024x1.size inb_S1024x1_S1024x1_0_0).toLoadRect (arg10.view.writes (Elt Ideal) (arg10.view.writes (Elt Ideal) arg10.view.junk (⟨Rect.unit (s := S1024x1) ![0, 0] S1024x1.size inb_S1024x1_S1024x1_0_0, k0_pay97 (F := Ideal)⟩ :: H10)) (pb_k0_t3 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (run.sl.r_41 c arg2 harg2 x0) (run.sl.r_69 c i arg2 harg2 arg4 harg4 x0 x2) (run.sl.v1370 i) 256#32 (run.sl.v1371 i) (run.sl.v1376 i) 1#32 0#32 (harg8.unread xs0) (arg10.view.writes (Elt Ideal) arg10.view.junk (⟨Rect.unit (s := S1024x1) ![0, 0] S1024x1.size inb_S1024x1_S1024x1_0_0, k0_pay97 (F := Ideal)⟩ :: H10)) (arg11.view.writes (Elt Ideal) arg11.view.junk (⟨Rect.unit (s := S1024x1) ![0, 0] S1024x1.size inb_S1024x1_S1024x1_0_0, k0_pay98 (F := Ideal)⟩ :: H11)) (arg12.view.writes (Elt Ideal) arg12.view.junk (⟨Rect.unit (s := S1024x128) ![0, 0] S1024x128.size inb_S1024x128_S1024x128_0_0, k0_pay99 (F := Ideal)⟩ :: H12)) (Scf.trips (k0_t3_loop i).lb (k0_t3_loop i).ub (k0_t3_loop i).st)).1))
    (arg11.view.readAt (Elt Ideal) (Rect.unit (s := S1024x1) ![0, 0] S1024x1.size inb_S1024x1_S1024x1_0_0).toLoadRect (arg11.view.writes (Elt Ideal) (arg11.view.writes (Elt Ideal) arg11.view.junk (⟨Rect.unit (s := S1024x1) ![0, 0] S1024x1.size inb_S1024x1_S1024x1_0_0, k0_pay98 (F := Ideal)⟩ :: H11)) (pb_k0_t3 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (run.sl.r_41 c arg2 harg2 x0) (run.sl.r_69 c i arg2 harg2 arg4 harg4 x0 x2) (run.sl.v1370 i) 256#32 (run.sl.v1371 i) (run.sl.v1376 i) 1#32 0#32 (harg8.unread xs0) (arg10.view.writes (Elt Ideal) arg10.view.junk (⟨Rect.unit (s := S1024x1) ![0, 0] S1024x1.size inb_S1024x1_S1024x1_0_0, k0_pay97 (F := Ideal)⟩ :: H10)) (arg11.view.writes (Elt Ideal) arg11.view.junk (⟨Rect.unit (s := S1024x1) ![0, 0] S1024x1.size inb_S1024x1_S1024x1_0_0, k0_pay98 (F := Ideal)⟩ :: H11)) (arg12.view.writes (Elt Ideal) arg12.view.junk (⟨Rect.unit (s := S1024x128) ![0, 0] S1024x128.size inb_S1024x128_S1024x128_0_0, k0_pay99 (F := Ideal)⟩ :: H12)) (Scf.trips (k0_t3_loop i).lb (k0_t3_loop i).ub (k0_t3_loop i).st)).2.1))
    (arg12.view.readAt (Elt Ideal) (Rect.unit (s := S1024x128) ![0, 0] S1024x128.size inb_S1024x128_S1024x128_0_0).toLoadRect (arg12.view.writes (Elt Ideal) (arg12.view.writes (Elt Ideal) arg12.view.junk (⟨Rect.unit (s := S1024x128) ![0, 0] S1024x128.size inb_S1024x128_S1024x128_0_0, k0_pay99 (F := Ideal)⟩ :: H12)) (pb_k0_t3 Variants.none c none i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (run.sl.r_41 c arg2 harg2 x0) (run.sl.r_69 c i arg2 harg2 arg4 harg4 x0 x2) (run.sl.v1370 i) 256#32 (run.sl.v1371 i) (run.sl.v1376 i) 1#32 0#32 (harg8.unread xs0) (arg10.view.writes (Elt Ideal) arg10.view.junk (⟨Rect.unit (s := S1024x1) ![0, 0] S1024x1.size inb_S1024x1_S1024x1_0_0, k0_pay97 (F := Ideal)⟩ :: H10)) (arg11.view.writes (Elt Ideal) arg11.view.junk (⟨Rect.unit (s := S1024x1) ![0, 0] S1024x1.size inb_S1024x1_S1024x1_0_0, k0_pay98 (F := Ideal)⟩ :: H11)) (arg12.view.writes (Elt Ideal) arg12.view.junk (⟨Rect.unit (s := S1024x128) ![0, 0] S1024x128.size inb_S1024x128_S1024x128_0_0, k0_pay99 (F := Ideal)⟩ :: H12)) (Scf.trips (k0_t3_loop i).lb (k0_t3_loop i).ub (k0_t3_loop i).st)).2.2)) := by
  refine state_t3 c i arg2 harg2 arg3 harg3 arg4 harg4 arg5 harg5 arg6 harg6 arg7 harg7 arg8 harg8 arg9 harg9 arg10 harg10 arg11 harg11 arg12 harg12 (Scalar.muli (BitVec.ofNat 32 (i 1).val) 128#32) (k0_pay52 i) (run.sl.r_41 c arg2 harg2 x0) (run.sl.r_69 c i arg2 harg2 arg4 harg4 x0 x2) (run.sl.v1370 i) 256#32 (run.sl.v1371 i) (run.sl.v1376 i) 1#32 0#32 (harg8.unread xs0) _ _ _ (fun p => 128 * (i 1).val + p) (tile_lt (tl i)) (pay52_at i) (fun p => Sel (score (128 * (i 1).val + p) (qOf X 1 (128 * (i 1).val + p)) (cOf C 1))) (r69_at c i arg2 harg2 arg4 harg4 x0 x2 X C h0 h2) (kvOf X 2560 1) (kvOf X 2816 1)
    (fun k n d => ?_) (fun k n d => ?_) ?_ (Scf.trips (k0_t3_loop i).lb (k0_t3_loop i).ub (k0_t3_loop i).st) le_rfl
  · exact (load_at harg8 xs0 (fun n k => X n (2560 + k)) hs0 _ _ _ _ (off7 i k).1 (off7 i k).2 n d).trans (congrArg (X _) (by omega))
  · exact (load_at harg8 xs0 (fun n k => X n (2560 + k)) hs0 _ _ _ _ (off8 i k).1 (off8 i k).2 n d).trans (congrArg (X _) (by omega))
  · convert state_zero (run.sl.r_41 c arg2 harg2 x0) (kvOf X 2560 1) (kvOf X 2816 1) _ using 1
    · exact readAt_writes_full _ _ inb_S1024x1_S1024x1_0_0 inb_S1024x1_S1024x1_0_0 _ _
    · exact readAt_writes_full _ _ inb_S1024x1_S1024x1_0_0 inb_S1024x1_S1024x1_0_0 _ _
    · exact readAt_writes_full _ _ inb_S1024x128_S1024x128_0_0 inb_S1024x128_S1024x128_0_0 _ _

include h0 h2 hs0 in
theorem r70_at (r : Fin 1024) (d : Fin 128) : run.sl.r_70 c i arg2 harg2 arg3 harg3 arg4 harg4 arg5 harg5 arg6 harg6 arg7 harg7 arg8 harg8 arg9 harg9 arg10 harg10 arg11 harg11 arg12 harg12 x0 x1 x2 xs0 (ix2 r d)
    = att (SS (128 * (i 1).val + r % 128) (qOf X 1 (128 * (i 1).val + r % 128)) (cOf C 1))
        (scr (qOf X 1 (128 * (i 1).val + r % 128) (grp r)) (kvOf X 2560 1)) (kvOf X 2816 1 · d) := by
  unfold run.sl.r_70 run.sl.v1393 run.sl.v1394
  refine (congrArg₂ (fun a b => k0_pay104 (F := Ideal) a b (ix2 r d)) (readCov_two _ _ _ _ _ (by rw [trips_t4]; rfl)) (readCov_two _ _ _ _ _ (by rw [trips_t4]; rfl))).trans ?_
  exact os_at (tl i) X C 1 (run.sl.r_41 c arg2 harg2 x0) (qs1_at c i arg2 harg2 x0 X h0) _ _ _ _ (reach_t3 i) (r70_state c i arg2 harg2 arg3 harg3 arg4 harg4 arg5 harg5 arg6 harg6 arg7 harg7 arg8 harg8 arg9 harg9 arg10 harg10 arg11 harg11 arg12 harg12 x0 x2 xs0 X C h0 h2 hs0 _ _ _) r d

/-! ### The output tile -/

include h1 in
theorem gate_at (p k : Fin 128) : k0_pay53 x1 (ix2 p k) = Ideal.logistic (X (128 * (i 1).val + p) (3584 + k)) := by
  rw [gates_at, h1]

/-- The gated sum of a head is its row of the attention. -/
theorem mix_row (G : FVec Ideal S128x128 .f32) (oc os ow : FVec Ideal S1024x128 .f32) (kv : ℕ) (hG : ∀ p k : Fin 128, G (ix2 p k) = Ideal.logistic (X (128 * (i 1).val + p) (3584 + k)))
    (hoc : ∀ r d, oc (ix2 r d) = att (SC (128 * (i 1).val + r % 128)) (scr (qOf X kv (128 * (i 1).val + r % 128) (grp r)) (cOf C kv)) (cOf C (2 + kv) · d))
    (hos : ∀ r d, os (ix2 r d) = att (SS (128 * (i 1).val + r % 128) (qOf X kv (128 * (i 1).val + r % 128)) (cOf C kv)) (scr (qOf X kv (128 * (i 1).val + r % 128) (grp r)) (kvOf X 2560 kv)) (kvOf X 2816 kv · d))
    (how : ∀ r d, ow (ix2 r d) = att (SW (128 * (i 1).val + r % 128)) (scr (qOf X kv (128 * (i 1).val + r % 128) (grp r)) (kvOf X 3072 kv)) (kvOf X 3328 kv · d))
    (h : ℕ) (hh : h < 16) (g : Fin 8) (e : h = 8 * kv + g) (p d : Fin 128) : mix G oc os ow h hh g p d = rowOut X C (128 * (i 1).val + p) kv g d := by
  subst e
  have e1 : ((row g p : Fin 1024) : ℕ) % 128 = p := by unfold row; simp only; omega
  have e2 : grp (row g p) = g := Fin.ext (by unfold grp row; simp only; omega)
  unfold mix rowOut out gateOf
  rw [hoc, hos, how, hG, hG, hG, e1, e2]
  simp only [mul_zero, add_zero, mul_one, Nat.add_assoc]

/-- The tile: the row of the attention for every row and column. -/
def tileOf (y : S128x2048.Idx) : EReal :=
  rowOut X C (128 * (i 1).val + (y 0).val) ((y 1).val / 1024) ⟨(y 1).val % 1024 / 128, by omega⟩ ⟨(y 1).val % 128, by omega⟩

theorem piece_at (h : ℕ) (hh : h < 16) (kv : ℕ) (g : Fin 8) (e : h = 8 * kv + g) (o : ℕ) (ho : o = 128 * h) (hb) (w : Vec Ideal S128x128 .bf16) (hw : ∀ p d, w (ix2 p d) = rowOut X C (128 * (i 1).val + p) kv g d) (x : S128x128.Idx) :
    w x = tileOf i X C ((Rect.unit (s := S128x2048) ![0, o] S128x128.size hb).emb x) := by
  subst ho e
  obtain ⟨p, d, rfl⟩ : ∃ p d, x = ix2 p d := ⟨x 0, x 1, (ix2_eta x).symm⟩
  rw [hw]
  unfold tileOf
  have h0 : (((Rect.unit (s := S128x2048) ![0, 128 * (8 * kv + g)] S128x128.size hb).emb (ix2 p d)) 0).val = p := by
    show 0 + 1 * (p : ℕ) = p
    omega
  have h1 : (((Rect.unit (s := S128x2048) ![0, 128 * (8 * kv + g)] S128x128.size hb).emb (ix2 p d)) 1).val = 128 * (8 * kv + g) + d := by
    show 128 * (8 * kv + g) + 1 * (d : ℕ) = 128 * (8 * kv + g) + d
    omega
  have a : (128 * (8 * kv + (g : ℕ)) + d) / 1024 = kv := by omega
  have b : (⟨(128 * (8 * kv + (g : ℕ)) + d) % 1024 / 128, by omega⟩ : Fin 8) = g := Fin.ext (by simp only; omega)
  have c : (⟨(128 * (8 * kv + (g : ℕ)) + d) % 128, by omega⟩ : Fin 128) = d := Fin.ext (by simp only; omega)
  simp only [h0, h1, a, b, c]

include h0 h1 h2 hs0 hs1 in
theorem tile_at (x3 x4 : Vec Ideal S2048x512 .f32) (y : S128x2048.Idx) :
    View.canon (run (F := Ideal) c i arg2 harg2 arg3 harg3 arg4 harg4 arg5 harg5 arg6 harg6 arg7 harg7 arg8 harg8 arg9 harg9 arg10 harg10 arg11 harg11 arg12 harg12 x0 x1 x2 x3 x4 xs0 xs1).1 y = tileOf i X C y := by
  have hG := gate_at i x1 X h1
  have m0 := mix_row i X C (k0_pay53 x1) _ _ _ 0 hG (r_at i x0 x1 x2 X C h0 h2) (r28_at c i arg2 harg2 arg3 harg3 arg4 harg4 arg5 harg5 arg6 harg6 arg7 harg7 arg8 harg8 arg9 harg9 arg10 harg10 arg11 harg11 arg12 harg12 x0 x1 x2 xs0 X C h0 h2 hs0) (r34_at c i arg9 harg9 x0 xs1 X h0 hs1)
  have m1 := mix_row i X C (k0_pay53 x1) _ _ _ 1 hG (r44_at c i arg2 harg2 arg4 harg4 x0 x2 X C h0 h2) (r70_at c i arg2 harg2 arg3 harg3 arg4 harg4 arg5 harg5 arg6 harg6 arg7 harg7 arg8 harg8 arg9 harg9 arg10 harg10 arg11 harg11 arg12 harg12 x0 x1 x2 xs0 X C h0 h2 hs0) (r74_at c i arg2 harg2 arg9 harg9 x0 xs1 X h0 hs1)
  refine View.canon_append_of_piecesOf (tileOf i X C) [] (run (F := Ideal) c i arg2 harg2 arg3 harg3 arg4 harg4 arg5 harg5 arg6 harg6 arg7 harg7 arg8 harg8 arg9 harg9 arg10 harg10 arg11 harg11 arg12 harg12 x0 x1 x2 x3 x4 xs0 xs1).1 ?_ y (pieces_cover c i arg2 harg2 arg3 harg3 arg4 harg4 arg5 harg5 arg6 harg6 arg7 harg7 arg8 harg8 arg9 harg9 arg10 harg10 arg11 harg11 arg12 harg12 x0 x1 x2 x3 x4 xs0 xs1 y)
  unfold run
  refine ⟨piece_at i X C 15 (by decide) 1 7 rfl 1920 rfl inb_S128x2048_S128x128_0_1920 _ (fun p d => (mix15_at ).trans (m1 15 (by decide) 7 rfl p d)),
    piece_at i X C 14 (by decide) 1 6 rfl 1792 rfl inb_S128x2048_S128x128_0_1792 _ (fun p d => (mix14_at ).trans (m1 14 (by decide) 6 rfl p d)),
    piece_at i X C 13 (by decide) 1 5 rfl 1664 rfl inb_S128x2048_S128x128_0_1664 _ (fun p d => (mix13_at ).trans (m1 13 (by decide) 5 rfl p d)),
    piece_at i X C 12 (by decide) 1 4 rfl 1536 rfl inb_S128x2048_S128x128_0_1536 _ (fun p d => (mix12_at ).trans (m1 12 (by decide) 4 rfl p d)),
    piece_at i X C 11 (by decide) 1 3 rfl 1408 rfl inb_S128x2048_S128x128_0_1408 _ (fun p d => (mix11_at ).trans (m1 11 (by decide) 3 rfl p d)),
    piece_at i X C 10 (by decide) 1 2 rfl 1280 rfl inb_S128x2048_S128x128_0_1280 _ (fun p d => (mix10_at ).trans (m1 10 (by decide) 2 rfl p d)),
    piece_at i X C 9 (by decide) 1 1 rfl 1152 rfl inb_S128x2048_S128x128_0_1152 _ (fun p d => (mix9_at ).trans (m1 9 (by decide) 1 rfl p d)),
    piece_at i X C 8 (by decide) 1 0 rfl 1024 rfl inb_S128x2048_S128x128_0_1024 _ (fun p d => (mix8_at ).trans (m1 8 (by decide) 0 rfl p d)),
    piece_at i X C 7 (by decide) 0 7 rfl 896 rfl inb_S128x2048_S128x128_0_896 _ (fun p d => (mix7_at ).trans (m0 7 (by decide) 7 rfl p d)),
    piece_at i X C 6 (by decide) 0 6 rfl 768 rfl inb_S128x2048_S128x128_0_768 _ (fun p d => (mix6_at ).trans (m0 6 (by decide) 6 rfl p d)),
    piece_at i X C 5 (by decide) 0 5 rfl 640 rfl inb_S128x2048_S128x128_0_640 _ (fun p d => (mix5_at ).trans (m0 5 (by decide) 5 rfl p d)),
    piece_at i X C 4 (by decide) 0 4 rfl 512 rfl inb_S128x2048_S128x128_0_512 _ (fun p d => (mix4_at ).trans (m0 4 (by decide) 4 rfl p d)),
    piece_at i X C 3 (by decide) 0 3 rfl 384 rfl inb_S128x2048_S128x128_0_384 _ (fun p d => (mix3_at ).trans (m0 3 (by decide) 3 rfl p d)),
    piece_at i X C 2 (by decide) 0 2 rfl 256 rfl inb_S128x2048_S128x128_0_256 _ (fun p d => (mix2_at ).trans (m0 2 (by decide) 2 rfl p d)),
    piece_at i X C 1 (by decide) 0 1 rfl 128 rfl inb_S128x2048_S128x128_0_128 _ (fun p d => (mix1_at ).trans (m0 1 (by decide) 1 rfl p d)),
    piece_at i X C 0 (by decide) 0 0 rfl 0 rfl inb_S128x2048_S128x128_0_0 _ (fun p d => (mix0_at ).trans (m0 0 (by decide) 0 rfl p d)), trivial⟩

end

end Cert.KernelIdeal.Val

end
-- ==== Proof.KOut.lean ====
/- The kernel's result array: what its run leaves is the attention of its two arguments. -/
module

public import proofs.«01_k».proof.Proof.KVal
public import Idealize.ShloMosaic.Lib.Pipeline.ValueKit

@[expose] public section

set_option maxRecDepth 16384

noncomputable section

namespace Cert.KernelIdeal.Val

open Cert.KernelIdeal Cert.KernelIdeal.Gen Cert.Nsa Cert.KernelIdeal.Run
open Idealize.ShloMosaic Idealize.ShloMosaic.TcCoe Idealize.ShloMosaic.View
open Idealize.SL Idealize.SL.Sem
open scoped BigOperators

variable (m : (ℓ : Loc nD τ sig) → Buf (Elt Ideal) ℓ) (ρ : Dev nD → PrngReg)

/-- Where each window's block lies at a tile, and the tile's place in its batch. -/
theorem idx : ∀ t : Fin cfg0.N, win0_0.index t = ![t.val, 0] ∧ win0_1.index t = ![t.val, 28] ∧ win0_2.index t = ![t.val / 16, 0, 0, 0] ∧ win0_3.index t = ![t.val / 16, 5]
    ∧ win0_4.index t = ![t.val / 16, 6] ∧ win0_5.index t = ![t.val, 0] ∧ (grid0.coords t 1).val = t.val % 16 :=
  (by decide +kernel : ∀ t : Fin grid0.N, _)

variable (c : Dev nD) (t : Fin cfg0.N)

abbrev argA : (⟨2, ![8192, 8192]⟩ : Shape).Idx → EReal := m ((c : Thread nD τ).loc main_arg0)
abbrev argB : (⟨4, ![4, 4, 128, 128]⟩ : Shape).Idx → EReal := m ((c : Thread nD τ).loc main_arg1)

theorem base_div : (base t).val / 16 = t.val / 16 := by
  show (t.val - t.val % 16) / 16 = t.val / 16
  omega

theorem blk0 (p : Fin 128) (k : Fin 2048) : (iblk m c 0 t : Vec Ideal S128x2048 .f32) (ix2 p k) = rows (argA m c) (t.val / 16) (128 * (grid0.coords t 1).val + p) k := by
  have hi := idx t
  have ht : t.val < 64 := Nat.lt_of_lt_of_eq t.isLt N_0
  rw [← rows_at (argA m c) _ _ _ ⟨128 * t.val + p, by omega⟩ ⟨k, by omega⟩ (by simp only [hi.2.2.2.2.2.2]; omega) rfl]
  blk_ext [iblk, V, hi.1]
theorem blk1 (p k : Fin 128) : (iblk m c 1 t : Vec Ideal S128x128 .f32) (ix2 p k) = rows (argA m c) (t.val / 16) (128 * (grid0.coords t 1).val + p) (3584 + k) := by
  have hi := idx t
  have ht : t.val < 64 := Nat.lt_of_lt_of_eq t.isLt N_0
  rw [← rows_at (argA m c) _ _ _ ⟨128 * t.val + p, by omega⟩ ⟨3584 + k, by omega⟩ (by simp only [hi.2.2.2.2.2.2]; omega) rfl]
  blk_ext [iblk, V, hi.2.1]
theorem blk2 (s : Fin 4) (n d : Fin 128) : (iblk m c 2 t : Vec Ideal S1x4x128x128 .f32) (ix4 0 s n d) = slots (argB m c) (t.val / 16) s n d := by
  have hi := idx t
  have ht : t.val < 64 := Nat.lt_of_lt_of_eq t.isLt N_0
  rw [← slots_at (argB m c) _ _ _ _ ⟨t.val / 16, by omega⟩ s n d rfl rfl rfl rfl]
  blk_ext [iblk, V, hi.2.2.1]
theorem blk3 (n : Fin 2048) (k : Fin 512) : (iblk m c 3 t : Vec Ideal S2048x512 .f32) (ix2 n k) = rows (argA m c) (t.val / 16) n (2560 + k) := by
  have hi := idx t
  have ht : t.val < 64 := Nat.lt_of_lt_of_eq t.isLt N_0
  rw [← rows_at (argA m c) _ _ _ ⟨2048 * (t.val / 16) + n, by omega⟩ ⟨2560 + k, by omega⟩ rfl rfl]
  blk_ext [iblk, V, hi.2.2.2.1]
theorem blk4 (n : Fin 2048) (k : Fin 512) : (iblk m c 4 t : Vec Ideal S2048x512 .f32) (ix2 n k) = rows (argA m c) (t.val / 16) n (3072 + k) := by
  have hi := idx t
  have ht : t.val < 64 := Nat.lt_of_lt_of_eq t.isLt N_0
  rw [← rows_at (argA m c) _ _ _ ⟨2048 * (t.val / 16) + n, by omega⟩ ⟨3072 + k, by omega⟩ rfl rfl]
  blk_ext [iblk, V, hi.2.2.2.2.1]
theorem copy0_at (n : Fin 2048) (k : Fin 512) : copy0 m c t (ix2 n k) = rows (argA m c) (t.val / 16) n (2560 + k) := by
  rw [← base_div, ← blk3 m c (base t) n k]
  unfold copy0
  generalize (iblk m c 3 (base t) : Vec Ideal S2048x512 .f32) = w
  pointwise [k0_pay50]
theorem copy1_at (n : Fin 2048) (k : Fin 512) : copy1 m c t (ix2 n k) = rows (argA m c) (t.val / 16) n (3072 + k) := by
  rw [← base_div, ← blk4 m c (base t) n k]
  unfold copy1
  generalize (iblk m c 4 (base t) : Vec Ideal S2048x512 .f32) = w
  pointwise [k0_pay51]

/-- The array after the launch. -/
theorem result (c : Dev nD) : (data m 0 c).arrAt 5 cfg0.N = attn (argA m c) (argB m c) := by
  refine (data m 0 c).arrAt_eq_of_covers 5 _ (by decide +kernel) fun t hf y => ?_
  have hi := idx t
  have ht : t.val < 64 := Nat.lt_of_lt_of_eq t.isLt N_0
  blk_simp
  rw [after_5]
  unfold outTile pieces
  refine (tile_at c (grid0.coords t) _ _ _ _ _ _ _ _ _ _ _ _ _ _ _ _ _ _ _ _ _ _ _ _ _ _ _ (rows (argA m c) (t.val / 16)) (slots (argB m c) (t.val / 16)) (blk0 m c t) (blk1 m c t) (blk2 m c t) (copy0_at m c t) (copy1_at m c t) _ _ y).trans ?_
  have e0 : ((((cfg0.win 5).blk t).view.emb y) 0 : ℕ) = 128 * t.val + (y 0).val := by
    blk_simp [hi.2.2.2.2.2.1]; omega
  have e1 : ((((cfg0.win 5).blk t).view.emb y) 1 : ℕ) = (y 1).val := by
    blk_simp [hi.2.2.2.2.2.1]
  have hy : (y 0).val < 128 := (y 0).isLt
  unfold tileOf attn
  simp only [e0, e1, hi.2.2.2.2.2.2]
  rw [show (128 * t.val + (y 0).val) / 2048 = t.val / 16 by omega, show (128 * t.val + (y 0).val) % 2048 = 128 * (t.val % 16) + (y 0).val by omega]

/-- The run: the result array holds the attention of the arguments, which end unchanged. -/
theorem value : θ_run defs (onTc (τ := τ) (main (F := Ideal))) ⟨m, fun _ => 0, ρ⟩ (fun r => ∀ c : Dev nD,
      r.2.mem ((c : Thread nD τ).loc main_v0) = attn (argA m c) (argB m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 5).trans (result m c), ((h.1 c).1 4).trans (((data m 0 c).arrAt_in 4 rfl _).trans ((data_A m c 4).trans (V_main_arg0 m c))),
      ((h.1 c).1 2).trans (((data m 0 c).arrAt_in 2 rfl _).trans ((data_A m c 2).trans (V_main_arg1 m c)))⟩) (launch m ρ)

end Cert.KernelIdeal.Val

end
-- ==== Proof.RScr.lean ====
/- The reference's queries, keys, values, gates and scaled products at their places. -/
module

public import proofs.«01_k».proof.Proof.Gen.ReferenceIdeal.Read
public import proofs.«01_k».proof.Proof.Whole

@[expose] public section

noncomputable section

namespace Cert.ReferenceIdeal.At

open Cert.ReferenceIdeal Cert.ReferenceIdeal.Gen Cert.ReferenceIdeal.Read Cert.Nsa Idealize.ShloMosaic
open scoped BigOperators

variable (A : (⟨S8192x8192, .f32⟩ : BufTy).Contents (Elt Ideal)) (B : (⟨S4x4x128x128, .f32⟩ : BufTy).Contents (Elt Ideal))

theorem q_at (b : Fin 4) (t : Fin 2048) (k : Fin 2) (g : Fin 8) (d : Fin 128) :
    val_main_v1 (F := Ideal) A (ix5 b t k g d) = qOf (rows A b) k t g d := by
  pointwise [val_main_v1, val_main_v0]
  exact rows_at A _ _ _ _ _ (by simp; omega) (by simp; omega)

theorem kv_at (b : Fin 4) (t : Fin 2048) (s : Fin 6) (k : Fin 2) (d : Fin 128) :
    val_main_v3 (F := Ideal) A (ix5 b t s k d) = kvOf (rows A b) (2048 + 256 * s) k t d := by
  pointwise [val_main_v3, val_main_v2]
  exact rows_at A _ _ _ _ _ (by simp; omega) (by simp; omega)

theorem gate_at (b : Fin 4) (t : Fin 2048) (s : Fin 3) (k : Fin 2) (g : Fin 8) :
    val_main_v11 (F := Ideal) A (ix5 b t s k g) = gateOf (rows A b) s (8 * k + g) t := by
  pointwise [val_main_v11, val_main_v10, val_main_v9, val_main_cst_0, val_main_v8, val_main_v7, val_main_cst, val_main_v6, val_main_v5, val_main_v4]
  rw [rows_at A b t (3584 + 16 * s + (8 * k + g)) _ _ (by simp; omega) (by simp; omega)]
  rfl

theorem kc_at (b : Fin 4) (k : Fin 2) (n : Fin 127) (d : Fin 128) :
    val_main_v12 (F := Ideal) B (ix4 b k n d) = cOf (slots B b) k n d := by
  pointwise [val_main_v12]
  exact slots_at B _ _ _ _ _ _ _ _ (by simp) (by simp) (by simp) (by simp)

theorem vc_at (b : Fin 4) (k : Fin 2) (n : Fin 127) (d : Fin 128) :
    val_main_v13 (F := Ideal) B (ix4 b k n d) = cOf (slots B b) (2 + k) n d := by
  pointwise [val_main_v13]
  exact slots_at B _ _ _ _ _ _ _ _ (by simp) (by simp) (by simp) (by simp)

theorem sc_at (b : Fin 4) (k : Fin 2) (g : Fin 8) (t : Fin 2048) (n : Fin 127) :
    val_main_v21 (F := Ideal) A B (ix5 b k g t n) = scr (qOf (rows A b) k t g) (cOf (slots B b) k) n := by
  have hq := q_at A
  have hk := kc_at B
  unfold val_main_v21 val_main_v20 val_main_cst_1 val_main_v19 val_main_v18
  generalize val_main_v1 (F := Ideal) A = Q at hq ⊢
  generalize val_main_v12 (F := Ideal) B = K at hk ⊢
  pointwise []
  unfold scr
  refine congrArg₂ (· * ·) (Finset.sum_congr rfl fun d _ => ?_) rfl
  rw [hq, hk, mul_comm]

theorem ss_at (b : Fin 4) (k : Fin 2) (g : Fin 8) (t : Fin 2048) (n : Fin 2048) :
    val_main_v111 (F := Ideal) A (ix5 b k g t n) = scr (qOf (rows A b) k t g) (kvOf (rows A b) 2560 k) n := by
  have hq := q_at A
  have hk := kv_at A
  unfold val_main_v111 val_main_v110 val_main_cst_20 val_main_v109 val_main_v108 val_main_v107 val_main_v106
  generalize val_main_v1 (F := Ideal) A = Q at hq ⊢
  generalize val_main_v3 (F := Ideal) A = K at hk ⊢
  pointwise []
  unfold scr
  refine congrArg₂ (· * ·) (Finset.sum_congr rfl fun d _ => ?_) rfl
  rw [hq, hk, mul_comm]
  rfl

theorem sw_at (b : Fin 4) (k : Fin 2) (g : Fin 8) (t : Fin 2048) (n : Fin 2048) :
    val_main_v141 (F := Ideal) A (ix5 b k g t n) = scr (qOf (rows A b) k t g) (kvOf (rows A b) 3072 k) n := by
  have hq := q_at A
  have hk := kv_at A
  unfold val_main_v141 val_main_v140 val_main_cst_26 val_main_v139 val_main_v138 val_main_v137 val_main_v136
  generalize val_main_v1 (F := Ideal) A = Q at hq ⊢
  generalize val_main_v3 (F := Ideal) A = K at hk ⊢
  pointwise []
  unfold scr
  refine congrArg₂ (· * ·) (Finset.sum_congr rfl fun d _ => ?_) rfl
  rw [hq, hk, mul_comm]
  rfl

theorem vs_at (b : Fin 4) (n : Fin 2048) (k : Fin 2) (d : Fin 128) :
    val_main_v134 (F := Ideal) A (ix4 b n k d) = kvOf (rows A b) 2816 k n d := by
  have hk := kv_at A
  unfold val_main_v134 val_main_v133
  generalize val_main_v3 (F := Ideal) A = K at hk ⊢
  pointwise []
  rw [hk]
  rfl

theorem vw_at (b : Fin 4) (n : Fin 2048) (k : Fin 2) (d : Fin 128) :
    val_main_v169 (F := Ideal) A (ix4 b n k d) = kvOf (rows A b) 3328 k n d := by
  have hk := kv_at A
  unfold val_main_v169 val_main_v168
  generalize val_main_v3 (F := Ideal) A = K at hk ⊢
  pointwise []
  rw [hk]
  rfl

end Cert.ReferenceIdeal.At

end
-- ==== Proof.RTop.lean ====
/- The sixteen first of a stable descending sort of thirty-two scores are the set of the sixteen greatest, the earlier of
   two equal ones first; the mask of the selected blocks. -/
module

public import proofs.«01_k».proof.Proof.Whole
public import Idealize.ShloMosaic.Lib.SortPrefix

@[expose] public section

noncomputable section

namespace Cert.Nsa

open Idealize.ShloMosaic
open scoped BigOperators

section Rank
variable {n : ℕ} (key : Fin n → EReal)

/-- Strictly greater. -/
def gtB (i j : Fin n) : Bool := decide (key j < key i)
/-- Strictly greater, or equal and earlier. -/
def ahead (i j : Fin n) : Bool := decide (key j < key i) || (decide (key i = key j) && decide (i < j))

theorem ahead_total : StrictTotalBefore (ahead key) :=
  StrictTotalBefore.of_key_then_position (fun a b : EReal => decide (b < a)) key (by simp)
    (fun a b c => by simp only [decide_eq_true_eq]; exact fun h h' => lt_trans h' h)
    (fun a b => by simp only [decide_eq_true_eq]; rcases lt_trichotomy a b with h | h | h <;> simp [h])

theorem stableSort_ahead (l : List (Fin n)) (hl : l.Pairwise (· < ·)) : stableSort (gtB key) l = stableSort (ahead key) l := by
  induction l with
  | nil => rfl
  | cons a l ih =>
    rw [List.pairwise_cons] at hl
    show insertBefore _ a _ = insertBefore _ a _
    rw [ih hl.2]
    refine insertBefore_congr _ _ a _ fun b hb => ?_
    have h := hl.1 b ((perm_stableSort _ l).mem_iff.1 hb)
    simp only [gtB, ahead, not_lt.2 h.le, decide_false, Bool.and_false, Bool.or_false]

theorem sortedFrom_ahead (p : Fin n) : sortedFrom (gtB key) p = sortedFrom (ahead key) p := by
  have h : sortPositions n (gtB key) = sortPositions n (ahead key) := stableSort_ahead key _ (List.pairwise_lt_finRange n)
  unfold sortedFrom
  rw [List.get_of_eq h]
  rfl

theorem sortedFrom_lt (p p' : Fin n) : ahead key (sortedFrom (ahead key) p) (sortedFrom (ahead key) p') = true ↔ p < p' := by
  have hB := ahead_total key
  have h1 : ∀ a b : Fin n, a < b → ahead key (sortedFrom (ahead key) b) (sortedFrom (ahead key) a) = false := fun a b h =>
    sortedFrom_noInversion (ahead key) (ahead key) (fun a b h => hB.asymm a b h) (fun _ _ h => h) hB.negTrans a b h
  constructor
  · intro h
    by_contra h'
    rcases lt_or_eq_of_le (not_lt.1 h') with h'' | h''
    · rw [h1 _ _ h''] at h; exact absurd h (by decide)
    · rw [h'', hB.irrefl] at h; exact absurd h (by decide)
  · intro h
    rcases hB.total _ _ (fun e => h.ne (sortedFrom_injective (ahead key) e)) with h' | h'
    · exact h'
    · rw [h1 _ _ h] at h'; exact absurd h' (by decide)

theorem rank (p : Fin n) : (Finset.univ.filter fun i => ahead key i (sortedFrom (ahead key) p) = true).card = p := by
  rw [← Fin.card_Iio p]
  refine (Finset.card_bij (fun q _ => sortedFrom (ahead key) q) ?_ ?_ ?_).symm
  · intro q hq
    exact Finset.mem_filter.2 ⟨Finset.mem_univ _, (sortedFrom_lt key q p).2 (Finset.mem_Iio.1 hq)⟩
  · exact fun a _ b _ h => sortedFrom_injective (ahead key) h
  · intro i hi
    obtain ⟨q, rfl⟩ := sortedFrom_surjective (ahead key) i
    exact ⟨q, Finset.mem_Iio.2 ((sortedFrom_lt key q p).1 (Finset.mem_filter.1 hi).2), rfl⟩

end Rank

theorem top_iff (c : ℕ → EReal) (key : Fin 32 → EReal) (hkey : ∀ j, key j = c j) (j : Fin 32) :
    (∃ p : Fin 16, sortedFrom (gtB key) (p.castLE (by decide)) = j) ↔ (j : ℕ) ∈ Sel c := by
  have hc : ((Finset.range 32).filter fun i => c j < c i ∨ (c i = c j ∧ i < j)).card
      = (Finset.univ.filter fun i => ahead key i j = true).card := by
    refine (Finset.card_bij (fun (i : Fin 32) _ => (i : ℕ)) ?_ ?_ ?_).symm
    · intro i hi
      have h := (Finset.mem_filter.1 hi).2
      simp only [ahead, hkey, Bool.or_eq_true, Bool.and_eq_true, decide_eq_true_eq] at h
      exact Finset.mem_filter.2 ⟨Finset.mem_range.2 i.2, h⟩
    · exact fun a _ b _ h => Fin.ext h
    · intro i hi
      have h := Finset.mem_filter.1 hi
      refine ⟨⟨i, Finset.mem_range.1 h.1⟩, Finset.mem_filter.2 ⟨Finset.mem_univ _, ?_⟩, rfl⟩
      simp only [ahead, hkey, Bool.or_eq_true, Bool.and_eq_true, decide_eq_true_eq]
      exact h.2
  unfold Sel
  rw [Finset.mem_filter, hc]
  constructor
  · rintro ⟨p, hp⟩
    refine ⟨Finset.mem_range.2 j.2, ?_⟩
    rw [← hp, sortedFrom_ahead, rank]
    exact p.2
  · rintro ⟨-, h⟩
    obtain ⟨q, rfl⟩ := sortedFrom_surjective (ahead key) j
    rw [rank] at h
    exact ⟨⟨q, h⟩, by rw [sortedFrom_ahead]; rfl⟩

theorem fold_or {n : ℕ} (P : Fin n → Prop) [DecidablePred P] [Decidable (∃ p, P p)] (x : Fin n → BitVec 1)
    (hx : ∀ p, x p = if P p then 1#1 else 0#1) : Finset.univ.fold IntOp.ori 0#1 x = if ∃ p, P p then 1#1 else 0#1 := by
  classical
  have h : ∀ S : Finset (Fin n), S.fold IntOp.ori 0#1 x = if ∃ p ∈ S, P p then 1#1 else 0#1 := by
    intro S
    induction S using Finset.induction_on with
    | empty => simp
    | insert a S ha ih =>
      rw [Finset.fold_insert ha, ih, hx, or_ite]
      simp only [Finset.mem_insert, exists_eq_or_imp]
  rw [h]
  simp

end Cert.Nsa

end
-- ==== Proof.RSoft.lean ====
/- A row of the reference's masked softmax: the greatest of the allowed scores, the exponentials where allowed, their sum
   kept away from zero; and the sixteen positions of its sort. -/
module

public import proofs.«01_k».proof.Proof.RTop

@[expose] public section

noncomputable section

namespace Cert.Nsa

open Idealize.ShloMosaic
open scoped BigOperators

theorem low_bot : Ideal.ofBits .f32 0xFF800000#32 = ⊥ := by simp [Ideal.ofBits, Ideal.ieee]

section Row
variable {N : ℕ} (S : Finset ℕ) (hS : ∀ n ∈ S, n < N) (s : ℕ → EReal) (m : Fin N → BitVec 1) (x : Fin N → EReal)
  (hm : ∀ c, m c = if (c : ℕ) ∈ S then 1#1 else 0#1) (hx : ∀ c, x c = s c)
include hm hx

include hS in
theorem row_max : Finset.univ.fold max (⊥ : EReal) (fun c => Scalar.select (m c) (x c) ⊥) = S.sup s :=
  mem_sup_row (fun c : Fin N => (c : ℕ)) S m s x (fun n h => ⟨⟨n, hS n h⟩, rfl⟩) hm fun c _ => hx c

theorem row_exp (c : Fin N) : Scalar.select (m c) (Ideal.exp (x c - S.sup s)) 0 = if (c : ℕ) ∈ S then ex S s c else 0 := by
  rw [hm, sel_ite, hx]; rfl

include hS in
theorem row_sum : (∑ c, Scalar.select (m c) (Ideal.exp (x c - S.sup s)) 0) = ∑ n ∈ S, ex S s n := by
  rw [Finset.sum_congr rfl fun c _ => row_exp S s m x hm hx c]
  exact sum_row (fun c : Fin N => (c : ℕ)) (fun _ _ h => Fin.ext h) S (fun n h => ⟨⟨n, hS n h⟩, rfl⟩) (ex S s)

include hS in
theorem row_prob (M : EReal) (hM : M = Finset.univ.fold max (⊥ : EReal) fun c => Scalar.select (m c) (x c) ⊥) (c : Fin N) :
    Ideal.div (Scalar.select (m c) (Ideal.exp (x c - M)) 0) (max (∑ c, Scalar.select (m c) (Ideal.exp (x c - M)) 0) eps) = prob S s c := by
  rw [hM, row_max S hS s m x hm hx, row_exp S s m x hm hx, row_sum S hS s m x hm hx]
  unfold prob
  split
  · rfl
  · show Ideal.div 0 (den S s) = 0
    rw [div_eq (den_pos S s).ne', zero_mul]

end Row

theorem row_att {N : ℕ} (S : Finset ℕ) (hS : ∀ n ∈ S, n < N) (s : ℕ → EReal) (V : ℕ → EReal) (p v : Fin N → EReal)
    (hp : ∀ c, p c = prob S s c) (hv : ∀ c, v c = V c) : (∑ c, p c * v c) = att S s V := by
  rw [att, ← sum_row (fun c : Fin N => (c : ℕ)) (fun _ _ h => Fin.ext h) S (fun n h => ⟨⟨n, hS n h⟩, rfl⟩)]
  refine Finset.sum_congr rfl fun c _ => ?_
  rw [hp, hv]
  split
  · rfl
  · rw [prob, if_neg ‹_›, zero_mul]

theorem along_ix4 (b : Fin 4) (k : Fin 2) (t : Fin 2048) (j q : Fin 32) :
    Shape.Idx.along (s := ⟨4, ![4, 2, 2048, 32]⟩) (ix4 b k t j) 3 q = ix4 b k t q := by
  funext i
  unfold Shape.Idx.along
  fin_cases i
  · exact Function.update_of_ne (a := (0 : Fin 4)) (a' := 3) (by decide) _ _
  · exact Function.update_of_ne (a := (1 : Fin 4)) (a' := 3) (by decide) _ _
  · exact Function.update_of_ne (a := (2 : Fin 4)) (a' := 3) (by decide) _ _
  · exact Function.update_self (3 : Fin 4) _ _

theorem gt_eq (a b : Ideal .f32) : (FloatOps.cmpfTotal (F := Ideal) .gt a b == 1#1) = decide (b < a) := by
  show (BitVec.ofBool (decide (b < a)) == 1#1) = _
  by_cases h : b < a <;> simp [h]

theorem sorted_at (x : (⟨4, ![4, 2, 2048, 32]⟩ : Shape).Idx → Ideal .f32) (b : Fin 4) (k : Fin 2) (t : Fin 2048) (j z z' : Fin 32) (hz : z = z') :
    iotaInDim ⟨4, ![4, 2, 2048, 32]⟩ 32 3 (Shape.Idx.along (s := ⟨4, ![4, 2, 2048, 32]⟩) (ix4 b k t j) 3
      (sortedFrom (fun i i' : Fin 32 => FloatOps.cmpfTotal (F := Ideal) .gt
        (x (Shape.Idx.along (s := ⟨4, ![4, 2, 2048, 32]⟩) (ix4 b k t j) 3 i))
        (x (Shape.Idx.along (s := ⟨4, ![4, 2, 2048, 32]⟩) (ix4 b k t j) 3 i')) == 1#1) z))
      = BitVec.ofNat 32 (sortedFrom (gtB fun j : Fin 32 => x (ix4 b k t j)) z').val := by
  subst hz
  refine (congrArg (iotaInDim ⟨4, ![4, 2, 2048, 32]⟩ 32 3) (along_ix4 b k t j _)).trans ?_
  have e : (fun i i' : Fin 32 => FloatOps.cmpfTotal (F := Ideal) .gt
        (x (Shape.Idx.along (s := ⟨4, ![4, 2, 2048, 32]⟩) (ix4 b k t j) 3 i))
        (x (Shape.Idx.along (s := ⟨4, ![4, 2, 2048, 32]⟩) (ix4 b k t j) 3 i')) == 1#1) = gtB fun j : Fin 32 => x (ix4 b k t j) := by
    funext i i'
    exact (congrArg₂ (fun u v => FloatOps.cmpfTotal (F := Ideal) (φ := .f32) .gt (x u) (x v) == 1#1) (along_ix4 b k t j i) (along_ix4 b k t j i')).trans (gt_eq _ _)
  exact congrArg (fun B => BitVec.ofNat 32 (sortedFrom B z).val) e

theorem top_at (x : (⟨4, ![4, 2, 2048, 32]⟩ : Shape).Idx → Ideal .f32)
    (h : (⟨4, ![4, 2, 2048, 32]⟩ : Shape).Slices (fun _ => 0) ⟨4, ![4, 2, 2048, 16]⟩) (b : Fin 4) (k : Fin 2) (t : Fin 2048) (p : Fin 16) :
    (Host.topK ⟨4, ![4, 2, 2048, 16]⟩ 3 (FloatOps.cmpfTotal (F := Ideal) .gt) x h).2 (ix4 b k t p)
      = BitVec.ofNat 32 (sortedFrom (gtB fun j : Fin 32 => x (ix4 b k t j)) (p.castLE (by decide))).val := by
  have e : (fun a : Fin 4 => (⟨0 + (ix4 b k t p (a.cast h.1.symm)).val, Nat.lt_of_lt_of_le (Nat.add_lt_add_left (ix4 b k t p _).isLt _) (h.2 a)⟩
      : Fin ((⟨4, ![4, 2, 2048, 32]⟩ : Shape).size a))) = (ix4 b k t (p.castLE (by decide)) : (⟨4, ![4, 2, 2048, 32]⟩ : Shape).Idx) := by
    funext a
    fin_cases a <;> exact Fin.ext (Nat.zero_add _)
  unfold Host.topK Host.sort2 extractStridedSlice
  simp only [dif_pos (show 3 < (⟨4, ![4, 2, 2048, 32]⟩ : Shape).rank by decide)]
  rw [e]
  exact sorted_at x b k t _ _ _ (Fin.ext (Nat.zero_add _))

end Cert.Nsa

end
-- ==== Proof.RCmp.lean ====
/- The reference's compressed branch and the scores of its selection blocks. -/
module

public import proofs.«01_k».proof.Proof.RScr
public import proofs.«01_k».proof.Proof.RSoft

@[expose] public section

noncomputable section

namespace Cert.ReferenceIdeal.At

open Cert.ReferenceIdeal Cert.ReferenceIdeal.Gen Cert.ReferenceIdeal.Read Cert.Nsa Idealize.ShloMosaic
open scoped BigOperators

variable (A : (⟨S8192x8192, .f32⟩ : BufTy).Contents (Elt Ideal)) (B : (⟨S4x4x128x128, .f32⟩ : BufTy).Contents (Elt Ideal))

theorem unum_ite (P : Prop) [Decidable P] : (FloatOps.uitofp .f32 (if P then 1#1 else 0#1) : Ideal .f32) = if P then (1 : EReal) else 0 := by
  by_cases hP : P <;> simp [hP, FloatOps.uitofp]

theorem maskc_at (t : Fin 2048) (n : Fin 127) :
    val_main_v30 (F := Ideal) (ix2 t n) = if (n : ℕ) ∈ SC t then 1#1 else 0#1 := by
  pointwise [val_main_v30, val_main_v29, val_main_v28, val_main_v27, val_main_v26, val_main_v25, val_main_v24, val_main_c_3, val_main_v23, val_main_v22, val_main_c_2, val_main_v17, val_main_v16, val_main_c, val_main_v15, val_main_v14]
  rw [WordCmp.muli_ofNat, WordCmp.addi_ofNat, sub_nat (by omega), sle_nat (by omega) (by omega)]
  refine if_congr ?_ rfl rfl
  rw [SC, Finset.mem_filter, Finset.mem_range]
  omega

theorem pc_at (b : Fin 4) (k : Fin 2) (g : Fin 8) (t : Fin 2048) (n : Fin 127) :
    val_main_v43 (F := Ideal) A B (ix5 b k g t n) = prob (SC t) (scr (qOf (rows A b) k t g) (cOf (slots B b) k)) n := by
  have hm := maskc_at t
  have hx := sc_at A B b k g t
  unfold val_main_v43 val_main_v42 val_main_v41 val_main_v40 val_main_cst_8 val_main_v39 val_main_v38 val_main_cst_7 val_main_v37 val_main_call1_v2 val_main_call1_v1
    val_main_call1_v0 val_main_cst_6 val_main_v36 val_main_v35 val_main_v34 val_main_v33 val_main_v32 val_main_cst_5 val_main_v31 val_main_call0_v2 val_main_call0_v1 val_main_call0_v0 val_main_cst_4
  simp only [id_eq]
  generalize val_main_v30 (F := Ideal) = M at hm ⊢
  generalize val_main_v21 (F := Ideal) A B = X at hx ⊢
  pointwise []
  rw [low_bot]
  exact row_prob (SC t) (fun n hn => Finset.mem_range.1 (Finset.mem_filter.1 hn).1) _ (fun n => M (ix2 t n)) (fun n => X (ix5 b k g t n)) hm hx _ rfl n

theorem oc_at (b : Fin 4) (k : Fin 2) (g : Fin 8) (t : Fin 2048) (d : Fin 128) :
    val_main_v44 (F := Ideal) A B (ix5 b k g t d) = att (SC t) (scr (qOf (rows A b) k t g) (cOf (slots B b) k)) (cOf (slots B b) (2 + k) · d) := by
  have hp := pc_at A B b k g t
  have hv := vc_at B b k
  unfold val_main_v44
  generalize val_main_v43 (F := Ideal) A B = P at hp ⊢
  generalize val_main_v13 (F := Ideal) B = V at hv ⊢
  pointwise []
  exact row_att (SC t) (fun n hn => Finset.mem_range.1 (Finset.mem_filter.1 hn).1) _ _ (fun n => P (ix5 b k g t n)) (fun n => V (ix4 b k n d)) hp fun n => hv n d

theorem cover_at (n : Fin 127) (j : Fin 32) :
    val_main_v63 (F := Ideal) (ix2 n j) = if 16 * (n : ℕ) < 64 * j + 64 ∧ 64 * (j : ℕ) < 16 * n + 32 then (1 : EReal) else 0 := by
  pointwise [val_main_v63, val_main_v62, val_main_v61, val_main_v60, val_main_v59, val_main_v58, val_main_v57, val_main_v56, val_main_c_11, val_main_v55, val_main_v54, val_main_v53, val_main_v52, val_main_v51, val_main_v50, val_main_c_10, val_main_v49, val_main_v48, val_main_v47, val_main_v46, val_main_c_9, val_main_v45, val_main_v17, val_main_v16, val_main_c, val_main_v15]
  rw [WordCmp.muli_ofNat, WordCmp.muli_ofNat, WordCmp.addi_ofNat, WordCmp.addi_ofNat, slt_nat (by omega) (by omega), sgt_nat (by omega) (by omega), and_ite, unum_ite]
  refine if_congr ?_ rfl rfl
  omega

theorem psum_at (b : Fin 4) (k : Fin 2) (t : Fin 2048) (n : Fin 127) :
    val_main_v64 (F := Ideal) A B (ix4 b k t n) = psum t (qOf (rows A b) k t) (cOf (slots B b) k) n := by
  have hp := fun g => pc_at A B b k g t n
  unfold val_main_v64 val_main_cst_12
  generalize val_main_v43 (F := Ideal) A B = P at hp ⊢
  pointwise []
  exact Finset.sum_congr rfl fun g _ => hp g

theorem imp_at (b : Fin 4) (k : Fin 2) (t : Fin 2048) (j : Fin 32) :
    val_main_v65 (F := Ideal) A B (ix4 b k t j) = imp t (qOf (rows A b) k t) (cOf (slots B b) k) j := by
  have hp := psum_at A B b k t
  have hc := fun n => cover_at n j
  unfold val_main_v65
  generalize val_main_v64 (F := Ideal) A B = P at hp ⊢
  generalize val_main_v63 (F := Ideal) = C at hc ⊢
  pointwise []
  unfold imp
  rw [← Fin.sum_univ_eq_sum_range (fun n => if 16 * n < 64 * (j : ℕ) + 64 ∧ 64 * (j : ℕ) < 16 * n + 32 then psum t (qOf (rows A b) k t) (cOf (slots B b) k) n else 0)]
  refine Finset.sum_congr rfl fun n _ => ?_
  rw [hp, hc]
  split
  · exact mul_one _
  · exact mul_zero _

theorem blk_at (t : Fin 2048) : val_main_v67 (F := Ideal) (ix1 t) = BitVec.ofNat 32 (t / 64) := by
  pointwise [val_main_v67, val_main_call2_v13, val_main_call2_v12, val_main_call2_c_0, val_main_call2_v11, val_main_call2_v10, val_main_call2_v9, val_main_call2_c, val_main_call2_v8, val_main_call2_v7, val_main_call2_v6, val_main_call2_v5, val_main_call2_v4, val_main_call2_v3, val_main_call2_v2, val_main_call2_v1, val_main_call2_v0, val_main_c_13, val_main_v14]
  simp only [id_eq]
  pointwise []
  revert t
  decide +kernel

theorem score_at (b : Fin 4) (k : Fin 2) (t : Fin 2048) (j : Fin 32) :
    val_main_v96 (F := Ideal) A B (ix4 b k t j) = score t (qOf (rows A b) k t) (cOf (slots B b) k) j := by
  have hi := imp_at A B b k t j
  have hb := blk_at t
  unfold val_main_v96 val_main_call4_v2 val_main_call4_v1 val_main_call4_v0 val_main_cst_18 val_main_v95 val_main_v94 val_main_v93 val_main_v92 val_main_v91 val_main_call3_v1 val_main_call3_v0 val_main_cst_17 val_main_cst_16
    val_main_v90 val_main_v89 val_main_v88 val_main_v87 val_main_v86 val_main_v85 val_main_c_15 val_main_v84 val_main_v83 val_main_v82 val_main_v81 val_main_v80 val_main_v79 val_main_v78 val_main_v77 val_main_v76 val_main_v75 val_main_v74 val_main_c_14 val_main_v73
    val_main_v72 val_main_v71 val_main_v70 val_main_v69 val_main_v68 val_main_v66
  simp only [id_eq]
  generalize val_main_v65 (F := Ideal) A B = I at hi ⊢
  generalize val_main_v67 (F := Ideal) = W at hb ⊢
  pointwise []
  rw [hi, hb, low_bot, sle_nat (by omega) (by omega), eq_nat (by omega) (by omega), eq_pred (by omega) (by omega), eq_nat (by omega) (by omega), or_ite, or_ite, sel_ite, sel_ite]
  unfold score
  simp only [or_assoc]

end Cert.ReferenceIdeal.At

end
-- ==== Proof.RSel.lean ====
/- The reference's selected and window branches. -/
module

public import proofs.«01_k».proof.Proof.RCmp

@[expose] public section

noncomputable section

namespace Cert.ReferenceIdeal.At

open Cert.ReferenceIdeal Cert.ReferenceIdeal.Gen Cert.ReferenceIdeal.Read Cert.Nsa Idealize.ShloMosaic
open scoped BigOperators

variable (A : (⟨S8192x8192, .f32⟩ : BufTy).Contents (Elt Ideal)) (B : (⟨S4x4x128x128, .f32⟩ : BufTy).Contents (Elt Ideal))

theorem index_at (b : Fin 4) (k : Fin 2) (t : Fin 2048) (p : Fin 16) :
    val_main_indices (F := Ideal) A B (ix4 b k t p)
      = BitVec.ofNat 32 (sortedFrom (gtB fun j : Fin 32 => score t (qOf (rows A b) k t) (cOf (slots B b) k) j) (p.castLE (by decide))).val := by
  have e : (fun j : Fin 32 => val_main_v96 (F := Ideal) A B (ix4 b k t j)) = fun j : Fin 32 => score t (qOf (rows A b) k t) (cOf (slots B b) k) j :=
    funext fun j => score_at A B b k t j
  rw [← e]
  exact top_at _ _ b k t p

theorem picked_at (b : Fin 4) (k : Fin 2) (t : Fin 2048) (j : Fin 32) :
    val_main_v102 (F := Ideal) A B (ix4 b k t j) = if (j : ℕ) ∈ Sel (score t (qOf (rows A b) k t) (cOf (slots B b) k)) then 1#1 else 0#1 := by
  have hi := index_at A B b k t
  unfold val_main_v102 val_main_v101 val_main_v100 val_main_v99 val_main_v98 val_main_v97 val_main_c_19 val_main_v66
  generalize val_main_indices (F := Ideal) A B = I at hi ⊢
  pointwise []
  refine (fold_or (fun p : Fin 16 => sortedFrom (gtB fun j : Fin 32 => score t (qOf (rows A b) k t) (cOf (slots B b) k) j) (p.castLE (by decide)) = j) _ fun p => ?_).trans ?_
  · rw [hi, eq_nat (by omega) (by omega)]
    exact if_congr Fin.ext_iff.symm rfl rfl
  · exact if_congr (top_iff _ _ (fun _ => rfl) j) rfl rfl

theorem masks_at (b : Fin 4) (k : Fin 2) (t n : Fin 2048) :
    val_main_v119 (F := Ideal) A B (ix5 b k (0 : Fin 1) t n) = if (n : ℕ) ∈ SS t (qOf (rows A b) k t) (cOf (slots B b) k) then 1#1 else 0#1 := by
  have hp := picked_at A B b k t
  unfold val_main_v119 val_main_v118 val_main_v117 val_main_v116 val_main_v115 val_main_v114 val_main_v113 val_main_v112 val_main_v105 val_main_v104 val_main_v103 val_main_v14
  generalize val_main_v102 (F := Ideal) A B = I at hp ⊢
  pointwise []
  rw [hp, sle_nat (by omega) (by omega), and_ite]
  refine if_congr ?_ rfl rfl
  rw [SS, Finset.mem_filter, Finset.mem_range]
  exact ⟨fun h => ⟨n.2, h⟩, fun h => h.2⟩

theorem ps_at (b : Fin 4) (k : Fin 2) (g : Fin 8) (t n : Fin 2048) :
    val_main_v132 (F := Ideal) A B (ix5 b k g t n) = prob (SS t (qOf (rows A b) k t) (cOf (slots B b) k)) (scr (qOf (rows A b) k t g) (kvOf (rows A b) 2560 k)) n := by
  have hm := masks_at A B b k t
  have hx := ss_at A b k g t
  unfold val_main_v132 val_main_v131 val_main_v130 val_main_v129 val_main_cst_25 val_main_v128 val_main_v127 val_main_cst_24 val_main_v126 val_main_call6_v2 val_main_call6_v1
    val_main_call6_v0 val_main_cst_23 val_main_v125 val_main_v124 val_main_v123 val_main_v122 val_main_v121 val_main_cst_22 val_main_v120 val_main_call5_v2 val_main_call5_v1 val_main_call5_v0 val_main_cst_21
  simp only [id_eq]
  generalize val_main_v119 (F := Ideal) A B = M at hm ⊢
  generalize val_main_v111 (F := Ideal) A = X at hx ⊢
  pointwise []
  rw [low_bot]
  exact row_prob _ (fun n hn => Finset.mem_range.1 (Finset.mem_filter.1 hn).1) _ (fun n => M (ix5 b k (0 : Fin 1) t n)) (fun n => X (ix5 b k g t n)) hm hx _ rfl n

theorem os_at (b : Fin 4) (k : Fin 2) (g : Fin 8) (t : Fin 2048) (d : Fin 128) :
    val_main_v135 (F := Ideal) A B (ix5 b k g t d)
      = att (SS t (qOf (rows A b) k t) (cOf (slots B b) k)) (scr (qOf (rows A b) k t g) (kvOf (rows A b) 2560 k)) (kvOf (rows A b) 2816 k · d) := by
  have hp := ps_at A B b k g t
  have hv := fun n => vs_at A b n k d
  unfold val_main_v135
  generalize val_main_v132 (F := Ideal) A B = P at hp ⊢
  generalize val_main_v134 (F := Ideal) A = V at hv ⊢
  pointwise []
  exact row_att _ (fun n hn => Finset.mem_range.1 (Finset.mem_filter.1 hn).1) _ _ (fun n => P (ix5 b k g t n)) (fun n => V (ix4 b n k d)) hp hv

theorem low_word : ∀ t : Fin 512, (BitVec.ofNat 32 t - 512#32).toInt = (t : ℤ) - 512 := by decide +kernel

theorem after (t n : Fin 2048) : IntOp.cmpi .sgt (BitVec.ofNat 32 n) (IntOp.subi (BitVec.ofNat 32 t) 512#32) = if (t : ℕ) < n + 512 then 1#1 else 0#1 := by
  by_cases h : 512 ≤ (t : ℕ)
  · rw [sub_nat h, sgt_nat (by omega) (by omega)]
    exact if_congr (by omega) rfl rfl
  · show BitVec.ofBool (decide ((BitVec.ofNat 32 t - 512#32).toInt < (BitVec.ofNat 32 n).toInt)) = _
    have e : (BitVec.ofNat 32 t - 512#32).toInt = (t : ℤ) - 512 := low_word ⟨t, by omega⟩
    rw [e, WordCmp.toInt_ofNat_of_lt (w := 32) (a := n) (by omega), bool_ite]
    exact if_congr (by omega) rfl rfl

theorem maskw_at (t n : Fin 2048) : val_main_v154 (F := Ideal) (ix2 t n) = if (n : ℕ) ∈ SW t then 1#1 else 0#1 := by
  pointwise [val_main_v154, val_main_v153, val_main_v152, val_main_v151, val_main_v150, val_main_v149, val_main_c_27, val_main_v148, val_main_v147, val_main_v146, val_main_v145, val_main_v144, val_main_v143, val_main_v142, val_main_v14]
  rw [sle_nat (by omega) (by omega), after, and_ite]
  refine if_congr ?_ rfl rfl
  rw [SW, Finset.mem_filter, Finset.mem_range]
  exact ⟨fun h => ⟨n.2, h⟩, fun h => h.2⟩

theorem pw_at (b : Fin 4) (k : Fin 2) (g : Fin 8) (t n : Fin 2048) :
    val_main_v167 (F := Ideal) A (ix5 b k g t n) = prob (SW t) (scr (qOf (rows A b) k t g) (kvOf (rows A b) 3072 k)) n := by
  have hm := maskw_at t
  have hx := sw_at A b k g t
  unfold val_main_v167 val_main_v166 val_main_v165 val_main_v164 val_main_cst_32 val_main_v163 val_main_v162 val_main_cst_31 val_main_v161 val_main_call8_v2 val_main_call8_v1
    val_main_call8_v0 val_main_cst_30 val_main_v160 val_main_v159 val_main_v158 val_main_v157 val_main_v156 val_main_cst_29 val_main_v155 val_main_call7_v2 val_main_call7_v1 val_main_call7_v0 val_main_cst_28
  simp only [id_eq]
  generalize val_main_v154 (F := Ideal) = M at hm ⊢
  generalize val_main_v141 (F := Ideal) A = X at hx ⊢
  pointwise []
  rw [low_bot]
  exact row_prob _ (fun n hn => Finset.mem_range.1 (Finset.mem_filter.1 hn).1) _ (fun n => M (ix2 t n)) (fun n => X (ix5 b k g t n)) hm hx _ rfl n

theorem ow_at (b : Fin 4) (k : Fin 2) (g : Fin 8) (t : Fin 2048) (d : Fin 128) :
    val_main_v170 (F := Ideal) A (ix5 b k g t d) = att (SW t) (scr (qOf (rows A b) k t g) (kvOf (rows A b) 3072 k)) (kvOf (rows A b) 3328 k · d) := by
  have hp := pw_at A b k g t
  have hv := fun n => vw_at A b n k d
  unfold val_main_v170
  generalize val_main_v167 (F := Ideal) A = P at hp ⊢
  generalize val_main_v169 (F := Ideal) A = V at hv ⊢
  pointwise []
  exact row_att _ (fun n hn => Finset.mem_range.1 (Finset.mem_filter.1 hn).1) _ _ (fun n => P (ix5 b k g t n)) (fun n => V (ix4 b n k d)) hp hv

theorem out_at (b : Fin 4) (k : Fin 2) (g : Fin 8) (t : Fin 2048) (d : Fin 128) :
    val_main_v186 (F := Ideal) A B (ix5 b k g t d) = rowOut (rows A b) (slots B b) t k g d := by
  have h0 := oc_at A B b k g t d
  have h1 := os_at A B b k g t d
  have h2 := ow_at A b k g t d
  have hg := fun s => gate_at A b t s k g
  unfold val_main_v186 val_main_v185 val_main_v184 val_main_v183 val_main_v182 val_main_v181 val_main_v180 val_main_v179 val_main_v178 val_main_v177 val_main_v176 val_main_v175 val_main_v174 val_main_v173 val_main_v172 val_main_v171
  generalize val_main_v44 (F := Ideal) A B = O0 at h0 ⊢
  generalize val_main_v135 (F := Ideal) A B = O1 at h1 ⊢
  generalize val_main_v170 (F := Ideal) A = O2 at h2 ⊢
  generalize val_main_v11 (F := Ideal) A = G at hg ⊢
  pointwise []
  rw [h0, h1, h2, hg, hg, hg]
  rfl

theorem value_eq : val_main_v189 (F := Ideal) A B = attn A B := by
  have h := out_at A B
  unfold val_main_v189 val_main_v188 val_main_v187
  generalize val_main_v186 (F := Ideal) A B = O at h ⊢
  funext y
  obtain ⟨r, c, rfl⟩ : ∃ r c, y = ix2 r c := ⟨y 0, y 1, eq_ix2 y⟩
  pointwise []
  rw [h]
  have e : (⟨(c : ℕ) / 128 % 8, Nat.mod_lt _ (by decide)⟩ : Fin 8) = ⟨(c : ℕ) % 1024 / 128, by omega⟩ := Fin.ext (by show (c : ℕ) / 128 % 8 = (c : ℕ) % 1024 / 128; omega)
  rw [e]
  rfl

end Cert.ReferenceIdeal.At

end
-- ==== Proof.RVal.lean ====
/- The reference's run: its result array holds the attention of the arguments, which end unchanged. -/
module

public import proofs.«01_k».proof.Proof.RSel

@[expose] public section

noncomputable section

namespace Cert.ReferenceIdeal.At

open Cert.ReferenceIdeal Cert.ReferenceIdeal.Gen Cert.Nsa Idealize.ShloMosaic Idealize.ShloMosaic.TcCoe Idealize.SL.Sem
open Idealize.ShloMosaic.StableHlo

/-- The array of the projections. -/
def argA (m : (ℓ : Loc nD τ sig) → Buf (Elt Ideal) ℓ) (c : Dev nD) : (⟨S8192x8192, .f32⟩ : BufTy).Contents (Elt Ideal) :=
  m ((c.tc : Thread nD τ).loc main_arg0)
/-- The array of the compressed keys and values. -/
def argB (m : (ℓ : Loc nD τ sig) → Buf (Elt Ideal) ℓ) (c : Dev nD) : (⟨S4x4x128x128, .f32⟩ : BufTy).Contents (Elt Ideal) :=
  m ((c.tc : Thread nD τ).loc main_arg1)

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v189) = attn (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((Read.val_main_v189_eq (launchContents m c)).trans (value_eq _ _)), (h c).2⟩) (Value.run m ρ)

end Cert.ReferenceIdeal.At

end
-- ==== Proof.Tab.lean ====
module

public import Idealize.ShloMosaic.PureOps

@[expose] public section
open Idealize.ShloMosaic

namespace Tab

/-! The words the grouped products of the experts compute from the tables of blocks. -/

theorem toInt_small {x : BitVec 32} (h : x.toNat < 2 ^ 31) : x.toInt = (x.toNat : Int) := by
  rw [BitVec.toInt_eq_toNat_cond, if_pos (by omega)]

theorem slt_small {x y : BitVec 32} (hx : x.toNat < 2 ^ 31) (hy : y.toNat < 2 ^ 31) :
    x.slt y = decide (x.toNat < y.toNat) := by
  unfold BitVec.slt
  rw [toInt_small hx, toInt_small hy]
  simp

/-- The smaller of a block's number and the last used block's. -/
theorem min_word {i : Nat} (hi : i < 161) {n : BitVec 32} (h1 : 1 ≤ n.toNat) (h2 : n.toNat < 2 ^ 31) :
    (Scalar.minsi (BitVec.ofNat 32 i) (Scalar.subi n 1#32)).toNat = min i (n.toNat - 1) := by
  have e1 : (BitVec.ofNat 32 i).toNat = i := by rw [BitVec.toNat_ofNat]; omega
  have e2 : (Scalar.subi n 1#32).toNat = n.toNat - 1 := by
    show (n - 1#32).toNat = _
    rw [BitVec.toNat_sub]
    have : (1#32 : BitVec 32).toNat = 1 := rfl
    rw [this]; omega
  show (if (BitVec.ofNat 32 i).slt (Scalar.subi n 1#32) then BitVec.ofNat 32 i else Scalar.subi n 1#32).toNat = _
  rw [slt_small (by omega) (by omega), e1, e2]
  by_cases h : i < n.toNat - 1
  · rw [if_pos (by simpa using h), e1]; omega
  · rw [if_neg (by simpa using h), e2]; omega

theorem ofBool_one (b : Bool) : (BitVec.ofBool b = 1#1) ↔ b = true := by cases b <;> decide

theorem ext_ne (b : BitVec 1) : Scalar.cmpi .ne (Scalar.extui b : BitVec 32) 0#32 = b := by
  revert b; decide

/-- Whether a block is used. -/
theorem live_word {i : Nat} (hi : i < 161) {n : BitVec 32} (h2 : n.toNat < 2 ^ 31) :
    Scalar.cmpi .ne (Scalar.extui (Scalar.cmpi .slt (BitVec.ofNat 32 i) n) : BitVec 32) 0#32 = 1#1 ↔ i < n.toNat := by
  have e1 : (BitVec.ofNat 32 i).toNat = i := by rw [BitVec.toNat_ofNat]; omega
  rw [ext_ne]
  show BitVec.ofBool ((BitVec.ofNat 32 i).slt n) = 1#1 ↔ _
  rw [ofBool_one, slt_small (by omega) h2, e1, decide_eq_true_iff]

/-- Whether a block's weights are cast anew. -/
theorem reload_word {i : Nat} (hi : i < 161) (x y : BitVec 32) :
    Scalar.cmpi .ne (Scalar.extui (Scalar.ori (Scalar.cmpi .eq (BitVec.ofNat 32 i) 0#32) (Scalar.cmpi .ne x y)) : BitVec 32) 0#32 = 1#1
      ↔ i = 0 ∨ x ≠ y := by
  rw [ext_ne]
  show (BitVec.ofBool (BitVec.ofNat 32 i == 0#32) ||| BitVec.ofBool (x != y)) = 1#1 ↔ _
  have h1 : (BitVec.ofNat 32 i == 0#32) = decide (i = 0) := by
    rw [Bool.eq_iff_iff, decide_eq_true_iff, beq_iff_eq, ← BitVec.toNat_inj, BitVec.toNat_ofNat]
    show i % 2 ^ 32 = 0 ↔ _
    omega
  have h2 : ∀ a b : Bool, (BitVec.ofBool a ||| BitVec.ofBool b) = 1#1 ↔ a = true ∨ b = true := by decide
  rw [h2, h1, decide_eq_true_iff, bne_iff_ne]

/-- The block before, of a block that is not the first. -/
theorem prev_word {i : Nat} (hi : i < 161) (h0 : i ≠ 0) :
    (Scalar.maxsi (Scalar.subi (BitVec.ofNat 32 i) 1#32) 0#32).toNat = i - 1 := by
  revert i; decide +kernel

end Tab
-- ==== Proof.E4I.lean ====
/- The runs of the body of the first grouped product of the experts at a point, by whether the weights are cast anew and whether the block is used. -/
module

public import proofs.«01_k».proof.Proof.Gen.Kernel4Ideal.Launch
public import proofs.«01_k».proof.Proof.Gen.Kernel4Ideal.Skeleton
public import proofs.«01_k».proof.Proof.Tab
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.ValueKit

@[expose] public section

set_option maxRecDepth 16384

noncomputable section

namespace Cert.Kernel4Ideal.Run

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the blocks' experts and the number of used blocks, as the body is handed them. -/
abbrev tb0 : Memref sig .tc .smem S161 .i32 := Memref.whole main_arg1
abbrev tb1 : Memref sig .tc .smem S1 .i32 := Memref.whole main_arg2

abbrev TbBuf (c : Dev nD) {S : Shape} {e : EltTy} (M : Memref sig .tc .smem S e) : Type := Buf (Elt F) (M.view.loc (c : Thread nD τ))
/-- A table held at half the share, at `f`. -/
abbrev tbPt (c : Dev nD) {S : Shape} {e : EltTy} (M : Memref sig .tc .smem S e) (f : TbBuf (F := F) c M) : sProp 𝕄 :=
  M.view.loc (c : Thread nD τ) ↦{fullShare.right} f

/-- The words the body reads: the block's expert, the expert of the block before, the number of used blocks. -/
abbrev rd0 (c : Dev nD) (i : grid0.Coords) (f : TbBuf (F := F) c tb0) : BitVec 32 :=
  tb0.view.readAt (Elt F) (Rect.unit (s := S161) (k0_off1 i) S1.size (k0_off1_inb i)).toLoadRect f (Shape.Idx.first (numel1_S1.symm ▸ Nat.one_pos))
abbrev rd1 (c : Dev nD) (i : grid0.Coords) (f : TbBuf (F := F) c tb0) : BitVec 32 :=
  tb0.view.readAt (Elt F) (Rect.unit (s := S161) (k0_off2 i) S1.size (k0_off2_inb i)).toLoadRect f (Shape.Idx.first (numel1_S1.symm ▸ Nat.one_pos))
abbrev rd2 (c : Dev nD) (f : TbBuf (F := F) c tb1) : BitVec 32 :=
  tb1.view.readAt (Elt F) (Rect.unit (s := S1) ![0] S1.size inb_S1_S1_0).toLoadRect f (Shape.Idx.first (numel1_S1.symm ▸ Nat.one_pos))

/-- The weights are cast anew. -/
abbrev reloads (c : Dev nD) (i : grid0.Coords) (f : TbBuf (F := F) c tb0) : Prop :=
  (Scalar.cmpi .ne (Scalar.extui (Scalar.ori (Scalar.cmpi .eq (BitVec.ofNat 32 (i 1).val) 0#32) (Scalar.cmpi .ne (rd0 c i f) (rd1 c i f)))) 0#32) = 1#1
/-- The block is used. -/
abbrev used (c : Dev nD) (i : grid0.Coords) (f : TbBuf (F := F) c tb1) : Prop := k0_cond2 i (rd2 c f) = 1#1

theorem origin2 : (![0, 0] : Fin 2 → Nat) = fun _ => 0 := by funext i; fin_cases i <;> rfl
theorem origin4 : (![0, 0, 0, 0] : Fin 4 → Nat) = fun _ => 0 := by funext i; fin_cases i <;> rfl

set_option maxHeartbeats 3200000 in
/-- The weights cast anew, the block used. -/
theorem runRU (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (f0 : TbBuf (F := F) c tb0) (f1 : TbBuf (F := F) c tb1) (hc0 : reloads c i f0) (hc1 : used c i f1)
    (x0 : Vec F S256x4096 .bf16) (x1 : Vec F S1x1x4096x512 .f32) (x2 : Vec F S1x1x4096x512 .f32) (x3 : Vec F S1x1x1x512 .f32) (x4 : Vec F S1x1x1x512 .f32)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d) ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay3 x0 (k0_pay1 x1) x3 (k0_pay2 x2) x4) ∗ owns (c : Thread nD τ) arg10 fullShare (k0_pay1 x1) ∗ owns (c : Thread nD τ) arg11 fullShare (k0_pay2 x2) ∗ tbPt c tb0 f0 ∗ tbPt c tb1 f1) -∗ K ⟨⟩))
      ⊢ wp frame (wpE (defs₀ (F := F)) Variants.none c none) E (cc0_moe_gmm1 i tb0 (Memref.isWhole_whole _) tb1 (Memref.isWhole_whole _) arg4 harg4 arg5 harg5 arg6 harg6 arg7 harg7 arg8 harg8 arg9 harg9 arg10 harg10 arg11 harg11) K := by
  simp only [cc0_moe_gmm1_eq_skeleton]; unfold cc0_moe_gmm1_skel
  unfold owns
  iintro ⟨⟨%g0, %hg0, H0⟩, ⟨%g1, %hg1, H1⟩, ⟨%g2, %hg2, H2⟩, ⟨%g3, %hg3, H3⟩, ⟨%g4, %hg4, H4⟩, ⟨%d5, %g5, -, H5⟩, ⟨%d6, %g6, -, H6⟩, ⟨%d7, %g7, -, H7⟩, T0, T1, Hk⟩
  obtain rfl := harg4.eq_unread hg0; obtain rfl := harg5.eq_unread hg1; obtain rfl := harg6.eq_unread hg2; obtain rfl := harg7.eq_unread hg3; obtain rfl := harg8.eq_unread hg4
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    refine (View.read_writes_eq_canon _ _ _ (View.cover_of_wholeMem _ (by sl_whole_mem))).trans ?_
    sl_unfold_words
    rw [View.canon_cons_unit_zero (S := S256x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [H6]
  · iexists _; isplitr
    swap; · iexact H6
    ipureintro
    refine (View.read_writes_eq_canon _ _ _ (View.cover_of_wholeMem _ (by sl_whole_mem))).trans ?_
    sl_unfold_words
    rw [View.canon_cons_unit_zero (S := S4096x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [H7]
  · iexists _; isplitr
    swap; · iexact H7
    ipureintro
    refine (View.read_writes_eq_canon _ _ _ (View.cover_of_wholeMem _ (by sl_whole_mem))).trans ?_
    sl_unfold_words
    rw [View.canon_cons_unit_zero (S := S4096x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [T0]; · iexact T0
  iexact T1

set_option maxHeartbeats 3200000 in
/-- The weights cast anew, the block not used. -/
theorem runRI (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (f0 : TbBuf (F := F) c tb0) (f1 : TbBuf (F := F) c tb1) (hc0 : reloads c i f0) (hc1 : ¬used c i f1)
    (x0 : Vec F S256x4096 .bf16) (x1 : Vec F S1x1x4096x512 .f32) (x2 : Vec F S1x1x4096x512 .f32) (x3 : Vec F S1x1x1x512 .f32) (x4 : Vec F S1x1x1x512 .f32) (xo : Vec F S256x512 .bf16)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ (∃ d, owns (c : Thread nD τ) arg10 fullShare d) ∗ (∃ d, owns (c : Thread nD τ) arg11 fullShare d) ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare (k0_pay1 x1) ∗ owns (c : Thread nD τ) arg11 fullShare (k0_pay2 x2) ∗ tbPt c tb0 f0 ∗ tbPt c tb1 f1) -∗ K ⟨⟩))
      ⊢ wp frame (wpE (defs₀ (F := F)) Variants.none c none) E (cc0_moe_gmm1 i tb0 (Memref.isWhole_whole _) tb1 (Memref.isWhole_whole _) arg4 harg4 arg5 harg5 arg6 harg6 arg7 harg7 arg8 harg8 arg9 harg9 arg10 harg10 arg11 harg11) K := by
  simp only [cc0_moe_gmm1_eq_skeleton]; unfold cc0_moe_gmm1_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%d6, %g6, -, H6⟩, ⟨%d7, %g7, -, H7⟩, T0, T1, Hk⟩
  obtain rfl := harg4.eq_unread hg0; obtain rfl := harg5.eq_unread hg1; obtain rfl := harg6.eq_unread hg2; obtain rfl := harg7.eq_unread hg3; obtain rfl := harg8.eq_unread hg4; obtain rfl := harg9.eq_unread hg5
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro
    refine (View.read_writes_eq_canon _ _ _ (View.cover_of_wholeMem _ (by sl_whole_mem))).trans ?_
    sl_unfold_words
    rw [View.canon_cons_unit_zero (S := S4096x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [H7]
  · iexists _; isplitr
    swap; · iexact H7
    ipureintro
    refine (View.read_writes_eq_canon _ _ _ (View.cover_of_wholeMem _ (by sl_whole_mem))).trans ?_
    sl_unfold_words
    rw [View.canon_cons_unit_zero (S := S4096x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [T0]; · iexact T0
  iexact T1

set_option maxHeartbeats 3200000 in
/-- The weights kept, the block used. -/
theorem runKU (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (f0 : TbBuf (F := F) c tb0) (f1 : TbBuf (F := F) c tb1) (hc0 : ¬reloads c i f0) (hc1 : used c i f1)
    (x0 : Vec F S256x4096 .bf16) (x1 : Vec F S1x1x4096x512 .f32) (x2 : Vec F S1x1x4096x512 .f32) (x3 : Vec F S1x1x1x512 .f32) (x4 : Vec F S1x1x1x512 .f32) (s0 : Vec F S4096x512 .bf16) (s1 : Vec F S4096x512 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare s0 ∗ owns (c : Thread nD τ) arg11 fullShare s1 ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay3 x0 s0 x3 s1 x4) ∗ owns (c : Thread nD τ) arg10 fullShare s0 ∗ owns (c : Thread nD τ) arg11 fullShare s1 ∗ tbPt c tb0 f0 ∗ tbPt c tb1 f1) -∗ K ⟨⟩))
      ⊢ wp frame (wpE (defs₀ (F := F)) Variants.none c none) E (cc0_moe_gmm1 i tb0 (Memref.isWhole_whole _) tb1 (Memref.isWhole_whole _) arg4 harg4 arg5 harg5 arg6 harg6 arg7 harg7 arg8 harg8 arg9 harg9 arg10 harg10 arg11 harg11) K := by
  simp only [cc0_moe_gmm1_eq_skeleton]; unfold cc0_moe_gmm1_skel
  unfold owns
  iintro ⟨⟨%g0, %hg0, H0⟩, ⟨%g1, %hg1, H1⟩, ⟨%g2, %hg2, H2⟩, ⟨%g3, %hg3, H3⟩, ⟨%g4, %hg4, H4⟩, ⟨%d5, %g5, -, H5⟩, ⟨%g6, %hg6, H6⟩, ⟨%g7, %hg7, H7⟩, T0, T1, Hk⟩
  obtain rfl := harg4.eq_unread hg0; obtain rfl := harg5.eq_unread hg1; obtain rfl := harg6.eq_unread hg2; obtain rfl := harg7.eq_unread hg3; obtain rfl := harg8.eq_unread hg4; obtain rfl := harg10.eq_unread hg6; obtain rfl := harg11.eq_unread hg7
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    refine (View.read_writes_eq_canon _ _ _ (View.cover_of_wholeMem _ (by sl_whole_mem))).trans ?_
    sl_unfold_words
    rw [View.canon_cons_unit_zero (S := S256x512) origin2]
    simp only [View.readCov_unit_zero (S := S4096x512) _ origin2, View.readAt_eq_ld, harg4.read_unread, harg5.read_unread, harg6.read_unread, harg7.read_unread, harg8.read_unread, harg9.read_unread, harg10.read_unread, harg11.read_unread, View.ld_unit_zero (S := S1x1x1x512) origin4, View.ld_unit_zero (S := S1x1x4096x512) origin4, View.ld_unit_zero (S := S256x4096) origin2, View.ld_unit_zero (S := S256x512) origin2, View.ld_unit_zero (S := S4096x512) origin2]
  isplitl [H6]
  · iexists _; isplitr; · ipureintro; exact harg10.read_unread _
    iexact H6
  isplitl [H7]
  · iexists _; isplitr; · ipureintro; exact harg11.read_unread _
    iexact H7
  isplitl [T0]; · iexact T0
  iexact T1

set_option maxHeartbeats 3200000 in
/-- The weights kept, the block not used. -/
theorem runKI (c : Dev nD) (i : grid0.Coords) (arg4 : Memref sig .tc .vmem S256x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S256x512 .bf16) (harg9 : arg9.IsWhole) (arg10 : Memref sig .tc .vmem S4096x512 .bf16) (harg10 : arg10.IsWhole) (arg11 : Memref sig .tc .vmem S4096x512 .bf16) (harg11 : arg11.IsWhole) (f0 : TbBuf (F := F) c tb0) (f1 : TbBuf (F := F) c tb1) (hc0 : ¬reloads c i f0) (hc1 : ¬used c i f1)
    (x0 : Vec F S256x4096 .bf16) (x1 : Vec F S1x1x4096x512 .f32) (x2 : Vec F S1x1x4096x512 .f32) (x3 : Vec F S1x1x1x512 .f32) (x4 : Vec F S1x1x1x512 .f32) (xo : Vec F S256x512 .bf16) (s0 : Vec F S4096x512 .bf16) (s1 : Vec F S4096x512 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare s0 ∗ owns (c : Thread nD τ) arg11 fullShare s1 ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xo ∗ owns (c : Thread nD τ) arg10 fullShare s0 ∗ owns (c : Thread nD τ) arg11 fullShare s1 ∗ tbPt c tb0 f0 ∗ tbPt c tb1 f1) -∗ K ⟨⟩))
      ⊢ wp frame (wpE (defs₀ (F := F)) Variants.none c none) E (cc0_moe_gmm1 i tb0 (Memref.isWhole_whole _) tb1 (Memref.isWhole_whole _) arg4 harg4 arg5 harg5 arg6 harg6 arg7 harg7 arg8 harg8 arg9 harg9 arg10 harg10 arg11 harg11) K := by
  simp only [cc0_moe_gmm1_eq_skeleton]; unfold cc0_moe_gmm1_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, T0, T1, Hk⟩
  obtain rfl := harg4.eq_unread hg0; obtain rfl := harg5.eq_unread hg1; obtain rfl := harg6.eq_unread hg2; obtain rfl := harg7.eq_unread hg3; obtain rfl := harg8.eq_unread hg4; obtain rfl := harg9.eq_unread hg5; obtain rfl := harg10.eq_unread hg6; obtain rfl := harg11.eq_unread hg7
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr; · ipureintro; exact harg11.read_unread _
    iexact H7
  isplitl [T0]; · iexact T0
  iexact T1

end Cert.Kernel4Ideal.Run

end
-- ==== Proof.D4I.lean ====
/- The launch of the first grouped product of the experts: what the scratch and the output hold after each point, the body obligation, the run, the frame. -/
module

public import proofs.«01_k».proof.Proof.E4I

@[expose] public section

set_option maxRecDepth 16384

noncomputable section

namespace Cert.Kernel4Ideal.Run

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation before the region writes no argument. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert 0 {1} from by decide, bigSep_insert (by decide), bigSep_singleton]
  rfl

/-- A position in the table of the blocks' experts, the position in the number of used blocks. -/
def at161 (b : ℕ) (h : b < 161) : S161.Idx := fun a => ⟨b, by rw [Subsingleton.elim a 0]; exact h⟩
def at1 : S1.Idx := fun a => ⟨0, by rw [Subsingleton.elim a 0]; exact Nat.one_pos⟩

/-- A block's expert, and the number of used blocks. -/
def be (b : ℕ) (h : b < 161) : BitVec 32 := tbl m 0 (at161 b h)
def nu : BitVec 32 := tbl m 1 at1

/-- What the precondition gives of the tables. -/
structure Good : Prop where
  be_lt : ∀ b h, (be m b h).toNat < 32
  nu_pos : 1 ≤ (nu m).toNat
  nu_lt : (nu m).toNat < 2 ^ 31

theorem i1_lt (i : grid0.Coords) : (i 1).val < 161 := (i 1).isLt

theorem rd0_eq (c : Dev nD) (i : grid0.Coords) : rd0 c i (tbl m 0) = be m (i 1).val (i1_lt i) := by
  refine congrArg (fun x : S161.Idx => (tbl m 0 x : BitVec 32)) (funext fun a : Fin 1 => Fin.ext ?_)
  obtain rfl : a = 0 := Subsingleton.elim _ _
  show k0_off1 i 0 + 1 * 0 = (i 1).val
  rw [k0_off1_eq]; rfl

theorem off2_eq (i : grid0.Coords) (h : (i 1).val ≠ 0) : k0_off2 i = ![(i 1).val - 1] := by
  unfold k0_off2
  show ![(Scalar.maxsi (Scalar.subi (BitVec.ofNat 32 (i 1).val) 1#32) 0#32).toNat] = _
  rw [Tab.prev_word (i1_lt i) h]

theorem rd1_eq (c : Dev nD) (i : grid0.Coords) (h : (i 1).val ≠ 0) :
    rd1 c i (tbl m 0) = be m ((i 1).val - 1) (by have := i1_lt i; omega) := by
  refine congrArg (fun x : S161.Idx => (tbl m 0 x : BitVec 32)) (funext fun a : Fin 1 => Fin.ext ?_)
  obtain rfl : a = 0 := Subsingleton.elim _ _
  show k0_off2 i 0 + 1 * 0 = (i 1).val - 1
  rw [off2_eq i h]; rfl

theorem rd2_eq (c : Dev nD) : rd2 c (tbl m 1) = nu m := by
  refine congrArg (fun x : S1.Idx => (tbl m 1 x : BitVec 32)) (funext fun a : Fin 1 => Fin.ext ?_)
  obtain rfl : a = 0 := Subsingleton.elim _ _
  rfl

theorem at1_eq : (tbl m).at 1 (Rect.unit (s := S1) ![0] S1.size inb_S1_S1_0) numel1_S1 = nu m := rd2_eq m 0

theorem atD_eq : (tbl m).atD 1 ![0] = nu m := by
  unfold Pipeline.Prefetch.Contents.atD
  refine (dif_pos (show ∀ a : Fin 1, (![0] : Fin 1 → ℕ) a + 1 ≤ S1.size a by decide)).trans ?_
  refine congrArg (fun x : S1.Idx => (tbl m 1 x : BitVec 32)) (funext fun a : Fin 1 => Fin.ext ?_)
  obtain rfl : a = 0 := Subsingleton.elim _ _
  rfl

attribute [local irreducible] tbl

theorem used_iff (hG : Good m) (c : Dev nD) (i : grid0.Coords) : used c i (tbl m 1) ↔ (i 1).val < (nu m).toNat := by
  unfold used; rw [rd2_eq]; exact Tab.live_word (i1_lt i) hG.nu_lt

/-- Where the weights are kept, the block is not the first of its column block and has the expert of the one before. -/
theorem keeps_of (c : Dev nD) (i : grid0.Coords) (h : ¬reloads c i (tbl m 0)) :
    ∃ h0 : (i 1).val ≠ 0, be m (i 1).val (i1_lt i) = be m ((i 1).val - 1) (by have := i1_lt i; omega) := by
  unfold reloads at h
  rw [Tab.reload_word (i1_lt i), not_or] at h
  refine ⟨h.1, ?_⟩
  have h2 := not_not.mp h.2
  rw [rd0_eq, rd1_eq m c i h.1] at h2; exact h2

/-- The first and the output window's block indices. -/
theorem ix_first (hG : Good m) (i : grid0.Coords) : ix0 (tbl m) 0 i = ![min (i 1).val ((nu m).toNat - 1), 0] := by
  show ![(Scalar.minsi (BitVec.ofNat 32 (i 1).val) (Scalar.subi ((tbl m).at 1 (Rect.unit (s := S1) ![0] S1.size inb_S1_S1_0) numel1_S1) 1#32)).toNat, 0] = _
  rw [at1_eq, Tab.min_word (i1_lt i) hG.nu_pos hG.nu_lt]

theorem ix_out (hG : Good m) (i : grid0.Coords) : ix0 (tbl m) 5 i = ![min (i 1).val ((nu m).toNat - 1), (i 0).val] := by
  have h0 : (BitVec.ofNat 32 (i 0).val).toNat = (i 0).val := by
    have : (i 0).val < 4 := (i 0).isLt
    rw [BitVec.toNat_ofNat]; omega
  show ![(Scalar.minsi (BitVec.ofNat 32 (i 1).val) (Scalar.subi ((tbl m).at 1 (Rect.unit (s := S1) ![0] S1.size inb_S1_S1_0) numel1_S1) 1#32)).toNat, (BitVec.ofNat 32 (i 0).val).toNat] = _
  rw [at1_eq, Tab.min_word (i1_lt i) hG.nu_pos hG.nu_lt, h0]

theorem ix_1 (i : grid0.Coords) : ix0 (tbl m) 1 i = ![0, (be m (i 1).val (i1_lt i)).toNat, 0, (i 0).val] := by
  have h0 : (BitVec.ofNat 32 (i 0).val).toNat = (i 0).val := by
    have h : (i 0).val < 4 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (BitVec.ofNat 32 (i 0).val).toNat] = _
  rw [h1, h0]

theorem ix_2 (i : grid0.Coords) : ix0 (tbl m) 2 i = ![0, (be m (i 1).val (i1_lt i)).toNat, 0, 4 + (i 0).val] := by
  have h0 : (Scalar.addi 4#32 (BitVec.ofNat 32 (i 0).val)).toNat = 4 + (i 0).val := by
    have h : (i 0).val < 4 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (Scalar.addi 4#32 (BitVec.ofNat 32 (i 0).val)).toNat] = _
  rw [h1, h0]

theorem ix_3 (i : grid0.Coords) : ix0 (tbl m) 3 i = ![0, (be m (i 1).val (i1_lt i)).toNat, 0, (i 0).val] := by
  have h0 : (BitVec.ofNat 32 (i 0).val).toNat = (i 0).val := by
    have h : (i 0).val < 4 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (BitVec.ofNat 32 (i 0).val).toNat] = _
  rw [h1, h0]

theorem ix_4 (i : grid0.Coords) : ix0 (tbl m) 4 i = ![0, (be m (i 1).val (i1_lt i)).toNat, 0, 4 + (i 0).val] := by
  have h0 : (Scalar.addi 4#32 (BitVec.ofNat 32 (i 0).val)).toNat = 4 + (i 0).val := by
    have h : (i 0).val < 4 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (Scalar.addi 4#32 (BitVec.ofNat 32 (i 0).val)).toNat] = _
  rw [h1, h0]

/-- A point's coordinates. -/
theorem c0_val (t : Fin grid0.N) : (grid0.coords t 0).val = t.val / 161 := by
  have ht : t.val < 644 := Nat.lt_of_lt_of_eq t.isLt N_0
  have e : (grid0.coords t 0).val = t.val / 161 % 4 := Pipeline.Grid.coords_val t 0 (by decide) rfl
  omega
theorem c1_val (t : Fin grid0.N) : (grid0.coords t 1).val = t.val % 161 := by
  have e : (grid0.coords t 1).val = t.val / 1 % 161 := Pipeline.Grid.coords_val t 1 (by decide) rfl
  omega

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S256x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x4096x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x4096x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1x512 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x512 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S256x512 .bf16 := spec0_5.stage ((cfgM m hO).slots t 5)
abbrev hs5 (hO : Ok m) (t : Fin (cfgM m hO).N) : (ms5 m hO t).IsWhole := hstage0_5 (((cfgM m hO).slots t 5).cast nbuf0_5)
abbrev sc0 : Memref sig .tc .vmem S4096x512 .bf16 := Memref.whole cc0_scratch0
abbrev sc1 : Memref sig .tc .vmem S4096x512 .bf16 := Memref.whole cc0_scratch1

/-- The body at a point. -/
def bodyAt (hO : Ok m) (t : Fin (cfgM m hO).N) : Prog (TpuEff nD τ sig (Elt F) Λ₀ .tc) PUnit :=
  cc0_moe_gmm1 (grid0.coords t) tb0 (Memref.isWhole_whole _) tb1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _)

theorem PhiA0_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The weights in the scratch after a point. -/
def scr0 (hO : Ok m) (c : Dev nD) (t : Fin (cfgM m hO).N) : Vec F S4096x512 .bf16 := k0_pay1 (iblk m hO c 1 t)
def scr1 (hO : Ok m) (c : Dev nD) (t : Fin (cfgM m hO).N) : Vec F S4096x512 .bf16 := k0_pay2 (iblk m hO c 2 t)

/-- What the body of a used block stores. -/
def outP (hO : Ok m) (c : Dev nD) (t : Fin (cfgM m hO).N) : Vec F S256x512 .bf16 := k0_pay3 (iblk m hO c 0 t) (scr0 m hO c t) (iblk m hO c 3 t) (scr1 m hO c t) (iblk m hO c 4 t)

/-- The used point whose block the output buffer holds. -/
def lastU (hO : Ok m) (t : Fin (cfgM m hO).N) : Fin (cfgM m hO).N :=
  ⟨161 * (t.val / 161) + min (t.val % 161) ((nu m).toNat - 1), by have := t.isLt; omega⟩

/-- The output buffer after a point. -/
def outT (hO : Ok m) (c : Dev nD) (t : Fin (cfgM m hO).N) : Vec F S256x512 .bf16 := outP m hO c (lastU m hO t)

/-- The region's invariant. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc0 fullShare (scr0 m hO c ⟨n, hn⟩) ∗ owns (c : Thread nD τ) sc1 fullShare (scr1 m hO c ⟨n, hn⟩)) ∗ (∃ r, prngReg c r)) ∗ Pipeline.ΦT pre0 (tbl m) c)

theorem Inv_zero (hO : Ok m) (c : Dev nD) (n : ℕ) (h : n ≤ (cfgM m hO).N) (hz : n = 0) :
    Inv m hO c n h = iprop(Pipeline.ΦA spec0 c ∗ Pipeline.ΦT pre0 (tbl m) c) := by
  subst hz; rfl

theorem Inv_succ (hO : Ok m) (c : Dev nD) (n : ℕ) (hn : n < (cfgM m hO).N) :
    Inv m hO c (n + 1) hn = iprop(iprop(iprop(owns (c : Thread nD τ) sc0 fullShare (scr0 m hO c ⟨n, hn⟩) ∗ owns (c : Thread nD τ) sc1 fullShare (scr1 m hO c ⟨n, hn⟩)) ∗ (∃ r, prngReg c r)) ∗ Pipeline.ΦT pre0 (tbl m) c) := rfl

theorem Inv_pos (hO : Ok m) (c : Dev nD) (n : ℕ) (h : n ≤ (cfgM m hO).N) (hz : n ≠ 0) :
    Inv m hO c n h = iprop(iprop(iprop(owns (c : Thread nD τ) sc0 fullShare (scr0 m hO c ⟨n - 1, by omega⟩) ∗ owns (c : Thread nD τ) sc1 fullShare (scr1 m hO c ⟨n - 1, by omega⟩)) ∗ (∃ r, prngReg c r)) ∗ Pipeline.ΦT pre0 (tbl m) c) := by
  cases n with
  | zero => exact absurd rfl hz
  | succ n => rfl

/-- What the launch holds of each window. -/
def data (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outT m hO c t
  Φ t := Inv m hO c t.val (Nat.le_of_lt_succ t.isLt)
  q w := Pipeline.shareOf spec0 w
  owed _ := 0

theorem data_A (hO : Ok m) (c : Dev nD) (w : Fin (cfgM m hO).W) : (data m hO 0 c).A w = V m c (Pipeline.arrRef spec0 w) := by
  dsimp only [data]

theorem data_Inv (hO : Ok m) (c : Dev nD) (t : Fin (cfgM m hO).N) :
    (data m hO 0 c).Φ t.castSucc = Inv m hO c t.val (Nat.le_of_lt t.isLt) := by
  dsimp only [data]; exact Pipeline.Dat.Φ_castSucc (Inv m hO c) t

theorem after_0 (hO : Ok m) (c : Dev nD) (t : Fin (cfgM m hO).N) : (data m hO 0 c).after 0 t = iblk m hO c 0 t := by dsimp only [data]; try rfl
theorem fetched_0 (hO : Ok m) (c : Dev nD) (t : Fin (cfgM m hO).N) (d) : (data m hO 0 c).fetched 0 t d = iblk m hO c 0 t := by
  unfold Dat.fetched Dat.blockOf iblk; rw [data_A]; try rfl
theorem before_0 (hO : Ok m) (c : Dev nD) (t : Fin (cfgM m hO).N) (d) : (data m hO 0 c).before 0 t d = iblk m hO c 0 t :=
  ((data m hO 0 c).before_in_eq_fetched 0 rfl (fun _ => rfl) (fun _ _ _ => rfl) (fun t => by rw [after_0]; unfold Dat.blockOf iblk; rw [data_A]; try rfl) t d).trans
    (fetched_0 m hO c t d)
theorem after_1 (hO : Ok m) (c : Dev nD) (t : Fin (cfgM m hO).N) : (data m hO 0 c).after 1 t = iblk m hO c 1 t := by dsimp only [data]; try rfl
theorem fetched_1 (hO : Ok m) (c : Dev nD) (t : Fin (cfgM m hO).N) (d) : (data m hO 0 c).fetched 1 t d = iblk m hO c 1 t := by
  unfold Dat.fetched Dat.blockOf iblk; rw [data_A]; try rfl
theorem before_1 (hO : Ok m) (c : Dev nD) (t : Fin (cfgM m hO).N) (d) : (data m hO 0 c).before 1 t d = iblk m hO c 1 t :=
  ((data m hO 0 c).before_in_eq_fetched 1 rfl (fun _ => rfl) (fun _ _ _ => rfl) (fun t => by rw [after_1]; unfold Dat.blockOf iblk; rw [data_A]; try rfl) t d).trans
    (fetched_1 m hO c t d)
theorem after_2 (hO : Ok m) (c : Dev nD) (t : Fin (cfgM m hO).N) : (data m hO 0 c).after 2 t = iblk m hO c 2 t := by dsimp only [data]; try rfl
theorem fetched_2 (hO : Ok m) (c : Dev nD) (t : Fin (cfgM m hO).N) (d) : (data m hO 0 c).fetched 2 t d = iblk m hO c 2 t := by
  unfold Dat.fetched Dat.blockOf iblk; rw [data_A]; try rfl
theorem before_2 (hO : Ok m) (c : Dev nD) (t : Fin (cfgM m hO).N) (d) : (data m hO 0 c).before 2 t d = iblk m hO c 2 t :=
  ((data m hO 0 c).before_in_eq_fetched 2 rfl (fun _ => rfl) (fun _ _ _ => rfl) (fun t => by rw [after_2]; unfold Dat.blockOf iblk; rw [data_A]; try rfl) t d).trans
    (fetched_2 m hO c t d)
theorem after_3 (hO : Ok m) (c : Dev nD) (t : Fin (cfgM m hO).N) : (data m hO 0 c).after 3 t = iblk m hO c 3 t := by dsimp only [data]; try rfl
theorem fetched_3 (hO : Ok m) (c : Dev nD) (t : Fin (cfgM m hO).N) (d) : (data m hO 0 c).fetched 3 t d = iblk m hO c 3 t := by
  unfold Dat.fetched Dat.blockOf iblk; rw [data_A]; try rfl
theorem before_3 (hO : Ok m) (c : Dev nD) (t : Fin (cfgM m hO).N) (d) : (data m hO 0 c).before 3 t d = iblk m hO c 3 t :=
  ((data m hO 0 c).before_in_eq_fetched 3 rfl (fun _ => rfl) (fun _ _ _ => rfl) (fun t => by rw [after_3]; unfold Dat.blockOf iblk; rw [data_A]; try rfl) t d).trans
    (fetched_3 m hO c t d)
theorem after_4 (hO : Ok m) (c : Dev nD) (t : Fin (cfgM m hO).N) : (data m hO 0 c).after 4 t = iblk m hO c 4 t := by dsimp only [data]; try rfl
theorem fetched_4 (hO : Ok m) (c : Dev nD) (t : Fin (cfgM m hO).N) (d) : (data m hO 0 c).fetched 4 t d = iblk m hO c 4 t := by
  unfold Dat.fetched Dat.blockOf iblk; rw [data_A]; try rfl
theorem before_4 (hO : Ok m) (c : Dev nD) (t : Fin (cfgM m hO).N) (d) : (data m hO 0 c).before 4 t d = iblk m hO c 4 t :=
  ((data m hO 0 c).before_in_eq_fetched 4 rfl (fun _ => rfl) (fun _ _ _ => rfl) (fun t => by rw [after_4]; unfold Dat.blockOf iblk; rw [data_A]; try rfl) t d).trans
    (fetched_4 m hO c t d)
theorem after_5 (hO : Ok m) (c : Dev nD) (t : Fin (cfgM m hO).N) : (data m hO 0 c).after 5 t = outT m hO c t := by dsimp only [data]; try rfl

/-- Where the weights are kept, the scratch holds those of the point. -/
theorem scr0_keep (hO : Ok m) (c : Dev nD) (t : Fin (cfgM m hO).N) (hk : ¬reloads c (grid0.coords t) (tbl m 0)) :
    scr0 m hO c ⟨t.val - 1, Nat.lt_of_le_of_lt (Nat.sub_le _ _) t.isLt⟩ = scr0 m hO c t := by
  obtain ⟨h0, hb⟩ := keeps_of m c _ hk
  have e1 := c1_val t
  have hi : ((cfgM m hO).win 1).index ⟨t.val - 1, Nat.lt_of_le_of_lt (Nat.sub_le _ _) t.isLt⟩ = ((cfgM m hO).win 1).index t := by
    show ix0 (tbl m) 1 (grid0.coords ⟨t.val - 1, _⟩) = ix0 (tbl m) 1 (grid0.coords t)
    rw [ix_1, ix_1, hb]
    have a0 := c0_val t
    have b0 := c0_val ⟨t.val - 1, Nat.lt_of_le_of_lt (Nat.sub_le _ _) t.isLt⟩
    have b1 := c1_val ⟨t.val - 1, Nat.lt_of_le_of_lt (Nat.sub_le _ _) t.isLt⟩
    dsimp only at b0 b1
    have e0 : (grid0.coords ⟨t.val - 1, Nat.lt_of_le_of_lt (Nat.sub_le _ _) t.isLt⟩ 0).val = (grid0.coords t 0).val := by omega
    have e2 : (grid0.coords ⟨t.val - 1, Nat.lt_of_le_of_lt (Nat.sub_le _ _) t.isLt⟩ 1).val = (grid0.coords t 1).val - 1 := by omega
    simp only [e0, e2]
  unfold scr0
  rw [← fetched_1 m hO c t (fun _ => Classical.arbitrary _), ← fetched_1 m hO c ⟨t.val - 1, _⟩ (fun _ => Classical.arbitrary _),
    (data m hO 0 c).fetched_congr 1 hi rfl]

/-- Where the weights are kept, the scratch holds those of the point. -/
theorem scr1_keep (hO : Ok m) (c : Dev nD) (t : Fin (cfgM m hO).N) (hk : ¬reloads c (grid0.coords t) (tbl m 0)) :
    scr1 m hO c ⟨t.val - 1, Nat.lt_of_le_of_lt (Nat.sub_le _ _) t.isLt⟩ = scr1 m hO c t := by
  obtain ⟨h0, hb⟩ := keeps_of m c _ hk
  have e1 := c1_val t
  have hi : ((cfgM m hO).win 2).index ⟨t.val - 1, Nat.lt_of_le_of_lt (Nat.sub_le _ _) t.isLt⟩ = ((cfgM m hO).win 2).index t := by
    show ix0 (tbl m) 2 (grid0.coords ⟨t.val - 1, _⟩) = ix0 (tbl m) 2 (grid0.coords t)
    rw [ix_2, ix_2, hb]
    have a0 := c0_val t
    have b0 := c0_val ⟨t.val - 1, Nat.lt_of_le_of_lt (Nat.sub_le _ _) t.isLt⟩
    have b1 := c1_val ⟨t.val - 1, Nat.lt_of_le_of_lt (Nat.sub_le _ _) t.isLt⟩
    dsimp only at b0 b1
    have e0 : (grid0.coords ⟨t.val - 1, Nat.lt_of_le_of_lt (Nat.sub_le _ _) t.isLt⟩ 0).val = (grid0.coords t 0).val := by omega
    have e2 : (grid0.coords ⟨t.val - 1, Nat.lt_of_le_of_lt (Nat.sub_le _ _) t.isLt⟩ 1).val = (grid0.coords t 1).val - 1 := by omega
    simp only [e0, e2]
  unfold scr1
  rw [← fetched_2 m hO c t (fun _ => Classical.arbitrary _), ← fetched_2 m hO c ⟨t.val - 1, _⟩ (fun _ => Classical.arbitrary _),
    (data m hO 0 c).fetched_congr 2 hi rfl]

/-- The output is idle where the block is not used. -/
theorem idle_out (hO : Ok m) (c : Dev nD) (t : Fin (cfgM m hO).N) (h : ¬used c (grid0.coords t) (tbl m 1)) :
    (cfgM m hO).idle 5 (grid0.coords t) = true := by
  have e : (tbl m).atD 1 ![0] = rd2 c (tbl m 1) := (atD_eq m).trans (rd2_eq m c).symm
  show (!(k0_cond2 (grid0.coords t) ((tbl m).atD 1 ![0]) == 1#1)) = true
  rw [e]
  have h' : ¬k0_cond2 (grid0.coords t) (rd2 c (tbl m 1)) = 1#1 := h
  simpa using h'

theorem live_out (hO : Ok m) (c : Dev nD) (t : Fin (cfgM m hO).N) (h : used c (grid0.coords t) (tbl m 1)) :
    (cfgM m hO).idle 5 (grid0.coords t) = false := by
  have e : (tbl m).atD 1 ![0] = rd2 c (tbl m 1) := (atD_eq m).trans (rd2_eq m c).symm
  show (!(k0_cond2 (grid0.coords t) ((tbl m).atD 1 ![0]) == 1#1)) = false
  rw [e]
  have h' : k0_cond2 (grid0.coords t) (rd2 c (tbl m 1)) = 1#1 := h
  rw [h']; rfl

/-- The output's block does not change after the last used block of a column block. -/
theorem noflush (hO : Ok m) (hG : Good m) (t : Fin (cfgM m hO).N) (h : (nu m).toNat ≤ t.val % 161 + 1) (h' : t.val % 161 < 160) :
    ((cfgM m hO).win 5).flush t = false := by
  have hN : (cfgM m hO).N = 644 := N_0
  have hlt : t.val + 1 < (cfgM m hO).N := by have := t.isLt; omega
  have hi : ((cfgM m hO).win 5).index ⟨t.val + 1, hlt⟩ = ((cfgM m hO).win 5).index t := by
    show ix0 (tbl m) 5 (grid0.coords ⟨t.val + 1, _⟩) = ix0 (tbl m) 5 (grid0.coords t)
    rw [ix_out m hG, ix_out m hG]
    have a0 := c0_val t
    have a1 := c1_val t
    have b0 := c0_val ⟨t.val + 1, hlt⟩
    have b1 := c1_val ⟨t.val + 1, hlt⟩
    dsimp only at b0 b1
    rw [b0, b1, a0, a1]
    have := hG.nu_pos
    congr 1
    · omega
    · congr 1; omega
  unfold Window.flush
  have e1 : ¬(t.val + 1 = (cfgM m hO).grid.N) := by show ¬(t.val + 1 = (cfgM m hO).N); omega
  simp only [Bool.and_eq_false_iff, Bool.or_eq_false_iff, decide_eq_false_iff_not]
  right
  exact ⟨e1, fun ⟨h2, h3⟩ => h3 hi⟩

/-- At a point whose block is not used the output buffer holds the last used block. -/
theorem before_idle (hO : Ok m) (hG : Good m) (c : Dev nD) : ∀ (n : ℕ) (hn : n < (cfgM m hO).N) (h : (nu m).toNat ≤ n % 161) (d),
    (data m hO 0 c).before 5 ⟨n, hn⟩ d = outT m hO c ⟨n, hn⟩
  | 0, hn, h, d => absurd hG.nu_pos (by omega)
  | n + 1, hn, h, d => by
    have hp := hG.nu_pos
    have hn' : n < (cfgM m hO).N := by omega
    have hT : outT m hO c ⟨n, hn'⟩ = outT m hO c ⟨n + 1, hn⟩ := by
      unfold outT
      rw [show lastU m hO ⟨n, hn'⟩ = lastU m hO ⟨n + 1, hn⟩ from Fin.ext (by
        show 161 * (n / 161) + min (n % 161) ((nu m).toNat - 1) = 161 * ((n + 1) / 161) + min ((n + 1) % 161) ((nu m).toNat - 1)
        omega)]
    rw [(data m hO 0 c).before_of_pos 5 ⟨n + 1, hn⟩ (Nat.succ_ne_zero n) rfl d]
    have hf : ((cfgM m hO).win 5).flush ⟨n, hn'⟩ = false := noflush m hO hG ⟨n, hn'⟩ (by show (nu m).toNat ≤ n % 161 + 1; omega) (by show n % 161 < 160; omega)
    show (if ((cfgM m hO).win 5).flush ⟨n, hn'⟩ = true then d else (data m hO 0 c).left 5 ⟨n, hn'⟩ d) = _
    rw [hf, if_neg Bool.false_ne_true, ← hT]
    have e1 := c1_val ⟨n, hn'⟩
    by_cases hu : (nu m).toNat ≤ n % 161
    · have hidle := idle_out m hO c ⟨n, hn'⟩ (by rw [used_iff m hG, e1]; show ¬n % 161 < _; omega)
      unfold Dat.left
      have : (cfgM m hO).idle 5 ((cfgM m hO).grid.coords ⟨n, hn'⟩) = true := hidle
      rw [this]
      exact before_idle hO hG c n hn' hu d
    · have hlive := live_out m hO c ⟨n, hn'⟩ (by rw [used_iff m hG, e1]; show n % 161 < _; omega)
      unfold Dat.left
      have : (cfgM m hO).idle 5 ((cfgM m hO).grid.coords ⟨n, hn'⟩) = false := hlive
      rw [this]
      show (data m hO 0 c).kept 5 ⟨n, hn'⟩ d = _
      unfold Dat.kept
      rw [Pipeline.fill_of_clip_none 5 _ (fun _ => rfl) d ((data m hO 0 c).after 5 ⟨n, hn'⟩), Window.fill_cut, after_5]

theorem lastU_used (hO : Ok m) (c : Dev nD) (t : Fin (cfgM m hO).N) (h : t.val % 161 < (nu m).toNat) : outT m hO c t = outP m hO c t := by
  unfold outT
  rw [show lastU m hO t = t from Fin.ext (by
    show 161 * (t.val / 161) + min (t.val % 161) ((nu m).toNat - 1) = t.val
    omega)]

/-- What the body is called with at a point, -/
def pre (hO : Ok m) (c : Dev nD) (t : Fin (cfgM m hO).N) : sProp 𝕄 :=
  iprop((data m hO 0 c).Φ t.castSucc ∗ (data m hO 0 c).owesAt () t.castSucc
    ∗ (∃ d, owns (c : Thread nD τ) (ms0 m hO t) fullShare ((data m hO 0 c).before 0 t d)) ∗ (∃ d, owns (c : Thread nD τ) (ms1 m hO t) fullShare ((data m hO 0 c).before 1 t d)) ∗ (∃ d, owns (c : Thread nD τ) (ms2 m hO t) fullShare ((data m hO 0 c).before 2 t d)) ∗ (∃ d, owns (c : Thread nD τ) (ms3 m hO t) fullShare ((data m hO 0 c).before 3 t d)) ∗ (∃ d, owns (c : Thread nD τ) (ms4 m hO t) fullShare ((data m hO 0 c).before 4 t d)) ∗ (∃ d, owns (c : Thread nD τ) (ms5 m hO t) fullShare ((data m hO 0 c).before 5 t d)))

/-- and what it returns. -/
def post (hO : Ok m) (c : Dev nD) (t : Fin (cfgM m hO).N) : sProp 𝕄 :=
  iprop((data m hO 0 c).Φ t.succ ∗ (data m hO 0 c).owesAt () t.succ
    ∗ (data m hO 0 c).leavesExact 0 t ∗ (data m hO 0 c).leavesExact 1 t ∗ (data m hO 0 c).leavesExact 2 t ∗ (data m hO 0 c).leavesExact 3 t ∗ (data m hO 0 c).leavesExact 4 t ∗ (data m hO 0 c).leavesExact 5 t)

theorem leaves_used (hO : Ok m) (c : Dev nD) (t : Fin (cfgM m hO).N) (h : used c (grid0.coords t) (tbl m 1)) :
    (data m hO 0 c).leavesExact 5 t = owns (c : Thread nD τ) (ms5 m hO t) fullShare (outT m hO c t) := by
  rw [← after_5]; unfold Dat.leavesExact
  have : (cfgM m hO).idle 5 ((cfgM m hO).grid.coords t) = false := live_out m hO c t h
  rw [this]; try rfl

theorem leaves_unused (hO : Ok m) (hG : Good m) (c : Dev nD) (t : Fin (cfgM m hO).N) (h : ¬used c (grid0.coords t) (tbl m 1)) (d) :
    owns (c : Thread nD τ) (ms5 m hO t) fullShare ((data m hO 0 c).before 5 t d) ⊢ (data m hO 0 c).leavesExact 5 t := by
  have hi : (cfgM m hO).idle 5 ((cfgM m hO).grid.coords t) = true := idle_out m hO c t h
  have hu : (nu m).toNat ≤ t.val % 161 := by rw [used_iff m hG, c1_val t] at h; omega
  by_cases hf : ((cfgM m hO).win 5).flush t = true
  · rw [before_idle m hO hG c t.val t.isLt hu d, ← after_5]
    unfold Dat.leavesExact; rw [hi, hf]
    try exact Idealize.SL.BI.Entails.refl _
  · rw [Dat.leavesExact_idle (data m hO 0 c) 5 t hi (by simpa using hf)]
    iintro H; iexists d; iexact H

set_option maxHeartbeats 6400000 in
/-- The body at any point. -/
theorem body_sound (hO : Ok m) (hG : Good m) (c : Dev nD) (t : Fin (cfgM m hO).N) :
    pre m hO c t ⊢ wp frame (wpE (defs₀ (F := F)) Variants.none c none) Set.univ (bodyAt m hO t) (fun _ => post m hO c t) := by
  unfold pre post bodyAt
  simp only [before_0, before_1, before_2, before_3, before_4]
  rw [show (data m hO 0 c).owesAt () t.succ = (data m hO 0 c).owesAt () t.castSucc from rfl,
    show (data m hO 0 c).leavesExact 0 t = owns (c : Thread nD τ) (ms0 m hO t) fullShare (iblk m hO c 0 t) from after_0 m hO c t ▸ rfl,
    show (data m hO 0 c).leavesExact 1 t = owns (c : Thread nD τ) (ms1 m hO t) fullShare (iblk m hO c 1 t) from after_1 m hO c t ▸ rfl,
    show (data m hO 0 c).leavesExact 2 t = owns (c : Thread nD τ) (ms2 m hO t) fullShare (iblk m hO c 2 t) from after_2 m hO c t ▸ rfl,
    show (data m hO 0 c).leavesExact 3 t = owns (c : Thread nD τ) (ms3 m hO t) fullShare (iblk m hO c 3 t) from after_3 m hO c t ▸ rfl,
    show (data m hO 0 c).leavesExact 4 t = owns (c : Thread nD τ) (ms4 m hO t) fullShare (iblk m hO c 4 t) from after_4 m hO c t ▸ rfl,
    show (data m hO 0 c).Φ t.succ = Inv m hO c (t.val + 1) t.isLt from rfl, Inv_succ, PhiT0_eq]
  have e1 := c1_val t
  by_cases hr : reloads c (grid0.coords t) (tbl m 0)
  · by_cases hu : used c (grid0.coords t) (tbl m 1)
    · by_cases hz : t.val = 0
      · skip
        rw [leaves_used m hO c t hu, lastU_used m hO c t (by rw [used_iff m hG, e1] at hu; exact hu)]
        rw [data_Inv m hO c t, Inv_zero m hO c _ _ hz, PhiA0_eq, PhiT0_eq]
        iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
        iapply (runRU c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) Set.univ _)
        isplitl [H0]; · iexact H0
        isplitl [H1]; · iexact H1
        isplitl [H2]; · iexact H2
        isplitl [H3]; · iexact H3
        isplitl [H4]; · iexact H4
        isplitl [H5]; · iexists _; iexact H5
        isplitl [S0]; · iexact S0
        isplitl [S1]; · iexact S1
        isplitl [T0]; · iexact T0
        isplitl [T1]; · iexact T1
        iintro ⟨H0, H1, H2, H3, H4, H5, S0, S1, T0, T1⟩
        isplitl [S0 S1 Hg T0 T1]
        · isplitl [S0 S1 Hg]
          · isplitl [S0 S1]
            · isplitl [S0]; · iexact S0
              iexact S1
            iexact Hg
          isplitl [T0]; · iexact T0
          iexact T1
        isplitl [Ho]; · iexact Ho
        isplitl [H0]; · iexact H0
        isplitl [H1]; · iexact H1
        isplitl [H2]; · iexact H2
        isplitl [H3]; · iexact H3
        isplitl [H4]; · iexact H4
        iexact H5
      · skip
        rw [leaves_used m hO c t hu, lastU_used m hO c t (by rw [used_iff m hG, e1] at hu; exact hu)]
        rw [data_Inv m hO c t, Inv_pos m hO c _ _ hz, PhiT0_eq]
        iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
        iapply (runRU c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) Set.univ _)
        isplitl [H0]; · iexact H0
        isplitl [H1]; · iexact H1
        isplitl [H2]; · iexact H2
        isplitl [H3]; · iexact H3
        isplitl [H4]; · iexact H4
        isplitl [H5]; · iexists _; iexact H5
        isplitl [S0]; · iexists _; iexact S0
        isplitl [S1]; · iexists _; iexact S1
        isplitl [T0]; · iexact T0
        isplitl [T1]; · iexact T1
        iintro ⟨H0, H1, H2, H3, H4, H5, S0, S1, T0, T1⟩
        isplitl [S0 S1 Hg T0 T1]
        · isplitl [S0 S1 Hg]
          · isplitl [S0 S1]
            · isplitl [S0]; · iexact S0
              iexact S1
            iexact Hg
          isplitl [T0]; · iexact T0
          iexact T1
        isplitl [Ho]; · iexact Ho
        isplitl [H0]; · iexact H0
        isplitl [H1]; · iexact H1
        isplitl [H2]; · iexact H2
        isplitl [H3]; · iexact H3
        isplitl [H4]; · iexact H4
        iexact H5
    · by_cases hz : t.val = 0
      · skip
        rw [data_Inv m hO c t, Inv_zero m hO c _ _ hz, PhiA0_eq, PhiT0_eq]
        iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
        iapply (runRI c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) ((data m hO 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [S0]; · iexact S0
        isplitl [S1]; · iexact S1
        isplitl [T0]; · iexact T0
        isplitl [T1]; · iexact T1
        iintro ⟨H0, H1, H2, H3, H4, H5, S0, S1, T0, T1⟩
        isplitl [S0 S1 Hg T0 T1]
        · isplitl [S0 S1 Hg]
          · isplitl [S0 S1]
            · isplitl [S0]; · iexact S0
              iexact S1
            iexact Hg
          isplitl [T0]; · iexact T0
          iexact T1
        isplitl [Ho]; · iexact Ho
        isplitl [H0]; · iexact H0
        isplitl [H1]; · iexact H1
        isplitl [H2]; · iexact H2
        isplitl [H3]; · iexact H3
        isplitl [H4]; · iexact H4
        iapply (leaves_unused m hO hG c t hu d5); iexact H5
      · skip
        rw [data_Inv m hO c t, Inv_pos m hO c _ _ hz, PhiT0_eq]
        iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
        iapply (runRI c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) ((data m hO 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [S0]; · iexists _; iexact S0
        isplitl [S1]; · iexists _; iexact S1
        isplitl [T0]; · iexact T0
        isplitl [T1]; · iexact T1
        iintro ⟨H0, H1, H2, H3, H4, H5, S0, S1, T0, T1⟩
        isplitl [S0 S1 Hg T0 T1]
        · isplitl [S0 S1 Hg]
          · isplitl [S0 S1]
            · isplitl [S0]; · iexact S0
              iexact S1
            iexact Hg
          isplitl [T0]; · iexact T0
          iexact T1
        isplitl [Ho]; · iexact Ho
        isplitl [H0]; · iexact H0
        isplitl [H1]; · iexact H1
        isplitl [H2]; · iexact H2
        isplitl [H3]; · iexact H3
        isplitl [H4]; · iexact H4
        iapply (leaves_unused m hO hG c t hu d5); iexact H5
  · have hz : t.val ≠ 0 := fun hz => (keeps_of m c _ hr).1 (by rw [e1, hz])
    by_cases hu : used c (grid0.coords t) (tbl m 1)
    · skip
      rw [leaves_used m hO c t hu, lastU_used m hO c t (by rw [used_iff m hG, e1] at hu; exact hu)]
      rw [data_Inv m hO c t, Inv_pos m hO c _ _ hz, PhiT0_eq]
      rw [scr0_keep m hO c t hr]
      rw [scr1_keep m hO c t hr]
      iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
      iapply (runKU c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) (scr0 m hO c t) (scr1 m hO c t) Set.univ _)
      isplitl [H0]; · iexact H0
      isplitl [H1]; · iexact H1
      isplitl [H2]; · iexact H2
      isplitl [H3]; · iexact H3
      isplitl [H4]; · iexact H4
      isplitl [H5]; · iexists _; iexact H5
      isplitl [S0]; · iexact S0
      isplitl [S1]; · iexact S1
      isplitl [T0]; · iexact T0
      isplitl [T1]; · iexact T1
      iintro ⟨H0, H1, H2, H3, H4, H5, S0, S1, T0, T1⟩
      isplitl [S0 S1 Hg T0 T1]
      · isplitl [S0 S1 Hg]
        · isplitl [S0 S1]
          · isplitl [S0]; · iexact S0
            iexact S1
          iexact Hg
        isplitl [T0]; · iexact T0
        iexact T1
      isplitl [Ho]; · iexact Ho
      isplitl [H0]; · iexact H0
      isplitl [H1]; · iexact H1
      isplitl [H2]; · iexact H2
      isplitl [H3]; · iexact H3
      isplitl [H4]; · iexact H4
      iexact H5
    · skip
      rw [data_Inv m hO c t, Inv_pos m hO c _ _ hz, PhiT0_eq]
      rw [scr0_keep m hO c t hr]
      rw [scr1_keep m hO c t hr]
      iintro ⟨⟨⟨⟨S0, S1⟩, Hg⟩, T0, T1⟩, Ho, ⟨%d0, H0⟩, ⟨%d1, H1⟩, ⟨%d2, H2⟩, ⟨%d3, H3⟩, ⟨%d4, H4⟩, ⟨%d5, H5⟩⟩
      iapply (runKI c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (tbl m 0) (tbl m 1) hr hu (iblk m hO c 0 t) (iblk m hO c 1 t) (iblk m hO c 2 t) (iblk m hO c 3 t) (iblk m hO c 4 t) ((data m hO 0 c).before 5 t d5) (scr0 m hO c t) (scr1 m hO c t) Set.univ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [T0]; · iexact T0
      isplitl [T1]; · iexact T1
      iintro ⟨H0, H1, H2, H3, H4, H5, S0, S1, T0, T1⟩
      isplitl [S0 S1 Hg T0 T1]
      · isplitl [S0 S1 Hg]
        · isplitl [S0 S1]
          · isplitl [S0]; · iexact S0
            iexact S1
          iexact Hg
        isplitl [T0]; · iexact T0
        iexact T1
      isplitl [Ho]; · iexact Ho
      isplitl [H0]; · iexact H0
      isplitl [H1]; · iexact H1
      isplitl [H2]; · iexact H2
      isplitl [H3]; · iexact H3
      isplitl [H4]; · iexact H4
      iapply (leaves_unused m hO hG c t hu d5); iexact H5

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

theorem obligation (hO : Ok m) (hG : Good m) (c : Dev nD) : BodyObligation (data (F := F) m hO 0 c) (defs₀ (F := F)) Variants.none () Set.univ := fun t => by
  rw [bigSep_W0, bigSep_W0, row m hO]
  exact triple_restated (body_sound m hO hG c t) rfl .rfl fun _ => .rfl

theorem enter (hO : Ok m) (c : Dev nD) : iprop(Pipeline.ΦA spec0 c ∗ Pipeline.ΦT pre0 (tbl m) c) ⊢ (data m hO 0 c).Φ 0 := by
  rw [show (data m hO 0 c).Φ 0 = Inv m hO c 0 (Nat.zero_le _) from rfl, Inv_zero m hO c 0 _ rfl]
  try exact Idealize.SL.BI.Entails.refl _

theorem leave (hO : Ok m) (c : Dev nD) : (data m hO 0 c).Φ (Fin.last (cfgM m hO).N) ⊢ Pipeline.ΦA spec0 c := by
  have hN : (cfgM m hO).N = 644 := N_0
  rw [show (data m hO 0 c).Φ (Fin.last (cfgM m hO).N) = Inv m hO c (Fin.last (cfgM m hO).N).val (Nat.le_of_lt_succ (Fin.last (cfgM m hO).N).isLt) from rfl,
    Inv_pos m hO c _ _ (by rw [Fin.val_last]; omega), PhiA0_eq]
  iintro ⟨⟨⟨S0, S1⟩, Hg⟩, -⟩
  isplitl [S0 S1]
  · isplitl [S0]; · iexists _; iexact S0
    iexists _; iexact S1
  iexact Hg

set_option backward.isDefEq.respectTransparency.types false in
/-- The launch: every array a window stages ends at what the windows leave, and every semaphore counter at zero. -/
theorem launch (hO : Ok m) (hG : Good m) : θ_run defs (onTc (τ := τ) (main (F := F))) (s₀ m ρ)
    (fun r => Pipeline.FramePost (Pipeline.pin pcfgs fun _ => adm m hO) (data m hO) 0 (V m) r ∧ r.2.sem = fun _ => 0) :=
  Pipeline.θ_run_frameP_track_shared (Q' := _) pcfgs (fun _ => adm m hO) (data m hO) (0 : Fin 1) launch₀0 defs₀ Variants.none m ρ main
    (hbody := fun c => (obligation m hO hG c).loose) (hq := fun _ _ _ => rfl)
    (howed := fun _ _ => rfl) (V := V m) (hmain := hmain m Variants.none) (hA := data_A m hO) (hpf := V_pre m)
    (hin := enter m hO) (hout := leave m hO)

/-- The frame: the argument arrays end unchanged and every semaphore counter at zero. -/
theorem framed (hO : Ok m) (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((data m hO 0 c).arrAt_in 0 rfl _).trans ((data_A m hO c 0).trans (V_arg m c main_arg0 (by decide)))),
      ((h.1 c).2 main_arg1 (by decide : main_arg1 ∈ Pipeline.restRefs sig spec0)).trans (V_arg m c main_arg1 (by decide)),
      ((h.1 c).2 main_arg2 (by decide : main_arg2 ∈ Pipeline.restRefs sig spec0)).trans (V_arg m c main_arg2 (by decide)),
      ((h.1 c).1 1).trans (((data m hO 0 c).arrAt_in 1 rfl _).trans ((data_A m hO c 1).trans (V_arg m c main_arg3 (by decide)))),
      ((h.1 c).2 main_arg4 (by decide : main_arg4 ∈ Pipeline.restRefs sig spec0)).trans (V_arg m c main_arg4 (by decide))⟩, h.2⟩) (launch m ρ hO hG)

end Cert.Kernel4Ideal.Run

end
-- ==== Proof.C4I.lean ====
/- The tables' ranges give what the launch asks of them: every block is inside its array. -/
module

public import proofs.«01_k».proof.Proof.D4I
public import proofs.«01_k».proof.Proof.Gen.Pre_tables4

@[expose] public section

set_option maxRecDepth 16384

noncomputable section

namespace Cert.Kernel4Ideal.Run

open Cert.Kernel4Ideal Cert.Kernel4Ideal.Gen
open Idealize.ShloMosaic Idealize.ShloMosaic.TcCoe
open Idealize.SL Idealize.SL.Sem

variable {F : FTy → Type} [FloatOps F]
variable (m : (ℓ : Loc nD τ sig) → Buf (Elt F) ℓ)

theorem be_arg (b : ℕ) (h : b < 161) : be m b h = m (((0 : Dev nD) : Thread nD τ).loc main_arg1) (at161 b h) :=
  congrFun (V_arg m 0 main_arg1 (by decide)) (at161 b h)
theorem nu_arg : nu m = m (((0 : Dev nD) : Thread nD τ).loc main_arg2) at1 :=
  congrFun (V_arg m 0 main_arg2 (by decide)) at1

/-- The function of the precondition at one entry. -/
theorem pre_at (y0) (x : IVec S161 32) (n : IVec S1 32) (y3) (y4) (b : ℕ) (h : b < 161) (hf : Cert.Pre_tables4.fn (F := F) y0 x n y3 y4 = fun _ => 1#1) :
    IntOp.andi (IntOp.andi (IntOp.cmpi .sge (x (at161 b h)) 0#32) (IntOp.cmpi .slt (x (at161 b h)) 32#32)) (IntOp.cmpi .sge (n at1) 1#32) = 1#1 := by
  obtain ⟨o, e⟩ : ∃ o : S1.Idx, IntOp.andi (IntOp.andi (IntOp.cmpi .sge (x (at161 b h)) 0#32) (IntOp.cmpi .slt (x (at161 b h)) 32#32)) (IntOp.cmpi .sge (n o) 1#32) = 1#1 :=
    ⟨_, congrFun hf (at161 b h)⟩
  have hi : o = at1 := funext fun a => Fin.ext (by
    obtain rfl : a = 0 := Subsingleton.elim _ _
    have h : (o 0).val < 1 := (o 0).isLt
    show (o 0).val = 0
    omega)
  rw [hi] at e
  exact e

theorem good (hf : ∀ c : Dev nD, Cert.Pre_tables4.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) : Good m := by
  have key := fun b h => pre_at _ _ _ _ _  b h (hf 0)
  have both : ∀ a b : BitVec 1, IntOp.andi a b = 1#1 → a = 1#1 ∧ b = 1#1 := by decide
  have nn : ∀ (y : BitVec 32) (k : BitVec 32), k.toNat < 2 ^ 31 → IntOp.cmpi .sge y k = 1#1 → k.toNat ≤ y.toNat ∧ y.toNat < 2 ^ 31 := by
    intro y k hk hy
    have hy' : BitVec.ofBool (k.sle y) = 1#1 := hy
    rw [Tab.ofBool_one] at hy'
    have h1 : k.toInt ≤ y.toInt := by simpa [BitVec.sle] using hy'
    rw [Tab.toInt_small hk, BitVec.toInt_eq_toNat_cond] at h1
    have hlt := y.isLt
    split at h1 <;> omega
  have hn : 1 ≤ (nu m).toNat ∧ (nu m).toNat < 2 ^ 31 := by
    rw [nu_arg]
    exact nn _ 1#32 (by decide) (both _ _ (key 0 (by decide))).2
  refine ⟨fun b h => ?_, hn.1, hn.2⟩
  rw [be_arg]
  have k2 := both _ _ (both _ _ (key b h)).1
  have h3 := (nn _ 0#32 (by decide) k2.1).2
  have h4 : BitVec.ofBool ((m (((0 : Dev nD) : Thread nD τ).loc main_arg1) (at161 b h) : BitVec 32).slt 32#32) = 1#1 := k2.2
  rw [Tab.ofBool_one, Tab.slt_small h3 (by decide), decide_eq_true_iff] at h4
  exact h4

attribute [local irreducible] tbl

/-- Every window's blocks are inside its array, and a packed one's take whole words. -/
theorem ok (hG : Good m) : Ok m := by
  have hn1 := hG.nu_pos
  refine ⟨fun i => ?_, fun i => ?_, fun i => ?_, fun i => ?_, fun i => ?_, fun i => ?_⟩
  · have e : ix0 (tbl m) 0 i = _ := ix_first m hG i
    have h1 := i1_lt i
    have h0 : (i 0).val < 4 := (i 0).isLt
    have hb : ∀ a, (ix0 (tbl m) 0 i a + 1) * (![256, 4096] : Fin 2 → ℕ) a ≤ (![41216, 4096] : Fin 2 → ℕ) a := by
      rw [e]
      intro a
      fin_cases a
      · show (min (i 1).val ((nu m).toNat - 1) + 1) * 256 ≤ 41216; omega
      · show (0 + 1) * 4096 ≤ 4096; omega
    refine ⟨hb, .inr (Rect.PackedRows.wholeWords (.inr ⟨by decide, rfl, .inl ⟨?_, ?_⟩⟩))⟩
    · exact Dvd.dvd.mul_left (show (2 : ℕ) ∣ 256 by decide) _
    · exact (show (2 : ℕ) ∣ 256 by decide)
  · have e : ix0 (tbl m) 1 i = _ := ix_1 m i
    have h1 := hG.be_lt (i 1).val (i1_lt i)
    have h0 : (i 0).val < 4 := (i 0).isLt
    have hb : ∀ a, (ix0 (tbl m) 1 i a + 1) * (![1, 1, 4096, 512] : Fin 4 → ℕ) a ≤ (![2, 32, 4096, 4096] : Fin 4 → ℕ) a := by
      rw [e]
      intro a
      fin_cases a
      · show (0 + 1) * 1 ≤ 2; omega
      · show ((be m (i 1).val (i1_lt i)).toNat + 1) * 1 ≤ 32; omega
      · show (0 + 1) * 4096 ≤ 4096; omega
      · show ((i 0).val + 1) * 512 ≤ 4096; omega
    exact ⟨hb, .inl rfl⟩
  · have e : ix0 (tbl m) 2 i = _ := ix_2 m i
    have h1 := hG.be_lt (i 1).val (i1_lt i)
    have h0 : (i 0).val < 4 := (i 0).isLt
    have hb : ∀ a, (ix0 (tbl m) 2 i a + 1) * (![1, 1, 4096, 512] : Fin 4 → ℕ) a ≤ (![2, 32, 4096, 4096] : Fin 4 → ℕ) a := by
      rw [e]
      intro a
      fin_cases a
      · show (0 + 1) * 1 ≤ 2; omega
      · show ((be m (i 1).val (i1_lt i)).toNat + 1) * 1 ≤ 32; omega
      · show (0 + 1) * 4096 ≤ 4096; omega
      · show (4 + (i 0).val + 1) * 512 ≤ 4096; omega
    exact ⟨hb, .inl rfl⟩
  · have e : ix0 (tbl m) 3 i = _ := ix_3 m i
    have h1 := hG.be_lt (i 1).val (i1_lt i)
    have h0 : (i 0).val < 4 := (i 0).isLt
    have hb : ∀ a, (ix0 (tbl m) 3 i a + 1) * (![1, 1, 1, 512] : Fin 4 → ℕ) a ≤ (![2, 32, 1, 4096] : Fin 4 → ℕ) a := by
      rw [e]
      intro a
      fin_cases a
      · show (0 + 1) * 1 ≤ 2; omega
      · show ((be m (i 1).val (i1_lt i)).toNat + 1) * 1 ≤ 32; omega
      · show (0 + 1) * 1 ≤ 1; omega
      · show ((i 0).val + 1) * 512 ≤ 4096; omega
    exact ⟨hb, .inl rfl⟩
  · have e : ix0 (tbl m) 4 i = _ := ix_4 m i
    have h1 := hG.be_lt (i 1).val (i1_lt i)
    have h0 : (i 0).val < 4 := (i 0).isLt
    have hb : ∀ a, (ix0 (tbl m) 4 i a + 1) * (![1, 1, 1, 512] : Fin 4 → ℕ) a ≤ (![2, 32, 1, 4096] : Fin 4 → ℕ) a := by
      rw [e]
      intro a
      fin_cases a
      · show (0 + 1) * 1 ≤ 2; omega
      · show ((be m (i 1).val (i1_lt i)).toNat + 1) * 1 ≤ 32; omega
      · show (0 + 1) * 1 ≤ 1; omega
      · show (4 + (i 0).val + 1) * 512 ≤ 4096; omega
    exact ⟨hb, .inl rfl⟩
  · have e : ix0 (tbl m) 5 i = _ := ix_out m hG i
    have h1 := i1_lt i
    have h0 : (i 0).val < 4 := (i 0).isLt
    have hb : ∀ a, (ix0 (tbl m) 5 i a + 1) * (![256, 512] : Fin 2 → ℕ) a ≤ (![41216, 2048] : Fin 2 → ℕ) a := by
      rw [e]
      intro a
      fin_cases a
      · show (min (i 1).val ((nu m).toNat - 1) + 1) * 256 ≤ 41216; omega
      · show ((i 0).val + 1) * 512 ≤ 2048; omega
    refine ⟨hb, .inr (Rect.PackedRows.wholeWords (.inr ⟨by decide, rfl, .inl ⟨?_, ?_⟩⟩))⟩
    · exact Dvd.dvd.mul_left (show (2 : ℕ) ∣ 256 by decide) _
    · exact (show (2 : ℕ) ∣ 256 by decide)

end Cert.Kernel4Ideal.Run

end
-- ==== Proof.E5I.lean ====
/- The runs of the body of the second grouped product of the experts at a point, by whether the weights are cast anew and whether the block is used. -/
module

public import proofs.«01_k».proof.Proof.Gen.Kernel5Ideal.Launch
public import proofs.«01_k».proof.Proof.Gen.Kernel5Ideal.Skeleton
public import proofs.«01_k».proof.Proof.Tab
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Pipeline.ValueKit

@[expose] public section

set_option maxRecDepth 16384

noncomputable section

namespace Cert.Kernel5Ideal.Run

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of the blocks' experts and the number of used blocks, as the body is handed them. -/
abbrev tb0 : Memref sig .tc .smem S161 .i32 := Memref.whole main_arg2
abbrev tb1 : Memref sig .tc .smem S1 .i32 := Memref.whole main_arg3

abbrev TbBuf (c : Dev nD) {S : Shape} {e : EltTy} (M : Memref sig .tc .smem S e) : Type := Buf (Elt F) (M.view.loc (c : Thread nD τ))
/-- A table held at half the share, at `f`. -/
abbrev tbPt (c : Dev nD) {S : Shape} {e : EltTy} (M : Memref sig .tc .smem S e) (f : TbBuf (F := F) c M) : sProp 𝕄 :=
  M.view.loc (c : Thread nD τ) ↦{fullShare.right} f

/-- The words the body reads: the block's expert, the expert of the block before, the number of used blocks. -/
abbrev rd0 (c : Dev nD) (i : grid0.Coords) (f : TbBuf (F := F) c tb0) : BitVec 32 :=
  tb0.view.readAt (Elt F) (Rect.unit (s := S161) (k0_off1 i) S1.size (k0_off1_inb i)).toLoadRect f (Shape.Idx.first (numel1_S1.symm ▸ Nat.one_pos))
abbrev rd1 (c : Dev nD) (i : grid0.Coords) (f : TbBuf (F := F) c tb0) : BitVec 32 :=
  tb0.view.readAt (Elt F) (Rect.unit (s := S161) (k0_off2 i) S1.size (k0_off2_inb i)).toLoadRect f (Shape.Idx.first (numel1_S1.symm ▸ Nat.one_pos))
abbrev rd2 (c : Dev nD) (f : TbBuf (F := F) c tb1) : BitVec 32 :=
  tb1.view.readAt (Elt F) (Rect.unit (s := S1) ![0] S1.size inb_S1_S1_0).toLoadRect f (Shape.Idx.first (numel1_S1.symm ▸ Nat.one_pos))

/-- The weights are cast anew. -/
abbrev reloads (c : Dev nD) (i : grid0.Coords) (f : TbBuf (F := F) c tb0) : Prop :=
  (Scalar.cmpi .ne (Scalar.extui (Scalar.ori (Scalar.cmpi .eq (BitVec.ofNat 32 (i 1).val) 0#32) (Scalar.cmpi .ne (rd0 c i f) (rd1 c i f)))) 0#32) = 1#1
/-- The block is used. -/
abbrev used (c : Dev nD) (i : grid0.Coords) (f : TbBuf (F := F) c tb1) : Prop := k0_cond2 i (rd2 c f) = 1#1

theorem origin2 : (![0, 0] : Fin 2 → Nat) = fun _ => 0 := by funext i; fin_cases i <;> rfl
theorem origin4 : (![0, 0, 0, 0] : Fin 4 → Nat) = fun _ => 0 := by funext i; fin_cases i <;> rfl

set_option maxHeartbeats 3200000 in
/-- The weights cast anew, the block used. -/
theorem runRU (c : Dev nD) (i : grid0.Coords) (arg4 : Memref sig .tc .vmem S256x2048 .bf16) (harg4 : arg4.IsWhole) (arg5 : Memref sig .tc .vmem S1x1x2048x2048 .f32) (harg5 : arg5.IsWhole) (arg6 : Memref sig .tc .vmem S1x1x1x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S2048x2048 .bf16) (harg9 : arg9.IsWhole) (f0 : TbBuf (F := F) c tb0) (f1 : TbBuf (F := F) c tb1) (hc0 : reloads c i f0) (hc1 : used c i f1)
    (x0 : Vec F S256x2048 .bf16) (x1 : Vec F S1x1x2048x2048 .f32) (x2 : Vec F S1x1x1x2048 .f32) (x3 : Vec F S256x1 .f32)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay2 x0 (k0_pay1 x1) x2 x3) ∗ owns (c : Thread nD τ) arg9 fullShare (k0_pay1 x1) ∗ tbPt c tb0 f0 ∗ tbPt c tb1 f1) -∗ K ⟨⟩))
      ⊢ wp frame (wpE (defs₀ (F := F)) Variants.none c none) E (cc0_moe_gmm2 i tb0 (Memref.isWhole_whole _) tb1 (Memref.isWhole_whole _) arg4 harg4 arg5 harg5 arg6 harg6 arg7 harg7 arg8 harg8 arg9 harg9) K := by
  simp only [cc0_moe_gmm2_eq_skeleton]; unfold cc0_moe_gmm2_skel
  unfold owns
  iintro ⟨⟨%g0, %hg0, H0⟩, ⟨%g1, %hg1, H1⟩, ⟨%g2, %hg2, H2⟩, ⟨%g3, %hg3, H3⟩, ⟨%d4, %g4, -, H4⟩, ⟨%d5, %g5, -, H5⟩, T0, T1, Hk⟩
  obtain rfl := harg4.eq_unread hg0; obtain rfl := harg5.eq_unread hg1; obtain rfl := harg6.eq_unread hg2; obtain rfl := harg7.eq_unread hg3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (View.cover_of_wholeMem _ (by sl_whole_mem))).trans ?_
    sl_unfold_words
    rw [View.canon_cons_unit_zero (S := S256x2048) origin2]
    simp only [View.readCov_unit_zero (S := S2048x2048) _ origin2, View.readAt_eq_ld, harg4.read_unread, harg5.read_unread, harg6.read_unread, harg7.read_unread, harg8.read_unread, harg9.read_unread, View.ld_unit_zero (S := S1x1x1x2048) origin4, View.ld_unit_zero (S := S1x1x2048x2048) origin4, View.ld_unit_zero (S := S2048x2048) origin2, View.ld_unit_zero (S := S256x1) origin2, View.ld_unit_zero (S := S256x2048) origin2]
  isplitl [H5]
  · iexists _; isplitr
    swap; · iexact H5
    ipureintro
    refine (View.read_writes_eq_canon _ _ _ (View.cover_of_wholeMem _ (by sl_whole_mem))).trans ?_
    sl_unfold_words
    rw [View.canon_cons_unit_zero (S := S2048x2048) origin2]
    simp only [View.readCov_unit_zero (S := S2048x2048) _ origin2, View.readAt_eq_ld, harg4.read_unread, harg5.read_unread, harg6.read_unread, harg7.read_unread, harg8.read_unread, harg9.read_unread, View.ld_unit_zero (S := S1x1x1x2048) origin4, View.ld_unit_zero (S := S1x1x2048x2048) origin4, View.ld_unit_zero (S := S2048x2048) origin2, View.ld_unit_zero (S := S256x1) origin2, View.ld_unit_zero (S := S256x2048) origin2]
  isplitl [T0]; · iexact T0
  iexact T1

set_option maxHeartbeats 3200000 in
/-- The weights cast anew, the block not used. -/
theorem runRI (c : Dev nD) (i : grid0.Coords) (arg4 : Memref sig .tc .vmem S256x2048 .bf16) (harg4 : arg4.IsWhole) (arg5 : Memref sig .tc .vmem S1x1x2048x2048 .f32) (harg5 : arg5.IsWhole) (arg6 : Memref sig .tc .vmem S1x1x1x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S2048x2048 .bf16) (harg9 : arg9.IsWhole) (f0 : TbBuf (F := F) c tb0) (f1 : TbBuf (F := F) c tb1) (hc0 : reloads c i f0) (hc1 : ¬used c i f1)
    (x0 : Vec F S256x2048 .bf16) (x1 : Vec F S1x1x2048x2048 .f32) (x2 : Vec F S1x1x1x2048 .f32) (x3 : Vec F S256x1 .f32) (xo : Vec F S256x2048 .f32)  (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ (∃ d, owns (c : Thread nD τ) arg9 fullShare d) ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ owns (c : Thread nD τ) arg9 fullShare (k0_pay1 x1) ∗ tbPt c tb0 f0 ∗ tbPt c tb1 f1) -∗ K ⟨⟩))
      ⊢ wp frame (wpE (defs₀ (F := F)) Variants.none c none) E (cc0_moe_gmm2 i tb0 (Memref.isWhole_whole _) tb1 (Memref.isWhole_whole _) arg4 harg4 arg5 harg5 arg6 harg6 arg7 harg7 arg8 harg8 arg9 harg9) K := by
  simp only [cc0_moe_gmm2_eq_skeleton]; unfold cc0_moe_gmm2_skel
  unfold owns
  iintro ⟨⟨%g0, %hg0, H0⟩, ⟨%g1, %hg1, H1⟩, ⟨%g2, %hg2, H2⟩, ⟨%g3, %hg3, H3⟩, ⟨%g4, %hg4, H4⟩, ⟨%d5, %g5, -, H5⟩, T0, T1, Hk⟩
  obtain rfl := harg4.eq_unread hg0; obtain rfl := harg5.eq_unread hg1; obtain rfl := harg6.eq_unread hg2; obtain rfl := harg7.eq_unread hg3; obtain rfl := harg8.eq_unread hg4
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    refine (View.read_writes_eq_canon _ _ _ (View.cover_of_wholeMem _ (by sl_whole_mem))).trans ?_
    sl_unfold_words
    rw [View.canon_cons_unit_zero (S := S2048x2048) origin2]
    simp only [View.readCov_unit_zero (S := S2048x2048) _ origin2, View.readAt_eq_ld, harg4.read_unread, harg5.read_unread, harg6.read_unread, harg7.read_unread, harg8.read_unread, harg9.read_unread, View.ld_unit_zero (S := S1x1x1x2048) origin4, View.ld_unit_zero (S := S1x1x2048x2048) origin4, View.ld_unit_zero (S := S2048x2048) origin2, View.ld_unit_zero (S := S256x1) origin2, View.ld_unit_zero (S := S256x2048) origin2]
  isplitl [T0]; · iexact T0
  iexact T1

set_option maxHeartbeats 3200000 in
/-- The weights kept, the block used. -/
theorem runKU (c : Dev nD) (i : grid0.Coords) (arg4 : Memref sig .tc .vmem S256x2048 .bf16) (harg4 : arg4.IsWhole) (arg5 : Memref sig .tc .vmem S1x1x2048x2048 .f32) (harg5 : arg5.IsWhole) (arg6 : Memref sig .tc .vmem S1x1x1x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S2048x2048 .bf16) (harg9 : arg9.IsWhole) (f0 : TbBuf (F := F) c tb0) (f1 : TbBuf (F := F) c tb1) (hc0 : ¬reloads c i f0) (hc1 : used c i f1)
    (x0 : Vec F S256x2048 .bf16) (x1 : Vec F S1x1x2048x2048 .f32) (x2 : Vec F S1x1x1x2048 .f32) (x3 : Vec F S256x1 .f32) (s0 : Vec F S2048x2048 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare s0 ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay2 x0 s0 x2 x3) ∗ owns (c : Thread nD τ) arg9 fullShare s0 ∗ tbPt c tb0 f0 ∗ tbPt c tb1 f1) -∗ K ⟨⟩))
      ⊢ wp frame (wpE (defs₀ (F := F)) Variants.none c none) E (cc0_moe_gmm2 i tb0 (Memref.isWhole_whole _) tb1 (Memref.isWhole_whole _) arg4 harg4 arg5 harg5 arg6 harg6 arg7 harg7 arg8 harg8 arg9 harg9) K := by
  simp only [cc0_moe_gmm2_eq_skeleton]; unfold cc0_moe_gmm2_skel
  unfold owns
  iintro ⟨⟨%g0, %hg0, H0⟩, ⟨%g1, %hg1, H1⟩, ⟨%g2, %hg2, H2⟩, ⟨%g3, %hg3, H3⟩, ⟨%d4, %g4, -, H4⟩, ⟨%g5, %hg5, H5⟩, T0, T1, Hk⟩
  obtain rfl := harg4.eq_unread hg0; obtain rfl := harg5.eq_unread hg1; obtain rfl := harg6.eq_unread hg2; obtain rfl := harg7.eq_unread hg3; obtain rfl := harg9.eq_unread hg5
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (View.read_writes_eq_canon _ _ _ (View.cover_of_wholeMem _ (by sl_whole_mem))).trans ?_
    sl_unfold_words
    rw [View.canon_cons_unit_zero (S := S256x2048) origin2]
    simp only [View.readCov_unit_zero (S := S2048x2048) _ origin2, View.readAt_eq_ld, harg4.read_unread, harg5.read_unread, harg6.read_unread, harg7.read_unread, harg8.read_unread, harg9.read_unread, View.ld_unit_zero (S := S1x1x1x2048) origin4, View.ld_unit_zero (S := S1x1x2048x2048) origin4, View.ld_unit_zero (S := S2048x2048) origin2, View.ld_unit_zero (S := S256x1) origin2, View.ld_unit_zero (S := S256x2048) origin2]
  isplitl [H5]
  · iexists _; isplitr; · ipureintro; exact harg9.read_unread _
    iexact H5
  isplitl [T0]; · iexact T0
  iexact T1

set_option maxHeartbeats 3200000 in
/-- The weights kept, the block not used. -/
theorem runKI (c : Dev nD) (i : grid0.Coords) (arg4 : Memref sig .tc .vmem S256x2048 .bf16) (harg4 : arg4.IsWhole) (arg5 : Memref sig .tc .vmem S1x1x2048x2048 .f32) (harg5 : arg5.IsWhole) (arg6 : Memref sig .tc .vmem S1x1x1x2048 .f32) (harg6 : arg6.IsWhole) (arg7 : Memref sig .tc .vmem S256x1 .f32) (harg7 : arg7.IsWhole) (arg8 : Memref sig .tc .vmem S256x2048 .f32) (harg8 : arg8.IsWhole) (arg9 : Memref sig .tc .vmem S2048x2048 .bf16) (harg9 : arg9.IsWhole) (f0 : TbBuf (F := F) c tb0) (f1 : TbBuf (F := F) c tb1) (hc0 : ¬reloads c i f0) (hc1 : ¬used c i f1)
    (x0 : Vec F S256x2048 .bf16) (x1 : Vec F S1x1x2048x2048 .f32) (x2 : Vec F S1x1x1x2048 .f32) (x3 : Vec F S256x1 .f32) (xo : Vec F S256x2048 .f32) (s0 : Vec F S2048x2048 .bf16) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ owns (c : Thread nD τ) arg9 fullShare s0 ∗ tbPt c tb0 f0 ∗ tbPt c tb1 f1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ owns (c : Thread nD τ) arg9 fullShare s0 ∗ tbPt c tb0 f0 ∗ tbPt c tb1 f1) -∗ K ⟨⟩))
      ⊢ wp frame (wpE (defs₀ (F := F)) Variants.none c none) E (cc0_moe_gmm2 i tb0 (Memref.isWhole_whole _) tb1 (Memref.isWhole_whole _) arg4 harg4 arg5 harg5 arg6 harg6 arg7 harg7 arg8 harg8 arg9 harg9) K := by
  simp only [cc0_moe_gmm2_eq_skeleton]; unfold cc0_moe_gmm2_skel
  unfold owns
  iintro ⟨⟨%g0, %hg0, H0⟩, ⟨%g1, %hg1, H1⟩, ⟨%g2, %hg2, H2⟩, ⟨%g3, %hg3, H3⟩, ⟨%g4, %hg4, H4⟩, ⟨%g5, %hg5, H5⟩, T0, T1, Hk⟩
  obtain rfl := harg4.eq_unread hg0; obtain rfl := harg5.eq_unread hg1; obtain rfl := harg6.eq_unread hg2; obtain rfl := harg7.eq_unread hg3; obtain rfl := harg8.eq_unread hg4; obtain rfl := harg9.eq_unread hg5
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [T0]; · iexact T0
  iexact T1

end Cert.Kernel5Ideal.Run

end
-- ==== Proof.D5I.lean ====
/- The launch of the second grouped product of the experts: what the scratch and the output hold after each point, the body obligation, the run, the frame. -/
module

public import proofs.«01_k».proof.Proof.E5I

@[expose] public section

set_option maxRecDepth 16384

noncomputable section

namespace Cert.Kernel5Ideal.Run

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation before the region writes no argument. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The tables' contents when the region is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert 0 {1} from by decide, bigSep_insert (by decide), bigSep_singleton]
  rfl

/-- A position in the table of the blocks' experts, the position in the number of used blocks. -/
def at161 (b : ℕ) (h : b < 161) : S161.Idx := fun a => ⟨b, by rw [Subsingleton.elim a 0]; exact h⟩
def at1 : S1.Idx := fun a => ⟨0, by rw [Subsingleton.elim a 0]; exact Nat.one_pos⟩

/-- A block's expert, and the number of used blocks. -/
def be (b : ℕ) (h : b < 161) : BitVec 32 := tbl m 0 (at161 b h)
def nu : BitVec 32 := tbl m 1 at1

/-- What the precondition gives of the tables. -/
structure Good : Prop where
  be_lt : ∀ b h, (be m b h).toNat < 32
  nu_pos : 1 ≤ (nu m).toNat
  nu_lt : (nu m).toNat < 2 ^ 31

theorem i1_lt (i : grid0.Coords) : (i 1).val < 161 := (i 1).isLt

theorem rd0_eq (c : Dev nD) (i : grid0.Coords) : rd0 c i (tbl m 0) = be m (i 1).val (i1_lt i) := by
  refine congrArg (fun x : S161.Idx => (tbl m 0 x : BitVec 32)) (funext fun a : Fin 1 => Fin.ext ?_)
  obtain rfl : a = 0 := Subsingleton.elim _ _
  show k0_off1 i 0 + 1 * 0 = (i 1).val
  rw [k0_off1_eq]; rfl

theorem off2_eq (i : grid0.Coords) (h : (i 1).val ≠ 0) : k0_off2 i = ![(i 1).val - 1] := by
  unfold k0_off2
  show ![(Scalar.maxsi (Scalar.subi (BitVec.ofNat 32 (i 1).val) 1#32) 0#32).toNat] = _
  rw [Tab.prev_word (i1_lt i) h]

theorem rd1_eq (c : Dev nD) (i : grid0.Coords) (h : (i 1).val ≠ 0) :
    rd1 c i (tbl m 0) = be m ((i 1).val - 1) (by have := i1_lt i; omega) := by
  refine congrArg (fun x : S161.Idx => (tbl m 0 x : BitVec 32)) (funext fun a : Fin 1 => Fin.ext ?_)
  obtain rfl : a = 0 := Subsingleton.elim _ _
  show k0_off2 i 0 + 1 * 0 = (i 1).val - 1
  rw [off2_eq i h]; rfl

theorem rd2_eq (c : Dev nD) : rd2 c (tbl m 1) = nu m := by
  refine congrArg (fun x : S1.Idx => (tbl m 1 x : BitVec 32)) (funext fun a : Fin 1 => Fin.ext ?_)
  obtain rfl : a = 0 := Subsingleton.elim _ _
  rfl

theorem at1_eq : (tbl m).at 1 (Rect.unit (s := S1) ![0] S1.size inb_S1_S1_0) numel1_S1 = nu m := rd2_eq m 0

theorem atD_eq : (tbl m).atD 1 ![0] = nu m := by
  unfold Pipeline.Prefetch.Contents.atD
  refine (dif_pos (show ∀ a : Fin 1, (![0] : Fin 1 → ℕ) a + 1 ≤ S1.size a by decide)).trans ?_
  refine congrArg (fun x : S1.Idx => (tbl m 1 x : BitVec 32)) (funext fun a : Fin 1 => Fin.ext ?_)
  obtain rfl : a = 0 := Subsingleton.elim _ _
  rfl

attribute [local irreducible] tbl

theorem used_iff (hG : Good m) (c : Dev nD) (i : grid0.Coords) : used c i (tbl m 1) ↔ (i 1).val < (nu m).toNat := by
  unfold used; rw [rd2_eq]; exact Tab.live_word (i1_lt i) hG.nu_lt

/-- Where the weights are kept, the block is not the first of its column block and has the expert of the one before. -/
theorem keeps_of (c : Dev nD) (i : grid0.Coords) (h : ¬reloads c i (tbl m 0)) :
    ∃ h0 : (i 1).val ≠ 0, be m (i 1).val (i1_lt i) = be m ((i 1).val - 1) (by have := i1_lt i; omega) := by
  unfold reloads at h
  rw [Tab.reload_word (i1_lt i), not_or] at h
  refine ⟨h.1, ?_⟩
  have h2 := not_not.mp h.2
  rw [rd0_eq, rd1_eq m c i h.1] at h2; exact h2

/-- The first and the output window's block indices. -/
theorem ix_first (hG : Good m) (i : grid0.Coords) : ix0 (tbl m) 0 i = ![min (i 1).val ((nu m).toNat - 1), 0] := by
  show ![(Scalar.minsi (BitVec.ofNat 32 (i 1).val) (Scalar.subi ((tbl m).at 1 (Rect.unit (s := S1) ![0] S1.size inb_S1_S1_0) numel1_S1) 1#32)).toNat, 0] = _
  rw [at1_eq, Tab.min_word (i1_lt i) hG.nu_pos hG.nu_lt]

theorem ix_out (hG : Good m) (i : grid0.Coords) : ix0 (tbl m) 4 i = ![min (i 1).val ((nu m).toNat - 1), (i 0).val] := by
  have h0 : (BitVec.ofNat 32 (i 0).val).toNat = (i 0).val := by
    have : (i 0).val < 2 := (i 0).isLt
    rw [BitVec.toNat_ofNat]; omega
  show ![(Scalar.minsi (BitVec.ofNat 32 (i 1).val) (Scalar.subi ((tbl m).at 1 (Rect.unit (s := S1) ![0] S1.size inb_S1_S1_0) numel1_S1) 1#32)).toNat, (BitVec.ofNat 32 (i 0).val).toNat] = _
  rw [at1_eq, Tab.min_word (i1_lt i) hG.nu_pos hG.nu_lt, h0]

theorem ix_row (hG : Good m) (i : grid0.Coords) : ix0 (tbl m) 3 i = ![min (i 1).val ((nu m).toNat - 1), 0] := by
  show ![(Scalar.minsi (BitVec.ofNat 32 (i 1).val) (Scalar.subi ((tbl m).at 1 (Rect.unit (s := S1) ![0] S1.size inb_S1_S1_0) numel1_S1) 1#32)).toNat, 0] = _
  rw [at1_eq, Tab.min_word (i1_lt i) hG.nu_pos hG.nu_lt]

theorem ix_1 (i : grid0.Coords) : ix0 (tbl m) 1 i = ![0, (be m (i 1).val (i1_lt i)).toNat, 0, (i 0).val] := by
  have h0 : (BitVec.ofNat 32 (i 0).val).toNat = (i 0).val := by
    have h : (i 0).val < 2 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (BitVec.ofNat 32 (i 0).val).toNat] = _
  rw [h1, h0]

theorem ix_2 (i : grid0.Coords) : ix0 (tbl m) 2 i = ![0, (be m (i 1).val (i1_lt i)).toNat, 0, (i 0).val] := by
  have h0 : (BitVec.ofNat 32 (i 0).val).toNat = (i 0).val := by
    have h : (i 0).val < 2 := (i 0).isLt
    generalize (i 0).val = a at h
    revert a; decide
  have h1 : (tbl m).at 0 (Rect.unit (s := S161) (k0_off1 i) S1.size (k0_off1_inb i)) numel1_S1 = be m (i 1).val (i1_lt i) := rd0_eq m 0 i
  show ![0, ((tbl m).at 0 (Rect.unit (s := S161) (k0_off1 i) S1.size (k0_off1_inb i)) numel1_S1).toNat, 0, (BitVec.ofNat 32 (i 0).val).toNat] = _
  rw [h1, h0]

/-- A point's coordinates. -/
theorem c0_val (t : Fin grid0.N) : (grid0.coords t 0).val = t.val / 161 := by
  have ht : t.val < 322 := Nat.lt_of_lt_of_eq t.isLt N_0
  have e : (grid0.coords t 0).val = t.val / 161 % 2 := Pipeline.Grid.coords_val t 0 (by decide) rfl
  omega
theorem c1_val (t : Fin grid0.N) : (grid0.coords t 1).val = t.val % 161 := by
  have e : (grid0.coords t 1).val = t.val / 1 % 161 := Pipeline.Grid.coords_val t 1 (by decide) rfl
  omega

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S256x2048 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x2048x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S256x1 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S256x2048 .f32 := spec0_4.stage ((cfgM m hO).slots t 4)
abbrev hs4 (hO : Ok m) (t : Fin (cfgM m hO).N) : (ms4 m hO t).IsWhole := hstage0_4 (((cfgM m hO).slots t 4).cast nbuf0_4)
abbrev sc0 : Memref sig .tc .vmem S2048x2048 .bf16 := Memref.whole cc0_scratch0

/-- The body at a point. -/
def bodyAt (hO : Ok m) (t : Fin (cfgM m hO).N) : Prog (TpuEff nD τ sig (Elt F) Λ₀ .tc) PUnit :=
  cc0_moe_gmm2 (grid0.coords t) tb0 (Memref.isWhole_whole _) tb1 (Memref.isWhole_whole _) (ms0 m hO t) (hs0 m hO t) (ms1 m hO t) (hs1 m hO t) (ms2 m hO t) (hs2 m hO t) (ms3 m hO t) (hs3 m hO t) (ms4 m hO t) (hs4 m hO t) sc0 (Memref.isWhole_whole _)

theorem PhiA0_eq (c : Dev nD) : (Pipeline.ΦA spec0 c : sProp 𝕄)
    = iprop(iprop((∃ d, owns (c : Thread nD τ) sc0 fullShare d)) ∗ (∃ r, prngReg c r)) := by
  unfold Pipeline.ΦA; rw [scopedRest0_eq]; simp only [sc0, owns_whole]; try rfl

/-- The weights in the scratch after a point. -/
def scr0 (hO : Ok m) (c : Dev nD) (t : Fin (cfgM m hO).N) : Vec F S2048x2048 .bf16 := k0_pay1 (iblk m hO c 1 t)

/-- What the body of a used block stores. -/
def outP (hO : Ok m) (c : Dev nD) (t : Fin (cfgM m hO).N) : Vec F S256x2048 .f32 := k0_pay2 (iblk m hO c 0 t) (scr0 m hO c t) (iblk m hO c 2 t) (iblk m hO c 3 t)

/-- The used point whose block the output buffer holds. -/
def lastU (hO : Ok m) (t : Fin (cfgM m hO).N) : Fin (cfgM m hO).N :=
  ⟨161 * (t.val / 161) + min (t.val % 161) ((nu m).toNat - 1), by have := t.isLt; omega⟩

/-- The output buffer after a point. -/
def outT (hO : Ok m) (c : Dev nD) (t : Fin (cfgM m hO).N) : Vec F S256x2048 .f32 := outP m hO c (lastU m hO t)

/-- The region's invariant. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc0 fullShare (scr0 m hO c ⟨n, hn⟩)) ∗ (∃ r, prngReg c r)) ∗ Pipeline.ΦT pre0 (tbl m) c)

theorem Inv_zero (hO : Ok m) (c : Dev nD) (n : ℕ) (h : n ≤ (cfgM m hO).N) (hz : n = 0) :
    Inv m hO c n h = iprop(Pipeline.ΦA spec0 c ∗ Pipeline.ΦT pre0 (tbl m) c) := by
  subst hz; rfl

theorem Inv_succ (hO : Ok m) (c : Dev nD) (n : ℕ) (hn : n < (cfgM m hO).N) :
    Inv m hO c (n + 1) hn = iprop(iprop(iprop(owns (c : Thread nD τ) sc0 fullShare (scr0 m hO c ⟨n, hn⟩)) ∗ (∃ r, prngReg c r)) ∗ Pipeline.ΦT pre0 (tbl m) c) := rfl

theorem Inv_pos (hO : Ok m) (c : Dev nD) (n : ℕ) (h : n ≤ (cfgM m hO).N) (hz : n ≠ 0) :
    Inv m hO c n h = iprop(iprop(iprop(owns (c : Thread nD τ) sc0 fullShare (scr0 m hO c ⟨n - 1, by omega⟩)) ∗ (∃ r, prngReg c r)) ∗ Pipeline.ΦT pre0 (tbl m) c) := by
  cases n with
  | zero => exact absurd rfl hz
  | succ n => rfl

/-- What the launch holds of each window. -/
def data (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outT m hO c t
  Φ t := Inv m hO c t.val (Nat.le_of_lt_succ t.isLt)
  q w := Pipeline.shareOf spec0 w
  owed _ := 0

theorem data_A (hO : Ok m) (c : Dev nD) (w : Fin (cfgM m hO).W) : (data m hO 0 c).A w = V m c (Pipeline.arrRef spec0 w) := by
  dsimp only [data]

theorem data_Inv (hO : Ok m) (c : Dev nD) (t : Fin (cfgM m hO).N) :
    (data m hO 0 c).Φ t.castSucc = Inv m hO c t.val (Nat.le_of_lt t.isLt) := by
  dsimp only [data]; exact Pipeline.Dat.Φ_castSucc (Inv m hO c) t

theorem after_0 (hO : Ok m) (c : Dev nD) (t : Fin (cfgM m hO).N) : (data m hO 0 c).after 0 t = iblk m hO c 0 t := by dsimp only [data]; try rfl
theorem fetched_0 (hO : Ok m) (c : Dev nD) (t : Fin (cfgM m hO).N) (d) : (data m hO 0 c).fetched 0 t d = iblk m hO c 0 t := by
  unfold Dat.fetched Dat.blockOf iblk; rw [data_A]; try rfl
theorem before_0 (hO : Ok m) (c : Dev nD) (t : Fin (cfgM m hO).N) (d) : (data m hO 0 c).before 0 t d = iblk m hO c 0 t :=
  ((data m hO 0 c).before_in_eq_fetched 0 rfl (fun _ => rfl) (fun _ _ _ => rfl) (fun t => by rw [after_0]; unfold Dat.blockOf iblk; rw [data_A]; try rfl) t d).trans
    (fetched_0 m hO c t d)
theorem after_1 (hO : Ok m) (c : Dev nD) (t : Fin (cfgM m hO).N) : (data m hO 0 c).after 1 t = iblk m hO c 1 t := by dsimp only [data]; try rfl
theorem fetched_1 (hO : Ok m) (c : Dev nD) (t : Fin (cfgM m hO).N) (d) : (data m hO 0 c).fetched 1 t d = iblk m hO c 1 t := by
  unfold Dat.fetched Dat.blockOf iblk; rw [data_A]; try rfl
theorem before_1 (hO : Ok m) (c : Dev nD) (t : Fin (cfgM m hO).N) (d) : (data m hO 0 c).before 1 t d = iblk m hO c 1 t :=
  ((data m hO 0 c).before_in_eq_fetched 1 rfl (fun _ => rfl) (fun _ _ _ => rfl) (fun t => by rw [after_1]; unfold Dat.blockOf iblk; rw [data_A]; try rfl) t d).trans
    (fetched_1 m hO c t d)
theorem after_2 (hO : Ok m) (c : Dev nD) (t : Fin (cfgM m hO).N) : (data m hO 0 c).after 2 t = iblk m hO c 2 t := by dsimp only [data]; try rfl
theorem fetched_2 (hO : Ok m) (c : Dev nD) (t : Fin (cfgM m hO).N) (d) : (data m hO 0 c).fetched 2 t d = iblk m hO c 2 t := by
  unfold Dat.fetched Dat.blockOf iblk; rw [data_A]; try rfl
theorem before_2 (hO : Ok m) (c : Dev nD) (t : Fin (cfgM m hO).N) (d) : (data m hO 0 c).before 2 t d = iblk m hO c 2 t :=
  ((data m hO 0 c).before_in_eq_fetched 2 rfl (fun _ => rfl) (fun _ _ _ => rfl) (fun t => by rw [after_2]; unfold Dat.blockOf iblk; rw [data_A]; try rfl) t d).trans
    (fetched_2 m hO c t d)
theorem after_3 (hO : Ok m) (c : Dev nD) (t : Fin (cfgM m hO).N) : (data m hO 0 c).after 3 t = iblk m hO c 3 t := by dsimp only [data]; try rfl
theorem fetched_3 (hO : Ok m) (c : Dev nD) (t : Fin (cfgM m hO).N) (d) : (data m hO 0 c).fetched 3 t d = iblk m hO c 3 t := by
  unfold Dat.fetched Dat.blockOf iblk; rw [data_A]; try rfl
theorem before_3 (hO : Ok m) (c : Dev nD) (t : Fin (cfgM m hO).N) (d) : (data m hO 0 c).before 3 t d = iblk m hO c 3 t :=
  ((data m hO 0 c).before_in_eq_fetched 3 rfl (fun _ => rfl) (fun _ _ _ => rfl) (fun t => by rw [after_3]; unfold Dat.blockOf iblk; rw [data_A]; try rfl) t d).trans
    (fetched_3 m hO c t d)
theorem after_4 (hO : Ok m) (c : Dev nD) (t : Fin (cfgM m hO).N) : (data m hO 0 c).after 4 t = outT m hO c t := by dsimp only [data]; try rfl

/-- Where the weights are kept, the scratch holds those of the point. -/
theorem scr0_keep (hO : Ok m) (c : Dev nD) (t : Fin (cfgM m hO).N) (hk : ¬reloads c (grid0.coords t) (tbl m 0)) :
    scr0 m hO c ⟨t.val - 1, Nat.lt_of_le_of_lt (Nat.sub_le _ _) t.isLt⟩ = scr0 m hO c t := by
  obtain ⟨h0, hb⟩ := keeps_of m c _ hk
  have e1 := c1_val t
  have hi : ((cfgM m hO).win 1).index ⟨t.val - 1, Nat.lt_of_le_of_lt (Nat.sub_le _ _) t.isLt⟩ = ((cfgM m hO).win 1).index t := by
    show ix0 (tbl m) 1 (grid0.coords ⟨t.val - 1, _⟩) = ix0 (tbl m) 1 (grid0.coords t)
    rw [ix_1, ix_1, hb]
    have a0 := c0_val t
    have b0 := c0_val ⟨t.val - 1, Nat.lt_of_le_of_lt (Nat.sub_le _ _) t.isLt⟩
    have b1 := c1_val ⟨t.val - 1, Nat.lt_of_le_of_lt (Nat.sub_le _ _) t.isLt⟩
    dsimp only at b0 b1
    have e0 : (grid0.coords ⟨t.val - 1, Nat.lt_of_le_of_lt (Nat.sub_le _ _) t.isLt⟩ 0).val = (grid0.coords t 0).val := by omega
    have e2 : (grid0.coords ⟨t.val - 1, Nat.lt_of_le_of_lt (Nat.sub_le _ _) t.isLt⟩ 1).val = (grid0.coords t 1).val - 1 := by omega
    simp only [e0, e2]
  unfold scr0
  rw [← fetched_1 m hO c t (fun _ => Classical.arbitrary _), ← fetched_1 m hO c ⟨t.val - 1, _⟩ (fun _ => Classical.arbitrary _),
    (data m hO 0 c).fetched_congr 1 hi rfl]

/-- The output is idle where the block is not used. -/
theorem idle_out (hO : Ok m) (c : Dev nD) (t : Fin (cfgM m hO).N) (h : ¬used c (grid0.coords t) (tbl m 1)) :
    (cfgM m hO).idle 4 (grid0.coords t) = true := by
  have e : (tbl m).atD 1 ![0] = rd2 c (tbl m 1) := (atD_eq m).trans (rd2_eq m c).symm
  show (!(k0_cond2 (grid0.coords t) ((tbl m).atD 1 ![0]) == 1#1)) = true
  rw [e]
  have h' : ¬k0_cond2 (grid0.coords t) (rd2 c (tbl m 1)) = 1#1 := h
  simpa using h'

theorem live_out (hO : Ok m) (c : Dev nD) (t : Fin (cfgM m hO).N) (h : used c (grid0.coords t) (tbl m 1)) :
    (cfgM m hO).idle 4 (grid0.coords t) = false := by
  have e : (tbl m).atD 1 ![0] = rd2 c (tbl m 1) := (atD_eq m).trans (rd2_eq m c).symm
  show (!(k0_cond2 (grid0.coords t) ((tbl m).atD 1 ![0]) == 1#1)) = false
  rw [e]
  have h' : k0_cond2 (grid0.coords t) (rd2 c (tbl m 1)) = 1#1 := h
  rw [h']; rfl

/-- The output's block does not change after the last used block of a column block. -/
theorem noflush (hO : Ok m) (hG : Good m) (t : Fin (cfgM m hO).N) (h : (nu m).toNat ≤ t.val % 161 + 1) (h' : t.val % 161 < 160) :
    ((cfgM m hO).win 4).flush t = false := by
  have hN : (cfgM m hO).N = 322 := N_0
  have hlt : t.val + 1 < (cfgM m hO).N := by have := t.isLt; omega
  have hi : ((cfgM m hO).win 4).index ⟨t.val + 1, hlt⟩ = ((cfgM m hO).win 4).index t := by
    show ix0 (tbl m) 4 (grid0.coords ⟨t.val + 1, _⟩) = ix0 (tbl m) 4 (grid0.coords t)
    rw [ix_out m hG, ix_out m hG]
    have a0 := c0_val t
    have a1 := c1_val t
    have b0 := c0_val ⟨t.val + 1, hlt⟩
    have b1 := c1_val ⟨t.val + 1, hlt⟩
    dsimp only at b0 b1
    rw [b0, b1, a0, a1]
    have := hG.nu_pos
    congr 1
    · omega
    · congr 1; omega
  unfold Window.flush
  have e1 : ¬(t.val + 1 = (cfgM m hO).grid.N) := by show ¬(t.val + 1 = (cfgM m hO).N); omega
  simp only [Bool.and_eq_false_iff, Bool.or_eq_false_iff, decide_eq_false_iff_not]
  right
  exact ⟨e1, fun ⟨h2, h3⟩ => h3 hi⟩

/-- At a point whose block is not used the output buffer holds the last used block. -/
theorem before_idle (hO : Ok m) (hG : Good m) (c : Dev nD) : ∀ (n : ℕ) (hn : n < (cfgM m hO).N) (h : (nu m).toNat ≤ n % 161) (d),
    (data m hO 0 c).before 4 ⟨n, hn⟩ d = outT m hO c ⟨n, hn⟩
  | 0, hn, h, d => absurd hG.nu_pos (by omega)
  | n + 1, hn, h, d => by
    have hp := hG.nu_pos
    have hn' : n < (cfgM m hO).N := by omega
    have hT : outT m hO c ⟨n, hn'⟩ = outT m hO c ⟨n + 1, hn⟩ := by
      unfold outT
      rw [show lastU m hO ⟨n, hn'⟩ = lastU m hO ⟨n + 1, hn⟩ from Fin.ext (by
        show 161 * (n / 161) + min (n % 161) ((nu m).toNat - 1) = 161 * ((n + 1) / 161) + min ((n + 1) % 161) ((nu m).toNat - 1)
        omega)]
    rw [(data m hO 0 c).before_of_pos 4 ⟨n + 1, hn⟩ (Nat.succ_ne_zero n) rfl d]
    have hf : ((cfgM m hO).win 4).flush ⟨n, hn'⟩ = false := noflush m hO hG ⟨n, hn'⟩ (by show (nu m).toNat ≤ n % 161 + 1; omega) (by show n % 161 < 160; omega)
    show (if ((cfgM m hO).win 4).flush ⟨n, hn'⟩ = true then d else (data m hO 0 c).left 4 ⟨n, hn'⟩ d) = _
    rw [hf, if_neg Bool.false_ne_true, ← hT]
    have e1 := c1_val ⟨n, hn'⟩
    by_cases hu : (nu m).toNat ≤ n % 161
    · have hidle := idle_out m hO c ⟨n, hn'⟩ (by rw [used_iff m hG, e1]; show ¬n % 161 < _; omega)
      unfold Dat.left
      have : (cfgM m hO).idle 4 ((cfgM m hO).grid.coords ⟨n, hn'⟩) = true := hidle
      rw [this]
      exact before_idle hO hG c n hn' hu d
    · have hlive := live_out m hO c ⟨n, hn'⟩ (by rw [used_iff m hG, e1]; show n % 161 < _; omega)
      unfold Dat.left
      have : (cfgM m hO).idle 4 ((cfgM m hO).grid.coords ⟨n, hn'⟩) = false := hlive
      rw [this]
      show (data m hO 0 c).kept 4 ⟨n, hn'⟩ d = _
      unfold Dat.kept
      rw [Pipeline.fill_of_clip_none 4 _ (fun _ => rfl) d ((data m hO 0 c).after 4 ⟨n, hn'⟩), Window.fill_cut, after_4]

theorem lastU_used (hO : Ok m) (c : Dev nD) (t : Fin (cfgM m hO).N) (h : t.val % 161 < (nu m).toNat) : outT m hO c t = outP m hO c t := by
  unfold outT
  rw [show lastU m hO t = t from Fin.ext (by
    show 161 * (t.val / 161) + min (t.val % 161) ((nu m).toNat - 1) = t.val
    omega)]

/-- What the body is called with at a point, -/
def pre (hO : Ok m) (c : Dev nD) (t : Fin (cfgM m hO).N) : sProp 𝕄 :=
  iprop((data m hO 0 c).Φ t.castSucc ∗ (data m hO 0 c).owesAt () t.castSucc
    ∗ (∃ d, owns (c : Thread nD τ) (ms0 m hO t) fullShare ((data m hO 0 c).before 0 t d)) ∗ (∃ d, owns (c : Thread nD τ) (ms1 m hO t) fullShare ((data m hO 0 c).before 1 t d)) ∗ (∃ d, owns (c : Thread nD τ) (ms2 m hO t) fullShare ((data m hO 0 c).before 2 t d)) ∗ (∃ d, owns (c : Thread nD τ) (ms3 m hO t) fullShare ((data m hO 0 c).before 3 t d)) ∗ (∃ d, owns (c : Thread nD τ) (ms4 m hO t) fullShare ((data m hO 0 c).before 4 t d)))

/-- and what it returns. -/
def post (hO : Ok m) (c : Dev nD) (t : Fin (cfgM m hO).N) : sProp 𝕄 :=
  iprop((data m hO 0 c).Φ t.succ ∗ (data m hO 0 c).owesAt () t.succ
    ∗ (data m hO 0 c).leavesExact 0 t ∗ (data m hO 0 c).leavesExact 1 t ∗ (data m hO 0 c).leavesExact 2 t ∗ (data m hO 0 c).leavesExact 3 t ∗ (data m hO 0 c).leavesExact 4 t)

theorem leaves_used (hO : Ok m) (c : Dev nD) (t : Fin (cfgM m hO).N) (h : used c (grid0.coords t) (tbl m 1)) :
    (data m hO 0 c).leavesExact 4 t = owns (c : Thread nD τ) (ms4 m hO t) fullShare (outT m hO c t) := by
  rw [← after_4]; unfold Dat.leavesExact
  have : (cfgM m hO).idle 4 ((cfgM m hO).grid.coords t) = false := live_out m hO c t h
  rw [this]; try rfl

theorem leaves_unused (hO : Ok m) (hG : Good m) (c : Dev nD) (t : Fin (cfgM m hO).N) (h : ¬used c (grid0.coords t) (tbl m 1)) (d) :
    owns (c : Thread nD τ) (ms4 m hO t) fullShare ((data m hO 0 c).before 4 t d) ⊢ (data m hO 0 c).leavesExact 4 t := by
  have hi : (cfgM m hO).idle 4 ((cfgM m hO).grid.coords t) = true := idle_out m hO c t h
  have hu : (nu m).toNat ≤ t.val % 161 := by rw [used_iff m hG, c1_val t] at h; omega
  by_cases hf : ((cfgM m hO).win 4).flush t = true
  · rw [before_idle m hO hG c t.val t.isLt hu d, ← after_4]
    unfold Dat.leavesExact; rw [hi, hf]
    try exact Idealize.SL.BI.Entails.refl _
  · rw [Dat.leavesExact_idle (data m hO 0 c) 4 t hi (by simpa using hf)]
    iintro H; iexists d; iexact H

set_option maxHeartbeats 6400000 in
/-- The body at any point. -/
theorem body_sound (hO : Ok m) (hG : Good m) (c : Dev nD) (t : Fin (cfgM m hO).N) :
    pre m hO c t ⊢ wp frame (wpE (defs₀ (F := F)) Variants.none c none) Set.univ (bodyAt m hO t) (fun _ => post m hO c t) := by
  unfold pre post bodyAt
  simp only [before_0, before_1, before_2, before_3]
  rw [show (data m hO 0 c).owesAt () t.succ = (data m hO 0 c).owesAt () t.castSucc from rfl,
    show (data m hO 0 c).leavesExact 0 t = owns (c : Thread nD τ) (ms0 m hO t) fullShare (iblk m hO c 0 t) from after_0 m hO c t ▸ rfl,
    show (data m hO 0 c).leavesExact 1 t = owns (c : Thread nD τ) (ms1 m hO t) fullShare (iblk m hO c 1 t) from after_1 m hO c t ▸ rfl,
    show (data m hO 0 c).leavesExact 2 t = owns (c : Thread nD τ) (ms2 m hO t) fullShare (iblk m hO c 2 t) from after_2 m hO c t ▸ rfl,
    show (data m hO 0 c).leavesExact 3 t = owns (c : Thread nD τ) (ms3 m hO t) fullShare (iblk m hO c 3 t) from after_3 m hO c t ▸ rfl,
    show (data m hO 0 c).Φ t.succ = Inv m hO c (t.val + 1) t.isLt from rfl, Inv_succ, PhiT0_eq]
  have e1 := c1_val t
  by_cases hr : reloads c (grid0.coords t) (tbl m 0)
  · by_cases hu : used c (grid0.coords t) (tbl m 1)
    · by_cases hz : t.val = 0
      · skip
        rw [leaves_used m hO c t hu, lastU_used m hO c t (by rw [used_iff m hG, e1] at hu; exact hu)]
        rw [data_Inv m hO c t, Inv_zero m hO c _ _ hz, PhiA0_eq, PhiT0_eq]
        iintro ⟨⟨⟨S0, Hg⟩, T0, T1⟩, Ho, ⟨%d0, H0⟩, ⟨%d1, H1⟩, ⟨%d2, H2⟩, ⟨%d3, H3⟩, ⟨%d4, H4⟩⟩
        iapply (runRU c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) Set.univ _)
        isplitl [H0]; · iexact H0
        isplitl [H1]; · iexact H1
        isplitl [H2]; · iexact H2
        isplitl [H3]; · iexact H3
        isplitl [H4]; · iexists _; iexact H4
        isplitl [S0]; · iexact S0
        isplitl [T0]; · iexact T0
        isplitl [T1]; · iexact T1
        iintro ⟨H0, H1, H2, H3, H4, S0, T0, T1⟩
        isplitl [S0 Hg T0 T1]
        · isplitl [S0 Hg]
          · isplitl [S0]
            · iexact S0
            iexact Hg
          isplitl [T0]; · iexact T0
          iexact T1
        isplitl [Ho]; · iexact Ho
        isplitl [H0]; · iexact H0
        isplitl [H1]; · iexact H1
        isplitl [H2]; · iexact H2
        isplitl [H3]; · iexact H3
        iexact H4
      · skip
        rw [leaves_used m hO c t hu, lastU_used m hO c t (by rw [used_iff m hG, e1] at hu; exact hu)]
        rw [data_Inv m hO c t, Inv_pos m hO c _ _ hz, PhiT0_eq]
        iintro ⟨⟨⟨S0, Hg⟩, T0, T1⟩, Ho, ⟨%d0, H0⟩, ⟨%d1, H1⟩, ⟨%d2, H2⟩, ⟨%d3, H3⟩, ⟨%d4, H4⟩⟩
        iapply (runRU c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) Set.univ _)
        isplitl [H0]; · iexact H0
        isplitl [H1]; · iexact H1
        isplitl [H2]; · iexact H2
        isplitl [H3]; · iexact H3
        isplitl [H4]; · iexists _; iexact H4
        isplitl [S0]; · iexists _; iexact S0
        isplitl [T0]; · iexact T0
        isplitl [T1]; · iexact T1
        iintro ⟨H0, H1, H2, H3, H4, S0, T0, T1⟩
        isplitl [S0 Hg T0 T1]
        · isplitl [S0 Hg]
          · isplitl [S0]
            · iexact S0
            iexact Hg
          isplitl [T0]; · iexact T0
          iexact T1
        isplitl [Ho]; · iexact Ho
        isplitl [H0]; · iexact H0
        isplitl [H1]; · iexact H1
        isplitl [H2]; · iexact H2
        isplitl [H3]; · iexact H3
        iexact H4
    · by_cases hz : t.val = 0
      · skip
        rw [data_Inv m hO c t, Inv_zero m hO c _ _ hz, PhiA0_eq, PhiT0_eq]
        iintro ⟨⟨⟨S0, Hg⟩, T0, T1⟩, Ho, ⟨%d0, H0⟩, ⟨%d1, H1⟩, ⟨%d2, H2⟩, ⟨%d3, H3⟩, ⟨%d4, H4⟩⟩
        iapply (runRI c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) ((data m hO 0 c).before 4 t d4) Set.univ _)
        isplitl [H0]; · iexact H0
        isplitl [H1]; · iexact H1
        isplitl [H2]; · iexact H2
        isplitl [H3]; · iexact H3
        isplitl [H4]; · iexact H4
        isplitl [S0]; · iexact S0
        isplitl [T0]; · iexact T0
        isplitl [T1]; · iexact T1
        iintro ⟨H0, H1, H2, H3, H4, S0, T0, T1⟩
        isplitl [S0 Hg T0 T1]
        · isplitl [S0 Hg]
          · isplitl [S0]
            · iexact S0
            iexact Hg
          isplitl [T0]; · iexact T0
          iexact T1
        isplitl [Ho]; · iexact Ho
        isplitl [H0]; · iexact H0
        isplitl [H1]; · iexact H1
        isplitl [H2]; · iexact H2
        isplitl [H3]; · iexact H3
        iapply (leaves_unused m hO hG c t hu d4); iexact H4
      · skip
        rw [data_Inv m hO c t, Inv_pos m hO c _ _ hz, PhiT0_eq]
        iintro ⟨⟨⟨S0, Hg⟩, T0, T1⟩, Ho, ⟨%d0, H0⟩, ⟨%d1, H1⟩, ⟨%d2, H2⟩, ⟨%d3, H3⟩, ⟨%d4, H4⟩⟩
        iapply (runRI c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) ((data m hO 0 c).before 4 t d4) Set.univ _)
        isplitl [H0]; · iexact H0
        isplitl [H1]; · iexact H1
        isplitl [H2]; · iexact H2
        isplitl [H3]; · iexact H3
        isplitl [H4]; · iexact H4
        isplitl [S0]; · iexists _; iexact S0
        isplitl [T0]; · iexact T0
        isplitl [T1]; · iexact T1
        iintro ⟨H0, H1, H2, H3, H4, S0, T0, T1⟩
        isplitl [S0 Hg T0 T1]
        · isplitl [S0 Hg]
          · isplitl [S0]
            · iexact S0
            iexact Hg
          isplitl [T0]; · iexact T0
          iexact T1
        isplitl [Ho]; · iexact Ho
        isplitl [H0]; · iexact H0
        isplitl [H1]; · iexact H1
        isplitl [H2]; · iexact H2
        isplitl [H3]; · iexact H3
        iapply (leaves_unused m hO hG c t hu d4); iexact H4
  · have hz : t.val ≠ 0 := fun hz => (keeps_of m c _ hr).1 (by rw [e1, hz])
    by_cases hu : used c (grid0.coords t) (tbl m 1)
    · skip
      rw [leaves_used m hO c t hu, lastU_used m hO c t (by rw [used_iff m hG, e1] at hu; exact hu)]
      rw [data_Inv m hO c t, Inv_pos m hO c _ _ hz, PhiT0_eq]
      rw [scr0_keep m hO c t hr]
      iintro ⟨⟨⟨S0, Hg⟩, T0, T1⟩, Ho, ⟨%d0, H0⟩, ⟨%d1, H1⟩, ⟨%d2, H2⟩, ⟨%d3, H3⟩, ⟨%d4, H4⟩⟩
      iapply (runKU c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) (scr0 m hO c t) Set.univ _)
      isplitl [H0]; · iexact H0
      isplitl [H1]; · iexact H1
      isplitl [H2]; · iexact H2
      isplitl [H3]; · iexact H3
      isplitl [H4]; · iexists _; iexact H4
      isplitl [S0]; · iexact S0
      isplitl [T0]; · iexact T0
      isplitl [T1]; · iexact T1
      iintro ⟨H0, H1, H2, H3, H4, S0, T0, T1⟩
      isplitl [S0 Hg T0 T1]
      · isplitl [S0 Hg]
        · isplitl [S0]
          · iexact S0
          iexact Hg
        isplitl [T0]; · iexact T0
        iexact T1
      isplitl [Ho]; · iexact Ho
      isplitl [H0]; · iexact H0
      isplitl [H1]; · iexact H1
      isplitl [H2]; · iexact H2
      isplitl [H3]; · iexact H3
      iexact H4
    · skip
      rw [data_Inv m hO c t, Inv_pos m hO c _ _ hz, PhiT0_eq]
      rw [scr0_keep m hO c t hr]
      iintro ⟨⟨⟨S0, Hg⟩, T0, T1⟩, Ho, ⟨%d0, H0⟩, ⟨%d1, H1⟩, ⟨%d2, H2⟩, ⟨%d3, H3⟩, ⟨%d4, H4⟩⟩
      iapply (runKI c (grid0.coords t) (ms0 m hO t) (hs0 m hO t) (ms1 m hO t) (hs1 m hO t) (ms2 m hO t) (hs2 m hO t) (ms3 m hO t) (hs3 m hO t) (ms4 m hO t) (hs4 m hO t) sc0 (Memref.isWhole_whole _) (tbl m 0) (tbl m 1) hr hu (iblk m hO c 0 t) (iblk m hO c 1 t) (iblk m hO c 2 t) (iblk m hO c 3 t) ((data m hO 0 c).before 4 t d4) (scr0 m hO c t) Set.univ _)
      isplitl [H0]; · iexact H0
      isplitl [H1]; · iexact H1
      isplitl [H2]; · iexact H2
      isplitl [H3]; · iexact H3
      isplitl [H4]; · iexact H4
      isplitl [S0]; · iexact S0
      isplitl [T0]; · iexact T0
      isplitl [T1]; · iexact T1
      iintro ⟨H0, H1, H2, H3, H4, S0, T0, T1⟩
      isplitl [S0 Hg T0 T1]
      · isplitl [S0 Hg]
        · isplitl [S0]
          · iexact S0
          iexact Hg
        isplitl [T0]; · iexact T0
        iexact T1
      isplitl [Ho]; · iexact Ho
      isplitl [H0]; · iexact H0
      isplitl [H1]; · iexact H1
      isplitl [H2]; · iexact H2
      isplitl [H3]; · iexact H3
      iapply (leaves_unused m hO hG c t hu d4); iexact H4

theorem row (hO : Ok m) (t : Fin (cfgM m hO).N) :
    defs₀ (F := F) .tc (cfgM m hO).body ((cfgM m hO).bodyArgs t ((cfgM m hO).slots t)) = bodyAt m hO t := by
  unfold defs₀; rw [Defs.onTc_tc]; try rfl

theorem obligation (hO : Ok m) (hG : Good m) (c : Dev nD) : BodyObligation (data (F := F) m hO 0 c) (defs₀ (F := F)) Variants.none () Set.univ := fun t => by
  rw [bigSep_W0, bigSep_W0, row m hO]
  exact triple_restated (body_sound m hO hG c t) rfl .rfl fun _ => .rfl

theorem enter (hO : Ok m) (c : Dev nD) : iprop(Pipeline.ΦA spec0 c ∗ Pipeline.ΦT pre0 (tbl m) c) ⊢ (data m hO 0 c).Φ 0 := by
  rw [show (data m hO 0 c).Φ 0 = Inv m hO c 0 (Nat.zero_le _) from rfl, Inv_zero m hO c 0 _ rfl]
  try exact Idealize.SL.BI.Entails.refl _

theorem leave (hO : Ok m) (c : Dev nD) : (data m hO 0 c).Φ (Fin.last (cfgM m hO).N) ⊢ Pipeline.ΦA spec0 c := by
  have hN : (cfgM m hO).N = 322 := N_0
  rw [show (data m hO 0 c).Φ (Fin.last (cfgM m hO).N) = Inv m hO c (Fin.last (cfgM m hO).N).val (Nat.le_of_lt_succ (Fin.last (cfgM m hO).N).isLt) from rfl,
    Inv_pos m hO c _ _ (by rw [Fin.val_last]; omega), PhiA0_eq]
  iintro ⟨⟨S0, Hg⟩, -⟩
  isplitl [S0]
  · iexists _; iexact S0
  iexact Hg

set_option backward.isDefEq.respectTransparency.types false in
/-- The launch: every array a window stages ends at what the windows leave, and every semaphore counter at zero. -/
theorem launch (hO : Ok m) (hG : Good m) : θ_run defs (onTc (τ := τ) (main (F := F))) (s₀ m ρ)
    (fun r => Pipeline.FramePost (Pipeline.pin pcfgs fun _ => adm m hO) (data m hO) 0 (V m) r ∧ r.2.sem = fun _ => 0) :=
  Pipeline.θ_run_frameP_track_shared (Q' := _) pcfgs (fun _ => adm m hO) (data m hO) (0 : Fin 1) launch0.to₀ defs₀ Variants.none m ρ main
    (hbody := fun c => (obligation m hO hG c).loose) (hq := fun _ _ _ => rfl)
    (howed := fun _ _ => rfl) (V := V m) (hmain := hmain m Variants.none) (hA := data_A m hO) (hpf := V_pre m)
    (hin := enter m hO) (hout := leave m hO)

/-- The frame: the argument arrays end unchanged and every semaphore counter at zero. -/
theorem framed (hO : Ok m) (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 0).trans (((data m hO 0 c).arrAt_in 0 rfl _).trans ((data_A m hO c 0).trans (V_arg m c main_arg0 (by decide)))),
      ((h.1 c).1 3).trans (((data m hO 0 c).arrAt_in 3 rfl _).trans ((data_A m hO c 3).trans (V_arg m c main_arg1 (by decide)))),
      ((h.1 c).2 main_arg2 (by decide : main_arg2 ∈ Pipeline.restRefs sig spec0)).trans (V_arg m c main_arg2 (by decide)),
      ((h.1 c).2 main_arg3 (by decide : main_arg3 ∈ Pipeline.restRefs sig spec0)).trans (V_arg m c main_arg3 (by decide)),
      ((h.1 c).1 1).trans (((data m hO 0 c).arrAt_in 1 rfl _).trans ((data_A m hO c 1).trans (V_arg m c main_arg4 (by decide)))),
      ((h.1 c).2 main_arg5 (by decide : main_arg5 ∈ Pipeline.restRefs sig spec0)).trans (V_arg m c main_arg5 (by decide))⟩, h.2⟩) (launch m ρ hO hG)

end Cert.Kernel5Ideal.Run

end
-- ==== Proof.C5I.lean ====
/- The tables' ranges give what the launch asks of them: every block is inside its array. -/
module

public import proofs.«01_k».proof.Proof.D5I
public import proofs.«01_k».proof.Proof.Gen.Pre_tables5

@[expose] public section

set_option maxRecDepth 16384

noncomputable section

namespace Cert.Kernel5Ideal.Run

open Cert.Kernel5Ideal Cert.Kernel5Ideal.Gen
open Idealize.ShloMosaic Idealize.ShloMosaic.TcCoe
open Idealize.SL Idealize.SL.Sem

variable {F : FTy → Type} [FloatOps F]
variable (m : (ℓ : Loc nD τ sig) → Buf (Elt F) ℓ)

theorem be_arg (b : ℕ) (h : b < 161) : be m b h = m (((0 : Dev nD) : Thread nD τ).loc main_arg2) (at161 b h) :=
  congrFun (V_arg m 0 main_arg2 (by decide)) (at161 b h)
theorem nu_arg : nu m = m (((0 : Dev nD) : Thread nD τ).loc main_arg3) at1 :=
  congrFun (V_arg m 0 main_arg3 (by decide)) at1

/-- The function of the precondition at one entry. -/
theorem pre_at (y0) (y1) (x : IVec S161 32) (n : IVec S1 32) (y4) (y5) (b : ℕ) (h : b < 161) (hf : Cert.Pre_tables5.fn (F := F) y0 y1 x n y4 y5 = fun _ => 1#1) :
    IntOp.andi (IntOp.andi (IntOp.cmpi .sge (x (at161 b h)) 0#32) (IntOp.cmpi .slt (x (at161 b h)) 32#32)) (IntOp.cmpi .sge (n at1) 1#32) = 1#1 := by
  obtain ⟨o, e⟩ : ∃ o : S1.Idx, IntOp.andi (IntOp.andi (IntOp.cmpi .sge (x (at161 b h)) 0#32) (IntOp.cmpi .slt (x (at161 b h)) 32#32)) (IntOp.cmpi .sge (n o) 1#32) = 1#1 :=
    ⟨_, congrFun hf (at161 b h)⟩
  have hi : o = at1 := funext fun a => Fin.ext (by
    obtain rfl : a = 0 := Subsingleton.elim _ _
    have h : (o 0).val < 1 := (o 0).isLt
    show (o 0).val = 0
    omega)
  rw [hi] at e
  exact e

theorem good (hf : ∀ c : Dev nD, Cert.Pre_tables5.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) : Good m := by
  have key := fun b h => pre_at _ _ _ _ _ _ b h (hf 0)
  have both : ∀ a b : BitVec 1, IntOp.andi a b = 1#1 → a = 1#1 ∧ b = 1#1 := by decide
  have nn : ∀ (y : BitVec 32) (k : BitVec 32), k.toNat < 2 ^ 31 → IntOp.cmpi .sge y k = 1#1 → k.toNat ≤ y.toNat ∧ y.toNat < 2 ^ 31 := by
    intro y k hk hy
    have hy' : BitVec.ofBool (k.sle y) = 1#1 := hy
    rw [Tab.ofBool_one] at hy'
    have h1 : k.toInt ≤ y.toInt := by simpa [BitVec.sle] using hy'
    rw [Tab.toInt_small hk, BitVec.toInt_eq_toNat_cond] at h1
    have hlt := y.isLt
    split at h1 <;> omega
  have hn : 1 ≤ (nu m).toNat ∧ (nu m).toNat < 2 ^ 31 := by
    rw [nu_arg]
    exact nn _ 1#32 (by decide) (both _ _ (key 0 (by decide))).2
  refine ⟨fun b h => ?_, hn.1, hn.2⟩
  rw [be_arg]
  have k2 := both _ _ (both _ _ (key b h)).1
  have h3 := (nn _ 0#32 (by decide) k2.1).2
  have h4 : BitVec.ofBool ((m (((0 : Dev nD) : Thread nD τ).loc main_arg2) (at161 b h) : BitVec 32).slt 32#32) = 1#1 := k2.2
  rw [Tab.ofBool_one, Tab.slt_small h3 (by decide), decide_eq_true_iff] at h4
  exact h4

attribute [local irreducible] tbl

/-- Every window's blocks are inside its array, and a packed one's take whole words. -/
theorem ok (hG : Good m) : Ok m := by
  have hn1 := hG.nu_pos
  refine ⟨fun i => ?_, fun i => ?_, fun i => ?_, fun i => ?_, fun i => ?_⟩
  · have e : ix0 (tbl m) 0 i = _ := ix_first m hG i
    have h1 := i1_lt i
    have h0 : (i 0).val < 2 := (i 0).isLt
    have hb : ∀ a, (ix0 (tbl m) 0 i a + 1) * (![256, 2048] : Fin 2 → ℕ) a ≤ (![41216, 2048] : Fin 2 → ℕ) a := by
      rw [e]
      intro a
      fin_cases a
      · show (min (i 1).val ((nu m).toNat - 1) + 1) * 256 ≤ 41216; omega
      · show (0 + 1) * 2048 ≤ 2048; omega
    refine ⟨hb, .inr (Rect.PackedRows.wholeWords (.inr ⟨by decide, rfl, .inl ⟨?_, ?_⟩⟩))⟩
    · exact Dvd.dvd.mul_left (show (2 : ℕ) ∣ 256 by decide) _
    · exact (show (2 : ℕ) ∣ 256 by decide)
  · have e : ix0 (tbl m) 1 i = _ := ix_1 m i
    have h1 := hG.be_lt (i 1).val (i1_lt i)
    have h0 : (i 0).val < 2 := (i 0).isLt
    have hb : ∀ a, (ix0 (tbl m) 1 i a + 1) * (![1, 1, 2048, 2048] : Fin 4 → ℕ) a ≤ (![2, 32, 2048, 4096] : Fin 4 → ℕ) a := by
      rw [e]
      intro a
      fin_cases a
      · show (0 + 1) * 1 ≤ 2; omega
      · show ((be m (i 1).val (i1_lt i)).toNat + 1) * 1 ≤ 32; omega
      · show (0 + 1) * 2048 ≤ 2048; omega
      · show ((i 0).val + 1) * 2048 ≤ 4096; omega
    exact ⟨hb, .inl rfl⟩
  · have e : ix0 (tbl m) 2 i = _ := ix_2 m i
    have h1 := hG.be_lt (i 1).val (i1_lt i)
    have h0 : (i 0).val < 2 := (i 0).isLt
    have hb : ∀ a, (ix0 (tbl m) 2 i a + 1) * (![1, 1, 1, 2048] : Fin 4 → ℕ) a ≤ (![2, 32, 1, 4096] : Fin 4 → ℕ) a := by
      rw [e]
      intro a
      fin_cases a
      · show (0 + 1) * 1 ≤ 2; omega
      · show ((be m (i 1).val (i1_lt i)).toNat + 1) * 1 ≤ 32; omega
      · show (0 + 1) * 1 ≤ 1; omega
      · show ((i 0).val + 1) * 2048 ≤ 4096; omega
    exact ⟨hb, .inl rfl⟩
  · have e : ix0 (tbl m) 3 i = _ := ix_row m hG i
    have h1 := i1_lt i
    have h0 : (i 0).val < 2 := (i 0).isLt
    have hb : ∀ a, (ix0 (tbl m) 3 i a + 1) * (![256, 1] : Fin 2 → ℕ) a ≤ (![41216, 1] : Fin 2 → ℕ) a := by
      rw [e]
      intro a
      fin_cases a
      · show (min (i 1).val ((nu m).toNat - 1) + 1) * 256 ≤ 41216; omega
      · show (0 + 1) * 1 ≤ 1; omega
    exact ⟨hb, .inl rfl⟩
  · have e : ix0 (tbl m) 4 i = _ := ix_out m hG i
    have h1 := i1_lt i
    have h0 : (i 0).val < 2 := (i 0).isLt
    have hb : ∀ a, (ix0 (tbl m) 4 i a + 1) * (![256, 2048] : Fin 2 → ℕ) a ≤ (![41216, 4096] : Fin 2 → ℕ) a := by
      rw [e]
      intro a
      fin_cases a
      · show (min (i 1).val ((nu m).toNat - 1) + 1) * 256 ≤ 41216; omega
      · show ((i 0).val + 1) * 2048 ≤ 4096; omega
    exact ⟨hb, .inl rfl⟩

end Cert.Kernel5Ideal.Run

end
-- ==== Proof.Both.lean ====
/- Each of the experts' calls, as printed and as idealised, is one program text: the two body tables and the two host
   programs are equal, so the run of the one gives the frame of the other. -/
module

public import proofs.«01_k».proof.Defs
public import proofs.«01_k».proof.Proof.Gen.Kernel4
public import proofs.«01_k».proof.Proof.Gen.Kernel5
public import proofs.«01_k».proof.Proof.C4I
public import proofs.«01_k».proof.Proof.C5I

@[expose] public section

set_option maxRecDepth 16384
set_option maxHeartbeats 400000

noncomputable section

namespace Cert.Both

open Idealize.ShloMosaic Idealize.ShloMosaic.TcCoe
open Idealize.SL Idealize.SL.Sem

variable (F : FTy → Type) [FloatOps F]

/-- The bodies of the first product, the body tables and the host programs. -/
theorem body4 : Cert.Kernel4.cc0_moe_gmm1 (F := F) = Cert.Kernel4Ideal.cc0_moe_gmm1 (F := F) := rfl
theorem table4 : Cert.Kernel4.defs₀ (F := F) = Cert.Kernel4Ideal.defs₀ (F := F) := by
  refine congrArg (Defs.onTc (τ := Cert.Kernel4.τ)) (funext fun l => ?_)
  obtain rfl : l = 0 := Subsingleton.elim _ _
  funext ⟨t, s⟩
  have e := body4 F
  show Cert.Kernel4.cc0_moe_gmm1 (F := F) _ _ _ _ _ _ _ _ _ _ _ _ _ _ _ _ _ _ _ _ _ = _
  rw [e]
  rfl
theorem defs4 : Cert.Kernel4.defs (F := F) = Cert.Kernel4Ideal.defs (F := F) := congrArg (Pipeline.defs (Cert.Kernel4.pcfgs (F := F))) (table4 F)
theorem main4 : Cert.Kernel4.main (F := F) = Cert.Kernel4Ideal.main (F := F) := rfl

/-- The frame of the first product as printed. -/
theorem frame4 : Cert.quiescent_Kernel4 := fun m g h => by
  rw [defs4, main4]
  exact Cert.Kernel4Ideal.Run.framed (F := Bits) m g (Cert.Kernel4Ideal.Run.ok m (Cert.Kernel4Ideal.Run.good m h)) (Cert.Kernel4Ideal.Run.good m h)

/-- The bodies of the second product, the body tables and the host programs. -/
theorem body5 : Cert.Kernel5.cc0_moe_gmm2 (F := F) = Cert.Kernel5Ideal.cc0_moe_gmm2 (F := F) := rfl
theorem table5 : Cert.Kernel5.defs₀ (F := F) = Cert.Kernel5Ideal.defs₀ (F := F) := by
  refine congrArg (Defs.onTc (τ := Cert.Kernel5.τ)) (funext fun l => ?_)
  obtain rfl : l = 0 := Subsingleton.elim _ _
  funext ⟨t, s⟩
  have e := body5 F
  show Cert.Kernel5.cc0_moe_gmm2 (F := F) _ _ _ _ _ _ _ _ _ _ _ _ _ _ _ _ _ = _
  rw [e]
  rfl
theorem defs5 : Cert.Kernel5.defs (F := F) = Cert.Kernel5Ideal.defs (F := F) := congrArg (Pipeline.defs (Cert.Kernel5.pcfgs (F := F))) (table5 F)
theorem main5 : Cert.Kernel5.main (F := F) = Cert.Kernel5Ideal.main (F := F) := rfl

/-- The frame of the second product as printed. -/
theorem frame5 : Cert.quiescent_Kernel5 := fun m g h => by
  rw [defs5, main5]
  exact Cert.Kernel5Ideal.Run.framed (F := Bits) m g (Cert.Kernel5Ideal.Run.ok m (Cert.Kernel5Ideal.Run.good m h)) (Cert.Kernel5Ideal.Run.good m h)

end Cert.Both

end
-- ==== Proof.Moe.lean ====
/- The experts: the two grouped products as arrays, each row by the weights of its block's expert. -/
module

public import proofs.«01_k».proof.Proof.Sum

@[expose] public section

noncomputable section

namespace Cert.Moe

open Idealize.ShloMosaic Cert.Halves
open scoped BigOperators

/-- A block's expert, of thirty-two. -/
def pick (x : IVec ⟨1, ![161]⟩ 32) (b : ℕ) : ℕ := if h : b < 161 then min (x (ix1 ⟨b, h⟩)).toInt.toNat 31 else 0

theorem pick_lt (x : IVec ⟨1, ![161]⟩ 32) (b : ℕ) : pick x b < 32 := by
  unfold pick
  split <;> omega

/-- An entry of a box at any numbers, zero outside. -/
def entry3 {r s t : ℕ} (A : (⟨3, ![r, s, t]⟩ : Shape).Idx → EReal) (p q k : ℕ) : EReal :=
  if h : p < r ∧ q < s ∧ k < t then A (ix3 ⟨p, h.1⟩ ⟨q, h.2.1⟩ ⟨k, h.2.2⟩) else 0
def entry4 {r s t u : ℕ} (A : (⟨4, ![r, s, t, u]⟩ : Shape).Idx → EReal) (p q k l : ℕ) : EReal :=
  if h : p < r ∧ q < s ∧ k < t ∧ l < u then A (ix4 ⟨p, h.1⟩ ⟨q, h.2.1⟩ ⟨k, h.2.2.1⟩ ⟨l, h.2.2.2⟩) else 0

/-- A row's product with one expert's weights, and the expert's bias added. -/
def affine {s t : ℕ} (A : (⟨2, ![41216, s]⟩ : Shape).Idx → EReal) (W : (⟨4, ![2, 32, s, t]⟩ : Shape).Idx → EReal) (B : (⟨3, ![2, 32, t]⟩ : Shape).Idx → EReal) (e p q : ℕ) : EReal :=
  (∑ k : Fin s, entry A p k * entry4 W 0 e k q) + entry3 B 0 e q

/-- The second grouped product: weighted by row. -/
def down (A : (⟨2, ![41216, 2048]⟩ : Shape).Idx → EReal) (R : (⟨2, ![41216, 1]⟩ : Shape).Idx → EReal) (x : IVec ⟨1, ![161]⟩ 32)
    (W : (⟨4, ![2, 32, 2048, 4096]⟩ : Shape).Idx → EReal) (B : (⟨3, ![2, 32, 4096]⟩ : Shape).Idx → EReal) :
    (⟨2, ![41216, 4096]⟩ : Shape).Idx → EReal :=
  fun j => affine A W B (pick x ((j 0).val / 256)) (j 0) (j 1) * entry R (j 0) 0

/-- The gated unit of two numbers: the gate cut at seven and passed through its scaled sigmoid, the linear half cut to seven either way. -/
def gateCut (g : Ideal .f32) : Ideal .f32 := FloatOps.minimumf g (FloatOps.ofBits .f32 0x40E00000#32)
def linCut (l : Ideal .f32) : Ideal .f32 := FloatOps.minimumf (FloatOps.ofBits .f32 0x40E00000#32) (FloatOps.maximumf (FloatOps.ofBits .f32 0xC0E00000#32) l)
def glu (g l : Ideal .f32) : EReal :=
  FloatOps.mulf (FloatOps.mulf (gateCut g) (FloatOps.logistic (FloatOps.mulf (FloatOps.ofBits .f32 0x3FD9DB23#32) (gateCut g)))) (FloatOps.addf (linCut l) (FloatOps.ofBits .f32 0x3F800000#32))

/-- The first grouped product, its two halves joined by the gated unit. -/
def up (A : (⟨2, ![41216, 4096]⟩ : Shape).Idx → EReal) (x : IVec ⟨1, ![161]⟩ 32)
    (W : (⟨4, ![2, 32, 4096, 4096]⟩ : Shape).Idx → EReal) (B : (⟨3, ![2, 32, 4096]⟩ : Shape).Idx → EReal) :
    (⟨2, ![41216, 2048]⟩ : Shape).Idx → EReal :=
  fun j => glu (affine A W B (pick x ((j 0).val / 256)) (j 0) (j 1)) (affine A W B (pick x ((j 0).val / 256)) (j 0) (2048 + (j 1).val))

end Cert.Moe

end
-- ==== Proof.W4.lean ====
/- The first grouped product of the experts: what the kernel leaves in the rows of the blocks in use. -/
module

public import proofs.«01_k».proof.Proof.C4I
public import proofs.«01_k».proof.Proof.Moe

@[expose] public section

set_option maxRecDepth 16384

noncomputable section

namespace Cert.Kernel4Ideal.Run

open Cert.Kernel4Ideal Cert.Kernel4Ideal.Gen Cert.Halves Cert.Moe
open Idealize.ShloMosaic Idealize.ShloMosaic.TcCoe
open Idealize.SL Idealize.SL.Sem
open Idealize.ShloMosaic.Pipeline (Dat Cfg Window)
open scoped BigOperators

theorem pay1_at (w : Vec Ideal S1x1x4096x512 .f32) (k : Fin 4096) (q : Fin 512) : k0_pay1 w (ix2 k q) = w (ix4 0 0 k q) := by
  pointwise [k0_pay1]

theorem pay2_at (w : Vec Ideal S1x1x4096x512 .f32) (k : Fin 4096) (q : Fin 512) : k0_pay2 w (ix2 k q) = w (ix4 0 0 k q) := by
  pointwise [k0_pay2]

theorem half_at (x : FVec Ideal S256x4096 .bf16) (w : FVec Ideal S4096x512 .bf16) (b : FVec Ideal S1x1x1x512 .f32) (p : Fin 256) (q : Fin 512) :
    addf (matmul dot_S256x4096_S4096x512_S256x512_1_0_0_1_n_n none x w (constant S256x512 .f32 0x00000000#32)) (broadcastTo S256x512 (shapeCast S1x512 b shapeCasts_S1x1x1x512_S1x512) broadcasts_S1x512_S256x512) (ix2 p q)
      = (∑ k : Fin 4096, (x (ix2 p k) : EReal) * w (ix2 k q)) + b (ix4 0 0 0 q) := by
  pointwise []

theorem pay3_at (x : Vec Ideal S256x4096 .bf16) (w : Vec Ideal S4096x512 .bf16) (b : Vec Ideal S1x1x1x512 .f32) (w' : Vec Ideal S4096x512 .bf16) (b' : Vec Ideal S1x1x1x512 .f32) (p : Fin 256) (q : Fin 512) :
    k0_pay3 x w b w' b' (ix2 p q) = glu ((∑ k : Fin 4096, (x (ix2 p k) : EReal) * w (ix2 k q)) + b (ix4 0 0 0 q)) ((∑ k : Fin 4096, (x (ix2 p k) : EReal) * w' (ix2 k q)) + b' (ix4 0 0 0 q)) :=
  Eq.trans rfl (congrArg₂ glu (half_at x w b p q) (half_at x w' b' p q))

attribute [local irreducible] tbl

variable (m : (ℓ : Loc nD τ sig) → Buf (Elt Ideal) ℓ) (c : Dev nD)

abbrev argA : (⟨2, ![41216, 4096]⟩ : Shape).Idx → EReal := m ((c : Thread nD τ).loc main_arg0)
abbrev argX : IVec ⟨1, ![161]⟩ 32 := m ((c : Thread nD τ).loc main_arg1)
abbrev argW : (⟨4, ![2, 32, 4096, 4096]⟩ : Shape).Idx → EReal := m ((c : Thread nD τ).loc main_arg3)
abbrev argB : (⟨3, ![2, 32, 4096]⟩ : Shape).Idx → EReal := m ((c : Thread nD τ).loc main_arg4)

theorem V_bias : (V m c main_v0 : (⟨4, ![2, 32, 1, 4096]⟩ : Shape).Idx → EReal) = shapeCast S2x32x1x4096 (argB m c) shapeCasts_S2x32x4096_S2x32x1x4096 := by
  entry_read
  rfl

variable (hO : Ok m)

theorem blk0 (hG : Good m) (t : Fin (cfgM m hO).N) (p : Fin 256) (k : Fin 4096) : (iblk m hO c 0 t : Vec Ideal S256x4096 .bf16) (ix2 p k) = entry (argA m c) (256 * min (t.val % 161) ((nu m).toNat - 1) + p) k := by
  have hi := ix_first m hG (grid0.coords t)
  rw [c1_val] at hi
  rw [entry, dif_pos ⟨by omega, by omega⟩]
  show (V m c main_arg0) _ = _
  rw [V_arg m c main_arg0 (by decide)]
  refine congrArg (argA m c) (funext fun a => Fin.ext ?_)
  fin_cases a
  · have e : ix0 (tbl m) 0 (grid0.coords t) 0 = min (t.val % 161) ((nu m).toNat - 1) := congrFun hi 0
    show ix0 (tbl m) 0 (grid0.coords t) 0 * 256 + 1 * p.val = 256 * min (t.val % 161) ((nu m).toNat - 1) + p.val
    rw [e]; omega
  · have e : ix0 (tbl m) 0 (grid0.coords t) 1 = 0 := congrFun hi 1
    show ix0 (tbl m) 0 (grid0.coords t) 1 * 4096 + 1 * k.val = k.val
    rw [e]; omega

theorem be_pick (hG : Good m) (b : ℕ) (h : b < 161) : (be m b h).toNat = pick (argX m c) b := by
  obtain rfl : c = 0 := Subsingleton.elim _ _
  have hl := hG.be_lt b h
  unfold pick
  rw [dif_pos h]
  have e : argX m 0 (ix1 ⟨b, h⟩) = be m b h := by
    rw [be_arg]
    exact congrArg (argX m 0) (funext fun a => Fin.ext (by fin_cases a; rfl))
  rw [e, Tab.toInt_small (by omega)]
  omega

theorem blk1 (hG : Good m) (t : Fin (cfgM m hO).N) (k : Fin 4096) (q : Fin 512) : (iblk m hO c 1 t : Vec Ideal S1x1x4096x512 .f32) (ix4 0 0 k q) = entry4 (argW m c) 0 (pick (argX m c) (t.val % 161)) k (512 * (t.val / 161) + q) := by
  have ht : t.val < 644 := Nat.lt_of_lt_of_eq t.isLt N_0
  have hi := ix_1 m (grid0.coords t)
  have hp := pick_lt (argX m c) (t.val % 161)
  rw [be_pick m c hG, c1_val, c0_val] at hi
  rw [entry4, dif_pos ⟨by omega, by omega, by omega, by omega⟩]
  show (V m c main_arg3) _ = _
  rw [V_arg m c main_arg3 (by decide)]
  refine congrArg (argW m c) (funext fun a => Fin.ext ?_)
  fin_cases a
  · have e : ix0 (tbl m) 1 (grid0.coords t) 0 = 0 := congrFun hi 0
    show ix0 (tbl m) 1 (grid0.coords t) 0 * 1 + 1 * 0 = 0
    rw [e]
  · have e : ix0 (tbl m) 1 (grid0.coords t) 1 = pick (argX m c) (t.val % 161) := congrFun hi 1
    show ix0 (tbl m) 1 (grid0.coords t) 1 * 1 + 1 * 0 = pick (argX m c) (t.val % 161)
    rw [e]; omega
  · have e : ix0 (tbl m) 1 (grid0.coords t) 2 = 0 := congrFun hi 2
    show ix0 (tbl m) 1 (grid0.coords t) 2 * 4096 + 1 * k.val = k.val
    rw [e]; omega
  · have e : ix0 (tbl m) 1 (grid0.coords t) 3 = t.val / 161 := congrFun hi 3
    show ix0 (tbl m) 1 (grid0.coords t) 3 * 512 + 1 * q.val = 512 * (t.val / 161) + q.val
    rw [e]; omega

theorem blk2 (hG : Good m) (t : Fin (cfgM m hO).N) (k : Fin 4096) (q : Fin 512) : (iblk m hO c 2 t : Vec Ideal S1x1x4096x512 .f32) (ix4 0 0 k q) = entry4 (argW m c) 0 (pick (argX m c) (t.val % 161)) k (2048 + (512 * (t.val / 161) + q)) := by
  have ht : t.val < 644 := Nat.lt_of_lt_of_eq t.isLt N_0
  have hi := ix_2 m (grid0.coords t)
  have hp := pick_lt (argX m c) (t.val % 161)
  rw [be_pick m c hG, c1_val, c0_val] at hi
  rw [entry4, dif_pos ⟨by omega, by omega, by omega, by omega⟩]
  show (V m c main_arg3) _ = _
  rw [V_arg m c main_arg3 (by decide)]
  refine congrArg (argW m c) (funext fun a => Fin.ext ?_)
  fin_cases a
  · have e : ix0 (tbl m) 2 (grid0.coords t) 0 = 0 := congrFun hi 0
    show ix0 (tbl m) 2 (grid0.coords t) 0 * 1 + 1 * 0 = 0
    rw [e]
  · have e : ix0 (tbl m) 2 (grid0.coords t) 1 = pick (argX m c) (t.val % 161) := congrFun hi 1
    show ix0 (tbl m) 2 (grid0.coords t) 1 * 1 + 1 * 0 = pick (argX m c) (t.val % 161)
    rw [e]; omega
  · have e : ix0 (tbl m) 2 (grid0.coords t) 2 = 0 := congrFun hi 2
    show ix0 (tbl m) 2 (grid0.coords t) 2 * 4096 + 1 * k.val = k.val
    rw [e]; omega
  · have e : ix0 (tbl m) 2 (grid0.coords t) 3 = 4 + t.val / 161 := congrFun hi 3
    show ix0 (tbl m) 2 (grid0.coords t) 3 * 512 + 1 * q.val = 2048 + (512 * (t.val / 161) + q.val)
    rw [e]; omega

theorem bias_at (e : Fin 32) (q : Fin 4096) : shapeCast S2x32x1x4096 (argB m c) shapeCasts_S2x32x4096_S2x32x1x4096 (ix4 0 e 0 q) = argB m c (ix3 0 e q) := by
  pointwise []

theorem blk3 (hG : Good m) (t : Fin (cfgM m hO).N) (q : Fin 512) : (iblk m hO c 3 t : Vec Ideal S1x1x1x512 .f32) (ix4 0 0 0 q) = entry3 (argB m c) 0 (pick (argX m c) (t.val % 161)) (512 * (t.val / 161) + q) := by
  have ht : t.val < 644 := Nat.lt_of_lt_of_eq t.isLt N_0
  have hi := ix_3 m (grid0.coords t)
  have hp := pick_lt (argX m c) (t.val % 161)
  rw [be_pick m c hG, c1_val, c0_val] at hi
  rw [entry3, dif_pos ⟨by omega, by omega, by omega⟩]
  show (V m c main_v0 : (⟨4, ![2, 32, 1, 4096]⟩ : Shape).Idx → EReal) _ = _
  rw [V_bias]
  refine Eq.trans (congrArg _ (funext fun a => Fin.ext ?_)) (bias_at m c ⟨pick (argX m c) (t.val % 161), hp⟩ ⟨512 * (t.val / 161) + q, by omega⟩)
  fin_cases a
  · have e : ix0 (tbl m) 3 (grid0.coords t) 0 = 0 := congrFun hi 0
    show ix0 (tbl m) 3 (grid0.coords t) 0 * 1 + 1 * 0 = 0
    rw [e]
  · have e : ix0 (tbl m) 3 (grid0.coords t) 1 = pick (argX m c) (t.val % 161) := congrFun hi 1
    show ix0 (tbl m) 3 (grid0.coords t) 1 * 1 + 1 * 0 = pick (argX m c) (t.val % 161)
    rw [e]; omega
  · have e : ix0 (tbl m) 3 (grid0.coords t) 2 = 0 := congrFun hi 2
    show ix0 (tbl m) 3 (grid0.coords t) 2 * 1 + 1 * 0 = 0
    rw [e]
  · have e : ix0 (tbl m) 3 (grid0.coords t) 3 = t.val / 161 := congrFun hi 3
    show ix0 (tbl m) 3 (grid0.coords t) 3 * 512 + 1 * q.val = 512 * (t.val / 161) + q.val
    rw [e]; omega

theorem blk4 (hG : Good m) (t : Fin (cfgM m hO).N) (q : Fin 512) : (iblk m hO c 4 t : Vec Ideal S1x1x1x512 .f32) (ix4 0 0 0 q) = entry3 (argB m c) 0 (pick (argX m c) (t.val % 161)) (2048 + (512 * (t.val / 161) + q)) := by
  have ht : t.val < 644 := Nat.lt_of_lt_of_eq t.isLt N_0
  have hi := ix_4 m (grid0.coords t)
  have hp := pick_lt (argX m c) (t.val % 161)
  rw [be_pick m c hG, c1_val, c0_val] at hi
  rw [entry3, dif_pos ⟨by omega, by omega, by omega⟩]
  show (V m c main_v0 : (⟨4, ![2, 32, 1, 4096]⟩ : Shape).Idx → EReal) _ = _
  rw [V_bias]
  refine Eq.trans (congrArg _ (funext fun a => Fin.ext ?_)) (bias_at m c ⟨pick (argX m c) (t.val % 161), hp⟩ ⟨2048 + (512 * (t.val / 161) + q), by omega⟩)
  fin_cases a
  · have e : ix0 (tbl m) 4 (grid0.coords t) 0 = 0 := congrFun hi 0
    show ix0 (tbl m) 4 (grid0.coords t) 0 * 1 + 1 * 0 = 0
    rw [e]
  · have e : ix0 (tbl m) 4 (grid0.coords t) 1 = pick (argX m c) (t.val % 161) := congrFun hi 1
    show ix0 (tbl m) 4 (grid0.coords t) 1 * 1 + 1 * 0 = pick (argX m c) (t.val % 161)
    rw [e]; omega
  · have e : ix0 (tbl m) 4 (grid0.coords t) 2 = 0 := congrFun hi 2
    show ix0 (tbl m) 4 (grid0.coords t) 2 * 1 + 1 * 0 = 0
    rw [e]
  · have e : ix0 (tbl m) 4 (grid0.coords t) 3 = 4 + t.val / 161 := congrFun hi 3
    show ix0 (tbl m) 4 (grid0.coords t) 3 * 512 + 1 * q.val = 2048 + (512 * (t.val / 161) + q.val)
    rw [e]; omega

/-- What a used block's body stores, entry by entry. -/
theorem out_at (hG : Good m) (t : Fin (cfgM m hO).N) (h : t.val % 161 < (nu m).toNat) (p : Fin 256) (q : Fin 512) :
    outP m hO c t (ix2 p q) = glu (affine (argA m c) (argW m c) (argB m c) (pick (argX m c) (t.val % 161)) (256 * (t.val % 161) + p) (512 * (t.val / 161) + q))
      (affine (argA m c) (argW m c) (argB m c) (pick (argX m c) (t.val % 161)) (256 * (t.val % 161) + p) (2048 + (512 * (t.val / 161) + q))) := by
  have hm : min (t.val % 161) ((nu m).toNat - 1) = t.val % 161 := by omega
  refine (pay3_at (iblk m hO c 0 t) (k0_pay1 (iblk m hO c 1 t)) (iblk m hO c 3 t) (k0_pay2 (iblk m hO c 2 t)) (iblk m hO c 4 t) p q).trans ?_
  have h0 : ∀ k : Fin 4096, (iblk m hO c 0 t : Vec Ideal S256x4096 .bf16) (ix2 p k) = entry (argA m c) (256 * (t.val % 161) + p) k := fun k => by
    rw [blk0 m c hO hG, hm]
  have h1 : ∀ k : Fin 4096, k0_pay1 (iblk m hO c 1 t : Vec Ideal S1x1x4096x512 .f32) (ix2 k q) = entry4 (argW m c) 0 (pick (argX m c) (t.val % 161)) k (512 * (t.val / 161) + q) := fun k =>
    (pay1_at _ k q).trans (blk1 m c hO hG t k q)
  have h2 : ∀ k : Fin 4096, k0_pay2 (iblk m hO c 2 t : Vec Ideal S1x1x4096x512 .f32) (ix2 k q) = entry4 (argW m c) 0 (pick (argX m c) (t.val % 161)) k (2048 + (512 * (t.val / 161) + q)) := fun k =>
    (pay2_at _ k q).trans (blk2 m c hO hG t k q)
  exact congrArg₂ glu
    (congrArg₂ (fun x y : EReal => x + y) (Finset.sum_congr rfl fun k _ => congrArg₂ (fun x y : EReal => x * y) (h0 k) (h1 k)) (blk3 m c hO hG t q))
    (congrArg₂ (fun x y : EReal => x + y) (Finset.sum_congr rfl fun k _ => congrArg₂ (fun x y : EReal => x * y) (h0 k) (h2 k)) (blk4 m c hO hG t q))

/-- The target, the kernel's whole output array. -/
abbrev target : (⟨2, ![41216, 2048]⟩ : Shape).Idx → EReal := up (argA m c) (argX m c) (argW m c) (argB m c)

theorem flushed (hG : Good m) (t : Fin (cfgM m hO).N) : (data m hO 0 c).flushed 5 t = (((cfgM m hO).win 5).blk t).view.read (Elt Ideal) (target m c) := by
  have ht : t.val < 644 := Nat.lt_of_lt_of_eq t.isLt N_0
  have hn := hG.nu_pos
  have hi := ix_out m hG (grid0.coords t)
  rw [c1_val, c0_val] at hi
  funext y
  obtain ⟨p, q, rfl⟩ : ∃ (p : Fin 256) (q : Fin 512), y = ix2 p q := ⟨y (0 : Fin 2), y (1 : Fin 2), by funext (a : Fin 2); fin_cases a <;> rfl⟩
  have hl : (lastU m hO t).val = 161 * (t.val / 161) + min (t.val % 161) ((nu m).toNat - 1) := rfl
  have e0 : ix0 (tbl m) 5 (grid0.coords t) 0 = min (t.val % 161) ((nu m).toNat - 1) := congrFun hi 0
  have e1 : ix0 (tbl m) 5 (grid0.coords t) 1 = t.val / 161 := congrFun hi 1
  have hleft : (data m hO 0 c).flushed 5 t (ix2 p q) = outP m hO c (lastU m hO t) (ix2 p q) := by
    show (data m hO 0 c).after 5 t (ix2 p q) = _
    rw [after_5]; rfl
  rw [hleft, out_at m c hO hG _ (by rw [hl]; omega)]
  have hj : (((cfgM m hO).win 5).blk t).view.emb (ix2 p q) = (ix2 ⟨256 * min (t.val % 161) ((nu m).toNat - 1) + p, by omega⟩ ⟨512 * (t.val / 161) + q, by omega⟩ : (⟨2, ![41216, 2048]⟩ : Shape).Idx) := by
    refine funext fun a => Fin.ext ?_
    fin_cases a
    · show ix0 (tbl m) 5 (grid0.coords t) 0 * 256 + 1 * p.val = 256 * min (t.val % 161) ((nu m).toNat - 1) + p.val
      rw [e0]; omega
    · show ix0 (tbl m) 5 (grid0.coords t) 1 * 512 + 1 * q.val = 512 * (t.val / 161) + q.val
      rw [e1]; omega
  show _ = target m c ((((cfgM m hO).win 5).blk t).view.emb (ix2 p q))
  rw [hj]
  unfold target up
  dsimp only
  show glu _ _
    = glu (affine (argA m c) (argW m c) (argB m c) (pick (argX m c) ((256 * min (t.val % 161) ((nu m).toNat - 1) + p.val) / 256)) (256 * min (t.val % 161) ((nu m).toNat - 1) + p.val) (512 * (t.val / 161) + q.val))
      (affine (argA m c) (argW m c) (argB m c) (pick (argX m c) ((256 * min (t.val % 161) ((nu m).toNat - 1) + p.val) / 256)) (256 * min (t.val % 161) ((nu m).toNat - 1) + p.val) (2048 + (512 * (t.val / 161) + q.val)))
  rw [hl, show (161 * (t.val / 161) + min (t.val % 161) ((nu m).toNat - 1)) % 161 = min (t.val % 161) ((nu m).toNat - 1) by omega,
    show (161 * (t.val / 161) + min (t.val % 161) ((nu m).toNat - 1)) / 161 = t.val / 161 by omega,
    show (256 * min (t.val % 161) ((nu m).toNat - 1) + p.val) / 256 = min (t.val % 161) ((nu m).toNat - 1) by omega]

/-- A block in use is written out, at one of the points. -/
theorem flushes (hG : Good m) (b j : ℕ) (hb : b < 161) (hn : b < (nu m).toNat) (hj : j < 4) :
    ∃ t : Fin (cfgM m hO).N, ((cfgM m hO).win 5).flush t = true ∧ t.val / 161 = j ∧ min (t.val % 161) ((nu m).toNat - 1) = b := by
  have hN : (cfgM m hO).N = 644 := N_0
  have hi := fun t : Fin (cfgM m hO).N => ix_out m hG (grid0.coords t)
  by_cases hc : b < 160 ∧ b + 1 < (nu m).toNat
  · have hlt : 161 * j + b + 1 < (cfgM m hO).N := by omega
    refine ⟨⟨161 * j + b, by omega⟩, ?_, by dsimp only; omega, by dsimp only; omega⟩
    unfold Window.flush
    simp only [Bool.and_eq_true, Bool.or_eq_true, decide_eq_true_iff]
    refine ⟨rfl, .inr ⟨hlt, fun h => ?_⟩⟩
    have h' : ix0 (tbl m) 5 (grid0.coords ⟨161 * j + b + 1, hlt⟩) = ix0 (tbl m) 5 (grid0.coords ⟨161 * j + b, Nat.lt_of_succ_lt hlt⟩) := h
    rw [ix_out m hG, ix_out m hG, c1_val, c1_val] at h'
    have := congrFun h' 0
    dsimp at this
    omega
  · refine ⟨⟨161 * j + 160, by omega⟩, ?_, by dsimp only; omega, by dsimp only; omega⟩
    unfold Window.flush
    simp only [Bool.and_eq_true, Bool.or_eq_true, decide_eq_true_iff]
    refine ⟨rfl, ?_⟩
    by_cases hl : 161 * j + 160 + 1 = (cfgM m hO).N
    · exact .inl hl
    · have hlt : 161 * j + 160 + 1 < (cfgM m hO).N := by omega
      refine .inr ⟨hlt, fun h => ?_⟩
      have h' : ix0 (tbl m) 5 (grid0.coords ⟨161 * j + 160 + 1, hlt⟩) = ix0 (tbl m) 5 (grid0.coords ⟨161 * j + 160, Nat.lt_of_succ_lt hlt⟩) := h
      rw [ix_out m hG, ix_out m hG, c0_val, c0_val] at h'
      have := congrFun h' 1
      dsimp at this
      omega

/-- In the rows of a block in use the output array ends at the target. -/
theorem ends (hG : Good m) (i : (⟨2, ![41216, 2048]⟩ : Shape).Idx) (hu : (i 0).val / 256 < (nu m).toNat) :
    (data m hO 0 c).arrAt 5 (cfgM m hO).N i = target m c i := by
  have h0 : (i 0).val < 41216 := (i 0).isLt
  have h1 : (i 1).val < 2048 := (i 1).isLt
  obtain ⟨t, hf, ht, hb⟩ := flushes m hO hG ((i 0).val / 256) ((i 1).val / 512) (by omega) hu (by omega)
  refine (data m hO 0 c).arrAt_apply_of_mem 5 (target m c) (fun t _ => flushed m c hO hG t) _ t i t.isLt hf ?_
  have hi := ix_out m hG (grid0.coords t)
  rw [c1_val, c0_val, hb, ht] at hi
  have e0 : ix0 (tbl m) 5 (grid0.coords t) 0 = (i 0).val / 256 := congrFun hi 0
  have e1 : ix0 (tbl m) 5 (grid0.coords t) 1 = (i 1).val / 512 := congrFun hi 1
  have hj : (((cfgM m hO).win 5).blk t).view.emb (ix2 (⟨(i 0).val % 256, Nat.mod_lt _ (by decide)⟩ : Fin 256) (⟨(i 1).val % 512, Nat.mod_lt _ (by decide)⟩ : Fin 512)) = i := by
    refine funext fun (a : Fin 2) => Fin.ext ?_
    fin_cases a
    · show ix0 (tbl m) 5 (grid0.coords t) 0 * 256 + 1 * ((i 0).val % 256) = (i 0).val
      rw [e0]; omega
    · show ix0 (tbl m) 5 (grid0.coords t) 1 * 512 + 1 * ((i 1).val % 512) = (i 1).val
      rw [e1]; omega
  rw [← hj]
  exact (((cfgM m hO).win 5).blk t).view.emb_mem_set _

/-- The run: in the rows of the blocks in use the output is the target, and the arguments end unchanged. -/
theorem value (ρ : Dev nD → PrngReg) (hG : Good m) : θ_run defs (onTc (τ := τ) (main (F := Ideal))) ⟨m, fun _ => 0, ρ⟩ (fun r => ∀ c : Dev nD,
      (∀ i : (⟨2, ![41216, 2048]⟩ : Shape).Idx, (i 0).val / 256 < (nu m).toNat → r.2.mem ((c.tc : Thread nD τ).loc main_v1) i = target m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨fun i hi => (congrFun ((h.1 c).1 5) i).trans (ends m c (ok m hG) hG i hi),
      ((h.1 c).1 0).trans (((data m (ok m hG) 0 c).arrAt_in 0 rfl _).trans ((data_A m (ok m hG) c 0).trans (V_arg m c main_arg0 (by decide)))),
      ((h.1 c).2 main_arg1 (by decide : main_arg1 ∈ Pipeline.restRefs sig spec0)).trans (V_arg m c main_arg1 (by decide)),
      ((h.1 c).2 main_arg2 (by decide : main_arg2 ∈ Pipeline.restRefs sig spec0)).trans (V_arg m c main_arg2 (by decide)),
      ((h.1 c).1 1).trans (((data m (ok m hG) 0 c).arrAt_in 1 rfl _).trans ((data_A m (ok m hG) c 1).trans (V_arg m c main_arg3 (by decide)))),
      ((h.1 c).2 main_arg4 (by decide : main_arg4 ∈ Pipeline.restRefs sig spec0)).trans (V_arg m c main_arg4 (by decide))⟩) (launch m ρ (ok m hG) hG)

end Cert.Kernel4Ideal.Run

end
-- ==== Proof.W5.lean ====
/- The second grouped product of the experts: what the kernel leaves in the rows of the blocks in use. -/
module

public import proofs.«01_k».proof.Proof.C5I
public import proofs.«01_k».proof.Proof.Moe

@[expose] public section

set_option maxRecDepth 16384

noncomputable section

namespace Cert.Kernel5Ideal.Run

open Cert.Kernel5Ideal Cert.Kernel5Ideal.Gen Cert.Halves Cert.Moe
open Idealize.ShloMosaic Idealize.ShloMosaic.TcCoe
open Idealize.SL Idealize.SL.Sem
open Idealize.ShloMosaic.Pipeline (Dat Cfg Window)
open scoped BigOperators

theorem pay1_at (w : Vec Ideal S1x1x2048x2048 .f32) (k q : Fin 2048) : k0_pay1 w (ix2 k q) = w (ix4 0 0 k q) := by
  pointwise [k0_pay1]

theorem pay2_at (x : Vec Ideal S256x2048 .bf16) (w : Vec Ideal S2048x2048 .bf16) (b : Vec Ideal S1x1x1x2048 .f32) (r : Vec Ideal S256x1 .f32) (p : Fin 256) (q : Fin 2048) :
    k0_pay2 x w b r (ix2 p q) = ((∑ k : Fin 2048, (x (ix2 p k) : EReal) * w (ix2 k q)) + b (ix4 0 0 0 q)) * r (ix2 p 0) := by
  pointwise [k0_pay2]

attribute [local irreducible] tbl

variable (m : (ℓ : Loc nD τ sig) → Buf (Elt Ideal) ℓ) (c : Dev nD)

abbrev argA : (⟨2, ![41216, 2048]⟩ : Shape).Idx → EReal := m ((c : Thread nD τ).loc main_arg0)
abbrev argR : (⟨2, ![41216, 1]⟩ : Shape).Idx → EReal := m ((c : Thread nD τ).loc main_arg1)
abbrev argX : IVec ⟨1, ![161]⟩ 32 := m ((c : Thread nD τ).loc main_arg2)
abbrev argW : (⟨4, ![2, 32, 2048, 4096]⟩ : Shape).Idx → EReal := m ((c : Thread nD τ).loc main_arg4)
abbrev argB : (⟨3, ![2, 32, 4096]⟩ : Shape).Idx → EReal := m ((c : Thread nD τ).loc main_arg5)

theorem V_bias : (V m c main_v0 : (⟨4, ![2, 32, 1, 4096]⟩ : Shape).Idx → EReal) = shapeCast S2x32x1x4096 (argB m c) shapeCasts_S2x32x4096_S2x32x1x4096 := by
  entry_read
  rfl

variable (hO : Ok m)

theorem blk0 (hG : Good m) (t : Fin (cfgM m hO).N) (p : Fin 256) (k : Fin 2048) : (iblk m hO c 0 t : Vec Ideal S256x2048 .bf16) (ix2 p k) = entry (argA m c) (256 * min (t.val % 161) ((nu m).toNat - 1) + p) k := by
  have hi := ix_first m hG (grid0.coords t)
  rw [c1_val] at hi
  rw [entry, dif_pos ⟨by omega, by omega⟩]
  show (V m c main_arg0) _ = _
  rw [V_arg m c main_arg0 (by decide)]
  refine congrArg (argA m c) (funext fun a => Fin.ext ?_)
  fin_cases a
  · have e : ix0 (tbl m) 0 (grid0.coords t) 0 = min (t.val % 161) ((nu m).toNat - 1) := congrFun hi 0
    show ix0 (tbl m) 0 (grid0.coords t) 0 * 256 + 1 * p.val = 256 * min (t.val % 161) ((nu m).toNat - 1) + p.val
    rw [e]; omega
  · have e : ix0 (tbl m) 0 (grid0.coords t) 1 = 0 := congrFun hi 1
    show ix0 (tbl m) 0 (grid0.coords t) 1 * 2048 + 1 * k.val = k.val
    rw [e]; omega

theorem blk3 (hG : Good m) (t : Fin (cfgM m hO).N) (p : Fin 256) : (iblk m hO c 3 t : Vec Ideal S256x1 .f32) (ix2 p 0) = entry (argR m c) (256 * min (t.val % 161) ((nu m).toNat - 1) + p) 0 := by
  have hi := ix_row m hG (grid0.coords t)
  rw [c1_val] at hi
  rw [entry, dif_pos ⟨by omega, by omega⟩]
  show (V m c main_arg1) _ = _
  rw [V_arg m c main_arg1 (by decide)]
  refine congrArg (argR m c) (funext fun a => Fin.ext ?_)
  fin_cases a
  · have e : ix0 (tbl m) 3 (grid0.coords t) 0 = min (t.val % 161) ((nu m).toNat - 1) := congrFun hi 0
    show ix0 (tbl m) 3 (grid0.coords t) 0 * 256 + 1 * p.val = 256 * min (t.val % 161) ((nu m).toNat - 1) + p.val
    rw [e]; omega
  · have e : ix0 (tbl m) 3 (grid0.coords t) 1 = 0 := congrFun hi 1
    show ix0 (tbl m) 3 (grid0.coords t) 1 * 1 + 1 * 0 = 0
    rw [e]

theorem be_pick (hG : Good m) (b : ℕ) (h : b < 161) : (be m b h).toNat = pick (argX m c) b := by
  obtain rfl : c = 0 := Subsingleton.elim _ _
  have hl := hG.be_lt b h
  unfold pick
  rw [dif_pos h]
  have e : argX m 0 (ix1 ⟨b, h⟩) = be m b h := by
    rw [be_arg]
    exact congrArg (argX m 0) (funext fun a => Fin.ext (by fin_cases a; rfl))
  rw [e, Tab.toInt_small (by omega)]
  omega

theorem blk1 (hG : Good m) (t : Fin (cfgM m hO).N) (k q : Fin 2048) : (iblk m hO c 1 t : Vec Ideal S1x1x2048x2048 .f32) (ix4 0 0 k q) = entry4 (argW m c) 0 (pick (argX m c) (t.val % 161)) k (2048 * (t.val / 161) + q) := by
  have ht : t.val < 322 := Nat.lt_of_lt_of_eq t.isLt N_0
  have hi := ix_1 m (grid0.coords t)
  have hp := pick_lt (argX m c) (t.val % 161)
  rw [be_pick m c hG, c1_val, c0_val] at hi
  rw [entry4, dif_pos ⟨by omega, by omega, by omega, by omega⟩]
  show (V m c main_arg4) _ = _
  rw [V_arg m c main_arg4 (by decide)]
  refine congrArg (argW m c) (funext fun a => Fin.ext ?_)
  fin_cases a
  · have e : ix0 (tbl m) 1 (grid0.coords t) 0 = 0 := congrFun hi 0
    show ix0 (tbl m) 1 (grid0.coords t) 0 * 1 + 1 * 0 = 0
    rw [e]
  · have e : ix0 (tbl m) 1 (grid0.coords t) 1 = pick (argX m c) (t.val % 161) := congrFun hi 1
    show ix0 (tbl m) 1 (grid0.coords t) 1 * 1 + 1 * 0 = pick (argX m c) (t.val % 161)
    rw [e]; omega
  · have e : ix0 (tbl m) 1 (grid0.coords t) 2 = 0 := congrFun hi 2
    show ix0 (tbl m) 1 (grid0.coords t) 2 * 2048 + 1 * k.val = k.val
    rw [e]; omega
  · have e : ix0 (tbl m) 1 (grid0.coords t) 3 = t.val / 161 := congrFun hi 3
    show ix0 (tbl m) 1 (grid0.coords t) 3 * 2048 + 1 * q.val = 2048 * (t.val / 161) + q.val
    rw [e]; omega

theorem bias_at (e : Fin 32) (q : Fin 4096) : shapeCast S2x32x1x4096 (argB m c) shapeCasts_S2x32x4096_S2x32x1x4096 (ix4 0 e 0 q) = argB m c (ix3 0 e q) := by
  pointwise []

theorem blk2 (hG : Good m) (t : Fin (cfgM m hO).N) (q : Fin 2048) : (iblk m hO c 2 t : Vec Ideal S1x1x1x2048 .f32) (ix4 0 0 0 q) = entry3 (argB m c) 0 (pick (argX m c) (t.val % 161)) (2048 * (t.val / 161) + q) := by
  have ht : t.val < 322 := Nat.lt_of_lt_of_eq t.isLt N_0
  have hi := ix_2 m (grid0.coords t)
  have hp := pick_lt (argX m c) (t.val % 161)
  rw [be_pick m c hG, c1_val, c0_val] at hi
  rw [entry3, dif_pos ⟨by omega, by omega, by omega⟩]
  show (V m c main_v0 : (⟨4, ![2, 32, 1, 4096]⟩ : Shape).Idx → EReal) _ = _
  rw [V_bias]
  refine Eq.trans (congrArg _ (funext fun a => Fin.ext ?_)) (bias_at m c ⟨pick (argX m c) (t.val % 161), hp⟩ ⟨2048 * (t.val / 161) + q, by omega⟩)
  fin_cases a
  · have e : ix0 (tbl m) 2 (grid0.coords t) 0 = 0 := congrFun hi 0
    show ix0 (tbl m) 2 (grid0.coords t) 0 * 1 + 1 * 0 = 0
    rw [e]
  · have e : ix0 (tbl m) 2 (grid0.coords t) 1 = pick (argX m c) (t.val % 161) := congrFun hi 1
    show ix0 (tbl m) 2 (grid0.coords t) 1 * 1 + 1 * 0 = pick (argX m c) (t.val % 161)
    rw [e]; omega
  · have e : ix0 (tbl m) 2 (grid0.coords t) 2 = 0 := congrFun hi 2
    show ix0 (tbl m) 2 (grid0.coords t) 2 * 1 + 1 * 0 = 0
    rw [e]
  · have e : ix0 (tbl m) 2 (grid0.coords t) 3 = t.val / 161 := congrFun hi 3
    show ix0 (tbl m) 2 (grid0.coords t) 3 * 2048 + 1 * q.val = 2048 * (t.val / 161) + q.val
    rw [e]; omega

/-- What a used block's body stores, entry by entry. -/
theorem out_at (hG : Good m) (t : Fin (cfgM m hO).N) (h : t.val % 161 < (nu m).toNat) (p : Fin 256) (q : Fin 2048) :
    outP m hO c t (ix2 p q) = affine (argA m c) (argW m c) (argB m c) (pick (argX m c) (t.val % 161)) (256 * (t.val % 161) + p) (2048 * (t.val / 161) + q)
      * entry (argR m c) (256 * (t.val % 161) + p) 0 := by
  have hm : min (t.val % 161) ((nu m).toNat - 1) = t.val % 161 := by omega
  refine (pay2_at (iblk m hO c 0 t) (k0_pay1 (iblk m hO c 1 t)) (iblk m hO c 2 t) (iblk m hO c 3 t) p q).trans ?_
  have h0 : ∀ k : Fin 2048, (iblk m hO c 0 t : Vec Ideal S256x2048 .bf16) (ix2 p k) = entry (argA m c) (256 * (t.val % 161) + p) k := fun k => by
    rw [blk0 m c hO hG, hm]
  have h1 : ∀ k : Fin 2048, k0_pay1 (iblk m hO c 1 t : Vec Ideal S1x1x2048x2048 .f32) (ix2 k q) = entry4 (argW m c) 0 (pick (argX m c) (t.val % 161)) k (2048 * (t.val / 161) + q) := fun k =>
    (pay1_at _ k q).trans (blk1 m c hO hG t k q)
  have h3 : (iblk m hO c 3 t : Vec Ideal S256x1 .f32) (ix2 p 0) = entry (argR m c) (256 * (t.val % 161) + p) 0 := by
    rw [blk3 m c hO hG, hm]
  exact congrArg₂ (fun x y : EReal => x * y) (congrArg₂ (fun x y : EReal => x + y)
    (Finset.sum_congr rfl fun k _ => congrArg₂ (fun x y : EReal => x * y) (h0 k) (h1 k)) (blk2 m c hO hG t q)) h3

/-- The target, the kernel's whole output array. -/
abbrev target : (⟨2, ![41216, 4096]⟩ : Shape).Idx → EReal := down (argA m c) (argR m c) (argX m c) (argW m c) (argB m c)

theorem flushed (hG : Good m) (t : Fin (cfgM m hO).N) : (data m hO 0 c).flushed 4 t = (((cfgM m hO).win 4).blk t).view.read (Elt Ideal) (target m c) := by
  have ht : t.val < 322 := Nat.lt_of_lt_of_eq t.isLt N_0
  have hn := hG.nu_pos
  have hi := ix_out m hG (grid0.coords t)
  rw [c1_val, c0_val] at hi
  funext y
  obtain ⟨p, q, rfl⟩ : ∃ (p : Fin 256) (q : Fin 2048), y = ix2 p q := ⟨y (0 : Fin 2), y (1 : Fin 2), by funext (a : Fin 2); fin_cases a <;> rfl⟩
  have hl : (lastU m hO t).val = 161 * (t.val / 161) + min (t.val % 161) ((nu m).toNat - 1) := rfl
  have e0 : ix0 (tbl m) 4 (grid0.coords t) 0 = min (t.val % 161) ((nu m).toNat - 1) := congrFun hi 0
  have e1 : ix0 (tbl m) 4 (grid0.coords t) 1 = t.val / 161 := congrFun hi 1
  have hleft : (data m hO 0 c).flushed 4 t (ix2 p q) = outP m hO c (lastU m hO t) (ix2 p q) := by
    show (data m hO 0 c).after 4 t (ix2 p q) = _
    rw [after_4]; rfl
  rw [hleft, out_at m c hO hG _ (by rw [hl]; omega)]
  have hj : (((cfgM m hO).win 4).blk t).view.emb (ix2 p q) = (ix2 ⟨256 * min (t.val % 161) ((nu m).toNat - 1) + p, by omega⟩ ⟨2048 * (t.val / 161) + q, by omega⟩ : (⟨2, ![41216, 4096]⟩ : Shape).Idx) := by
    refine funext fun a => Fin.ext ?_
    fin_cases a
    · show ix0 (tbl m) 4 (grid0.coords t) 0 * 256 + 1 * p.val = 256 * min (t.val % 161) ((nu m).toNat - 1) + p.val
      rw [e0]; omega
    · show ix0 (tbl m) 4 (grid0.coords t) 1 * 2048 + 1 * q.val = 2048 * (t.val / 161) + q.val
      rw [e1]; omega
  show _ = target m c ((((cfgM m hO).win 4).blk t).view.emb (ix2 p q))
  rw [hj]
  unfold target down
  dsimp only
  show affine (argA m c) (argW m c) (argB m c) _ _ _ * entry (argR m c) _ 0
    = affine (argA m c) (argW m c) (argB m c) (pick (argX m c) ((256 * min (t.val % 161) ((nu m).toNat - 1) + p.val) / 256)) (256 * min (t.val % 161) ((nu m).toNat - 1) + p.val) (2048 * (t.val / 161) + q.val)
      * entry (argR m c) (256 * min (t.val % 161) ((nu m).toNat - 1) + p.val) 0
  rw [hl, show (161 * (t.val / 161) + min (t.val % 161) ((nu m).toNat - 1)) % 161 = min (t.val % 161) ((nu m).toNat - 1) by omega,
    show (161 * (t.val / 161) + min (t.val % 161) ((nu m).toNat - 1)) / 161 = t.val / 161 by omega,
    show (256 * min (t.val % 161) ((nu m).toNat - 1) + p.val) / 256 = min (t.val % 161) ((nu m).toNat - 1) by omega]

/-- A block in use is written out, at one of the points. -/
theorem flushes (hG : Good m) (b j : ℕ) (hb : b < 161) (hn : b < (nu m).toNat) (hj : j < 2) :
    ∃ t : Fin (cfgM m hO).N, ((cfgM m hO).win 4).flush t = true ∧ t.val / 161 = j ∧ min (t.val % 161) ((nu m).toNat - 1) = b := by
  have hN : (cfgM m hO).N = 322 := N_0
  have hi := fun t : Fin (cfgM m hO).N => ix_out m hG (grid0.coords t)
  by_cases hc : b < 160 ∧ b + 1 < (nu m).toNat
  · have hlt : 161 * j + b + 1 < (cfgM m hO).N := by omega
    refine ⟨⟨161 * j + b, by omega⟩, ?_, by dsimp only; omega, by dsimp only; omega⟩
    unfold Window.flush
    simp only [Bool.and_eq_true, Bool.or_eq_true, decide_eq_true_iff]
    refine ⟨rfl, .inr ⟨hlt, fun h => ?_⟩⟩
    have h' : ix0 (tbl m) 4 (grid0.coords ⟨161 * j + b + 1, hlt⟩) = ix0 (tbl m) 4 (grid0.coords ⟨161 * j + b, Nat.lt_of_succ_lt hlt⟩) := h
    rw [ix_out m hG, ix_out m hG, c1_val, c1_val] at h'
    have := congrFun h' 0
    dsimp at this
    omega
  · refine ⟨⟨161 * j + 160, by omega⟩, ?_, by dsimp only; omega, by dsimp only; omega⟩
    unfold Window.flush
    simp only [Bool.and_eq_true, Bool.or_eq_true, decide_eq_true_iff]
    refine ⟨rfl, ?_⟩
    by_cases hl : 161 * j + 160 + 1 = (cfgM m hO).N
    · exact .inl hl
    · have hlt : 161 * j + 160 + 1 < (cfgM m hO).N := by omega
      refine .inr ⟨hlt, fun h => ?_⟩
      have h' : ix0 (tbl m) 4 (grid0.coords ⟨161 * j + 160 + 1, hlt⟩) = ix0 (tbl m) 4 (grid0.coords ⟨161 * j + 160, Nat.lt_of_succ_lt hlt⟩) := h
      rw [ix_out m hG, ix_out m hG, c0_val, c0_val] at h'
      have := congrFun h' 1
      dsimp at this
      omega

/-- In the rows of a block in use the output array ends at the target. -/
theorem ends (hG : Good m) (i : (⟨2, ![41216, 4096]⟩ : Shape).Idx) (hu : (i 0).val / 256 < (nu m).toNat) :
    (data m hO 0 c).arrAt 4 (cfgM m hO).N i = target m c i := by
  have h0 : (i 0).val < 41216 := (i 0).isLt
  have h1 : (i 1).val < 4096 := (i 1).isLt
  obtain ⟨t, hf, ht, hb⟩ := flushes m hO hG ((i 0).val / 256) ((i 1).val / 2048) (by omega) hu (by omega)
  refine (data m hO 0 c).arrAt_apply_of_mem 4 (target m c) (fun t _ => flushed m c hO hG t) _ t i t.isLt hf ?_
  have hi := ix_out m hG (grid0.coords t)
  rw [c1_val, c0_val, hb, ht] at hi
  have e0 : ix0 (tbl m) 4 (grid0.coords t) 0 = (i 0).val / 256 := congrFun hi 0
  have e1 : ix0 (tbl m) 4 (grid0.coords t) 1 = (i 1).val / 2048 := congrFun hi 1
  have hj : (((cfgM m hO).win 4).blk t).view.emb (ix2 (⟨(i 0).val % 256, Nat.mod_lt _ (by decide)⟩ : Fin 256) (⟨(i 1).val % 2048, Nat.mod_lt _ (by decide)⟩ : Fin 2048)) = i := by
    refine funext fun (a : Fin 2) => Fin.ext ?_
    fin_cases a
    · show ix0 (tbl m) 4 (grid0.coords t) 0 * 256 + 1 * ((i 0).val % 256) = (i 0).val
      rw [e0]; omega
    · show ix0 (tbl m) 4 (grid0.coords t) 1 * 2048 + 1 * ((i 1).val % 2048) = (i 1).val
      rw [e1]; omega
  rw [← hj]
  exact (((cfgM m hO).win 4).blk t).view.emb_mem_set _

/-- The run: in the rows of the blocks in use the output is the target, and the arguments end unchanged. -/
theorem value (ρ : Dev nD → PrngReg) (hG : Good m) : θ_run defs (onTc (τ := τ) (main (F := Ideal))) ⟨m, fun _ => 0, ρ⟩ (fun r => ∀ c : Dev nD,
      (∀ i : (⟨2, ![41216, 4096]⟩ : Shape).Idx, (i 0).val / 256 < (nu m).toNat → r.2.mem ((c.tc : Thread nD τ).loc main_v1) i = target m c i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨fun i hi => (congrFun ((h.1 c).1 4) i).trans (ends m c (ok m hG) hG i hi),
      ((h.1 c).1 0).trans (((data m (ok m hG) 0 c).arrAt_in 0 rfl _).trans ((data_A m (ok m hG) c 0).trans (V_arg m c main_arg0 (by decide)))),
      ((h.1 c).1 3).trans (((data m (ok m hG) 0 c).arrAt_in 3 rfl _).trans ((data_A m (ok m hG) c 3).trans (V_arg m c main_arg1 (by decide)))),
      ((h.1 c).2 main_arg2 (by decide : main_arg2 ∈ Pipeline.restRefs sig spec0)).trans (V_arg m c main_arg2 (by decide)),
      ((h.1 c).2 main_arg3 (by decide : main_arg3 ∈ Pipeline.restRefs sig spec0)).trans (V_arg m c main_arg3 (by decide)),
      ((h.1 c).1 1).trans (((data m (ok m hG) 0 c).arrAt_in 1 rfl _).trans ((data_A m (ok m hG) c 1).trans (V_arg m c main_arg4 (by decide)))),
      ((h.1 c).2 main_arg5 (by decide : main_arg5 ∈ Pipeline.restRefs sig spec0)).trans (V_arg m c main_arg5 (by decide))⟩) (launch m ρ (ok m hG) hG)

end Cert.Kernel5Ideal.Run

end
-- ==== Proof.Take.lean ====
/- The experts' weights and biases by block: taking slabs and rows of an array by a table of numbers. -/
module

public import proofs.«01_k».proof.Proof.Moe

@[expose] public section

set_option maxRecDepth 16384

noncomputable section

namespace Cert.Moe

open Idealize.ShloMosaic

variable {α : Type}

/-- Slabs of a box, one for each entry of the table. -/
abbrev slabs (R C : ℕ) (wf : GatherDims.WF ⟨3, ![32, R, C]⟩ ⟨2, ![161, 1]⟩ ⟨3, ![161, R, C]⟩ [1, 2] [0] [] [0] [] 1 ![1, R, C]) :
    GatherDims ⟨3, ![32, R, C]⟩ ⟨2, ![161, 1]⟩ ⟨3, ![161, R, C]⟩ where
  offsetDims := [1, 2]
  collapsedSliceDims := [0]
  operandBatchingDims := []
  startIndicesBatchingDims := []
  startIndexMap := [0]
  indexVectorDim := 1
  sliceSizes := ![1, R, C]
  wf := wf

theorem slabs_at (R C : ℕ) (wf : GatherDims.WF ⟨3, ![32, R, C]⟩ ⟨2, ![161, 1]⟩ ⟨3, ![161, R, C]⟩ [1, 2] [0] [] [0] [] 1 ![1, R, C])
    (x : (⟨3, ![32, R, C]⟩ : Shape).Idx → α) (idx : IVec ⟨2, ![161, 1]⟩ 32) (b : Fin 161) (k : Fin R) (q : Fin C) :
    Host.gather (slabs R C wf) x idx (ix3 b k q) = x (ix3 ⟨min (idx (ix2 b 0)).toInt.toNat 31, by omega⟩ k q) := by
  unfold Host.gather
  congr 1
  funext a
  refine Fin.ext ?_
  show (slabs R C wf).start (ix3 b k q) idx a + (slabs R C wf).batchCoord (ix3 b k q) a + (slabs R C wf).offCoord (ix3 b k q) a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    show (slabs R C wf).start (ix3 b k q) idx 0 = min (idx (ix2 b 0)).toInt.toNat 31
    unfold GatherDims.start
    rw [dif_pos (show (0 : Fin 3) ∈ (slabs R C wf).startIndexMap from List.mem_singleton.mpr rfl)]
    have hs : (slabs R C wf).siIdx (ix3 b k q) ⟨List.idxOf (0 : Fin 3) (slabs R C wf).startIndexMap, List.idxOf_lt_length_iff.2 (List.mem_singleton.mpr rfl)⟩ = ix2 b 0 := by
      funext d
      refine Fin.ext ?_
      fin_cases d <;> rfl
    rw [hs]
    rfl
  · have h0 : (slabs R C wf).start (ix3 b k q) idx 1 = 0 := by
      unfold GatherDims.start
      exact dif_neg (fun h => absurd (List.mem_singleton.mp h) (show ¬ (1 : Fin 3) = 0 by decide))
    show (slabs R C wf).start (ix3 b k q) idx 1 + (slabs R C wf).offCoord (ix3 b k q) 1 = k.val
    rw [h0, Nat.zero_add]
    rfl
  · have h0 : (slabs R C wf).start (ix3 b k q) idx 2 = 0 := by
      unfold GatherDims.start
      exact dif_neg (fun h => absurd (List.mem_singleton.mp h) (show ¬ (2 : Fin 3) = 0 by decide))
    show (slabs R C wf).start (ix3 b k q) idx 2 + (slabs R C wf).offCoord (ix3 b k q) 2 = q.val
    rw [h0, Nat.zero_add]
    rfl

/-- Rows of a matrix, one for each entry of the table. -/
abbrev rows (C : ℕ) (wf : GatherDims.WF ⟨2, ![32, C]⟩ ⟨2, ![161, 1]⟩ ⟨2, ![161, C]⟩ [1] [0] [] [0] [] 1 ![1, C]) :
    GatherDims ⟨2, ![32, C]⟩ ⟨2, ![161, 1]⟩ ⟨2, ![161, C]⟩ where
  offsetDims := [1]
  collapsedSliceDims := [0]
  operandBatchingDims := []
  startIndicesBatchingDims := []
  startIndexMap := [0]
  indexVectorDim := 1
  sliceSizes := ![1, C]
  wf := wf

theorem rows_at (C : ℕ) (wf : GatherDims.WF ⟨2, ![32, C]⟩ ⟨2, ![161, 1]⟩ ⟨2, ![161, C]⟩ [1] [0] [] [0] [] 1 ![1, C])
    (x : (⟨2, ![32, C]⟩ : Shape).Idx → α) (idx : IVec ⟨2, ![161, 1]⟩ 32) (b : Fin 161) (q : Fin C) :
    Host.gather (rows C wf) x idx (ix2 b q) = x (ix2 ⟨min (idx (ix2 b 0)).toInt.toNat 31, by omega⟩ q) := by
  unfold Host.gather
  congr 1
  funext a
  refine Fin.ext ?_
  show (rows C wf).start (ix2 b q) idx a + (rows C wf).batchCoord (ix2 b q) a + (rows C wf).offCoord (ix2 b q) a = _
  rw [GatherDims.batchCoord_eq_zero _ _ _ List.not_mem_nil, Nat.add_zero]
  fin_cases a
  · rw [GatherDims.offCoord_eq_zero _ _ _ (fun h => ((GatherDims.mem_sKept _ _).mp h).1 (List.mem_singleton.mpr rfl)), Nat.add_zero]
    show (rows C wf).start (ix2 b q) idx 0 = min (idx (ix2 b 0)).toInt.toNat 31
    unfold GatherDims.start
    rw [dif_pos (show (0 : Fin 2) ∈ (rows C wf).startIndexMap from List.mem_singleton.mpr rfl)]
    have hs : (rows C wf).siIdx (ix2 b q) ⟨List.idxOf (0 : Fin 2) (rows C wf).startIndexMap, List.idxOf_lt_length_iff.2 (List.mem_singleton.mpr rfl)⟩ = ix2 b 0 := by
      funext d
      refine Fin.ext ?_
      fin_cases d <;> rfl
    rw [hs]
    rfl
  · have h0 : (rows C wf).start (ix2 b q) idx 1 = 0 := by
      unfold GatherDims.start
      exact dif_neg (fun h => absurd (List.mem_singleton.mp h) (show ¬ (1 : Fin 2) = 0 by decide))
    show (rows C wf).start (ix2 b q) idx 1 + (rows C wf).offCoord (ix2 b q) 1 = q.val
    rw [h0, Nat.zero_add]
    rfl

open Cert.Halves in
theorem entry_of {r s : ℕ} (A : (⟨2, ![r, s]⟩ : Shape).Idx → EReal) (j : (⟨2, ![r, s]⟩ : Shape).Idx) {p q : ℕ} (h0 : (j 0).val = p) (h1 : (j 1).val = q) : entry A p q = A j := by
  subst h0 h1
  rw [entry, dif_pos ⟨(j 0).isLt, (j 1).isLt⟩]
  exact congrArg A (funext fun a => by fin_cases a <;> rfl)

theorem entry3_of {r s t : ℕ} (A : (⟨3, ![r, s, t]⟩ : Shape).Idx → EReal) (j : (⟨3, ![r, s, t]⟩ : Shape).Idx) {p q k : ℕ} (h0 : (j 0).val = p) (h1 : (j 1).val = q) (h2 : (j 2).val = k) : entry3 A p q k = A j := by
  subst h0 h1 h2
  rw [entry3, dif_pos ⟨(j 0).isLt, (j 1).isLt, (j 2).isLt⟩]
  exact congrArg A (funext fun a => by fin_cases a <;> rfl)

theorem entry4_of {r s t u : ℕ} (A : (⟨4, ![r, s, t, u]⟩ : Shape).Idx → EReal) (j : (⟨4, ![r, s, t, u]⟩ : Shape).Idx) {p q k l : ℕ} (h0 : (j 0).val = p) (h1 : (j 1).val = q) (h2 : (j 2).val = k) (h3 : (j 3).val = l) : entry4 A p q k l = A j := by
  subst h0 h1 h2 h3
  rw [entry4, dif_pos ⟨(j 0).isLt, (j 1).isLt, (j 2).isLt, (j 3).isLt⟩]
  exact congrArg A (funext fun a => by fin_cases a <;> rfl)

theorem pick_at (x : IVec ⟨1, ![161]⟩ 32) (b : Fin 161) : pick x b = min (x (ix1 b)).toInt.toNat 31 := by
  rw [pick, dif_pos b.isLt]

end Cert.Moe

end
-- ==== Proof.Q4.lean ====
/- The first grouped product's reference: each row by the weights of its block's expert. -/
module

public import proofs.«01_k».proof.Proof.Gen.Reference4Ideal.Read
public import proofs.«01_k».proof.Proof.Take

@[expose] public section

set_option maxRecDepth 16384

noncomputable section

namespace Cert.Reference4Ideal.At

open Cert.Reference4Ideal Cert.Reference4Ideal.Gen Cert.Reference4Ideal.Read Cert.Halves Cert.Moe Idealize.ShloMosaic Idealize.ShloMosaic.TcCoe Idealize.SL.Sem
open scoped BigOperators

theorem tbl_w (X : IVec S161 32) (b : Fin 161) : val_main_call0_v0 (F := Ideal) X (ix2 b 0) = X (ix1 b) :=
  (val_main_call0_v0_apply (F := Ideal) X _).trans (congrArg X (funext fun a => by fin_cases a; rfl))

theorem tbl_b (X : IVec S161 32) (b : Fin 161) : val_main_call1_v0 (F := Ideal) X (ix2 b 0) = X (ix1 b) :=
  (val_main_call1_v0_apply (F := Ideal) X _).trans (congrArg X (funext fun a => by fin_cases a; rfl))

theorem weights_at (X : IVec S161 32) (W : FVec Ideal S2x32x4096x4096 .f32) (e : Fin 32) (k : Fin 4096) (q : Fin 4096) :
    val_main_v3 (F := Ideal) W (ix3 e k q) = entry4 W 0 e k q := by
  rw [val_main_v3_apply, val_main_v2_apply]
  have h0 := e.isLt
  have h1 := k.isLt
  have h2 := q.isLt
  refine (entry4_of W _ ?_ ?_ ?_ ?_).symm
  · rfl
  · show ((e.val * 4096 + k.val) * 4096 + q.val) / 16777216 % 32 = e.val
    omega
  · show ((e.val * 4096 + k.val) * 4096 + q.val) / 4096 % 4096 = k.val
    omega
  · show ((e.val * 4096 + k.val) * 4096 + q.val) % 4096 = q.val
    omega

theorem taken_w (X : IVec S161 32) (W : FVec Ideal S2x32x4096x4096 .f32) (b : Fin 161) (k : Fin 4096) (q : Fin 4096) :
    val_main_v4 (F := Ideal) X W (ix3 b k q) = entry4 W 0 (pick X b) k q := by
  refine (slabs_at 4096 4096 _ (val_main_v3 (F := Ideal) W) (val_main_call0_v0 (F := Ideal) X) b k q).trans ?_
  refine (weights_at X W _ k q).trans ?_
  show entry4 W 0 (min (val_main_call0_v0 (F := Ideal) X (ix2 b 0)).toInt.toNat 31) k q = _
  rw [tbl_w, pick_at]

theorem biases_at (B : FVec Ideal S2x32x4096 .f32) (e : Fin 32) (q : Fin 4096) :
    val_main_v6 (F := Ideal) B (ix2 e q) = entry3 B 0 e q := by
  rw [val_main_v6_apply, val_main_v5_apply]
  have h0 := e.isLt
  have h2 := q.isLt
  refine (entry3_of B _ ?_ ?_ ?_).symm
  · rfl
  · show (e.val * 4096 + q.val) / 4096 % 32 = e.val
    omega
  · show (e.val * 4096 + q.val) % 4096 = q.val
    omega

theorem taken_b (X : IVec S161 32) (B : FVec Ideal S2x32x4096 .f32) (b : Fin 161) (q : Fin 4096) :
    val_main_v7 (F := Ideal) X B (ix2 b q) = entry3 B 0 (pick X b) q := by
  refine (rows_at 4096 _ (val_main_v6 (F := Ideal) B) (val_main_call1_v0 (F := Ideal) X) b q).trans ?_
  refine (biases_at B _ q).trans ?_
  show entry3 B 0 (min (val_main_call1_v0 (F := Ideal) X (ix2 b 0)).toInt.toNat 31) q = _
  rw [tbl_b, pick_at]

theorem rows_at' (A : FVec Ideal S41216x4096 .bf16) (b : Fin 161) (r : Fin 256) (k : Fin 4096) :
    val_main_v1 (F := Ideal) A (ix3 b r k) = entry A (b.val * 256 + r.val) k := by
  rw [val_main_v1_apply, val_main_v0_apply]
  have h0 := b.isLt
  have h1 := r.isLt
  have h2 := k.isLt
  refine (entry_of A _ ?_ ?_).symm
  · show ((b.val * 256 + r.val) * 4096 + k.val) / 4096 = b.val * 256 + r.val
    omega
  · show ((b.val * 256 + r.val) * 4096 + k.val) % 4096 = k.val
    omega

theorem affine_at (A : FVec Ideal S41216x4096 .bf16) (X : IVec S161 32) (W : FVec Ideal S2x32x4096x4096 .f32) (B : FVec Ideal S2x32x4096 .f32) (b : Fin 161) (r : Fin 256) (q : Fin 4096) :
    val_main_v11 (F := Ideal) A X W B (ix3 b r q) = affine A W B (pick X b) (b.val * 256 + r.val) q := by
  rw [val_main_v11_apply, val_main_v8_apply, val_main_v10_apply, val_main_v9_apply]
  refine congrArg₂ (fun x y : EReal => x + y) ?_ ?_
  · refine Finset.sum_congr rfl fun k _ => congrArg₂ (fun x y : EReal => x * y) ?_ ?_
    · refine Eq.trans (congrArg _ (funext fun a => ?_)) (rows_at' A b r k)
      fin_cases a <;> rfl
    · refine Eq.trans (congrArg _ (funext fun a => ?_)) (taken_w X W b k q)
      fin_cases a <;> rfl
  · refine Eq.trans (congrArg _ (funext fun a => ?_)) (taken_b X B b q)
    fin_cases a <;> rfl

/-- One over one more than the exponential of the negative is the sigmoid. -/
theorem sigmoid_eq (x : Ideal .f32) : FloatOps.hostDivf (FloatOps.ofBits .f32 0x3F800000#32) (FloatOps.addf (FloatOps.ofBits .f32 0x3F800000#32) (FloatOps.hostUnary .exp (FloatOps.hostNegf x))) = FloatOps.logistic x := by
  show Ideal.div (Ideal.ofBits .f32 0x3F800000#32) (Ideal.ofBits .f32 0x3F800000#32 + Ideal.exp (-x)) = Ideal.logistic x
  rw [Ideal.ofBits_one_f32]
  rfl

theorem glu_at (A : FVec Ideal S41216x4096 .bf16) (X : IVec S161 32) (W : FVec Ideal S2x32x4096x4096 .f32) (B : FVec Ideal S2x32x4096 .f32) (b : Fin 161) (r : Fin 256) (q : Fin 2048) :
    val_main_v28 (F := Ideal) A X W B (ix3 b r q) = glu (affine A W B (pick X b) (b.val * 256 + r.val) q) (affine A W B (pick X b) (b.val * 256 + r.val) (2048 + q.val)) := by
  have h2 := q.isLt
  have hg : val_main_v12 (F := Ideal) A X W B (ix3 b r q) = affine A W B (pick X b) (b.val * 256 + r.val) q := by
    rw [val_main_v12_apply]
    refine Eq.trans (congrArg _ (funext fun a => Fin.ext ?_)) (affine_at A X W B b r ⟨q.val, by omega⟩)
    fin_cases a <;> rfl
  have hl : val_main_v13 (F := Ideal) A X W B (ix3 b r q) = affine A W B (pick X b) (b.val * 256 + r.val) (2048 + q.val) := by
    rw [val_main_v13_apply]
    refine Eq.trans (congrArg _ (funext fun a => Fin.ext ?_)) (affine_at A X W B b r ⟨2048 + q.val, by omega⟩)
    fin_cases a <;> rfl
  have hgc : val_main_v15 (F := Ideal) A X W B (ix3 b r q) = gateCut (affine A W B (pick X b) (b.val * 256 + r.val) q) := by
    rw [val_main_v15_apply, val_main_v14_apply, hg]
    rfl
  have hlc : val_main_v16 (F := Ideal) A X W B (ix3 b r q) = linCut (affine A W B (pick X b) (b.val * 256 + r.val) (2048 + q.val)) := by
    rw [val_main_v16_apply, val_main_call2_v4_apply, val_main_call2_v3_apply, val_main_call2_v2_apply, val_main_call2_v1_apply, val_main_call2_v0_apply, hl]
    rfl
  have hs : val_main_v24 (F := Ideal) A X W B (ix3 b r q) = FloatOps.logistic (FloatOps.mulf (FloatOps.ofBits .f32 0x3FD9DB23#32) (gateCut (affine A W B (pick X b) (b.val * 256 + r.val) q))) := by
    rw [val_main_v24_apply, val_main_v23_apply, val_main_v22_apply, val_main_v21_apply, val_main_v20_apply, val_main_v19_apply, val_main_v18_apply, val_main_v17_apply, hgc]
    exact sigmoid_eq _
  rw [val_main_v28_apply, val_main_v25_apply, val_main_v27_apply, val_main_v26_apply, hgc, hlc, hs]
  rfl

theorem value_eq (A : FVec Ideal S41216x4096 .bf16) (X : IVec S161 32) (W : FVec Ideal S2x32x4096x4096 .f32) (B : FVec Ideal S2x32x4096 .f32) (j : S41216x2048.Idx) :
    val_main_v30 (F := Ideal) A X W B j = up A X W B j := by
  obtain ⟨p, q, rfl⟩ : ∃ p q, j = ix2 p q := ⟨j 0, j 1, by funext a; fin_cases a <;> rfl⟩
  rw [val_main_v30_apply]
  show val_main_v29 (F := Ideal) A X W B (ix2 p q) = up A X W B (ix2 p q)
  rw [val_main_v29_apply]
  have h0 := p.isLt
  have h2 := q.isLt
  have hb : p.val / 256 < 161 := by omega
  have hr : p.val % 256 < 256 := by omega
  refine Eq.trans (congrArg _ (funext fun a => Fin.ext ?_)) ((glu_at A X W B ⟨p.val / 256, hb⟩ ⟨p.val % 256, hr⟩ q).trans ?_)
  · fin_cases a
    · show (p.val * 2048 + q.val) / 524288 = p.val / 256
      omega
    · show (p.val * 2048 + q.val) / 2048 % 256 = p.val % 256
      omega
    · show (p.val * 2048 + q.val) % 2048 = q.val
      omega
  · show glu (affine A W B (pick X (p.val / 256)) (p.val / 256 * 256 + p.val % 256) q) (affine A W B (pick X (p.val / 256)) (p.val / 256 * 256 + p.val % 256) (2048 + q.val))
      = glu (affine A W B (pick X (p.val / 256)) p q) (affine A W B (pick X (p.val / 256)) p (2048 + q.val))
    rw [Nat.div_add_mod']

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = up (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1.trans (val_main_v30_eq m c)).trans (funext fun j => value_eq _ _ _ _ j), (h c).2⟩) (Value.run m ρ)

theorem framed {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, funext fun s => by
    rcases s with ⟨_, s⟩
    rcases s with s | s <;> exact s.elim0⟩) (Value.run m ρ)

end Cert.Reference4Ideal.At

end
-- ==== Proof.Q5.lean ====
/- The second grouped product's reference: each row by the weights of its block's expert. -/
module

public import proofs.«01_k».proof.Proof.Gen.Reference5Ideal.Read
public import proofs.«01_k».proof.Proof.Take

@[expose] public section

set_option maxRecDepth 16384

noncomputable section

namespace Cert.Reference5Ideal.At

open Cert.Reference5Ideal Cert.Reference5Ideal.Gen Cert.Reference5Ideal.Read Cert.Halves Cert.Moe Idealize.ShloMosaic Idealize.ShloMosaic.TcCoe Idealize.SL.Sem
open scoped BigOperators

theorem tbl_w (X : IVec S161 32) (b : Fin 161) : val_main_call0_v0 (F := Ideal) X (ix2 b 0) = X (ix1 b) :=
  (val_main_call0_v0_apply (F := Ideal) X _).trans (congrArg X (funext fun a => by fin_cases a; rfl))

theorem tbl_b (X : IVec S161 32) (b : Fin 161) : val_main_call1_v0 (F := Ideal) X (ix2 b 0) = X (ix1 b) :=
  (val_main_call1_v0_apply (F := Ideal) X _).trans (congrArg X (funext fun a => by fin_cases a; rfl))

theorem weights_at (X : IVec S161 32) (W : FVec Ideal S2x32x2048x4096 .f32) (e : Fin 32) (k : Fin 2048) (q : Fin 4096) :
    val_main_v1 (F := Ideal) W (ix3 e k q) = entry4 W 0 e k q := by
  rw [val_main_v1_apply, val_main_v0_apply]
  have h0 := e.isLt
  have h1 := k.isLt
  have h2 := q.isLt
  refine (entry4_of W _ ?_ ?_ ?_ ?_).symm
  · rfl
  · show ((e.val * 2048 + k.val) * 4096 + q.val) / 8388608 % 32 = e.val
    omega
  · show ((e.val * 2048 + k.val) * 4096 + q.val) / 4096 % 2048 = k.val
    omega
  · show ((e.val * 2048 + k.val) * 4096 + q.val) % 4096 = q.val
    omega

theorem taken_w (X : IVec S161 32) (W : FVec Ideal S2x32x2048x4096 .f32) (b : Fin 161) (k : Fin 2048) (q : Fin 4096) :
    val_main_v2 (F := Ideal) X W (ix3 b k q) = entry4 W 0 (pick X b) k q := by
  refine (slabs_at 2048 4096 _ (val_main_v1 (F := Ideal) W) (val_main_call0_v0 (F := Ideal) X) b k q).trans ?_
  refine (weights_at X W _ k q).trans ?_
  show entry4 W 0 (min (val_main_call0_v0 (F := Ideal) X (ix2 b 0)).toInt.toNat 31) k q = _
  rw [tbl_w, pick_at]

theorem biases_at (B : FVec Ideal S2x32x4096 .f32) (e : Fin 32) (q : Fin 4096) :
    val_main_v4 (F := Ideal) B (ix2 e q) = entry3 B 0 e q := by
  rw [val_main_v4_apply, val_main_v3_apply]
  have h0 := e.isLt
  have h2 := q.isLt
  refine (entry3_of B _ ?_ ?_ ?_).symm
  · rfl
  · show (e.val * 4096 + q.val) / 4096 % 32 = e.val
    omega
  · show (e.val * 4096 + q.val) % 4096 = q.val
    omega

theorem taken_b (X : IVec S161 32) (B : FVec Ideal S2x32x4096 .f32) (b : Fin 161) (q : Fin 4096) :
    val_main_v5 (F := Ideal) X B (ix2 b q) = entry3 B 0 (pick X b) q := by
  refine (rows_at 4096 _ (val_main_v4 (F := Ideal) B) (val_main_call1_v0 (F := Ideal) X) b q).trans ?_
  refine (biases_at B _ q).trans ?_
  show entry3 B 0 (min (val_main_call1_v0 (F := Ideal) X (ix2 b 0)).toInt.toNat 31) q = _
  rw [tbl_b, pick_at]

theorem rows_at' (A : FVec Ideal S41216x2048 .bf16) (b : Fin 161) (r : Fin 256) (k : Fin 2048) :
    val_main_v7 (F := Ideal) A (ix3 b r k) = entry A (b.val * 256 + r.val) k := by
  rw [val_main_v7_apply, val_main_v6_apply]
  have h0 := b.isLt
  have h1 := r.isLt
  have h2 := k.isLt
  refine (entry_of A _ ?_ ?_).symm
  · show ((b.val * 256 + r.val) * 2048 + k.val) / 2048 = b.val * 256 + r.val
    omega
  · show ((b.val * 256 + r.val) * 2048 + k.val) % 2048 = k.val
    omega

theorem affine_at (A : FVec Ideal S41216x2048 .bf16) (X : IVec S161 32) (W : FVec Ideal S2x32x2048x4096 .f32) (B : FVec Ideal S2x32x4096 .f32) (b : Fin 161) (r : Fin 256) (q : Fin 4096) :
    val_main_v11 (F := Ideal) A X W B (ix3 b r q) = affine A W B (pick X b) (b.val * 256 + r.val) q := by
  rw [val_main_v11_apply, val_main_v8_apply, val_main_v10_apply, val_main_v9_apply]
  refine congrArg₂ (fun x y : EReal => x + y) ?_ ?_
  · refine Finset.sum_congr rfl fun k _ => congrArg₂ (fun x y : EReal => x * y) ?_ ?_
    · refine Eq.trans (congrArg _ (funext fun a => ?_)) (rows_at' A b r k)
      fin_cases a <;> rfl
    · refine Eq.trans (congrArg _ (funext fun a => ?_)) (taken_w X W b k q)
      fin_cases a <;> rfl
  · refine Eq.trans (congrArg _ (funext fun a => ?_)) (taken_b X B b q)
    fin_cases a <;> rfl

theorem value_eq (A : FVec Ideal S41216x2048 .bf16) (R : FVec Ideal S41216x1 .f32) (X : IVec S161 32) (W : FVec Ideal S2x32x2048x4096 .f32) (B : FVec Ideal S2x32x4096 .f32) (j : S41216x4096.Idx) :
    val_main_v14 (F := Ideal) A R X W B j = down A R X W B j := by
  obtain ⟨p, q, rfl⟩ : ∃ p q, j = ix2 p q := ⟨j 0, j 1, by funext a; fin_cases a <;> rfl⟩
  rw [val_main_v14_apply, val_main_v12_apply, val_main_v13_apply]
  have h0 := p.isLt
  have h2 := q.isLt
  refine congrArg₂ (fun x y : EReal => x * y) ?_ (entry_of R _ rfl rfl).symm
  have hb : p.val / 256 < 161 := by omega
  have hr : p.val % 256 < 256 := by omega
  refine Eq.trans (congrArg _ (funext fun a => Fin.ext ?_)) ((affine_at A X W B ⟨p.val / 256, hb⟩ ⟨p.val % 256, hr⟩ q).trans ?_)
  · fin_cases a
    · show (p.val * 4096 + q.val) / 1048576 = p.val / 256
      omega
    · show (p.val * 4096 + q.val) / 4096 % 256 = p.val % 256
      omega
    · show (p.val * 4096 + q.val) % 4096 = q.val
      omega
  · show affine A W B (pick X (p.val / 256)) (p.val / 256 * 256 + p.val % 256) q = affine A W B (pick X (p.val / 256)) p q
    rw [Nat.div_add_mod']

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = down (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1.trans (val_main_v14_eq _ _ _ _ _)).trans (funext fun j => value_eq _ _ _ _ _ j), (h c).2⟩) (Value.run m ρ)

theorem framed {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, funext fun s => by
    rcases s with ⟨_, s⟩
    rcases s with s | s <;> exact s.elim0⟩) (Value.run m ρ)

end Cert.Reference5Ideal.At

end
-- ==== Proof.Small.lean ====
/- The sample's modulated rows, their product with the widened weights, and a sum taken 512 places at a time. -/
module

public import proofs.«01_k».proof.Proof.Sum

@[expose] public section

noncomputable section

namespace Cert.Halves

open Idealize.ShloMosaic
open scoped BigOperators

/-- The sample's rows: eight sequences of eight rows, each scaled by one more than its sequence's scale and shifted. -/
def modulatedS (A : (⟨2, ![64, 4096]⟩ : Shape).Idx → EReal) (S H : (⟨2, ![8, 4096]⟩ : Shape).Idx → EReal) (p k : ℕ) : EReal :=
  if h : p < 64 ∧ k < 4096 then A (ix2 ⟨p, h.1⟩ ⟨k, h.2⟩) * (1 + S (ix2 ⟨p / 8, by omega⟩ ⟨k, h.2⟩)) + H (ix2 ⟨p / 8, by omega⟩ ⟨k, h.2⟩) else 0

/-- Their product with the widened weights, and that as an array. -/
def projectedS (A : (⟨2, ![64, 4096]⟩ : Shape).Idx → EReal) (S H : (⟨2, ![8, 4096]⟩ : Shape).Idx → EReal) (B : (⟨2, ![4096, 7728]⟩ : Shape).Idx → EReal) (p q : ℕ) : EReal :=
  ∑ k : Fin 4096, modulatedS A S H p k * wide B k q
def projectionS (A : (⟨2, ![64, 4096]⟩ : Shape).Idx → EReal) (S H : (⟨2, ![8, 4096]⟩ : Shape).Idx → EReal) (B : (⟨2, ![4096, 7728]⟩ : Shape).Idx → EReal) :
    (⟨2, ![64, 8192]⟩ : Shape).Idx → EReal := fun j => projectedS A S H B (j 0) (j 1)

/-- The next 512 places of a sum. -/
theorem sum_next (f : ℕ → EReal) (n : ℕ) : (∑ k ∈ Finset.range (512 * n), f k) + ∑ k : Fin 512, f (512 * n + k) = ∑ k ∈ Finset.range (512 * (n + 1)), f k := by
  rw [show 512 * (n + 1) = 512 * n + 512 by omega, Finset.sum_range_add, Finset.sum_range fun k => f (512 * n + k)]

end Cert.Halves

end
-- ==== Proof.W6.lean ====
/- The input projection of the sample: the rows are scaled and shifted, and each block of the result is the sum of the
   products of eight parts of its rows and of the weights' columns. -/
module

public import proofs.«01_k».proof.Proof.Gen.Kernel6Ideal.Value
public import proofs.«01_k».proof.Proof.Small
public import Idealize.ShloMosaic.Lib.Pipeline.ValueKit

@[expose] public section

set_option maxRecDepth 16384

noncomputable section

namespace Cert.Kernel6Ideal.Val

open Cert.Kernel6Ideal Cert.Kernel6Ideal.Gen Cert.Kernel6Ideal.Value Cert.Halves
open Idealize.ShloMosaic Idealize.ShloMosaic.TcCoe
open Idealize.SL Idealize.SL.Sem
open scoped BigOperators

theorem origin : (![0, 0] : Fin 2 → Nat) = fun _ => 0 := funext fun a => by fin_cases a <;> rfl
theorem origin3 : (![0, 0, 0] : Fin 3 → Nat) = fun _ => 0 := funext fun a => by fin_cases a <;> rfl

section

variable (c : Dev nD) (i : grid0.Coords) (b3 : Memref sig .tc .vmem S64x512 .f32) (w3 : b3.IsWhole) (b4 : Memref sig .tc .vmem S1x64x512 .f32) (w4 : b4.IsWhole)
  (b5 : Memref sig .tc .vmem S1x64x512 .f32) (w5 : b5.IsWhole) (b6 : Memref sig .tc .vmem S512x1024 .bf16) (w6 : b6.IsWhole) (b7 : Memref sig .tc .vmem S64x1024 .f32) (w7 : b7.IsWhole)
  (b8 : Memref sig .tc .vmem S64x1024 .f32) (w8 : b8.IsWhole)
  (x : Vec Ideal S64x512 .f32) (s h : Vec Ideal S1x64x512 .f32) (w : Vec Ideal S512x1024 .bf16)

/-- The first part leaves its product, over zero. -/
theorem first (h0 : cond0_0 i) (h1 : ¬cond0_1 i) : sout0_A_0 c i b3 w3 b4 w4 b5 w5 b6 w6 b7 w7 b8 w8 h0 h1 x s h w = k0_pay2 x s h (k0_pay1 (F := Ideal)) w := by
  unfold sout0_A_0
  rw [View.read_writes_eq_canon _ _ _ (scover0_A_0 c i b3 w3 b4 w4 b5 w5 b6 w6 b7 w7 b8 w8 h0 h1 x s h w)]
  unfold kernelRun0_A
  dsimp only
  sl_unfold_words
  rw [View.canon_cons_unit_zero (S := S64x1024) origin, View.readCov_unit_zero (S := S64x1024) _ origin]
  simp only [View.readAt_eq_ld, w3.read_unread, w4.read_unread, w5.read_unread, w6.read_unread, View.ld_unit_zero (S := S64x512) origin, View.ld_unit_zero (S := S512x1024) origin, View.ld_unit_zero (S := S1x64x512) origin3]

/-- A later part adds its product to what is there. -/
theorem next (h0 : ¬cond0_0 i) (h1 : ¬cond0_1 i) (acc : Vec Ideal S64x1024 .f32) : sout0_B_0 c i b3 w3 b4 w4 b5 w5 b6 w6 b7 w7 b8 w8 h0 h1 x s h w acc = k0_pay2 x s h acc w := by
  unfold sout0_B_0
  rw [View.read_writes_eq_canon _ _ _ (scover0_B_0 c i b3 w3 b4 w4 b5 w5 b6 w6 b7 w7 b8 w8 h0 h1 x s h w acc)]
  unfold kernelRun0_B
  dsimp only
  sl_unfold_words
  rw [View.canon_cons_unit_zero (S := S64x1024) origin]
  simp only [View.readAt_eq_ld, w3.read_unread, w4.read_unread, w5.read_unread, w6.read_unread, w8.read_unread, View.ld_unit_zero (S := S64x512) origin, View.ld_unit_zero (S := S512x1024) origin, View.ld_unit_zero (S := S64x1024) origin, View.ld_unit_zero (S := S1x64x512) origin3]

/-- So does the last, and that is written out. -/
theorem final (h0 : ¬cond0_0 i) (h1 : cond0_1 i) (acc : Vec Ideal S64x1024 .f32) : out0_C_4 c i b3 w3 b4 w4 b5 w5 b6 w6 b7 w7 b8 w8 h0 h1 x s h w acc = k0_pay2 x s h acc w := by
  unfold out0_C_4
  rw [View.read_writes_eq_canon _ _ _ (cover0_C_4 c i b3 w3 b4 w4 b5 w5 b6 w6 b7 w7 b8 w8 h0 h1 x s h w acc)]
  unfold kernelRun0_C
  dsimp only
  sl_unfold_words
  rw [View.canon_cons_unit_zero (S := S64x1024) origin, View.readCov_unit_zero (S := S64x1024) _ origin]
  simp only [View.readAt_eq_ld, w3.read_unread, w4.read_unread, w5.read_unread, w6.read_unread, w8.read_unread, View.ld_unit_zero (S := S64x512) origin, View.ld_unit_zero (S := S512x1024) origin, View.ld_unit_zero (S := S64x1024) origin, View.ld_unit_zero (S := S1x64x512) origin3]

end

theorem pay_at (x : Vec Ideal S64x512 .f32) (s h : Vec Ideal S1x64x512 .f32) (acc : Vec Ideal S64x1024 .f32) (w : Vec Ideal S512x1024 .bf16) (p : Fin 64) (q : Fin 1024) :
    k0_pay2 x s h acc w (ix2 p q) = acc (ix2 p q) + ∑ k : Fin 512, ((x (ix2 p k) : EReal) * (1 + s (ix3 0 p k)) + h (ix3 0 p k)) * w (ix2 k q) := by
  pointwise [k0_pay2]

theorem zero_at (p : Fin 64) (q : Fin 1024) : (k0_pay1 (F := Ideal)) (ix2 p q) = 0 := by
  pointwise [k0_pay1]

variable (m : (ℓ : Loc nD τ sig) → Buf (Elt Ideal) ℓ) (c : Dev nD)

abbrev argA : (⟨2, ![64, 4096]⟩ : Shape).Idx → EReal := m ((c : Thread nD τ).loc main_arg0)
abbrev argS : (⟨2, ![8, 4096]⟩ : Shape).Idx → EReal := m ((c : Thread nD τ).loc main_arg1)
abbrev argH : (⟨2, ![8, 4096]⟩ : Shape).Idx → EReal := m ((c : Thread nD τ).loc main_arg2)
abbrev argW : (⟨2, ![4096, 7728]⟩ : Shape).Idx → EReal := m ((c : Thread nD τ).loc main_arg3)

/-- The weights as the kernel takes them, with the columns of zeros that the layout puts in. -/
theorem weights : V m c main_v10 = truncf .bf16 (concatenate S4096x8192 1 [⟨S4096x3632, extractStridedSlice S4096x3632 ![0, 0] (argW m c) slices_S4096x7728_S4096x3632_0_0⟩, ⟨S4096x464, broadcastInDim S4096x464 ![] bcast_S_S4096x464 (constant (F := Ideal) S_ .f32 0x00000000#32)⟩,
    ⟨S4096x4096, extractStridedSlice S4096x4096 ![0, 3632] (argW m c) slices_S4096x7728_S4096x4096_0_3632⟩] concatenates_S4096x3632_S4096x464_S4096x4096_S4096x8192_d1) bitsLt_bf16_f32 := by
  unfold V
  after_results
  rfl

theorem wide_at (k : Fin 4096) (q : Fin 8192) : (V m c main_v10 : Vec Ideal S4096x8192 .bf16) (ix2 k q) = wide (argW m c) k q := by
  rw [weights]
  generalize argW m c = B
  pointwise []
  unfold wide entry
  have hk := k.isLt
  have hq := q.isLt
  by_cases h1 : q.val < 3632
  · rw [dif_pos h1, if_pos h1, dif_pos ⟨hk, by omega⟩]
  · rw [dif_neg h1, if_neg h1]
    by_cases h2 : q.val < 4096
    · rw [dif_pos (by omega), if_pos h2]
    · rw [dif_neg (by omega), if_neg h2, dif_pos ⟨hk, by omega⟩]
      exact congrArg (fun z => B (ix2 k z)) (Fin.ext (by dsimp only; omega))

/-- A sequence's scale or shift, repeated for each of its rows. -/
def repeated (B : FVec Ideal S8x4096 .f32) : FVec Ideal S1x64x4096 .f32 :=
  shapeCast _ (shapeCast _ (broadcastInDim S8x8x4096 ![0, 2] bcast_S8x4096_S8x8x4096_0_2 B) shapeCasts_S8x8x4096_S64x4096 : FVec Ideal S64x4096 .f32) shapeCasts_S64x4096_S1x64x4096
theorem repeated_at (B : FVec Ideal S8x4096 .f32) (p : Fin 64) (k : Fin 4096) : repeated B (ix3 0 p k) = B (ix2 ⟨p / 8, by omega⟩ k) := by
  unfold repeated
  pointwise []
theorem scales : V m c main_v2 = repeated (argS m c) := by
  unfold V
  after_results
  rfl
theorem shifts : V m c main_v5 = repeated (argH m c) := by
  unfold V
  after_results
  rfl

theorem idx : ∀ t : Fin cfg0.N, win0_0.index t = ![0, t.val % 8] ∧ win0_1.index t = ![0, 0, t.val % 8] ∧ win0_2.index t = ![0, 0, t.val % 8]
    ∧ win0_3.index t = ![t.val % 8, t.val / 8] :=
  (by decide +kernel : ∀ t : Fin grid0.N, _)

abbrev stepA (t : Fin cfg0.N) : (⟨2, ![64, 512]⟩ : Shape).Idx → EReal := (iblk m c 0 t : Vec Ideal S64x512 .f32)
abbrev stepS (t : Fin cfg0.N) : (⟨3, ![1, 64, 512]⟩ : Shape).Idx → EReal := (iblk m c 1 t : Vec Ideal S1x64x512 .f32)
abbrev stepH (t : Fin cfg0.N) : (⟨3, ![1, 64, 512]⟩ : Shape).Idx → EReal := (iblk m c 2 t : Vec Ideal S1x64x512 .f32)

/-- A step's rows, scaled and shifted as the step does, are the modulated rows of the whole array. -/
theorem rows_at (t : Fin cfg0.N) (p : Fin 64) (k : Fin 512) :
    stepA m c t (ix2 p k) * (1 + stepS m c t (ix3 0 p k)) + stepH m c t (ix3 0 p k) = modulatedS (argA m c) (argS m c) (argH m c) p (512 * (t.val % 8) + k) := by
  have hi := idx t
  have e0 : stepA m c t (ix2 p k) = argA m c (ix2 p ⟨512 * (t.val % 8) + k, by omega⟩) := by
    blk_ext [iblk, V, hi.1]
  have e1 : stepS m c t (ix3 0 p k) = argS m c (ix2 ⟨p / 8, by omega⟩ ⟨512 * (t.val % 8) + k, by omega⟩) := by
    refine Eq.trans ?_ (repeated_at (argS m c) p ⟨512 * (t.val % 8) + k, by omega⟩)
    rw [← scales]
    blk_ext [iblk, hi.2.1]
  have e2 : stepH m c t (ix3 0 p k) = argH m c (ix2 ⟨p / 8, by omega⟩ ⟨512 * (t.val % 8) + k, by omega⟩) := by
    refine Eq.trans ?_ (repeated_at (argH m c) p ⟨512 * (t.val % 8) + k, by omega⟩)
    rw [← shifts]
    blk_ext [iblk, hi.2.2.1]
  rw [e0, e1, e2, modulatedS, dif_pos ⟨p.isLt, by omega⟩]

theorem blk3 (t : Fin cfg0.N) (k : Fin 512) (q : Fin 1024) : (iblk m c 3 t : Vec Ideal S512x1024 .bf16) (ix2 k q) = wide (argW m c) (512 * (t.val % 8) + k) (1024 * (t.val / 8) + q) := by
  have hi := idx t
  have ht : t.val < 64 := Nat.lt_of_lt_of_eq t.isLt N_0
  rw [← wide_at m c ⟨512 * (t.val % 8) + k, by omega⟩ ⟨1024 * (t.val / 8) + q, by omega⟩]
  blk_ext [iblk, hi.2.2.2]

/-- One place of the sum behind an entry of the result. -/
def place (p q k : ℕ) : EReal := modulatedS (argA m c) (argS m c) (argH m c) p k * wide (argW m c) k q

/-- What a step makes of a partial sum. -/
theorem step (t : Fin cfg0.N) (acc : Vec Ideal S64x1024 .f32) (p : Fin 64) (q : Fin 1024) (b : ℕ) (hb : t.val % 8 = b)
    (ha : acc (ix2 p q) = ∑ k ∈ Finset.range (512 * b), place m c p (1024 * (t.val / 8) + q) k) :
    k0_pay2 (F := Ideal) (iblk m c 0 t) (iblk m c 1 t) (iblk m c 2 t) acc (iblk m c 3 t) (ix2 p q) = ∑ k ∈ Finset.range (512 * (b + 1)), place m c p (1024 * (t.val / 8) + q) k := by
  rw [pay_at, ha, ← sum_next]
  simp only [rows_at, blk3, hb]
  rfl

/-- What is carried after a step that is not a block's last. -/
theorem carried (p : Fin 64) (q : Fin 1024) : ∀ (n : ℕ) (hn : n < cfg0.N), n % 8 ≠ 7 →
    (outsAt0 m c n hn).2 (ix2 p q) = ∑ k ∈ Finset.range (512 * (n % 8 + 1)), place m c p (1024 * (n / 8) + q) k
  | n, hn, h7 => by
    by_cases h0 : n % 8 = 0
    · have e := outsAt0_A m c ⟨n, hn⟩ h0 h7
      dsimp only at e
      rw [e]
      dsimp only
      rw [first]
      exact step m c ⟨n, hn⟩ _ p q _ rfl (by rw [zero_at, h0]; rfl)
    · obtain ⟨n, rfl⟩ : ∃ l, n = l + 1 := ⟨n - 1, by omega⟩
      have e := outsAt0_B m c ⟨n + 1, hn⟩ h0 h7
      dsimp only at e
      rw [e]
      dsimp only
      rw [next]
      refine step m c ⟨n + 1, hn⟩ _ p q _ rfl ((carried p q n (Nat.lt_of_succ_lt hn) (by omega)).trans ?_)
      dsimp only
      rw [show n % 8 + 1 = (n + 1) % 8 by omega, show n / 8 = (n + 1) / 8 by omega]

/-- What a block's last step has computed, entry by entry. -/
theorem last (t : Fin cfg0.N) (h : t.val % 8 = 7) (p : Fin 64) (q : Fin 1024) :
    (outsAt0 m c t.val t.isLt).1 (ix2 p q) = projectedS (argA m c) (argS m c) (argH m c) (argW m c) p (1024 * (t.val / 8) + q) := by
  have hs : t.val - 1 < cfg0.N := Nat.lt_of_le_of_lt (Nat.sub_le _ _) t.isLt
  rw [outsAt0_C m c t (by omega) h]
  dsimp only
  rw [final]
  refine (step m c t _ p q 7 h ((carried m c p q (t.val - 1) hs (by omega)).trans ?_)).trans (Finset.sum_range _)
  rw [show (t.val - 1) % 8 + 1 = 7 by omega, show (t.val - 1) / 8 = t.val / 8 by omega]

/-- The kernel's result is the projection. -/
theorem result (j : (⟨2, ![64, 8192]⟩ : Shape).Idx) : G4 m c j = projectedS (argA m c) (argS m c) (argH m c) (argW m c) (j 0) (j 1) := by
  have h0 : (j 0).val < 64 := (j 0).isLt
  have h1 : (j 1).val < 8192 := (j 1).isLt
  have hp : pt4Of j < cfg0.N := by rw [show cfg0.N = 64 from N_0]; dsimp only [pt4Of, run4Of]; omega
  unfold G4
  rw [dif_pos hp, ← outsAt0_sweep m c (pt4Of j) hp]
  have e : loc4Of j = ix2 ⟨(j 0).val % 64, Nat.mod_lt _ (by decide)⟩ ⟨(j 1).val % 1024, Nat.mod_lt _ (by decide)⟩ := by
    funext a; fin_cases a <;> rfl
  rw [e, last m c ⟨pt4Of j, hp⟩ (by dsimp only [pt4Of]; omega)]
  dsimp only [pt4Of, run4Of]
  congr 1 <;> omega

/-- The run: the result array holds it, and the arguments end unchanged. -/
theorem value (ρ : Dev nD → PrngReg) : θ_run defs (onTc (τ := τ) (main (F := Ideal))) ⟨m, fun _ => 0, ρ⟩ (fun r => ∀ c : Dev nD,
      r.2.mem ((c : Thread nD τ).loc main_v11) = projectionS (argA m c) (argS m c) (argH m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h c).1.trans (funext fun j => result m c j), (h c).2⟩) (run m ρ)

end Cert.Kernel6Ideal.Val

end
-- ==== Proof.Q6.lean ====
/- The reference of the sample's input projection: the modulated rows times the weights, with columns of zeros put in. Those are what the
   product with zero columns of weights gives. -/
module

public import proofs.«01_k».proof.Proof.Gen.Reference6Ideal.Run
public import proofs.«01_k».proof.Proof.Small

@[expose] public section

set_option maxRecDepth 16384

noncomputable section

namespace Cert.Reference6Ideal.At

open Cert.Reference6Ideal Cert.Reference6Ideal.Gen Cert.Halves Idealize.ShloMosaic Idealize.ShloMosaic.TcCoe Idealize.SL.Sem
open scoped BigOperators

variable (A : FVec Ideal S64x4096 .f32) (S H : FVec Ideal S8x4096 .f32) (B : FVec Ideal S4096x7728 .f32)

/-- The modulated rows. -/
def scaled : FVec Ideal S8x8x4096 .f32 :=
  addf (mulf (shapeCast _ A shapeCasts_S64x4096_S8x8x4096) (broadcastInDim S8x8x4096 ![0, 1, 2] bcast_S8x1x4096_S8x8x4096_0_1_2
    (addf (broadcastInDim S8x1x4096 ![] bcast_S_S8x1x4096 (constant S_ .f32 0x3F800000#32)) (broadcastInDim S8x1x4096 ![0, 2] bcast_S8x4096_S8x1x4096_0_2 S)))) (broadcastInDim S8x8x4096 ![0, 1, 2] bcast_S8x1x4096_S8x8x4096_0_1_2 (broadcastInDim S8x1x4096 ![0, 2] bcast_S8x4096_S8x1x4096_0_2 H))

/-- Their product with the weights. -/
def times (h : FVec Ideal S8x8x4096 .f32) : FVec Ideal S64x7728 .f32 :=
  shapeCast _ (Host.dotGeneral dot_S8x8x4096_S4096x7728_S8x8x7728_2_0_01_1_n_n none h B : FVec Ideal S8x8x7728 .f32) shapeCasts_S8x8x7728_S64x7728

/-- The same with the columns of zeros. -/
def spread (p : FVec Ideal S64x7728 .f32) : FVec Ideal S64x8192 .f32 :=
  concatenate S64x8192 1 [⟨S64x3632, (extractStridedSlice S64x3632 ![0, 0] p slices_S64x7728_S64x3632_0_0 : FVec Ideal S64x3632 .f32)⟩,
    ⟨S64x464, (broadcastInDim S64x464 ![] bcast_S_S64x464 (constant S_ .f32 0x00000000#32) : FVec Ideal S64x464 .f32)⟩,
    ⟨S64x4096, (extractStridedSlice S64x4096 ![0, 3632] p slices_S64x7728_S64x4096_0_3632 : FVec Ideal S64x4096 .f32)⟩] concatenates_S64x3632_S64x464_S64x4096_S64x8192_d1

theorem spread_at (p : FVec Ideal S64x7728 .f32) (i : Fin 64) (j : Fin 8192) : spread p (ix2 i j) = wide p i j := by
  unfold spread
  pointwise []
  unfold wide entry
  have hi := i.isLt
  have hj := j.isLt
  by_cases h1 : j.val < 3632
  · rw [dif_pos h1, if_pos h1, dif_pos ⟨hi, by omega⟩]
  · rw [dif_neg h1, if_neg h1]
    by_cases h2 : j.val < 4096
    · rw [dif_pos (by omega), if_pos h2]
    · rw [dif_neg (by omega), if_neg h2, dif_pos ⟨hi, by omega⟩]
      exact congrArg (fun z => p (ix2 i z)) (Fin.ext (by dsimp only; omega))

theorem times_at (h : FVec Ideal S8x8x4096 .f32) (i : Fin 64) (j : Fin 7728) :
    times B h (ix2 i j) = ∑ k : Fin 4096, (h (ix3 ⟨i / 8, by omega⟩ ⟨i % 8, by omega⟩ k) : EReal) * B (ix2 k j) := by
  unfold times
  pointwise []

theorem scaled_at (i : Fin 64) (k : Fin 4096) : scaled A S H (ix3 ⟨i / 8, by omega⟩ ⟨i % 8, by omega⟩ k) = modulatedS A S H i k := by
  rw [modulatedS, dif_pos ⟨i.isLt, k.isLt⟩]
  unfold scaled
  pointwise []

/-- The widened product is the product with the widened weights. -/
theorem value_eq (j : S64x8192.Idx) : spread (times B (scaled A S H)) j = projectedS A S H B (j 0) (j 1) := by
  obtain ⟨p, q, rfl⟩ : ∃ p q, j = ix2 p q := ⟨j 0, j 1, by funext a; fin_cases a <;> rfl⟩
  show _ = projectedS A S H B p q
  rw [spread_at]
  have inner : ∀ r : ℕ, r < 7728 → entry (times B (scaled A S H)) p r = ∑ k : Fin 4096, modulatedS A S H p k * entry B k r := fun r hr => by
    rw [entry, dif_pos ⟨p.isLt, hr⟩]
    refine (times_at B (scaled A S H) p ⟨r, hr⟩).trans (Finset.sum_congr rfl fun k _ => ?_)
    rw [scaled_at, entry, dif_pos ⟨k.isLt, hr⟩]
  have hq := q.isLt
  unfold projectedS wide
  by_cases h1 : q.val < 3632
  · simp only [if_pos h1]
    exact inner _ (by omega)
  · simp only [if_neg h1]
    by_cases h2 : q.val < 4096
    · simp only [if_pos h2, mul_zero, Finset.sum_const_zero]
    · simp only [if_neg h2]
      exact inner _ (by omega)

theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = projectionS (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (funext fun j => value_eq _ _ _ _ j), (h c).2⟩) (Value.run m ρ)

theorem framed {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, funext fun s => by
    rcases s with ⟨_, s⟩
    rcases s with s | s <;> exact s.elim0⟩) (Value.run m ρ)

end Cert.Reference6Ideal.At

end
-- ==== Proof.Mask.lean ====
/- The rows of the blocks in use: where the masks of the two grouped products are set. -/
module

public import proofs.«01_k».proof.Proof.Gen.On_rows_used4
public import proofs.«01_k».proof.Proof.Gen.On_rows_used5
public import proofs.«01_k».proof.Proof.Tab
public import Idealize.ShloMosaic.Lib.Routing.Words

@[expose] public section

set_option maxRecDepth 16384

noncomputable section

namespace Tab

open Idealize.ShloMosaic

/-- A row's block, as the quotient of words rounded down. -/
theorem row_block {r : ℕ} (hr : r < 41216) :
    Scalar.select (IntOp.andi
        (IntOp.cmpi .ne (if BitVec.ofNat 32 r = 0 then (0 : BitVec 32) else if (BitVec.ofNat 32 r).msb then -1 else 1)
          (if (256#32 : BitVec 32) = 0 then (0 : BitVec 32) else if (256#32 : BitVec 32).msb then -1 else 1))
        (IntOp.cmpi .ne (IntOp.remsi .host (BitVec.ofNat 32 r) 256#32) 0#32))
      (IntOp.subi (IntOp.divsi .host (BitVec.ofNat 32 r) 256#32) 1#32) (IntOp.divsi .host (BitVec.ofNat 32 r) 256#32)
      = BitVec.ofNat 32 (r / 256) := by
  have hd : IntOp.divsi .host (BitVec.ofNat 32 r) 256#32 = BitVec.ofNat 32 (r / 256) :=
    Routing.divsi_word .host (by omega) (by decide) (by decide)
  have hm : IntOp.remsi .host (BitVec.ofNat 32 r) 256#32 = BitVec.ofNat 32 (r % 256) :=
    Routing.remsi_word .host (by omega) (by decide) (by decide)
  rw [hd, hm]
  have hs : (if (256#32 : BitVec 32) = 0 then (0 : BitVec 32) else if (256#32 : BitVec 32).msb then -1 else 1) = 1 := by decide
  rw [hs]
  by_cases h0 : r = 0
  · subst h0; decide
  · have hne : BitVec.ofNat 32 r ≠ 0 := by
      intro h
      have := congrArg BitVec.toNat h
      rw [BitVec.toNat_ofNat] at this
      have h2 : (0 : BitVec 32).toNat = 0 := rfl
      omega
    have hmsb : (BitVec.ofNat 32 r).msb = false := BitVec.msb_eq_false_iff_two_mul_lt.mpr (by rw [BitVec.toNat_ofNat]; omega)
    rw [if_neg hne, hmsb]
    have e : ∀ b : BitVec 1, IntOp.andi (IntOp.cmpi .ne (if (false = true) then (-1 : BitVec 32) else 1) 1) b = 0#1 := by decide
    rw [e]
    rfl

/-- A block in use, as the comparison of words. -/
theorem row_used {r : ℕ} (hr : r < 41216) {n : BitVec 32} (h2 : n.toNat < 2 ^ 31)
    (h : IntOp.cmpi .slt (BitVec.ofNat 32 (r / 256)) n = 1#1) : r / 256 < n.toNat := by
  have e1 : (BitVec.ofNat 32 (r / 256)).toNat = r / 256 := by rw [BitVec.toNat_ofNat]; omega
  have h' : BitVec.ofBool ((BitVec.ofNat 32 (r / 256)).slt n) = 1#1 := h
  rw [ofBool_one, slt_small (by omega) h2, e1, decide_eq_true_iff] at h'
  exact h'

def one0 : (⟨1, ![1]⟩ : Shape).Idx := fun a => ⟨0, by rw [Subsingleton.elim a 0]; exact Nat.one_pos⟩

theorem eq_one0 (i : (⟨1, ![1]⟩ : Shape).Idx) : i = one0 := funext fun a => Fin.ext (by
  obtain rfl : a = 0 := Subsingleton.elim _ _
  have h : (i 0).val < 1 := (i 0).isLt
  show (i 0).val = 0
  omega)

theorem used5 {F : FTy → Type} [FloatOps F] (a0 a1 a2) (n : IVec Cert.On_rows_used5.S1 32) (a4 a5) (h2 : (n one0).toNat < 2 ^ 31)
    (i : Cert.On_rows_used5.S41216x4096.Idx) (h : Cert.On_rows_used5.fn (F := F) a0 a1 a2 n a4 a5 i = 1#1) :
    (i 0).val / 256 < (n one0).toNat := by
  have hr : (i 0).val < 41216 := (i 0).isLt
  refine row_used hr h2 ?_
  rw [← row_block hr]
  obtain ⟨o, ho⟩ : ∃ o : (⟨1, ![1]⟩ : Shape).Idx, IntOp.cmpi .slt (Scalar.select (IntOp.andi
        (IntOp.cmpi .ne (if BitVec.ofNat 32 (i 0).val = 0 then (0 : BitVec 32) else if (BitVec.ofNat 32 (i 0).val).msb then -1 else 1)
          (if (256#32 : BitVec 32) = 0 then (0 : BitVec 32) else if (256#32 : BitVec 32).msb then -1 else 1))
        (IntOp.cmpi .ne (IntOp.remsi .host (BitVec.ofNat 32 (i 0).val) 256#32) 0#32))
      (IntOp.subi (IntOp.divsi .host (BitVec.ofNat 32 (i 0).val) 256#32) 1#32) (IntOp.divsi .host (BitVec.ofNat 32 (i 0).val) 256#32)) (n o) = 1#1 := ⟨_, h⟩
  rw [eq_one0 o] at ho
  exact ho

theorem used4 {F : FTy → Type} [FloatOps F] (a0 a1) (n : IVec Cert.On_rows_used4.S1 32) (a3 a4) (h2 : (n one0).toNat < 2 ^ 31)
    (i : Cert.On_rows_used4.S41216x2048.Idx) (h : Cert.On_rows_used4.fn (F := F) a0 a1 n a3 a4 i = 1#1) :
    (i 0).val / 256 < (n one0).toNat := by
  have hr : (i 0).val < 41216 := (i 0).isLt
  refine row_used hr h2 ?_
  rw [← row_block hr]
  obtain ⟨o, ho⟩ : ∃ o : (⟨1, ![1]⟩ : Shape).Idx, IntOp.cmpi .slt (Scalar.select (IntOp.andi
        (IntOp.cmpi .ne (if BitVec.ofNat 32 (i 0).val = 0 then (0 : BitVec 32) else if (BitVec.ofNat 32 (i 0).val).msb then -1 else 1)
          (if (256#32 : BitVec 32) = 0 then (0 : BitVec 32) else if (256#32 : BitVec 32).msb then -1 else 1))
        (IntOp.cmpi .ne (IntOp.remsi .host (BitVec.ofNat 32 (i 0).val) 256#32) 0#32))
      (IntOp.subi (IntOp.divsi .host (BitVec.ofNat 32 (i 0).val) 256#32) 1#32) (IntOp.divsi .host (BitVec.ofNat 32 (i 0).val) 256#32)) (n o) = 1#1 := ⟨_, h⟩
  rw [eq_one0 o] at ho
  exact ho

end Tab

end
-- ==== Proof.lean ====
/- The claims of the certificate: the kernel, its idealisation and the reference each run, leave their arguments
   unchanged and leave every semaphore counter at zero; the idealisation only names the mask constant; and the
   idealised kernel and the reference leave equal result arrays: the layer's attention. So do the two
   projections about it, the sample's input projection and, in the rows of the blocks in use, the two grouped products
   of the experts. -/
module

public import proofs.«01_k».proof.Defs
public import proofs.«01_k».proof.Proof.Gen.Reference5Ideal.Read
public import proofs.«01_k».proof.Proof.Gen.Reference4Ideal.Read
public import proofs.«01_k».proof.Proof.Gen.Kernel.Frame
public import proofs.«01_k».proof.Proof.Gen.KernelIdeal.Frame
public import proofs.«01_k».proof.Proof.KFrame
public import proofs.«01_k».proof.Proof.Frame
public import proofs.«01_k».proof.Proof.RFrame
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel6.Frame
public import proofs.«01_k».proof.Proof.Gen.Kernel6Ideal.Frame
public import proofs.«01_k».proof.Proof.W2
public import proofs.«01_k».proof.Proof.W3
public import proofs.«01_k».proof.Proof.Q2
public import proofs.«01_k».proof.Proof.Q3
public import proofs.«01_k».proof.Proof.KOut
public import proofs.«01_k».proof.Proof.RVal
public import proofs.«01_k».proof.Proof.Both
public import proofs.«01_k».proof.Proof.W4
public import proofs.«01_k».proof.Proof.W5
public import proofs.«01_k».proof.Proof.Q4
public import proofs.«01_k».proof.Proof.Q5
public import proofs.«01_k».proof.Proof.W6
public import proofs.«01_k».proof.Proof.Q6
public import proofs.«01_k».proof.Proof.Mask

@[expose] public section

noncomputable section

open Idealize.ShloMosaic Idealize.SL.Sem

namespace Cert.Proof

/-- A row the mask selects is a row of a block in use. -/
theorem row_used4 (m : (ℓ : Loc Cert.Kernel4Ideal.nD Cert.Kernel4Ideal.τ Cert.Kernel4Ideal.sig) → Buf (Elt Ideal) ℓ) (hG : Cert.Kernel4Ideal.Run.Good m) (c : Dev Cert.Kernel4Ideal.nD)
    (a0 a1 a3 a4) (i) (h : Cert.On_rows_used4.fn (F := Ideal) a0 a1 (m ((c.tc : Thread Cert.Kernel4Ideal.nD Cert.Kernel4Ideal.τ).loc Cert.Kernel4Ideal.main_arg2)) a3 a4 i = 1#1) :
    (i 0).val / 256 < (Cert.Kernel4Ideal.Run.nu m).toNat := by
  obtain rfl : c = 0 := Subsingleton.elim _ _
  have hl := hG.nu_lt
  rw [Cert.Kernel4Ideal.Run.nu_arg, Tab.eq_one0 Cert.Kernel4Ideal.Run.at1] at hl ⊢
  exact Tab.used4 a0 a1 _ a3 a4 hl i h

theorem row_used5 (m : (ℓ : Loc Cert.Kernel5Ideal.nD Cert.Kernel5Ideal.τ Cert.Kernel5Ideal.sig) → Buf (Elt Ideal) ℓ) (hG : Cert.Kernel5Ideal.Run.Good m) (c : Dev Cert.Kernel5Ideal.nD)
    (a0 a1 a2 a4 a5) (i) (h : Cert.On_rows_used5.fn (F := Ideal) a0 a1 a2 (m ((c.tc : Thread Cert.Kernel5Ideal.nD Cert.Kernel5Ideal.τ).loc Cert.Kernel5Ideal.main_arg3)) a4 a5 i = 1#1) :
    (i 0).val / 256 < (Cert.Kernel5Ideal.Run.nu m).toNat := by
  obtain rfl : c = 0 := Subsingleton.elim _ _
  have hl := hG.nu_lt
  rw [Cert.Kernel5Ideal.Run.nu_arg, Tab.eq_one0 Cert.Kernel5Ideal.Run.at1] at hl ⊢
  exact Tab.used5 a0 a1 a2 _ a4 a5 hl i h

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_tables4.Gen.facts, Cert.Pre_tables5.Gen.facts, Cert.On_rows_used4.Gen.facts, Cert.On_rows_used5.Gen.facts,
    fun m g _ => Cert.Kernel.Run.framed m g,
    fun m g _ => Cert.KernelIdeal.Run.framed m g,
    fun m g _ => Cert.ReferenceIdeal.Run.framed m g,
    fun m g _ => Cert.Kernel2.Gen.frame m g,
    fun m g _ => Cert.Kernel2Ideal.Gen.frame m g,
    fun m g _ => Cert.Reference2Ideal.At.framed m g,
    fun m g _ => Cert.Kernel3.Gen.frame m g,
    fun m g _ => Cert.Kernel3Ideal.Gen.frame m g,
    fun m g _ => Cert.Reference3Ideal.At.framed m g,
    Cert.Both.frame4,
    fun m g h => Cert.Kernel4Ideal.Run.framed m g (Cert.Kernel4Ideal.Run.ok m (Cert.Kernel4Ideal.Run.good m h)) (Cert.Kernel4Ideal.Run.good m h),
    fun m g _ => Cert.Reference4Ideal.At.framed m g,
    fun m g _ => Cert.Reference4Ideal.At.framed m g,
    Cert.Both.frame5,
    fun m g h => Cert.Kernel5Ideal.Run.framed m g (Cert.Kernel5Ideal.Run.ok m (Cert.Kernel5Ideal.Run.good m h)) (Cert.Kernel5Ideal.Run.good m h),
    fun m g _ => Cert.Reference5Ideal.At.framed m g,
    fun m g _ => Cert.Reference5Ideal.At.framed m g,
    fun m g _ => Cert.Kernel6.Gen.frame m g,
    fun m g _ => Cert.Kernel6Ideal.Gen.frame m g,
    fun m g _ => Cert.Reference6Ideal.At.framed m g,
    IdealRules.named_const.statement Cert.KernelIdeal.κ "mask" .f32 0xF149F2CA#32 ⊥ rfl,
    fun m g m' g' _ hargs => ⟨fun c => Cert.Nsa.attn (Cert.KernelIdeal.Val.argA m c) (Cert.KernelIdeal.Val.argB m c),
      Cert.KernelIdeal.Val.value m g,
      (θ_run _ _ _).mono (fun _ h c => ⟨(h c).1.trans (congrArg₂ Cert.Nsa.attn (hargs c).1 (hargs c).2), (h c).2⟩) (Cert.ReferenceIdeal.At.value m' g')⟩,
    trivial,
    fun m g m' g' _ hargs => ⟨fun c => Cert.Halves.projection (Cert.Kernel2Ideal.Val.argA m c) (Cert.Kernel2Ideal.Val.argS m c) (Cert.Kernel2Ideal.Val.argH m c) (Cert.Kernel2Ideal.Val.argW m c),
      Cert.Kernel2Ideal.Val.value m g,
      (θ_run _ _ _).mono (fun _ h c => ⟨(h c).1.trans (by rw [(hargs c).1, (hargs c).2.1, (hargs c).2.2.1, (hargs c).2.2.2]), (h c).2⟩) (Cert.Reference2Ideal.At.value m' g')⟩,
    trivial,
    fun m g m' g' _ hargs => ⟨fun c => Cert.Halves.producted (Cert.Kernel3Ideal.Val.argA m c) (Cert.Kernel3Ideal.Val.argB m c),
      Cert.Kernel3Ideal.Val.value m g,
      (θ_run _ _ _).mono (fun _ h c => ⟨(h c).1.trans (congrArg₂ Cert.Halves.producted (hargs c).1 (hargs c).2), (h c).2⟩) (Cert.Reference3Ideal.At.value m' g')⟩,
    trivial,
    fun m g m' g' hp hargs => ⟨fun c => Cert.Kernel4Ideal.Run.target m c,
      (θ_run _ _ _).mono (fun _ h c => ⟨fun i hi => (h c).1 i (row_used4 m (Cert.Kernel4Ideal.Run.good m hp) c _ _ _ _ i hi), (h c).2⟩) (Cert.Kernel4Ideal.Run.value m g (Cert.Kernel4Ideal.Run.good m hp)),
      (θ_run _ _ _).mono (fun _ h c => ⟨fun i _ => (congrFun (h c).1 i).trans (by rw [(hargs c).1, (hargs c).2.1, (hargs c).2.2.2.1, (hargs c).2.2.2.2]), (h c).2⟩) (Cert.Reference4Ideal.At.value m' g')⟩,
    trivial,
    fun m g m' g' hp hargs => ⟨fun c => Cert.Kernel5Ideal.Run.target m c,
      (θ_run _ _ _).mono (fun _ h c => ⟨fun i hi => (h c).1 i (row_used5 m (Cert.Kernel5Ideal.Run.good m hp) c _ _ _ _ _ i hi), (h c).2⟩) (Cert.Kernel5Ideal.Run.value m g (Cert.Kernel5Ideal.Run.good m hp)),
      (θ_run _ _ _).mono (fun _ h c => ⟨fun i _ => (congrFun (h c).1 i).trans (by rw [(hargs c).1, (hargs c).2.1, (hargs c).2.2.1, (hargs c).2.2.2.2.1, (hargs c).2.2.2.2.2]), (h c).2⟩) (Cert.Reference5Ideal.At.value m' g')⟩,
    trivial,
    fun m g m' g' _ hargs => ⟨fun c => Cert.Halves.projectionS (Cert.Kernel6Ideal.Val.argA m c) (Cert.Kernel6Ideal.Val.argS m c) (Cert.Kernel6Ideal.Val.argH m c) (Cert.Kernel6Ideal.Val.argW m c),
      Cert.Kernel6Ideal.Val.value m g,
      (θ_run _ _ _).mono (fun _ h c => ⟨(h c).1.trans (by rw [(hargs c).1, (hargs c).2.1, (hargs c).2.2.1, (hargs c).2.2.2]), (h c).2⟩) (Cert.Reference6Ideal.At.value m' g')⟩⟩

end Cert.Proof

end
